-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)) (v2 : (c : Dev Cert.NormIdeal.nD) → Buf (Elt Ideal) ((c.tc : Thread Cert.NormIdeal.nD Cert.NormIdeal.τ).loc Cert.NormIdeal.main_v2_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_v2_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v38) = v0 c
          ∧ r.2.mem ((c.tc : Thread Cert.NormReferenceIdeal.nD Cert.NormReferenceIdeal.τ).loc Cert.NormReferenceIdeal.main_v39) = v1 c
          ∧ r.2.mem ((c.tc : Thread Cert.NormReferenceIdeal.nD Cert.NormReferenceIdeal.τ).loc Cert.NormReferenceIdeal.main_v40) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)) (v2 : (c : Dev Cert.OutIdeal.nD) → Buf (Elt Ideal) ((c.tc : Thread Cert.OutIdeal.nD Cert.OutIdeal.τ).loc Cert.OutIdeal.main_v1_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_v1_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1_0) = v0 c
          ∧ r.2.mem ((c.tc : Thread Cert.OutReferenceIdeal.nD Cert.OutReferenceIdeal.τ).loc Cert.OutReferenceIdeal.main_v1_1) = v1 c
          ∧ r.2.mem ((c.tc : Thread Cert.OutReferenceIdeal.nD Cert.OutReferenceIdeal.τ).loc Cert.OutReferenceIdeal.main_v1_2) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v26_0)) (v1 : (c : Dev Cert.QkvIdeal.nD) → Buf (Elt Ideal) ((c.tc : Thread Cert.QkvIdeal.nD Cert.QkvIdeal.τ).loc Cert.QkvIdeal.main_v26_1)) (v2 : (c : Dev Cert.QkvIdeal.nD) → Buf (Elt Ideal) ((c.tc : Thread Cert.QkvIdeal.nD Cert.QkvIdeal.τ).loc Cert.QkvIdeal.main_v26_2)) (v3 : (c : Dev Cert.QkvIdeal.nD) → Buf (Elt Ideal) ((c.tc : Thread Cert.QkvIdeal.nD Cert.QkvIdeal.τ).loc Cert.QkvIdeal.main_v26_3)) (v4 : (c : Dev Cert.QkvIdeal.nD) → Buf (Elt Ideal) ((c.tc : Thread Cert.QkvIdeal.nD Cert.QkvIdeal.τ).loc Cert.QkvIdeal.main_v26_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v26_0) = v0 c
          ∧ r.2.mem ((c.tc : Thread Cert.QkvIdeal.nD Cert.QkvIdeal.τ).loc Cert.QkvIdeal.main_v26_1) = v1 c
          ∧ r.2.mem ((c.tc : Thread Cert.QkvIdeal.nD Cert.QkvIdeal.τ).loc Cert.QkvIdeal.main_v26_2) = v2 c
          ∧ r.2.mem ((c.tc : Thread Cert.QkvIdeal.nD Cert.QkvIdeal.τ).loc Cert.QkvIdeal.main_v26_3) = v3 c
          ∧ r.2.mem ((c.tc : Thread Cert.QkvIdeal.nD Cert.QkvIdeal.τ).loc Cert.QkvIdeal.main_v26_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v23_0) = v0 c
          ∧ r.2.mem ((c.tc : Thread Cert.QkvReferenceIdeal.nD Cert.QkvReferenceIdeal.τ).loc Cert.QkvReferenceIdeal.main_v23_1) = v1 c
          ∧ r.2.mem ((c.tc : Thread Cert.QkvReferenceIdeal.nD Cert.QkvReferenceIdeal.τ).loc Cert.QkvReferenceIdeal.main_v23_2) = v2 c
          ∧ r.2.mem ((c.tc : Thread Cert.QkvReferenceIdeal.nD Cert.QkvReferenceIdeal.τ).loc Cert.QkvReferenceIdeal.main_v23_3) = v3 c
          ∧ r.2.mem ((c.tc : Thread Cert.QkvReferenceIdeal.nD Cert.QkvReferenceIdeal.τ).loc Cert.QkvReferenceIdeal.main_v23_4) = v4 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormReferenceIdeal : Cert.NormReferenceIdeal.Facts) (hOut : Cert.Out.Facts) (hOutIdeal : Cert.OutIdeal.Facts) (hOutReferenceIdeal : Cert.OutReferenceIdeal.Facts) (hQkv : Cert.Qkv.Facts) (hQkvIdeal : Cert.QkvIdeal.Facts) (hQkvReferenceIdeal : Cert.QkvReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Norm (hNorm := hNorm)
    ∧ quiescent_NormIdeal (hNormIdeal := hNormIdeal)
    ∧ quiescent_NormReferenceIdeal (hNormReferenceIdeal := hNormReferenceIdeal)
    ∧ quiescent_Out (hOut := hOut)
    ∧ quiescent_OutIdeal (hOutIdeal := hOutIdeal)
    ∧ quiescent_OutReferenceIdeal (hOutReferenceIdeal := hOutReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ preserves_Kernel_KernelIdeal
    ∧ algebraic_KernelIdeal_ReferenceIdeal (hKernelIdeal := hKernelIdeal) (hReferenceIdeal := hReferenceIdeal) (hPre_in_range := hPre_in_range)
    ∧ preserves_Norm_NormIdeal
    ∧ algebraic_NormIdeal_NormReferenceIdeal (hNormIdeal := hNormIdeal) (hNormReferenceIdeal := hNormReferenceIdeal)
    ∧ preserves_Out_OutIdeal
    ∧ algebraic_OutIdeal_OutReferenceIdeal (hOutIdeal := hOutIdeal) (hOutReferenceIdeal := hOutReferenceIdeal)
    ∧ preserves_Qkv_QkvIdeal
    ∧ algebraic_QkvIdeal_QkvReferenceIdeal (hQkvIdeal := hQkvIdeal) (hQkvReferenceIdeal := hQkvReferenceIdeal)
-- ==== Pre_in_range.lean ====
abbrev S2 : Shape := ⟨1, ![2]⟩
abbrev S64x128x4096 : Shape := ⟨3, ![64, 128, 4096]⟩
abbrev S2x4x12288x128 : Shape := ⟨4, ![2, 4, 12288, 128]⟩
abbrev S2x4x128x12288 : Shape := ⟨4, ![2, 4, 128, 12288]⟩
abbrev S_ : Shape := ⟨0, ![]⟩

class Facts : Prop where
  bcast_S_S2 : S_.BroadcastsInDim S2 (![] : Fin 0 → Fin S2.rank)

variable [Facts]

def fn {F : FTy → Type} [FloatOps F] (main_arg0 : IVec S2 32) (main_arg1 : FVec F S64x128x4096 .bf16) (main_arg2 : FVec F S2x4x12288x128 .bf16) (main_arg3 : FVec F S2x4x128x12288 .bf16) : IVec S2 1 :=
  let main_c : IVec S_ 32 := constantI S_ 32 0#32
  let main_v0 : IVec S2 32 := broadcastInDim S2 ![] bcast_S_S2 main_c
  let main_v1 : IVec S2 1 := cmpi .sge main_arg0 main_v0
  let main_c_0 : IVec S_ 32 := constantI S_ 32 10240#32
  let main_v2 : IVec S2 32 := broadcastInDim S2 ![] bcast_S_S2 main_c_0
  let main_v3 : IVec S2 1 := cmpi .sle main_arg0 main_v2
  let main_v4 : IVec S2 1 := andi main_v1 main_v3
  main_v4
-- ==== Kernel.lean ====
abbrev S2 : Shape := ⟨1, ![2]⟩
abbrev S64x128x4096 : Shape := ⟨3, ![64, 128, 4096]⟩
abbrev S2x4x12288x128 : Shape := ⟨4, ![2, 4, 12288, 128]⟩
abbrev S2x4x128x12288 : Shape := ⟨4, ![2, 4, 128, 12288]⟩
abbrev S2x2048x8192 : Shape := ⟨3, ![2, 2048, 8192]⟩
abbrev S2x64x1x2048 : Shape := ⟨4, ![2, 64, 1, 2048]⟩
abbrev S1x128x512 : Shape := ⟨3, ![1, 128, 512]⟩
abbrev S1x1x12288x128 : Shape := ⟨4, ![1, 1, 12288, 128]⟩
abbrev S1x1x128x12288 : Shape := ⟨4, ![1, 1, 128, 12288]⟩
abbrev S1x512x128 : Shape := ⟨3, ![1, 512, 128]⟩
abbrev S1x1x1x512 : Shape := ⟨4, ![1, 1, 1, 512]⟩
abbrev S1x512 : Shape := ⟨2, ![1, 512]⟩
abbrev S128x512 : Shape := ⟨2, ![128, 512]⟩
abbrev S1 : Shape := ⟨1, ![1]⟩
abbrev S1x1x512x128 : Shape := ⟨4, ![1, 1, 512, 128]⟩
abbrev S512x128 : Shape := ⟨2, ![512, 128]⟩
abbrev S512x512 : Shape := ⟨2, ![512, 512]⟩
abbrev S512 : Shape := ⟨1, ![512]⟩
abbrev S1x1x128x512 : Shape := ⟨4, ![1, 1, 128, 512]⟩

abbrev nBuf : Space → Nat
  | .hbm => 5
  | .vmem => 13
  | .smem => 1
  | _ => 0

abbrev bufTy : (tb : Table) → Fin (tcTables nBuf tb) → BufTy
  | .hbm, ⟨0, _⟩ => ⟨S64x128x4096, .bf16⟩
  | .hbm, ⟨1, _⟩ => ⟨S2x4x12288x128, .bf16⟩
  | .hbm, ⟨2, _⟩ => ⟨S2x4x128x12288, .bf16⟩
  | .hbm, ⟨3, _⟩ => ⟨S2x2048x8192, .f32⟩
  | .hbm, ⟨4, _⟩ => ⟨S2x64x1x2048, .f32⟩
  | .local _ .vmem, ⟨0, _⟩ => ⟨S1x128x512, .bf16⟩
  | .local _ .vmem, ⟨1, _⟩ => ⟨S1x128x512, .bf16⟩
  | .local _ .vmem, ⟨2, _⟩ => ⟨S1x1x12288x128, .bf16⟩
  | .local _ .vmem, ⟨3, _⟩ => ⟨S1x1x12288x128, .bf16⟩
  | .local _ .vmem, ⟨4, _⟩ => ⟨S1x1x128x12288, .bf16⟩
  | .local _ .vmem, ⟨5, _⟩ => ⟨S1x1x128x12288, .bf16⟩
  | .local _ .vmem, ⟨6, _⟩ => ⟨S1x512x128, .f32⟩
  | .local _ .vmem, ⟨7, _⟩ => ⟨S1x512x128, .f32⟩
  | .local _ .vmem, ⟨8, _⟩ => ⟨S1x1x1x512, .f32⟩
  | .local _ .vmem, ⟨9, _⟩ => ⟨S1x1x1x512, .f32⟩
  | .local _ .vmem, ⟨10, _⟩ => ⟨S1x512, .f32⟩
  | .local _ .vmem, ⟨11, _⟩ => ⟨S1x512, .f32⟩
  | .local _ .vmem, ⟨12, _⟩ => ⟨S128x512, .f32⟩
  | .local _ .smem, ⟨0, _⟩ => ⟨S2, .i32⟩
  | _, _ => ⟨S64x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0_0 : Ref sig .tc := ⟨.hbm, 3, rfl⟩
abbrev main_v0_1 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![2, 4, 16, 4], ![false, false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (i : grid0.Coords) (v1 : BitVec 32) : Scf.Loop 32 :=
  let c0_i32_27 : BitVec 32 := 0#32
  let arg3 : BitVec 32 := BitVec.ofNat 32 (i 3).val
  let c512_i32 : BitVec 32 := 512#32
  let v2 : BitVec 32 := Scalar.muli arg3 c512_i32
  let v3 : BitVec 32 := Scalar.addi v1 v2
  let c1_i32 : BitVec 32 := 1#32
  let v18 : BitVec 32 := Scalar.addi v3 c1_i32
  let c0_i32 : BitVec 32 := 0#32
  let v20 : BitVec 1 := Scalar.cmpi .sgt v18 c0_i32
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c512_i32_10 : BitVec 32 := 512#32
  let c0_i32_12 : BitVec 32 := 0#32
  let v25 : BitVec 1 := Scalar.cmpi .sgt c512_i32_10 c0_i32_12
  let v26 : BitVec 32 := Scalar.extui v25
  let c0_i32_13 : BitVec 32 := 0#32
  let v27 : BitVec 1 := Scalar.cmpi .slt c512_i32_10 c0_i32_13
  let v28 : BitVec 32 := Scalar.extui v27
  let v29 : BitVec 32 := Scalar.subi v26 v28
  let v30 : BitVec 1 := Scalar.cmpi .ne v24 v29
  let v31 : BitVec 32 := Scalar.remsi v18 c512_i32_10
  let c0_i32_14 : BitVec 32 := 0#32
  let v32 : BitVec 1 := Scalar.cmpi .ne v31 c0_i32_14
  let v33 : BitVec 1 := Scalar.andi v30 v32
  let v19 : BitVec 32 := Scalar.divsi v18 c512_i32_10
  let c1_i32_15 : BitVec 32 := 1#32
  let v34 : BitVec 32 := Scalar.subi v19 c1_i32_15
  let v35 : BitVec 32 := Scalar.select v33 v34 v19
  let v56 : BitVec 32 := Scalar.subi v35 c0_i32_27
  let c1_i32_28 : BitVec 32 := 1#32
  let v58 : BitVec 32 := Scalar.divsi v56 c1_i32_28
  let v59 : BitVec 32 := Scalar.muli v58 c1_i32_28
  let v60 : BitVec 32 := Scalar.addi c0_i32_27 v59
  let c1_i32_29 : BitVec 32 := 1#32
  ⟨c0_i32_27, v60, c1_i32_29⟩

def k0_mult1 (i : grid0.Coords) (v1 : BitVec 32) (k0_t1 : Fin (k0_t1_loop i v1).trips) : BitVec 32 :=
  let c0_i32_27 : BitVec 32 := 0#32
  let c1_i32_29 : BitVec 32 := 1#32
  let arg13 : BitVec 32 := Scf.iv c0_i32_27 c1_i32_29 k0_t1
  let c512_i32_51 : BitVec 32 := 512#32
  let v92 : BitVec 32 := Scalar.muli arg13 c512_i32_51
  v92
def k0_off2 (i : grid0.Coords) (v1 : BitVec 32) (k0_t1 : Fin (k0_t1_loop i v1).trips) : Fin 4 → Nat :=
  let c0_52 : Index := 0#32
  let c0_53 : Index := 0#32
  let c0_i32_27 : BitVec 32 := 0#32
  let c1_i32_29 : BitVec 32 := 1#32
  let arg13 : BitVec 32 := Scf.iv c0_i32_27 c1_i32_29 k0_t1
  let c512_i32_51 : BitVec 32 := 512#32
  let v92 : BitVec 32 := Scalar.muli arg13 c512_i32_51
  let v93 : BitVec 32 := v92
  let v94 : Index := Scalar.indexCast v93
  let c0_54 : Index := 0#32
  ![0, 0, v94.toNat, 0]
def k0_off3 (i : grid0.Coords) (v1 : BitVec 32) (k0_t1 : Fin (k0_t1_loop i v1).trips) : Fin 4 → Nat :=
  let c0_65 : Index := 0#32
  let c0_66 : Index := 0#32
  let c0_67 : Index := 0#32
  let c0_i32_27 : BitVec 32 := 0#32
  let c1_i32_29 : BitVec 32 := 1#32
  let arg13 : BitVec 32 := Scf.iv c0_i32_27 c1_i32_29 k0_t1
  let c512_i32_51 : BitVec 32 := 512#32
  let v92 : BitVec 32 := Scalar.muli arg13 c512_i32_51
  let v93 : BitVec 32 := v92
  let v118 : Index := Scalar.indexCast v93
  ![0, 0, 0, v118.toNat]
@[reducible] def k0_t2_loop (i : grid0.Coords) (v1 : BitVec 32) : Scf.Loop 32 :=
  let c0_i32_27 : BitVec 32 := 0#32
  let arg3 : BitVec 32 := BitVec.ofNat 32 (i 3).val
  let c512_i32 : BitVec 32 := 512#32
  let v2 : BitVec 32 := Scalar.muli arg3 c512_i32
  let v3 : BitVec 32 := Scalar.addi v1 v2
  let c1_i32 : BitVec 32 := 1#32
  let v18 : BitVec 32 := Scalar.addi v3 c1_i32
  let c0_i32 : BitVec 32 := 0#32
  let v20 : BitVec 1 := Scalar.cmpi .sgt v18 c0_i32
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c512_i32_10 : BitVec 32 := 512#32
  let c0_i32_12 : BitVec 32 := 0#32
  let v25 : BitVec 1 := Scalar.cmpi .sgt c512_i32_10 c0_i32_12
  let v26 : BitVec 32 := Scalar.extui v25
  let c0_i32_13 : BitVec 32 := 0#32
  let v27 : BitVec 1 := Scalar.cmpi .slt c512_i32_10 c0_i32_13
  let v28 : BitVec 32 := Scalar.extui v27
  let v29 : BitVec 32 := Scalar.subi v26 v28
  let v30 : BitVec 1 := Scalar.cmpi .ne v24 v29
  let v31 : BitVec 32 := Scalar.remsi v18 c512_i32_10
  let c0_i32_14 : BitVec 32 := 0#32
  let v32 : BitVec 1 := Scalar.cmpi .ne v31 c0_i32_14
  let v33 : BitVec 1 := Scalar.andi v30 v32
  let v19 : BitVec 32 := Scalar.divsi v18 c512_i32_10
  let c1_i32_15 : BitVec 32 := 1#32
  let v34 : BitVec 32 := Scalar.subi v19 c1_i32_15
  let v35 : BitVec 32 := Scalar.select v33 v34 v19
  let v56 : BitVec 32 := Scalar.subi v35 c0_i32_27
  let c1_i32_28 : BitVec 32 := 1#32
  let v58 : BitVec 32 := Scalar.divsi v56 c1_i32_28
  let v59 : BitVec 32 := Scalar.muli v58 c1_i32_28
  let v60 : BitVec 32 := Scalar.addi c0_i32_27 v59
  let v57 : BitVec 32 := Scalar.addi c0_i32_27 v56
  let c1_i32_30 : BitVec 32 := 1#32
  ⟨v60, v57, c1_i32_30⟩
def k0_mult2 (i : grid0.Coords) (v1 : BitVec 32) (k0_t2 : Fin (k0_t2_loop i v1).trips) : BitVec 32 :=
  let c0_i32_27 : BitVec 32 := 0#32
  let arg3 : BitVec 32 := BitVec.ofNat 32 (i 3).val
  let c512_i32 : BitVec 32 := 512#32
  let v2 : BitVec 32 := Scalar.muli arg3 c512_i32
  let v3 : BitVec 32 := Scalar.addi v1 v2
  let c1_i32 : BitVec 32 := 1#32
  let v18 : BitVec 32 := Scalar.addi v3 c1_i32
  let c0_i32 : BitVec 32 := 0#32
  let v20 : BitVec 1 := Scalar.cmpi .sgt v18 c0_i32
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c512_i32_10 : BitVec 32 := 512#32
  let c0_i32_12 : BitVec 32 := 0#32
  let v25 : BitVec 1 := Scalar.cmpi .sgt c512_i32_10 c0_i32_12
  let v26 : BitVec 32 := Scalar.extui v25
  let c0_i32_13 : BitVec 32 := 0#32
  let v27 : BitVec 1 := Scalar.cmpi .slt c512_i32_10 c0_i32_13
  let v28 : BitVec 32 := Scalar.extui v27
  let v29 : BitVec 32 := Scalar.subi v26 v28
  let v30 : BitVec 1 := Scalar.cmpi .ne v24 v29
  let v31 : BitVec 32 := Scalar.remsi v18 c512_i32_10
  let c0_i32_14 : BitVec 32 := 0#32
  let v32 : BitVec 1 := Scalar.cmpi .ne v31 c0_i32_14
  let v33 : BitVec 1 := Scalar.andi v30 v32
  let v19 : BitVec 32 := Scalar.divsi v18 c512_i32_10
  let c1_i32_15 : BitVec 32 := 1#32
  let v34 : BitVec 32 := Scalar.subi v19 c1_i32_15
  let v35 : BitVec 32 := Scalar.select v33 v34 v19
  let v56 : BitVec 32 := Scalar.subi v35 c0_i32_27
  let c1_i32_28 : BitVec 32 := 1#32
  let v58 : BitVec 32 := Scalar.divsi v56 c1_i32_28
  let v59 : BitVec 32 := Scalar.muli v58 c1_i32_28
  let v60 : BitVec 32 := Scalar.addi c0_i32_27 v59
  let c1_i32_30 : BitVec 32 := 1#32
  let arg13 : BitVec 32 := Scf.iv v60 c1_i32_30 k0_t2
  let c512_i32_51 : BitVec 32 := 512#32
  let v92 : BitVec 32 := Scalar.muli arg13 c512_i32_51
  v92
def k0_off4 (i : grid0.Coords) (v1 : BitVec 32) (k0_t2 : Fin (k0_t2_loop i v1).trips) : Fin 4 → Nat :=
  let c0_52 : Index := 0#32
  let c0_53 : Index := 0#32
  let c0_i32_27 : BitVec 32 := 0#32
  let arg3 : BitVec 32 := BitVec.ofNat 32 (i 3).val
  let c512_i32 : BitVec 32 := 512#32
  let v2 : BitVec 32 := Scalar.muli arg3 c512_i32
  let v3 : BitVec 32 := Scalar.addi v1 v2
  let c1_i32 : BitVec 32 := 1#32
  let v18 : BitVec 32 := Scalar.addi v3 c1_i32
  let c0_i32 : BitVec 32 := 0#32
  let v20 : BitVec 1 := Scalar.cmpi .sgt v18 c0_i32
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c512_i32_10 : BitVec 32 := 512#32
  let c0_i32_12 : BitVec 32 := 0#32
  let v25 : BitVec 1 := Scalar.cmpi .sgt c512_i32_10 c0_i32_12
  let v26 : BitVec 32 := Scalar.extui v25
  let c0_i32_13 : BitVec 32 := 0#32
  let v27 : BitVec 1 := Scalar.cmpi .slt c512_i32_10 c0_i32_13
  let v28 : BitVec 32 := Scalar.extui v27
  let v29 : BitVec 32 := Scalar.subi v26 v28
  let v30 : BitVec 1 := Scalar.cmpi .ne v24 v29
  let v31 : BitVec 32 := Scalar.remsi v18 c512_i32_10
  let c0_i32_14 : BitVec 32 := 0#32
  let v32 : BitVec 1 := Scalar.cmpi .ne v31 c0_i32_14
  let v33 : BitVec 1 := Scalar.andi v30 v32
  let v19 : BitVec 32 := Scalar.divsi v18 c512_i32_10
  let c1_i32_15 : BitVec 32 := 1#32
  let v34 : BitVec 32 := Scalar.subi v19 c1_i32_15
  let v35 : BitVec 32 := Scalar.select v33 v34 v19
  let v56 : BitVec 32 := Scalar.subi v35 c0_i32_27
  let c1_i32_28 : BitVec 32 := 1#32
  let v58 : BitVec 32 := Scalar.divsi v56 c1_i32_28
  let v59 : BitVec 32 := Scalar.muli v58 c1_i32_28
  let v60 : BitVec 32 := Scalar.addi c0_i32_27 v59
  let c1_i32_30 : BitVec 32 := 1#32
  let arg13 : BitVec 32 := Scf.iv v60 c1_i32_30 k0_t2
  let c512_i32_51 : BitVec 32 := 512#32
  let v92 : BitVec 32 := Scalar.muli arg13 c512_i32_51
  let v93 : BitVec 32 := v92
  let v94 : Index := Scalar.indexCast v93
  let c0_54 : Index := 0#32
  ![0, 0, v94.toNat, 0]
def k0_off5 (i : grid0.Coords) (v1 : BitVec 32) (k0_t2 : Fin (k0_t2_loop i v1).trips) : Fin 4 → Nat :=
  let c0_65 : Index := 0#32
  let c0_66 : Index := 0#32
  let c0_67 : Index := 0#32
  let c0_i32_27 : BitVec 32 := 0#32
  let arg3 : BitVec 32 := BitVec.ofNat 32 (i 3).val
  let c512_i32 : BitVec 32 := 512#32
  let v2 : BitVec 32 := Scalar.muli arg3 c512_i32
  let v3 : BitVec 32 := Scalar.addi v1 v2
  let c1_i32 : BitVec 32 := 1#32
  let v18 : BitVec 32 := Scalar.addi v3 c1_i32
  let c0_i32 : BitVec 32 := 0#32
  let v20 : BitVec 1 := Scalar.cmpi .sgt v18 c0_i32
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c512_i32_10 : BitVec 32 := 512#32
  let c0_i32_12 : BitVec 32 := 0#32
  let v25 : BitVec 1 := Scalar.cmpi .sgt c512_i32_10 c0_i32_12
  let v26 : BitVec 32 := Scalar.extui v25
  let c0_i32_13 : BitVec 32 := 0#32
  let v27 : BitVec 1 := Scalar.cmpi .slt c512_i32_10 c0_i32_13
  let v28 : BitVec 32 := Scalar.extui v27
  let v29 : BitVec 32 := Scalar.subi v26 v28
  let v30 : BitVec 1 := Scalar.cmpi .ne v24 v29
  let v31 : BitVec 32 := Scalar.remsi v18 c512_i32_10
  let c0_i32_14 : BitVec 32 := 0#32
  let v32 : BitVec 1 := Scalar.cmpi .ne v31 c0_i32_14
  let v33 : BitVec 1 := Scalar.andi v30 v32
  let v19 : BitVec 32 := Scalar.divsi v18 c512_i32_10
  let c1_i32_15 : BitVec 32 := 1#32
  let v34 : BitVec 32 := Scalar.subi v19 c1_i32_15
  let v35 : BitVec 32 := Scalar.select v33 v34 v19
  let v56 : BitVec 32 := Scalar.subi v35 c0_i32_27
  let c1_i32_28 : BitVec 32 := 1#32
  let v58 : BitVec 32 := Scalar.divsi v56 c1_i32_28
  let v59 : BitVec 32 := Scalar.muli v58 c1_i32_28
  let v60 : BitVec 32 := Scalar.addi c0_i32_27 v59
  let c1_i32_30 : BitVec 32 := 1#32
  let arg13 : BitVec 32 := Scf.iv v60 c1_i32_30 k0_t2
  let c512_i32_51 : BitVec 32 := 512#32
  let v92 : BitVec 32 := Scalar.muli arg13 c512_i32_51
  let v93 : BitVec 32 := v92
  let v118 : Index := Scalar.indexCast v93
  ![0, 0, 0, v118.toNat]
@[reducible] def k0_t3_loop (i : grid0.Coords) (v1 : BitVec 32) : Scf.Loop 32 :=
  let arg3 : BitVec 32 := BitVec.ofNat 32 (i 3).val
  let c512_i32 : BitVec 32 := 512#32
  let v2 : BitVec 32 := Scalar.muli arg3 c512_i32
  let v3 : BitVec 32 := Scalar.addi v1 v2
  let c1_i32 : BitVec 32 := 1#32
  let v18 : BitVec 32 := Scalar.addi v3 c1_i32
  let c0_i32 : BitVec 32 := 0#32
  let v20 : BitVec 1 := Scalar.cmpi .sgt v18 c0_i32
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c512_i32_10 : BitVec 32 := 512#32
  let c0_i32_12 : BitVec 32 := 0#32
  let v25 : BitVec 1 := Scalar.cmpi .sgt c512_i32_10 c0_i32_12
  let v26 : BitVec 32 := Scalar.extui v25
  let c0_i32_13 : BitVec 32 := 0#32
  let v27 : BitVec 1 := Scalar.cmpi .slt c512_i32_10 c0_i32_13
  let v28 : BitVec 32 := Scalar.extui v27
  let v29 : BitVec 32 := Scalar.subi v26 v28
  let v30 : BitVec 1 := Scalar.cmpi .ne v24 v29
  let v31 : BitVec 32 := Scalar.remsi v18 c512_i32_10
  let c0_i32_14 : BitVec 32 := 0#32
  let v32 : BitVec 1 := Scalar.cmpi .ne v31 c0_i32_14
  let v33 : BitVec 1 := Scalar.andi v30 v32
  let v19 : BitVec 32 := Scalar.divsi v18 c512_i32_10
  let c1_i32_15 : BitVec 32 := 1#32
  let v34 : BitVec 32 := Scalar.subi v19 c1_i32_15
  let v35 : BitVec 32 := Scalar.select v33 v34 v19
  let c512_i32_16 : BitVec 32 := 512#32
  let v36 : BitVec 32 := Scalar.addi v3 c512_i32_16
  let c512_i32_17 : BitVec 32 := 512#32
  let v37 : BitVec 32 := Scalar.addi v36 c512_i32_17
  let c1_i32_18 : BitVec 32 := 1#32
  let v38 : BitVec 32 := Scalar.subi v37 c1_i32_18
  let c0_i32_20 : BitVec 32 := 0#32
  let v40 : BitVec 1 := Scalar.cmpi .sgt v38 c0_i32_20
  let v41 : BitVec 32 := Scalar.extui v40
  let c0_i32_21 : BitVec 32 := 0#32
  let v42 : BitVec 1 := Scalar.cmpi .slt v38 c0_i32_21
  let v43 : BitVec 32 := Scalar.extui v42
  let v44 : BitVec 32 := Scalar.subi v41 v43
  let c512_i32_19 : BitVec 32 := 512#32
  let c0_i32_22 : BitVec 32 := 0#32
  let v45 : BitVec 1 := Scalar.cmpi .sgt c512_i32_19 c0_i32_22
  let v46 : BitVec 32 := Scalar.extui v45
  let c0_i32_23 : BitVec 32 := 0#32
  let v47 : BitVec 1 := Scalar.cmpi .slt c512_i32_19 c0_i32_23
  let v48 : BitVec 32 := Scalar.extui v47
  let v49 : BitVec 32 := Scalar.subi v46 v48
  let v50 : BitVec 1 := Scalar.cmpi .ne v44 v49
  let v51 : BitVec 32 := Scalar.remsi v38 c512_i32_19
  let c0_i32_24 : BitVec 32 := 0#32
  let v52 : BitVec 1 := Scalar.cmpi .ne v51 c0_i32_24
  let v53 : BitVec 1 := Scalar.andi v50 v52
  let v39 : BitVec 32 := Scalar.divsi v38 c512_i32_19
  let c1_i32_25 : BitVec 32 := 1#32
  let v54 : BitVec 32 := Scalar.subi v39 c1_i32_25
  let v55 : BitVec 32 := Scalar.select v53 v54 v39
  let v61 : BitVec 32 := Scalar.subi v55 v35
  let c1_i32_32 : BitVec 32 := 1#32
  let v63 : BitVec 32 := Scalar.divsi v61 c1_i32_32
  let v64 : BitVec 32 := Scalar.muli v63 c1_i32_32
  let v65 : BitVec 32 := Scalar.addi v35 v64
  let c1_i32_33 : BitVec 32 := 1#32
  ⟨v35, v65, c1_i32_33⟩
def k0_mult3 (i : grid0.Coords) (v1 : BitVec 32) (k0_t3 : Fin (k0_t3_loop i v1).trips) : BitVec 32 :=
  let arg3 : BitVec 32 := BitVec.ofNat 32 (i 3).val
  let c512_i32 : BitVec 32 := 512#32
  let v2 : BitVec 32 := Scalar.muli arg3 c512_i32
  let v3 : BitVec 32 := Scalar.addi v1 v2
  let c1_i32 : BitVec 32 := 1#32
  let v18 : BitVec 32 := Scalar.addi v3 c1_i32
  let c0_i32 : BitVec 32 := 0#32
  let v20 : BitVec 1 := Scalar.cmpi .sgt v18 c0_i32
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c512_i32_10 : BitVec 32 := 512#32
  let c0_i32_12 : BitVec 32 := 0#32
  let v25 : BitVec 1 := Scalar.cmpi .sgt c512_i32_10 c0_i32_12
  let v26 : BitVec 32 := Scalar.extui v25
  let c0_i32_13 : BitVec 32 := 0#32
  let v27 : BitVec 1 := Scalar.cmpi .slt c512_i32_10 c0_i32_13
  let v28 : BitVec 32 := Scalar.extui v27
  let v29 : BitVec 32 := Scalar.subi v26 v28
  let v30 : BitVec 1 := Scalar.cmpi .ne v24 v29
  let v31 : BitVec 32 := Scalar.remsi v18 c512_i32_10
  let c0_i32_14 : BitVec 32 := 0#32
  let v32 : BitVec 1 := Scalar.cmpi .ne v31 c0_i32_14
  let v33 : BitVec 1 := Scalar.andi v30 v32
  let v19 : BitVec 32 := Scalar.divsi v18 c512_i32_10
  let c1_i32_15 : BitVec 32 := 1#32
  let v34 : BitVec 32 := Scalar.subi v19 c1_i32_15
  let v35 : BitVec 32 := Scalar.select v33 v34 v19
  let c1_i32_33 : BitVec 32 := 1#32
  let arg13 : BitVec 32 := Scf.iv v35 c1_i32_33 k0_t3
  let c512_i32_51 : BitVec 32 := 512#32
  let v92 : BitVec 32 := Scalar.muli arg13 c512_i32_51
  v92
def k0_off6 (i : grid0.Coords) (v1 : BitVec 32) (k0_t3 : Fin (k0_t3_loop i v1).trips) : Fin 4 → Nat :=
  let c0_52 : Index := 0#32
  let c0_53 : Index := 0#32
  let arg3 : BitVec 32 := BitVec.ofNat 32 (i 3).val
  let c512_i32 : BitVec 32 := 512#32
  let v2 : BitVec 32 := Scalar.muli arg3 c512_i32
  let v3 : BitVec 32 := Scalar.addi v1 v2
  let c1_i32 : BitVec 32 := 1#32
  let v18 : BitVec 32 := Scalar.addi v3 c1_i32
  let c0_i32 : BitVec 32 := 0#32
  let v20 : BitVec 1 := Scalar.cmpi .sgt v18 c0_i32
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c512_i32_10 : BitVec 32 := 512#32
  let c0_i32_12 : BitVec 32 := 0#32
  let v25 : BitVec 1 := Scalar.cmpi .sgt c512_i32_10 c0_i32_12
  let v26 : BitVec 32 := Scalar.extui v25
  let c0_i32_13 : BitVec 32 := 0#32
  let v27 : BitVec 1 := Scalar.cmpi .slt c512_i32_10 c0_i32_13
  let v28 : BitVec 32 := Scalar.extui v27
  let v29 : BitVec 32 := Scalar.subi v26 v28
  let v30 : BitVec 1 := Scalar.cmpi .ne v24 v29
  let v31 : BitVec 32 := Scalar.remsi v18 c512_i32_10
  let c0_i32_14 : BitVec 32 := 0#32
  let v32 : BitVec 1 := Scalar.cmpi .ne v31 c0_i32_14
  let v33 : BitVec 1 := Scalar.andi v30 v32
  let v19 : BitVec 32 := Scalar.divsi v18 c512_i32_10
  let c1_i32_15 : BitVec 32 := 1#32
  let v34 : BitVec 32 := Scalar.subi v19 c1_i32_15
  let v35 : BitVec 32 := Scalar.select v33 v34 v19
  let c1_i32_33 : BitVec 32 := 1#32
  let arg13 : BitVec 32 := Scf.iv v35 c1_i32_33 k0_t3
  let c512_i32_51 : BitVec 32 := 512#32
  let v92 : BitVec 32 := Scalar.muli arg13 c512_i32_51
  let v93 : BitVec 32 := v92
  let v94 : Index := Scalar.indexCast v93
  let c0_54 : Index := 0#32
  ![0, 0, v94.toNat, 0]
def k0_off7 (i : grid0.Coords) (v1 : BitVec 32) (k0_t3 : Fin (k0_t3_loop i v1).trips) : Fin 4 → Nat :=
  let c0_66 : Index := 0#32
  let c0_67 : Index := 0#32
  let c0_68 : Index := 0#32
  let arg3 : BitVec 32 := BitVec.ofNat 32 (i 3).val
  let c512_i32 : BitVec 32 := 512#32
  let v2 : BitVec 32 := Scalar.muli arg3 c512_i32
  let v3 : BitVec 32 := Scalar.addi v1 v2
  let c1_i32 : BitVec 32 := 1#32
  let v18 : BitVec 32 := Scalar.addi v3 c1_i32
  let c0_i32 : BitVec 32 := 0#32
  let v20 : BitVec 1 := Scalar.cmpi .sgt v18 c0_i32
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c512_i32_10 : BitVec 32 := 512#32
  let c0_i32_12 : BitVec 32 := 0#32
  let v25 : BitVec 1 := Scalar.cmpi .sgt c512_i32_10 c0_i32_12
  let v26 : BitVec 32 := Scalar.extui v25
  let c0_i32_13 : BitVec 32 := 0#32
  let v27 : BitVec 1 := Scalar.cmpi .slt c512_i32_10 c0_i32_13
  let v28 : BitVec 32 := Scalar.extui v27
  let v29 : BitVec 32 := Scalar.subi v26 v28
  let v30 : BitVec 1 := Scalar.cmpi .ne v24 v29
  let v31 : BitVec 32 := Scalar.remsi v18 c512_i32_10
  let c0_i32_14 : BitVec 32 := 0#32
  let v32 : BitVec 1 := Scalar.cmpi .ne v31 c0_i32_14
  let v33 : BitVec 1 := Scalar.andi v30 v32
  let v19 : BitVec 32 := Scalar.divsi v18 c512_i32_10
  let c1_i32_15 : BitVec 32 := 1#32
  let v34 : BitVec 32 := Scalar.subi v19 c1_i32_15
  let v35 : BitVec 32 := Scalar.select v33 v34 v19
  let c1_i32_33 : BitVec 32 := 1#32
  let arg13 : BitVec 32 := Scf.iv v35 c1_i32_33 k0_t3
  let c512_i32_51 : BitVec 32 := 512#32
  let v92 : BitVec 32 := Scalar.muli arg13 c512_i32_51
  let v93 : BitVec 32 := v92
  let v126 : Index := Scalar.indexCast v93
  ![0, 0, 0, v126.toNat]
@[reducible] def k0_t4_loop (i : grid0.Coords) (v1 : BitVec 32) : Scf.Loop 32 :=
  let arg3 : BitVec 32 := BitVec.ofNat 32 (i 3).val
  let c512_i32 : BitVec 32 := 512#32
  let v2 : BitVec 32 := Scalar.muli arg3 c512_i32
  let v3 : BitVec 32 := Scalar.addi v1 v2
  let c1_i32 : BitVec 32 := 1#32
  let v18 : BitVec 32 := Scalar.addi v3 c1_i32
  let c0_i32 : BitVec 32 := 0#32
  let v20 : BitVec 1 := Scalar.cmpi .sgt v18 c0_i32
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c512_i32_10 : BitVec 32 := 512#32
  let c0_i32_12 : BitVec 32 := 0#32
  let v25 : BitVec 1 := Scalar.cmpi .sgt c512_i32_10 c0_i32_12
  let v26 : BitVec 32 := Scalar.extui v25
  let c0_i32_13 : BitVec 32 := 0#32
  let v27 : BitVec 1 := Scalar.cmpi .slt c512_i32_10 c0_i32_13
  let v28 : BitVec 32 := Scalar.extui v27
  let v29 : BitVec 32 := Scalar.subi v26 v28
  let v30 : BitVec 1 := Scalar.cmpi .ne v24 v29
  let v31 : BitVec 32 := Scalar.remsi v18 c512_i32_10
  let c0_i32_14 : BitVec 32 := 0#32
  let v32 : BitVec 1 := Scalar.cmpi .ne v31 c0_i32_14
  let v33 : BitVec 1 := Scalar.andi v30 v32
  let v19 : BitVec 32 := Scalar.divsi v18 c512_i32_10
  let c1_i32_15 : BitVec 32 := 1#32
  let v34 : BitVec 32 := Scalar.subi v19 c1_i32_15
  let v35 : BitVec 32 := Scalar.select v33 v34 v19
  let c512_i32_16 : BitVec 32 := 512#32
  let v36 : BitVec 32 := Scalar.addi v3 c512_i32_16
  let c512_i32_17 : BitVec 32 := 512#32
  let v37 : BitVec 32 := Scalar.addi v36 c512_i32_17
  let c1_i32_18 : BitVec 32 := 1#32
  let v38 : BitVec 32 := Scalar.subi v37 c1_i32_18
  let c0_i32_20 : BitVec 32 := 0#32
  let v40 : BitVec 1 := Scalar.cmpi .sgt v38 c0_i32_20
  let v41 : BitVec 32 := Scalar.extui v40
  let c0_i32_21 : BitVec 32 := 0#32
  let v42 : BitVec 1 := Scalar.cmpi .slt v38 c0_i32_21
  let v43 : BitVec 32 := Scalar.extui v42
  let v44 : BitVec 32 := Scalar.subi v41 v43
  let c512_i32_19 : BitVec 32 := 512#32
  let c0_i32_22 : BitVec 32 := 0#32
  let v45 : BitVec 1 := Scalar.cmpi .sgt c512_i32_19 c0_i32_22
  let v46 : BitVec 32 := Scalar.extui v45
  let c0_i32_23 : BitVec 32 := 0#32
  let v47 : BitVec 1 := Scalar.cmpi .slt c512_i32_19 c0_i32_23
  let v48 : BitVec 32 := Scalar.extui v47
  let v49 : BitVec 32 := Scalar.subi v46 v48
  let v50 : BitVec 1 := Scalar.cmpi .ne v44 v49
  let v51 : BitVec 32 := Scalar.remsi v38 c512_i32_19
  let c0_i32_24 : BitVec 32 := 0#32
  let v52 : BitVec 1 := Scalar.cmpi .ne v51 c0_i32_24
  let v53 : BitVec 1 := Scalar.andi v50 v52
  let v39 : BitVec 32 := Scalar.divsi v38 c512_i32_19
  let c1_i32_25 : BitVec 32 := 1#32
  let v54 : BitVec 32 := Scalar.subi v39 c1_i32_25
  let v55 : BitVec 32 := Scalar.select v53 v54 v39
  let v61 : BitVec 32 := Scalar.subi v55 v35
  let c1_i32_32 : BitVec 32 := 1#32
  let v63 : BitVec 32 := Scalar.divsi v61 c1_i32_32
  let v64 : BitVec 32 := Scalar.muli v63 c1_i32_32
  let v65 : BitVec 32 := Scalar.addi v35 v64
  let v62 : BitVec 32 := Scalar.addi v35 v61
  let c1_i32_34 : BitVec 32 := 1#32
  ⟨v65, v62, c1_i32_34⟩
def k0_mult4 (i : grid0.Coords) (v1 : BitVec 32) (k0_t4 : Fin (k0_t4_loop i v1).trips) : BitVec 32 :=
  let arg3 : BitVec 32 := BitVec.ofNat 32 (i 3).val
  let c512_i32 : BitVec 32 := 512#32
  let v2 : BitVec 32 := Scalar.muli arg3 c512_i32
  let v3 : BitVec 32 := Scalar.addi v1 v2
  let c1_i32 : BitVec 32 := 1#32
  let v18 : BitVec 32 := Scalar.addi v3 c1_i32
  let c0_i32 : BitVec 32 := 0#32
  let v20 : BitVec 1 := Scalar.cmpi .sgt v18 c0_i32
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c512_i32_10 : BitVec 32 := 512#32
  let c0_i32_12 : BitVec 32 := 0#32
  let v25 : BitVec 1 := Scalar.cmpi .sgt c512_i32_10 c0_i32_12
  let v26 : BitVec 32 := Scalar.extui v25
  let c0_i32_13 : BitVec 32 := 0#32
  let v27 : BitVec 1 := Scalar.cmpi .slt c512_i32_10 c0_i32_13
  let v28 : BitVec 32 := Scalar.extui v27
  let v29 : BitVec 32 := Scalar.subi v26 v28
  let v30 : BitVec 1 := Scalar.cmpi .ne v24 v29
  let v31 : BitVec 32 := Scalar.remsi v18 c512_i32_10
  let c0_i32_14 : BitVec 32 := 0#32
  let v32 : BitVec 1 := Scalar.cmpi .ne v31 c0_i32_14
  let v33 : BitVec 1 := Scalar.andi v30 v32
  let v19 : BitVec 32 := Scalar.divsi v18 c512_i32_10
  let c1_i32_15 : BitVec 32 := 1#32
  let v34 : BitVec 32 := Scalar.subi v19 c1_i32_15
  let v35 : BitVec 32 := Scalar.select v33 v34 v19
  let c512_i32_16 : BitVec 32 := 512#32
  let v36 : BitVec 32 := Scalar.addi v3 c512_i32_16
  let c512_i32_17 : BitVec 32 := 512#32
  let v37 : BitVec 32 := Scalar.addi v36 c512_i32_17
  let c1_i32_18 : BitVec 32 := 1#32
  let v38 : BitVec 32 := Scalar.subi v37 c1_i32_18
  let c0_i32_20 : BitVec 32 := 0#32
  let v40 : BitVec 1 := Scalar.cmpi .sgt v38 c0_i32_20
  let v41 : BitVec 32 := Scalar.extui v40
  let c0_i32_21 : BitVec 32 := 0#32
  let v42 : BitVec 1 := Scalar.cmpi .slt v38 c0_i32_21
  let v43 : BitVec 32 := Scalar.extui v42
  let v44 : BitVec 32 := Scalar.subi v41 v43
  let c512_i32_19 : BitVec 32 := 512#32
  let c0_i32_22 : BitVec 32 := 0#32
  let v45 : BitVec 1 := Scalar.cmpi .sgt c512_i32_19 c0_i32_22
  let v46 : BitVec 32 := Scalar.extui v45
  let c0_i32_23 : BitVec 32 := 0#32
  let v47 : BitVec 1 := Scalar.cmpi .slt c512_i32_19 c0_i32_23
  let v48 : BitVec 32 := Scalar.extui v47
  let v49 : BitVec 32 := Scalar.subi v46 v48
  let v50 : BitVec 1 := Scalar.cmpi .ne v44 v49
  let v51 : BitVec 32 := Scalar.remsi v38 c512_i32_19
  let c0_i32_24 : BitVec 32 := 0#32
  let v52 : BitVec 1 := Scalar.cmpi .ne v51 c0_i32_24
  let v53 : BitVec 1 := Scalar.andi v50 v52
  let v39 : BitVec 32 := Scalar.divsi v38 c512_i32_19
  let c1_i32_25 : BitVec 32 := 1#32
  let v54 : BitVec 32 := Scalar.subi v39 c1_i32_25
  let v55 : BitVec 32 := Scalar.select v53 v54 v39
  let v61 : BitVec 32 := Scalar.subi v55 v35
  let c1_i32_32 : BitVec 32 := 1#32
  let v63 : BitVec 32 := Scalar.divsi v61 c1_i32_32
  let v64 : BitVec 32 := Scalar.muli v63 c1_i32_32
  let v65 : BitVec 32 := Scalar.addi v35 v64
  let c1_i32_34 : BitVec 32 := 1#32
  let arg13 : BitVec 32 := Scf.iv v65 c1_i32_34 k0_t4
  let c512_i32_51 : BitVec 32 := 512#32
  let v92 : BitVec 32 := Scalar.muli arg13 c512_i32_51
  v92
def k0_off8 (i : grid0.Coords) (v1 : BitVec 32) (k0_t4 : Fin (k0_t4_loop i v1).trips) : Fin 4 → Nat :=
  let c0_52 : Index := 0#32
  let c0_53 : Index := 0#32
  let arg3 : BitVec 32 := BitVec.ofNat 32 (i 3).val
  let c512_i32 : BitVec 32 := 512#32
  let v2 : BitVec 32 := Scalar.muli arg3 c512_i32
  let v3 : BitVec 32 := Scalar.addi v1 v2
  let c1_i32 : BitVec 32 := 1#32
  let v18 : BitVec 32 := Scalar.addi v3 c1_i32
  let c0_i32 : BitVec 32 := 0#32
  let v20 : BitVec 1 := Scalar.cmpi .sgt v18 c0_i32
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c512_i32_10 : BitVec 32 := 512#32
  let c0_i32_12 : BitVec 32 := 0#32
  let v25 : BitVec 1 := Scalar.cmpi .sgt c512_i32_10 c0_i32_12
  let v26 : BitVec 32 := Scalar.extui v25
  let c0_i32_13 : BitVec 32 := 0#32
  let v27 : BitVec 1 := Scalar.cmpi .slt c512_i32_10 c0_i32_13
  let v28 : BitVec 32 := Scalar.extui v27
  let v29 : BitVec 32 := Scalar.subi v26 v28
  let v30 : BitVec 1 := Scalar.cmpi .ne v24 v29
  let v31 : BitVec 32 := Scalar.remsi v18 c512_i32_10
  let c0_i32_14 : BitVec 32 := 0#32
  let v32 : BitVec 1 := Scalar.cmpi .ne v31 c0_i32_14
  let v33 : BitVec 1 := Scalar.andi v30 v32
  let v19 : BitVec 32 := Scalar.divsi v18 c512_i32_10
  let c1_i32_15 : BitVec 32 := 1#32
  let v34 : BitVec 32 := Scalar.subi v19 c1_i32_15
  let v35 : BitVec 32 := Scalar.select v33 v34 v19
  let c512_i32_16 : BitVec 32 := 512#32
  let v36 : BitVec 32 := Scalar.addi v3 c512_i32_16
  let c512_i32_17 : BitVec 32 := 512#32
  let v37 : BitVec 32 := Scalar.addi v36 c512_i32_17
  let c1_i32_18 : BitVec 32 := 1#32
  let v38 : BitVec 32 := Scalar.subi v37 c1_i32_18
  let c0_i32_20 : BitVec 32 := 0#32
  let v40 : BitVec 1 := Scalar.cmpi .sgt v38 c0_i32_20
  let v41 : BitVec 32 := Scalar.extui v40
  let c0_i32_21 : BitVec 32 := 0#32
  let v42 : BitVec 1 := Scalar.cmpi .slt v38 c0_i32_21
  let v43 : BitVec 32 := Scalar.extui v42
  let v44 : BitVec 32 := Scalar.subi v41 v43
  let c512_i32_19 : BitVec 32 := 512#32
  let c0_i32_22 : BitVec 32 := 0#32
  let v45 : BitVec 1 := Scalar.cmpi .sgt c512_i32_19 c0_i32_22
  let v46 : BitVec 32 := Scalar.extui v45
  let c0_i32_23 : BitVec 32 := 0#32
  let v47 : BitVec 1 := Scalar.cmpi .slt c512_i32_19 c0_i32_23
  let v48 : BitVec 32 := Scalar.extui v47
  let v49 : BitVec 32 := Scalar.subi v46 v48
  let v50 : BitVec 1 := Scalar.cmpi .ne v44 v49
  let v51 : BitVec 32 := Scalar.remsi v38 c512_i32_19
  let c0_i32_24 : BitVec 32 := 0#32
  let v52 : BitVec 1 := Scalar.cmpi .ne v51 c0_i32_24
  let v53 : BitVec 1 := Scalar.andi v50 v52
  let v39 : BitVec 32 := Scalar.divsi v38 c512_i32_19
  let c1_i32_25 : BitVec 32 := 1#32
  let v54 : BitVec 32 := Scalar.subi v39 c1_i32_25
  let v55 : BitVec 32 := Scalar.select v53 v54 v39
  let v61 : BitVec 32 := Scalar.subi v55 v35
  let c1_i32_32 : BitVec 32 := 1#32
  let v63 : BitVec 32 := Scalar.divsi v61 c1_i32_32
  let v64 : BitVec 32 := Scalar.muli v63 c1_i32_32
  let v65 : BitVec 32 := Scalar.addi v35 v64
  let c1_i32_34 : BitVec 32 := 1#32
  let arg13 : BitVec 32 := Scf.iv v65 c1_i32_34 k0_t4
  let c512_i32_51 : BitVec 32 := 512#32
  let v92 : BitVec 32 := Scalar.muli arg13 c512_i32_51
  let v93 : BitVec 32 := v92
  let v94 : Index := Scalar.indexCast v93
  let c0_54 : Index := 0#32
  ![0, 0, v94.toNat, 0]
def k0_off9 (i : grid0.Coords) (v1 : BitVec 32) (k0_t4 : Fin (k0_t4_loop i v1).trips) : Fin 4 → Nat :=
  let c0_66 : Index := 0#32
  let c0_67 : Index := 0#32
  let c0_68 : Index := 0#32
  let arg3 : BitVec 32 := BitVec.ofNat 32 (i 3).val
  let c512_i32 : BitVec 32 := 512#32
  let v2 : BitVec 32 := Scalar.muli arg3 c512_i32
  let v3 : BitVec 32 := Scalar.addi v1 v2
  let c1_i32 : BitVec 32 := 1#32
  let v18 : BitVec 32 := Scalar.addi v3 c1_i32
  let c0_i32 : BitVec 32 := 0#32
  let v20 : BitVec 1 := Scalar.cmpi .sgt v18 c0_i32
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c512_i32_10 : BitVec 32 := 512#32
  let c0_i32_12 : BitVec 32 := 0#32
  let v25 : BitVec 1 := Scalar.cmpi .sgt c512_i32_10 c0_i32_12
  let v26 : BitVec 32 := Scalar.extui v25
  let c0_i32_13 : BitVec 32 := 0#32
  let v27 : BitVec 1 := Scalar.cmpi .slt c512_i32_10 c0_i32_13
  let v28 : BitVec 32 := Scalar.extui v27
  let v29 : BitVec 32 := Scalar.subi v26 v28
  let v30 : BitVec 1 := Scalar.cmpi .ne v24 v29
  let v31 : BitVec 32 := Scalar.remsi v18 c512_i32_10
  let c0_i32_14 : BitVec 32 := 0#32
  let v32 : BitVec 1 := Scalar.cmpi .ne v31 c0_i32_14
  let v33 : BitVec 1 := Scalar.andi v30 v32
  let v19 : BitVec 32 := Scalar.divsi v18 c512_i32_10
  let c1_i32_15 : BitVec 32 := 1#32
  let v34 : BitVec 32 := Scalar.subi v19 c1_i32_15
  let v35 : BitVec 32 := Scalar.select v33 v34 v19
  let c512_i32_16 : BitVec 32 := 512#32
  let v36 : BitVec 32 := Scalar.addi v3 c512_i32_16
  let c512_i32_17 : BitVec 32 := 512#32
  let v37 : BitVec 32 := Scalar.addi v36 c512_i32_17
  let c1_i32_18 : BitVec 32 := 1#32
  let v38 : BitVec 32 := Scalar.subi v37 c1_i32_18
  let c0_i32_20 : BitVec 32 := 0#32
  let v40 : BitVec 1 := Scalar.cmpi .sgt v38 c0_i32_20
  let v41 : BitVec 32 := Scalar.extui v40
  let c0_i32_21 : BitVec 32 := 0#32
  let v42 : BitVec 1 := Scalar.cmpi .slt v38 c0_i32_21
  let v43 : BitVec 32 := Scalar.extui v42
  let v44 : BitVec 32 := Scalar.subi v41 v43
  let c512_i32_19 : BitVec 32 := 512#32
  let c0_i32_22 : BitVec 32 := 0#32
  let v45 : BitVec 1 := Scalar.cmpi .sgt c512_i32_19 c0_i32_22
  let v46 : BitVec 32 := Scalar.extui v45
  let c0_i32_23 : BitVec 32 := 0#32
  let v47 : BitVec 1 := Scalar.cmpi .slt c512_i32_19 c0_i32_23
  let v48 : BitVec 32 := Scalar.extui v47
  let v49 : BitVec 32 := Scalar.subi v46 v48
  let v50 : BitVec 1 := Scalar.cmpi .ne v44 v49
  let v51 : BitVec 32 := Scalar.remsi v38 c512_i32_19
  let c0_i32_24 : BitVec 32 := 0#32
  let v52 : BitVec 1 := Scalar.cmpi .ne v51 c0_i32_24
  let v53 : BitVec 1 := Scalar.andi v50 v52
  let v39 : BitVec 32 := Scalar.divsi v38 c512_i32_19
  let c1_i32_25 : BitVec 32 := 1#32
  let v54 : BitVec 32 := Scalar.subi v39 c1_i32_25
  let v55 : BitVec 32 := Scalar.select v53 v54 v39
  let v61 : BitVec 32 := Scalar.subi v55 v35
  let c1_i32_32 : BitVec 32 := 1#32
  let v63 : BitVec 32 := Scalar.divsi v61 c1_i32_32
  let v64 : BitVec 32 := Scalar.muli v63 c1_i32_32
  let v65 : BitVec 32 := Scalar.addi v35 v64
  let c1_i32_34 : BitVec 32 := 1#32
  let arg13 : BitVec 32 := Scf.iv v65 c1_i32_34 k0_t4
  let c512_i32_51 : BitVec 32 := 512#32
  let v92 : BitVec 32 := Scalar.muli arg13 c512_i32_51
  let v93 : BitVec 32 := v92
  let v126 : Index := Scalar.indexCast v93
  ![0, 0, 0, v126.toNat]

def k0_chk1 (i : grid0.Coords) (v1 : BitVec 32) : Prop :=
  ((k0_t1_loop i v1).OK) ∧
  (∀ k0_t1 : Fin (k0_t1_loop i v1).trips, 512 ∣ (k0_mult1 i v1 k0_t1).toNat) ∧
  (∀ k0_t1 : Fin (k0_t1_loop i v1).trips, ∀ a, (k0_off2 i v1 k0_t1) a + S1x1x512x128.size a ≤ S1x1x12288x128.size a) ∧
  (∀ k0_t1 : Fin (k0_t1_loop i v1).trips, ∀ a, (k0_off3 i v1 k0_t1) a + S1x1x128x512.size a ≤ S1x1x128x12288.size a) ∧
  ((k0_t2_loop i v1).OK) ∧
  (∀ k0_t2 : Fin (k0_t2_loop i v1).trips, 512 ∣ (k0_mult2 i v1 k0_t2).toNat) ∧
  (∀ k0_t2 : Fin (k0_t2_loop i v1).trips, ∀ a, (k0_off4 i v1 k0_t2) a + S1x1x512x128.size a ≤ S1x1x12288x128.size a) ∧
  (∀ k0_t2 : Fin (k0_t2_loop i v1).trips, ∀ a, (k0_off5 i v1 k0_t2) a + S1x1x128x512.size a ≤ S1x1x128x12288.size a) ∧
  ((k0_t3_loop i v1).OK) ∧
  (∀ k0_t3 : Fin (k0_t3_loop i v1).trips, 512 ∣ (k0_mult3 i v1 k0_t3).toNat) ∧
  (∀ k0_t3 : Fin (k0_t3_loop i v1).trips, ∀ a, (k0_off6 i v1 k0_t3) a + S1x1x512x128.size a ≤ S1x1x12288x128.size a) ∧
  (∀ k0_t3 : Fin (k0_t3_loop i v1).trips, ∀ a, (k0_off7 i v1 k0_t3) a + S1x1x128x512.size a ≤ S1x1x128x12288.size a) ∧
  ((k0_t4_loop i v1).OK) ∧
  (∀ k0_t4 : Fin (k0_t4_loop i v1).trips, 512 ∣ (k0_mult4 i v1 k0_t4).toNat) ∧
  (∀ k0_t4 : Fin (k0_t4_loop i v1).trips, ∀ a, (k0_off8 i v1 k0_t4) a + S1x1x512x128.size a ≤ S1x1x12288x128.size a) ∧
  (∀ k0_t4 : Fin (k0_t4_loop i v1).trips, ∀ a, (k0_off9 i v1 k0_t4) a + S1x1x128x512.size a ≤ S1x1x128x12288.size a)
theorem k0_t1_ok : ∀ (i : grid0.Coords) (v1 : BitVec 32) (k0_hw1 : k0_chk1 i v1), (k0_t1_loop i v1).OK := fun i v1 k0_hw1 => k0_hw1.1
theorem k0_mult1_dvd : ∀ (i : grid0.Coords) (v1 : BitVec 32) (k0_hw1 : k0_chk1 i v1) (k0_t1 : Fin (k0_t1_loop i v1).trips), 512 ∣ (k0_mult1 i v1 k0_t1).toNat := fun i v1 k0_hw1 k0_t1 => k0_hw1.2.1 k0_t1
theorem k0_off2_inb : ∀ (i : grid0.Coords) (v1 : BitVec 32) (k0_hw1 : k0_chk1 i v1) (k0_t1 : Fin (k0_t1_loop i v1).trips), ∀ a, (k0_off2 i v1 k0_t1) a + S1x1x512x128.size a ≤ S1x1x12288x128.size a := fun i v1 k0_hw1 k0_t1 => k0_hw1.2.2.1 k0_t1
theorem k0_off3_inb : ∀ (i : grid0.Coords) (v1 : BitVec 32) (k0_hw1 : k0_chk1 i v1) (k0_t1 : Fin (k0_t1_loop i v1).trips), ∀ a, (k0_off3 i v1 k0_t1) a + S1x1x128x512.size a ≤ S1x1x128x12288.size a := fun i v1 k0_hw1 k0_t1 => k0_hw1.2.2.2.1 k0_t1
theorem k0_t2_ok : ∀ (i : grid0.Coords) (v1 : BitVec 32) (k0_hw1 : k0_chk1 i v1), (k0_t2_loop i v1).OK := fun i v1 k0_hw1 => k0_hw1.2.2.2.2.1
theorem k0_mult2_dvd : ∀ (i : grid0.Coords) (v1 : BitVec 32) (k0_hw1 : k0_chk1 i v1) (k0_t2 : Fin (k0_t2_loop i v1).trips), 512 ∣ (k0_mult2 i v1 k0_t2).toNat := fun i v1 k0_hw1 k0_t2 => k0_hw1.2.2.2.2.2.1 k0_t2
theorem k0_off4_inb : ∀ (i : grid0.Coords) (v1 : BitVec 32) (k0_hw1 : k0_chk1 i v1) (k0_t2 : Fin (k0_t2_loop i v1).trips), ∀ a, (k0_off4 i v1 k0_t2) a + S1x1x512x128.size a ≤ S1x1x12288x128.size a := fun i v1 k0_hw1 k0_t2 => k0_hw1.2.2.2.2.2.2.1 k0_t2
theorem k0_off5_inb : ∀ (i : grid0.Coords) (v1 : BitVec 32) (k0_hw1 : k0_chk1 i v1) (k0_t2 : Fin (k0_t2_loop i v1).trips), ∀ a, (k0_off5 i v1 k0_t2) a + S1x1x128x512.size a ≤ S1x1x128x12288.size a := fun i v1 k0_hw1 k0_t2 => k0_hw1.2.2.2.2.2.2.2.1 k0_t2
theorem k0_t3_ok : ∀ (i : grid0.Coords) (v1 : BitVec 32) (k0_hw1 : k0_chk1 i v1), (k0_t3_loop i v1).OK := fun i v1 k0_hw1 => k0_hw1.2.2.2.2.2.2.2.2.1
theorem k0_mult3_dvd : ∀ (i : grid0.Coords) (v1 : BitVec 32) (k0_hw1 : k0_chk1 i v1) (k0_t3 : Fin (k0_t3_loop i v1).trips), 512 ∣ (k0_mult3 i v1 k0_t3).toNat := fun i v1 k0_hw1 k0_t3 => k0_hw1.2.2.2.2.2.2.2.2.2.1 k0_t3
theorem k0_off6_inb : ∀ (i : grid0.Coords) (v1 : BitVec 32) (k0_hw1 : k0_chk1 i v1) (k0_t3 : Fin (k0_t3_loop i v1).trips), ∀ a, (k0_off6 i v1 k0_t3) a + S1x1x512x128.size a ≤ S1x1x12288x128.size a := fun i v1 k0_hw1 k0_t3 => k0_hw1.2.2.2.2.2.2.2.2.2.2.1 k0_t3
theorem k0_off7_inb : ∀ (i : grid0.Coords) (v1 : BitVec 32) (k0_hw1 : k0_chk1 i v1) (k0_t3 : Fin (k0_t3_loop i v1).trips), ∀ a, (k0_off7 i v1 k0_t3) a + S1x1x128x512.size a ≤ S1x1x128x12288.size a := fun i v1 k0_hw1 k0_t3 => k0_hw1.2.2.2.2.2.2.2.2.2.2.2.1 k0_t3
theorem k0_t4_ok : ∀ (i : grid0.Coords) (v1 : BitVec 32) (k0_hw1 : k0_chk1 i v1), (k0_t4_loop i v1).OK := fun i v1 k0_hw1 => k0_hw1.2.2.2.2.2.2.2.2.2.2.2.2.1
theorem k0_mult4_dvd : ∀ (i : grid0.Coords) (v1 : BitVec 32) (k0_hw1 : k0_chk1 i v1) (k0_t4 : Fin (k0_t4_loop i v1).trips), 512 ∣ (k0_mult4 i v1 k0_t4).toNat := fun i v1 k0_hw1 k0_t4 => k0_hw1.2.2.2.2.2.2.2.2.2.2.2.2.2.1 k0_t4
theorem k0_off8_inb : ∀ (i : grid0.Coords) (v1 : BitVec 32) (k0_hw1 : k0_chk1 i v1) (k0_t4 : Fin (k0_t4_loop i v1).trips), ∀ a, (k0_off8 i v1 k0_t4) a + S1x1x512x128.size a ≤ S1x1x12288x128.size a := fun i v1 k0_hw1 k0_t4 => k0_hw1.2.2.2.2.2.2.2.2.2.2.2.2.2.2.1 k0_t4
theorem k0_off9_inb : ∀ (i : grid0.Coords) (v1 : BitVec 32) (k0_hw1 : k0_chk1 i v1) (k0_t4 : Fin (k0_t4_loop i v1).trips), ∀ a, (k0_off9 i v1 k0_t4) a + S1x1x128x512.size a ≤ S1x1x128x12288.size a := fun i v1 k0_hw1 k0_t4 => k0_hw1.2.2.2.2.2.2.2.2.2.2.2.2.2.2.2 k0_t4

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg1 c16_i32
  let v1 : BitVec 32 := Scalar.addi v0 arg2
  let c4_i32 : BitVec 32 := 4#32
  let v2 : BitVec 32 := Scalar.muli arg0 c4_i32
  let v3 : BitVec 32 := Scalar.addi v2 arg3
  let c0_i32 : BitVec 32 := 0#32
  let c0_i32_0 : BitVec 32 := 0#32
  ![v1.toNat, c0_i32.toNat, v3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg1 c16_i32
  let v1 : BitVec 32 := Scalar.addi v0 arg2
  let c0_i32 : BitVec 32 := 0#32
  ![arg0.toNat, arg3.toNat, v1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, v1.toNat, c0_i32.toNat, arg3.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x1x12288x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x1x128x12288 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]
-- ==== ReferenceIdeal.lean ====
abbrev S2 : Shape := ⟨1, ![2]⟩
abbrev S64x128x4096 : Shape := ⟨3, ![64, 128, 4096]⟩
abbrev S2x4x12288x128 : Shape := ⟨4, ![2, 4, 12288, 128]⟩
abbrev S2x4x128x12288 : Shape := ⟨4, ![2, 4, 128, 12288]⟩
abbrev S4x16x128x2x2048 : Shape := ⟨5, ![4, 16, 128, 2, 2048]⟩
abbrev S2x2048x4x16x128 : Shape := ⟨5, ![2, 2048, 4, 16, 128]⟩
abbrev S2x1 : Shape := ⟨2, ![2, 1]⟩
abbrev S2048 : Shape := ⟨1, ![2048]⟩
abbrev S1x2048 : Shape := ⟨2, ![1, 2048]⟩
abbrev S2x2048 : Shape := ⟨2, ![2, 2048]⟩
abbrev S12288 : Shape := ⟨1, ![12288]⟩
abbrev S1x1x12288 : Shape := ⟨3, ![1, 1, 12288]⟩
abbrev S2x2048x1 : Shape := ⟨3, ![2, 2048, 1]⟩
abbrev S2x2048x12288 : Shape := ⟨3, ![2, 2048, 12288]⟩
abbrev S2x4x12288x2048x16 : Shape := ⟨5, ![2, 4, 12288, 2048, 16]⟩
abbrev S2x2048x4x16x12288 : Shape := ⟨5, ![2, 2048, 4, 16, 12288]⟩
abbrev S_ : Shape := ⟨0, ![]⟩
abbrev S2x2048x1x1x12288 : Shape := ⟨5, ![2, 2048, 1, 1, 12288]⟩
abbrev S2x2048x4x16 : Shape := ⟨4, ![2, 2048, 4, 16]⟩
abbrev S2x2048x4x16x1 : Shape := ⟨5, ![2, 2048, 4, 16, 1]⟩
abbrev S2x4x128x2048x16 : Shape := ⟨5, ![2, 4, 128, 2048, 16]⟩
abbrev S2x2048x1x1 : Shape := ⟨4, ![2, 2048, 1, 1]⟩
abbrev S2x2048x64 : Shape := ⟨3, ![2, 2048, 64]⟩
abbrev S2x64x2048 : Shape := ⟨3, ![2, 64, 2048]⟩
abbrev S2x2048x8192 : Shape := ⟨3, ![2, 2048, 8192]⟩
abbrev S2x64x1x2048 : Shape := ⟨4, ![2, 64, 1, 2048]⟩

abbrev nBuf : Space → Nat
  | .hbm => 67
  | .vmem => 0
  | .smem => 0
  | _ => 0

abbrev bufTy : (tb : Table) → Fin (tcTables nBuf tb) → BufTy
  | .hbm, ⟨0, _⟩ => ⟨S2, .i32⟩
  | .hbm, ⟨1, _⟩ => ⟨S64x128x4096, .bf16⟩
  | .hbm, ⟨2, _⟩ => ⟨S2x4x12288x128, .bf16⟩
  | .hbm, ⟨3, _⟩ => ⟨S2x4x128x12288, .bf16⟩
  | .hbm, ⟨4, _⟩ => ⟨S4x16x128x2x2048, .bf16⟩
  | .hbm, ⟨5, _⟩ => ⟨S2x2048x4x16x128, .bf16⟩
  | .hbm, ⟨6, _⟩ => ⟨S2x1, .i32⟩
  | .hbm, ⟨7, _⟩ => ⟨S2048, .i32⟩
  | .hbm, ⟨8, _⟩ => ⟨S1x2048, .i32⟩
  | .hbm, ⟨9, _⟩ => ⟨S2x2048, .i32⟩
  | .hbm, ⟨10, _⟩ => ⟨S2x2048, .i32⟩
  | .hbm, ⟨11, _⟩ => ⟨S2x2048, .i32⟩
  | .hbm, ⟨12, _⟩ => ⟨S12288, .i32⟩
  | .hbm, ⟨13, _⟩ => ⟨S1x1x12288, .i32⟩
  | .hbm, ⟨14, _⟩ => ⟨S2x2048x1, .i32⟩
  | .hbm, ⟨15, _⟩ => ⟨S2x2048x12288, .i32⟩
  | .hbm, ⟨16, _⟩ => ⟨S2x2048x12288, .i32⟩
  | .hbm, ⟨17, _⟩ => ⟨S2x2048x12288, .i1⟩
  | .hbm, ⟨18, _⟩ => ⟨S2x4x12288x2048x16, .f32⟩
  | .hbm, ⟨19, _⟩ => ⟨S2x2048x4x16x12288, .f32⟩
  | .hbm, ⟨20, _⟩ => ⟨S_, .f32⟩
  | .hbm, ⟨21, _⟩ => ⟨S2x2048x4x16x12288, .f32⟩
  | .hbm, ⟨22, _⟩ => ⟨S2x2048x4x16x12288, .f32⟩
  | .hbm, ⟨23, _⟩ => ⟨S2x2048x1x1x12288, .i1⟩
  | .hbm, ⟨24, _⟩ => ⟨S_, .f32⟩
  | .hbm, ⟨25, _⟩ => ⟨S_, .f32⟩
  | .hbm, ⟨26, _⟩ => ⟨S2x2048x4x16x12288, .i1⟩
  | .hbm, ⟨27, _⟩ => ⟨S2x2048x4x16x12288, .f32⟩
  | .hbm, ⟨28, _⟩ => ⟨S2x2048x4x16x12288, .f32⟩
  | .hbm, ⟨29, _⟩ => ⟨S_, .f32⟩
  | .hbm, ⟨30, _⟩ => ⟨S2x2048x4x16, .f32⟩
  | .hbm, ⟨31, _⟩ => ⟨S2x2048x4x16, .f32⟩
  | .hbm, ⟨32, _⟩ => ⟨S_, .f32⟩
  | .hbm, ⟨33, _⟩ => ⟨S2x2048x4x16x12288, .f32⟩
  | .hbm, ⟨34, _⟩ => ⟨S2x2048x4x16x1, .f32⟩
  | .hbm, ⟨35, _⟩ => ⟨S2x2048x4x16x12288, .f32⟩
  | .hbm, ⟨36, _⟩ => ⟨S2x2048x4x16x12288, .f32⟩
  | .hbm, ⟨37, _⟩ => ⟨S2x2048x4x16x12288, .f32⟩
  | .hbm, ⟨38, _⟩ => ⟨S_, .f32⟩
  | .hbm, ⟨39, _⟩ => ⟨S2x2048x4x16, .f32⟩
  | .hbm, ⟨40, _⟩ => ⟨S2x2048x4x16x12288, .bf16⟩
  | .hbm, ⟨41, _⟩ => ⟨S2x4x128x2048x16, .f32⟩
  | .hbm, ⟨42, _⟩ => ⟨S2x2048x4x16x128, .f32⟩
  | .hbm, ⟨43, _⟩ => ⟨S2x2048x4x16x1, .f32⟩
  | .hbm, ⟨44, _⟩ => ⟨S2x2048x4x16x128, .f32⟩
  | .hbm, ⟨45, _⟩ => ⟨S2x2048x4x16x128, .f32⟩
  | .hbm, ⟨46, _⟩ => ⟨S_, .i32⟩
  | .hbm, ⟨47, _⟩ => ⟨S2x2048, .i32⟩
  | .hbm, ⟨48, _⟩ => ⟨S2x2048, .i32⟩
  | .hbm, ⟨49, _⟩ => ⟨S2x2048, .f32⟩
  | .hbm, ⟨50, _⟩ => ⟨S2x2048x4x16, .f32⟩
  | .hbm, ⟨51, _⟩ => ⟨S_, .f32⟩
  | .hbm, ⟨52, _⟩ => ⟨S2x2048x4x16, .f32⟩
  | .hbm, ⟨53, _⟩ => ⟨S2x2048x4x16, .f32⟩
  | .hbm, ⟨54, _⟩ => ⟨S2x2048x4x16, .f32⟩
  | .hbm, ⟨55, _⟩ => ⟨S2x2048x4x16, .f32⟩
  | .hbm, ⟨56, _⟩ => ⟨S_, .f32⟩
  | .hbm, ⟨57, _⟩ => ⟨S2x2048x4x16, .f32⟩
  | .hbm, ⟨58, _⟩ => ⟨S2x2048x4x16, .f32⟩
  | .hbm, ⟨59, _⟩ => ⟨S2x2048, .f32⟩
  | .hbm, ⟨60, _⟩ => ⟨S2x2048x1x1, .f32⟩
  | .hbm, ⟨61, _⟩ => ⟨S2x2048x4x16, .f32⟩
  | .hbm, ⟨62, _⟩ => ⟨S2x2048x4x16, .f32⟩
  | .hbm, ⟨63, _⟩ => ⟨S2x2048x64, .f32⟩
  | .hbm, ⟨64, _⟩ => ⟨S2x64x2048, .f32⟩
  | .hbm, ⟨65, _⟩ => ⟨S2x2048x8192, .f32⟩
  | .hbm, ⟨66, _⟩ => ⟨S2x64x1x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Norm.lean ====
abbrev S2x2048x4096 : Shape := ⟨3, ![2, 2048, 4096]⟩
abbrev S4096 : Shape := ⟨1, ![4096]⟩
abbrev S4096x4096 : Shape := ⟨2, ![4096, 4096]⟩
abbrev S1x4096 : Shape := ⟨2, ![1, 4096]⟩
abbrev S4096x1 : Shape := ⟨2, ![4096, 1]⟩
abbrev S16x1x256 : Shape := ⟨3, ![16, 1, 256]⟩
abbrev S256x4096 : Shape := ⟨2, ![256, 4096]⟩
abbrev S256x1 : Shape := ⟨2, ![256, 1]⟩
abbrev S1x1x256 : Shape := ⟨3, ![1, 1, 256]⟩
abbrev S256 : Shape := ⟨1, ![256]⟩
abbrev S256x128 : Shape := ⟨2, ![256, 128]⟩
abbrev S128x256 : Shape := ⟨2, ![128, 256]⟩
abbrev S1x256 : Shape := ⟨2, ![1, 256]⟩

abbrev nBuf : Space → Nat
  | .hbm => 7
  | .vmem => 9
  | .smem => 0
  | _ => 0

abbrev bufTy : (tb : Table) → Fin (tcTables nBuf tb) → BufTy
  | .hbm, ⟨0, _⟩ => ⟨S2x2048x4096, .bf16⟩
  | .hbm, ⟨1, _⟩ => ⟨S4096, .f32⟩
  | .hbm, ⟨2, _⟩ => ⟨S4096x4096, .bf16⟩
  | .hbm, ⟨3, _⟩ => ⟨S1x4096, .f32⟩
  | .hbm, ⟨4, _⟩ => ⟨S4096x4096, .fp8e4m3⟩
  | .hbm, ⟨5, _⟩ => ⟨S4096x1, .f32⟩
  | .hbm, ⟨6, _⟩ => ⟨S16x1x256, .f32⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S256x4096, .fp8e4m3⟩
  | .local _ .vmem, ⟨4, _⟩ => ⟨S256x4096, .fp8e4m3⟩
  | .local _ .vmem, ⟨5, _⟩ => ⟨S256x1, .f32⟩
  | .local _ .vmem, ⟨6, _⟩ => ⟨S256x1, .f32⟩
  | .local _ .vmem, ⟨7, _⟩ => ⟨S1x1x256, .f32⟩
  | .local _ .vmem, ⟨8, _⟩ => ⟨S1x1x256, .f32⟩
  | _, _ => ⟨S2x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S2x2048x4096 : Shape := ⟨3, ![2, 2048, 4096]⟩
abbrev S4096 : Shape := ⟨1, ![4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩
abbrev S4096x4096 : Shape := ⟨2, ![4096, 4096]⟩
abbrev S4096x1 : Shape := ⟨2, ![4096, 1]⟩
abbrev S16x1x256 : Shape := ⟨3, ![16, 1, 256]⟩

abbrev nBuf : Space → Nat
  | .hbm => 63
  | .vmem => 0
  | .smem => 0
  | _ => 0

abbrev bufTy : (tb : Table) → Fin (tcTables nBuf tb) → BufTy
  | .hbm, ⟨0, _⟩ => ⟨S2x2048x4096, .bf16⟩
  | .hbm, ⟨1, _⟩ => ⟨S4096, .f32⟩
  | .hbm, ⟨2, _⟩ => ⟨S2x2048x4096, .f32⟩
  | .hbm, ⟨3, _⟩ => ⟨S2x2048x4096, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x4096, .f32⟩
  | .hbm, ⟨15, _⟩ => ⟨S2x2048x4096, .f32⟩
  | .hbm, ⟨16, _⟩ => ⟨S1x1x4096, .f32⟩
  | .hbm, ⟨17, _⟩ => ⟨S2x2048x4096, .f32⟩
  | .hbm, ⟨18, _⟩ => ⟨S2x2048x4096, .f32⟩
  | .hbm, ⟨19, _⟩ => ⟨S2x2048x4096, .f32⟩
  | .hbm, ⟨20, _⟩ => ⟨S_, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S2x2048, .f32⟩
  | .hbm, ⟨31, _⟩ => ⟨S_, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .i1⟩
  | .hbm, ⟨37, _⟩ => ⟨S_, .f32⟩
  | .hbm, ⟨38, _⟩ => ⟨S_, .f32⟩
  | .hbm, ⟨39, _⟩ => ⟨S2x2048, .f32⟩
  | .hbm, ⟨40, _⟩ => ⟨S2x2048, .f32⟩
  | .hbm, ⟨41, _⟩ => ⟨S_, .f32⟩
  | .hbm, ⟨42, _⟩ => ⟨S2x2048, .f32⟩
  | .hbm, ⟨43, _⟩ => ⟨S2x2048, .f32⟩
  | .hbm, ⟨44, _⟩ => ⟨S_, .f32⟩
  | .hbm, ⟨45, _⟩ => ⟨S2x2048, .f32⟩
  | .hbm, ⟨46, _⟩ => ⟨S2x2048, .f32⟩
  | .hbm, ⟨47, _⟩ => ⟨S2x2048, .f32⟩
  | .hbm, ⟨48, _⟩ => ⟨S2x2048x1, .f32⟩
  | .hbm, ⟨49, _⟩ => ⟨S2x2048x4096, .f32⟩
  | .hbm, ⟨50, _⟩ => ⟨S2x2048x4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S2x2048x4096, .f32⟩
  | .hbm, ⟨55, _⟩ => ⟨S2x2048x4096, .f32⟩
  | .hbm, ⟨56, _⟩ => ⟨S_, .f32⟩
  | .hbm, ⟨57, _⟩ => ⟨S2x2048x4096, .f32⟩
  | .hbm, ⟨58, _⟩ => ⟨S2x2048x4096, .f32⟩
  | .hbm, ⟨59, _⟩ => ⟨S2x2048x4096, .fp8e4m3⟩
  | .hbm, ⟨60, _⟩ => ⟨S4096x4096, .fp8e4m3⟩
  | .hbm, ⟨61, _⟩ => ⟨S4096x1, .f32⟩
  | .hbm, ⟨62, _⟩ => ⟨S16x1x256, .f32⟩
  | _, _ => ⟨S2x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_call0_v0 : Ref sig .tc := ⟨.hbm, 38, rfl⟩
abbrev main_call0_v1 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_cst_11 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== Out.lean ====
abbrev S4096x8192 : Shape := ⟨2, ![4096, 8192]⟩
abbrev S4096x4096 : Shape := ⟨2, ![4096, 4096]⟩
abbrev S8192x4096 : Shape := ⟨2, ![8192, 4096]⟩
abbrev S4096 : Shape := ⟨1, ![4096]⟩
abbrev S1x4096 : Shape := ⟨2, ![1, 4096]⟩
abbrev S32x1x128 : Shape := ⟨3, ![32, 1, 128]⟩
abbrev S128x8192 : Shape := ⟨2, ![128, 8192]⟩
abbrev S128x4096 : Shape := ⟨2, ![128, 4096]⟩
abbrev S1x1x128 : Shape := ⟨3, ![1, 1, 128]⟩
abbrev S128 : Shape := ⟨1, ![128]⟩
abbrev S128x1 : Shape := ⟨2, ![128, 1]⟩
abbrev S128x128 : Shape := ⟨2, ![128, 128]⟩
abbrev S1x128 : Shape := ⟨2, ![1, 128]⟩

abbrev nBuf : Space → Nat
  | .hbm => 8
  | .vmem => 12
  | .smem => 0
  | _ => 0

abbrev bufTy : (tb : Table) → Fin (tcTables nBuf tb) → BufTy
  | .hbm, ⟨0, _⟩ => ⟨S4096x8192, .f32⟩
  | .hbm, ⟨1, _⟩ => ⟨S4096x4096, .bf16⟩
  | .hbm, ⟨2, _⟩ => ⟨S8192x4096, .fp8e4m3⟩
  | .hbm, ⟨3, _⟩ => ⟨S4096, .f32⟩
  | .hbm, ⟨4, _⟩ => ⟨S1x4096, .f32⟩
  | .hbm, ⟨5, _⟩ => ⟨S4096x4096, .bf16⟩
  | .hbm, ⟨6, _⟩ => ⟨S4096x8192, .fp8e4m3⟩
  | .hbm, ⟨7, _⟩ => ⟨S32x1x128, .f32⟩
  | .local _ .vmem, ⟨0, _⟩ => ⟨S128x8192, .f32⟩
  | .local _ .vmem, ⟨1, _⟩ => ⟨S128x8192, .f32⟩
  | .local _ .vmem, ⟨2, _⟩ => ⟨S128x4096, .bf16⟩
  | .local _ .vmem, ⟨3, _⟩ => ⟨S128x4096, .bf16⟩
  | .local _ .vmem, ⟨4, _⟩ => ⟨S8192x4096, .fp8e4m3⟩
  | .local _ .vmem, ⟨5, _⟩ => ⟨S1x4096, .f32⟩
  | .local _ .vmem, ⟨6, _⟩ => ⟨S128x4096, .bf16⟩
  | .local _ .vmem, ⟨7, _⟩ => ⟨S128x4096, .bf16⟩
  | .local _ .vmem, ⟨8, _⟩ => ⟨S128x8192, .fp8e4m3⟩
  | .local _ .vmem, ⟨9, _⟩ => ⟨S128x8192, .fp8e4m3⟩
  | .local _ .vmem, ⟨10, _⟩ => ⟨S1x1x128, .f32⟩
  | .local _ .vmem, ⟨11, _⟩ => ⟨S1x1x128, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutReferenceIdeal.lean ====
abbrev S4096x8192 : Shape := ⟨2, ![4096, 8192]⟩
abbrev S4096x4096 : Shape := ⟨2, ![4096, 4096]⟩
abbrev S8192x4096 : Shape := ⟨2, ![8192, 4096]⟩
abbrev S4096 : Shape := ⟨1, ![4096]⟩
abbrev S1x4096 : Shape := ⟨2, ![1, 4096]⟩
abbrev S32x1x128 : Shape := ⟨3, ![32, 1, 128]⟩
abbrev S4096x1 : Shape := ⟨2, ![4096, 1]⟩

abbrev nBuf : Space → Nat
  | .hbm => 8
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S4096x4096, .bf16⟩
  | .hbm, ⟨2, _⟩ => ⟨S8192x4096, .fp8e4m3⟩
  | .hbm, ⟨3, _⟩ => ⟨S4096, .f32⟩
  | .hbm, ⟨4, _⟩ => ⟨S1x4096, .f32⟩
  | .hbm, ⟨5, _⟩ => ⟨S4096x4096, .bf16⟩
  | .hbm, ⟨6, _⟩ => ⟨S4096x8192, .fp8e4m3⟩
  | .hbm, ⟨7, _⟩ => ⟨S32x1x128, .f32⟩
  | .local _ .vmem, ⟨0, _⟩ => ⟨S4096x8192, .f32⟩
  | .local _ .vmem, ⟨1, _⟩ => ⟨S4096x4096, .bf16⟩
  | .local _ .vmem, ⟨2, _⟩ => ⟨S8192x4096, .fp8e4m3⟩
  | .local _ .vmem, ⟨3, _⟩ => ⟨S1x4096, .f32⟩
  | .local _ .vmem, ⟨4, _⟩ => ⟨S4096x4096, .bf16⟩
  | .local _ .vmem, ⟨5, _⟩ => ⟨S4096x8192, .fp8e4m3⟩
  | .local _ .vmem, ⟨6, _⟩ => ⟨S32x1x128, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Qkv.lean ====
abbrev S4096x4096 : Shape := ⟨2, ![4096, 4096]⟩
abbrev S4096x1 : Shape := ⟨2, ![4096, 1]⟩
abbrev S4096x9216 : Shape := ⟨2, ![4096, 9216]⟩
abbrev S9216 : Shape := ⟨1, ![9216]⟩
abbrev S2 : Shape := ⟨1, ![2]⟩
abbrev S2x1 : Shape := ⟨2, ![2, 1]⟩
abbrev S2048 : Shape := ⟨1, ![2048]⟩
abbrev S1x2048 : Shape := ⟨2, ![1, 2048]⟩
abbrev S2x2048 : Shape := ⟨2, ![2, 2048]⟩
abbrev S64 : Shape := ⟨1, ![64]⟩
abbrev S_ : Shape := ⟨0, ![]⟩
abbrev S1x64 : Shape := ⟨2, ![1, 64]⟩
abbrev S4096x64 : Shape := ⟨2, ![4096, 64]⟩
abbrev S4096x128 : Shape := ⟨2, ![4096, 128]⟩
abbrev S1x9216 : Shape := ⟨2, ![1, 9216]⟩
abbrev S64x128x4096 : Shape := ⟨3, ![64, 128, 4096]⟩
abbrev S4096x4x128 : Shape := ⟨3, ![4096, 4, 128]⟩
abbrev S2x4x2048 : Shape := ⟨3, ![2, 4, 2048]⟩
abbrev S512x4096 : Shape := ⟨2, ![512, 4096]⟩
abbrev S512x1 : Shape := ⟨2, ![512, 1]⟩
abbrev S4096x1024 : Shape := ⟨2, ![4096, 1024]⟩
abbrev S1x1024 : Shape := ⟨2, ![1, 1024]⟩
abbrev S512x128 : Shape := ⟨2, ![512, 128]⟩
abbrev S8x128x512 : Shape := ⟨3, ![8, 128, 512]⟩
abbrev S512x4x128 : Shape := ⟨3, ![512, 4, 128]⟩
abbrev S1x4x512 : Shape := ⟨3, ![1, 4, 512]⟩
abbrev S512x1024 : Shape := ⟨2, ![512, 1024]⟩
abbrev S128x512 : Shape := ⟨2, ![128, 512]⟩
abbrev S1x128x512 : Shape := ⟨3, ![1, 128, 512]⟩
abbrev S512 : Shape := ⟨1, ![512]⟩
abbrev S512x1x128 : Shape := ⟨3, ![512, 1, 128]⟩
abbrev S4x512 : Shape := ⟨2, ![4, 512]⟩

abbrev nBuf : Space → Nat
  | .hbm => 41
  | .vmem => 26
  | .smem => 0
  | _ => 0

abbrev bufTy : (tb : Table) → Fin (tcTables nBuf tb) → BufTy
  | .hbm, ⟨0, _⟩ => ⟨S4096x4096, .fp8e4m3⟩
  | .hbm, ⟨1, _⟩ => ⟨S4096x1, .f32⟩
  | .hbm, ⟨2, _⟩ => ⟨S4096x9216, .fp8e4m3⟩
  | .hbm, ⟨3, _⟩ => ⟨S9216, .f32⟩
  | .hbm, ⟨4, _⟩ => ⟨S2, .i32⟩
  | .hbm, ⟨5, _⟩ => ⟨S2x1, .i32⟩
  | .hbm, ⟨6, _⟩ => ⟨S2048, .i32⟩
  | .hbm, ⟨7, _⟩ => ⟨S1x2048, .i32⟩
  | .hbm, ⟨8, _⟩ => ⟨S2x2048, .i32⟩
  | .hbm, ⟨9, _⟩ => ⟨S2x2048, .i32⟩
  | .hbm, ⟨10, _⟩ => ⟨S2x2048, .i32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S2x2048, .f32⟩
  | .hbm, ⟨23, _⟩ => ⟨S4096x1, .f32⟩
  | .hbm, ⟨24, _⟩ => ⟨S1x64, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S4096x128, .f32⟩
  | .hbm, ⟨31, _⟩ => ⟨S4096x64, .f32⟩
  | .hbm, ⟨32, _⟩ => ⟨S4096x128, .f32⟩
  | .hbm, ⟨33, _⟩ => ⟨S1x9216, .f32⟩
  | .hbm, ⟨34, _⟩ => ⟨S64x128x4096, .bf16⟩
  | .hbm, ⟨35, _⟩ => ⟨S4096x4x128, .fp8e4m3⟩
  | .hbm, ⟨36, _⟩ => ⟨S4096x4x128, .fp8e4m3⟩
  | .hbm, ⟨37, _⟩ => ⟨S2x4x2048, .f32⟩
  | .hbm, ⟨38, _⟩ => ⟨S2x4x2048, .f32⟩
  | .hbm, ⟨39, _⟩ => ⟨S4096x128, .bf16⟩
  | .hbm, ⟨40, _⟩ => ⟨S4096x128, .bf16⟩
  | .local _ .vmem, ⟨0, _⟩ => ⟨S512x4096, .fp8e4m3⟩
  | .local _ .vmem, ⟨1, _⟩ => ⟨S512x4096, .fp8e4m3⟩
  | .local _ .vmem, ⟨2, _⟩ => ⟨S512x1, .f32⟩
  | .local _ .vmem, ⟨3, _⟩ => ⟨S512x1, .f32⟩
  | .local _ .vmem, ⟨4, _⟩ => ⟨S4096x1024, .fp8e4m3⟩
  | .local _ .vmem, ⟨5, _⟩ => ⟨S4096x1024, .fp8e4m3⟩
  | .local _ .vmem, ⟨6, _⟩ => ⟨S1x1024, .f32⟩
  | .local _ .vmem, ⟨7, _⟩ => ⟨S1x1024, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S8x128x512, .bf16⟩
  | .local _ .vmem, ⟨13, _⟩ => ⟨S8x128x512, .bf16⟩
  | .local _ .vmem, ⟨14, _⟩ => ⟨S512x4x128, .fp8e4m3⟩
  | .local _ .vmem, ⟨15, _⟩ => ⟨S512x4x128, .fp8e4m3⟩
  | .local _ .vmem, ⟨16, _⟩ => ⟨S512x4x128, .fp8e4m3⟩
  | .local _ .vmem, ⟨17, _⟩ => ⟨S512x4x128, .fp8e4m3⟩
  | .local _ .vmem, ⟨18, _⟩ => ⟨S1x4x512, .f32⟩
  | .local _ .vmem, ⟨19, _⟩ => ⟨S1x4x512, .f32⟩
  | .local _ .vmem, ⟨20, _⟩ => ⟨S1x4x512, .f32⟩
  | .local _ .vmem, ⟨21, _⟩ => ⟨S1x4x512, .f32⟩
  | .local _ .vmem, ⟨22, _⟩ => ⟨S512x128, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v26_2 : Ref sig .tc := ⟨.hbm, 36, rfl⟩
abbrev main_v26_3 : Ref sig .tc := ⟨.hbm, 37, rfl⟩
abbrev main_v26_4 : Ref sig .tc := ⟨.hbm, 38, rfl⟩
abbrev main_v26_5 : Ref sig .tc := ⟨.hbm, 39, rfl⟩
abbrev main_v26_6 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![9, 8], ![false, false]⟩

def k0_cond1 (i : grid0.Coords) : BitVec 1 :=
  let arg0 : BitVec 32 := BitVec.ofNat 32 (i 0).val
  let c0_i32 : BitVec 32 := 0#32
  let v14 : BitVec 1 := Scalar.cmpi .sgt arg0 c0_i32
  let v15 : BitVec 32 := Scalar.extui v14
  let c0_i32_11 : BitVec 32 := 0#32
  let v16 : BitVec 1 := Scalar.cmpi .ne v15 c0_i32_11
  v16

def k0_cond2 (i : grid0.Coords) : BitVec 1 :=
  let arg0 : BitVec 32 := BitVec.ofNat 32 (i 0).val
  let c0_i32_12 : BitVec 32 := 0#32
  let v17 : BitVec 1 := Scalar.cmpi .eq arg0 c0_i32_12
  let v18 : BitVec 32 := Scalar.extui v17
  let c0_i32_13 : BitVec 32 := 0#32
  let v19 : BitVec 1 := Scalar.cmpi .ne v18 c0_i32_13
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.select v0 c8_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c8_i32 : BitVec 32 := 8#32
  let v2 : BitVec 32 := Scalar.select v0 c8_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v1.toNat, c0_i32_2.toNat, v3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  let c0_i32_2 : BitVec 32 := 0#32
  ![v1.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let v19 : BitVec 1 := Scalar.cmpi .eq arg0 c0_i32_5
  let c7_i32_6 : BitVec 32 := 7#32
  let v20 : BitVec 32 := Scalar.select v19 arg1 c7_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let v19 : BitVec 1 := Scalar.cmpi .eq arg0 c0_i32_5
  let c7_i32_6 : BitVec 32 := 7#32
  let v20 : BitVec 32 := Scalar.select v19 arg1 c7_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

abbrev stage0_0 : Fin 2 → Memref sig .tc .vmem S512x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x4x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x4x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== QkvReferenceIdeal.lean ====
abbrev S4096x4096 : Shape := ⟨2, ![4096, 4096]⟩
abbrev S4096x1 : Shape := ⟨2, ![4096, 1]⟩
abbrev S4096x9216 : Shape := ⟨2, ![4096, 9216]⟩
abbrev S9216 : Shape := ⟨1, ![9216]⟩
abbrev S2 : Shape := ⟨1, ![2]⟩
abbrev S2x1 : Shape := ⟨2, ![2, 1]⟩
abbrev S2048 : Shape := ⟨1, ![2048]⟩
abbrev S1x2048 : Shape := ⟨2, ![1, 2048]⟩
abbrev S2x2048 : Shape := ⟨2, ![2, 2048]⟩
abbrev S64 : Shape := ⟨1, ![64]⟩
abbrev S_ : Shape := ⟨0, ![]⟩
abbrev S1x64 : Shape := ⟨2, ![1, 64]⟩
abbrev S4096x64 : Shape := ⟨2, ![4096, 64]⟩
abbrev S1x9216 : Shape := ⟨2, ![1, 9216]⟩
abbrev S64x128x4096 : Shape := ⟨3, ![64, 128, 4096]⟩
abbrev S4096x4x128 : Shape := ⟨3, ![4096, 4, 128]⟩
abbrev S2x4x2048 : Shape := ⟨3, ![2, 4, 2048]⟩
abbrev S4096x8192 : Shape := ⟨2, ![4096, 8192]⟩
abbrev S4096x64x128 : Shape := ⟨3, ![4096, 64, 128]⟩
abbrev S4096x512 : Shape := ⟨2, ![4096, 512]⟩
abbrev S4096x1x64 : Shape := ⟨3, ![4096, 1, 64]⟩
abbrev S4096x64x64 : Shape := ⟨3, ![4096, 64, 64]⟩
abbrev S4096x4x64 : Shape := ⟨3, ![4096, 4, 64]⟩
abbrev S4096x4 : Shape := ⟨2, ![4096, 4]⟩
abbrev S4096x4x1 : Shape := ⟨3, ![4096, 4, 1]⟩
abbrev S2x2048x4 : Shape := ⟨3, ![2, 2048, 4]⟩

abbrev nBuf : Space → Nat
  | .hbm => 36
  | .vmem => 11
  | .smem => 0
  | _ => 0

abbrev bufTy : (tb : Table) → Fin (tcTables nBuf tb) → BufTy
  | .hbm, ⟨0, _⟩ => ⟨S4096x4096, .fp8e4m3⟩
  | .hbm, ⟨1, _⟩ => ⟨S4096x1, .f32⟩
  | .hbm, ⟨2, _⟩ => ⟨S4096x9216, .fp8e4m3⟩
  | .hbm, ⟨3, _⟩ => ⟨S9216, .f32⟩
  | .hbm, ⟨4, _⟩ => ⟨S2, .i32⟩
  | .hbm, ⟨5, _⟩ => ⟨S2x1, .i32⟩
  | .hbm, ⟨6, _⟩ => ⟨S2048, .i32⟩
  | .hbm, ⟨7, _⟩ => ⟨S1x2048, .i32⟩
  | .hbm, ⟨8, _⟩ => ⟨S2x2048, .i32⟩
  | .hbm, ⟨9, _⟩ => ⟨S2x2048, .i32⟩
  | .hbm, ⟨10, _⟩ => ⟨S2x2048, .i32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S2x2048, .f32⟩
  | .hbm, ⟨23, _⟩ => ⟨S4096x1, .f32⟩
  | .hbm, ⟨24, _⟩ => ⟨S1x64, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S1x9216, .f32⟩
  | .hbm, ⟨29, _⟩ => ⟨S4096x64, .f32⟩
  | .hbm, ⟨30, _⟩ => ⟨S4096x64, .f32⟩
  | .hbm, ⟨31, _⟩ => ⟨S64x128x4096, .bf16⟩
  | .hbm, ⟨32, _⟩ => ⟨S4096x4x128, .fp8e4m3⟩
  | .hbm, ⟨33, _⟩ => ⟨S4096x4x128, .fp8e4m3⟩
  | .hbm, ⟨34, _⟩ => ⟨S2x4x2048, .f32⟩
  | .hbm, ⟨35, _⟩ => ⟨S2x4x2048, .f32⟩
  | .local _ .vmem, ⟨0, _⟩ => ⟨S4096x4096, .fp8e4m3⟩
  | .local _ .vmem, ⟨1, _⟩ => ⟨S4096x1, .f32⟩
  | .local _ .vmem, ⟨2, _⟩ => ⟨S4096x9216, .fp8e4m3⟩
  | .local _ .vmem, ⟨3, _⟩ => ⟨S1x9216, .f32⟩
  | .local _ .vmem, ⟨4, _⟩ => ⟨S4096x64, .f32⟩
  | .local _ .vmem, ⟨5, _⟩ => ⟨S4096x64, .f32⟩
  | .local _ .vmem, ⟨6, _⟩ => ⟨S64x128x4096, .bf16⟩
  | .local _ .vmem, ⟨7, _⟩ => ⟨S4096x4x128, .fp8e4m3⟩
  | .local _ .vmem, ⟨8, _⟩ => ⟨S4096x4x128, .fp8e4m3⟩
  | .local _ .vmem, ⟨9, _⟩ => ⟨S2x4x2048, .f32⟩
  | .local _ .vmem, ⟨10, _⟩ => ⟨S2x4x2048, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev main_v23_4 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x9216 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x128x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x4x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x4x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x4x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x4x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Words.lean ====
/- Signed 32-bit word arithmetic used by the loop bounds of the attention kernel: the floor division by the tile
   size, spelled by the program through truncated division, remainder and a correction, read as a division of
   natural numbers. -/
module

public import Idealize.ShloMosaic.Lib.Affine
public import Idealize.ShloMosaic.Lib.Tactic

@[expose] public section

namespace Cert.Words

open Idealize.ShloMosaic Idealize.ShloMosaic.Affine

/-- The program's floor division of a word by 512: the truncated quotient, less one where the signs differ and the
    remainder is not zero. -/
def fdiv (x : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt 512#32 0#32)) (Scalar.extui (Scalar.cmpi .slt 512#32 0#32))))
      (Scalar.cmpi .ne (Scalar.remsi x 512#32) 0#32))
    (Scalar.subi (Scalar.divsi x 512#32) 1#32) (Scalar.divsi x 512#32)

/-- A small non-negative word is the word of the natural number it reads as. -/
theorem eq_ofNat {x : BitVec 32} {e : Int} {n : Nat} (h : IsInt x e) (hn : e = n) (_hlt : n < 2 ^ 31) :
    x = BitVec.ofNat 32 n := by
  have h1 := toNat_of h (by omega)
  apply BitVec.eq_of_toNat_eq
  rw [BitVec.toNat_ofNat]
  omega

/-- Of a small positive word the floor division is the natural quotient. -/
theorem fdiv_eq {x : BitVec 32} {n : Nat} (hx : IsInt x n) (hpos : 0 < n) (hlt : n < 2 ^ 31) :
    fdiv x = BitVec.ofNat 32 (n / 512) := by
  have h0 : IsInt 0#32 0 := ofNat _ (by omega)
  have h1 : IsInt 1#32 1 := ofNat _ (by omega)
  have h512 : IsInt 512#32 512 := ofNat _ (by omega)
  have ha : IsInt _ 1 := extui_holds (sgt_holds hx h0 (by omega)) rfl
  have hb : IsInt _ 0 := extui_fails (slt_fails hx h0 (by omega)) rfl
  have hc : IsInt _ 1 := extui_holds (sgt_holds h512 h0 (by omega)) rfl
  have hd : IsInt _ 0 := extui_fails (slt_fails h512 h0 (by omega)) rfl
  have hab : IsInt _ 1 := subi ha hb (by omega)
  have hcd : IsInt _ 1 := subi hc hd (by omega)
  have hq : IsInt _ ((n : Int) / 512) := divsi hx h512 (by omega)
  have hq1 : IsInt _ ((n : Int) / 512 - 1) := subi hq h1 (by omega)
  exact eq_ofNat (select_fails (andi_fails_left (ne_fails hab hcd rfl) trivial) hq1 hq rfl) (by omega) (by omega)

/-- A difference of two small words divided by one, multiplied by one and added back. -/
theorem span_eq {a b : Nat} (hab : a ≤ b) (hb : b < 2 ^ 31) :
    Scalar.addi (BitVec.ofNat 32 a) (Scalar.muli (Scalar.divsi (Scalar.subi (BitVec.ofNat 32 b) (BitVec.ofNat 32 a)) 1#32) 1#32)
      = BitVec.ofNat 32 b := by
  have h1 : IsInt 1#32 1 := ofNat _ (by omega)
  have ha : IsInt (BitVec.ofNat 32 a) (a : Int) := ofNat _ (by omega)
  have hb' : IsInt (BitVec.ofNat 32 b) (b : Int) := ofNat _ (by omega)
  have hs : IsInt _ ((b : Int) - a) := subi hb' ha (by omega)
  have hd : IsInt _ ((b : Int) - a) := divsi_one hs h1 (by omega)
  have hm : IsInt _ ((b : Int) - a) := muli hd h1 (by omega)
  exact eq_ofNat (addi ha hm ⟨rfl, by omega, by omega⟩) (by omega) hb

/-- The same without the division and the product. -/
theorem back_eq {a b : Nat} (hab : a ≤ b) (hb : b < 2 ^ 31) :
    Scalar.addi (BitVec.ofNat 32 a) (Scalar.subi (BitVec.ofNat 32 b) (BitVec.ofNat 32 a)) = BitVec.ofNat 32 b := by
  have ha : IsInt (BitVec.ofNat 32 a) (a : Int) := ofNat _ (by omega)
  have hb' : IsInt (BitVec.ofNat 32 b) (b : Int) := ofNat _ (by omega)
  have hs : IsInt _ ((b : Int) - a) := subi hb' ha (by omega)
  exact eq_ofNat (addi ha hs ⟨rfl, by omega, by omega⟩) (by omega) hb

/-- A loop by ones between two small words: its meaning and its trips. -/
theorem loop_ok {a b : Nat} (hab : a ≤ b) (hb : b < 2 ^ 31) : Scf.OK (BitVec.ofNat 32 a) (BitVec.ofNat 32 b) 1#32 :=
  ok (ofNat a ⟨rfl, by omega⟩) (ofNat b ⟨rfl, hb⟩) (ofNat 1 ⟨rfl, by omega⟩) (by omega)

theorem loop_trips {a b : Nat} (hab : a ≤ b) (hb : b < 2 ^ 31) :
    Scf.trips (BitVec.ofNat 32 a) (BitVec.ofNat 32 b) 1#32 = b - a :=
  trips_eq (ofNat a ⟨rfl, by omega⟩) (ofNat b ⟨rfl, hb⟩) (ofNat 1 ⟨rfl, by omega⟩) _ (by omega)

/-- The first row of the tile a trip visits. -/
theorem tile_toNat {a k : Nat} (h : a + k < 4096) :
    (Scalar.muli (Scf.iv (BitVec.ofNat 32 a) 1#32 k) 512#32).toNat = 512 * (a + k) := by
  have hi : IsInt (Scf.iv (BitVec.ofNat 32 a) 1#32 k) ((a : Int) + k) :=
    iv (ofNat a ⟨rfl, by omega⟩) (ofNat 1 ⟨rfl, by omega⟩) k (by omega)
  have hm : IsInt _ (512 * ((a : Int) + k)) := muli hi (ofNat 512 ⟨rfl, by omega⟩) (by omega)
  have := toNat_of hm (by omega)
  omega

end Cert.Words

end
-- ==== Proof.RangeBits.lean ====
/- What the loop bounds and tile offsets of the attention kernel come to when the words of `start_pos` lie in
   [0, 10240], as natural numbers; and from that the side conditions the kernel's body assumes. -/
module

public import proofs.«01_k».proof.Defs
public import proofs.«01_k».proof.Proof.Gen.Kernel.Frame
public import proofs.«01_k».proof.Proof.Gen.Pre_in_range
public import proofs.«01_k».proof.Proof.Words

@[expose] public section

noncomputable section

namespace Cert.Kernel.Value

open Cert.Kernel Cert.Kernel.Gen Cert.Words
open Idealize.ShloMosaic Idealize.ShloMosaic.TcCoe

/-- The first query position of the block at grid point `i`, of the sequence whose past has `n` tokens. -/
def pos (i : grid0.Coords) (n : Nat) : Nat := n + 512 * (i 3).val
/-- The key tiles every query of the block sees whole. -/
def full (i : grid0.Coords) (n : Nat) : Nat := (pos i n + 1) / 512
/-- The key tiles some query of the block sees. -/
def last (i : grid0.Coords) (n : Nat) : Nat := (pos i n + 1023) / 512

variable (i : grid0.Coords) (v1 : BitVec 32)

theorem q_lt : (i 3).val < 4 := (i 3).isLt

theorem full_le_last (n : Nat) : full i n ≤ last i n := by unfold full last; omega

theorem last_le {n : Nat} (h : n ≤ 10240) : last i n ≤ 24 := by
  have := q_lt i; unfold last pos; omega

theorem full_lt {n : Nat} (h : n ≤ 10240) : full i n < 2 ^ 31 := by
  have := full_le_last i n; have := last_le i h; omega

/-- The word the body computes for the first query position. -/
def posW : BitVec 32 := Scalar.addi v1 (Scalar.muli (BitVec.ofNat 32 (i 3).val) 512#32)

theorem posW_isInt (h : v1.toNat ≤ 10240) : Affine.IsInt (posW i v1) (pos i v1.toNat : Nat) := by
  have hq := q_lt i
  have h1 : Affine.IsInt v1 (v1.toNat : Int) := by
    have := Affine.ofNat (e := (v1.toNat : Int)) v1.toNat ⟨rfl, by omega⟩
    rwa [BitVec.ofNat_toNat, BitVec.setWidth_eq] at this
  have h3 : Affine.IsInt (BitVec.ofNat 32 (i 3).val) ((i 3).val : Int) := Affine.ofNat _ ⟨rfl, by omega⟩
  have hm : Affine.IsInt _ (512 * ((i 3).val : Int)) := Affine.muli h3 (Affine.ofNat 512 ⟨rfl, by omega⟩) (by omega)
  exact Affine.addi h1 hm (by unfold pos; omega)

theorem fullW_eq (h : v1.toNat ≤ 10240) : fdiv (Scalar.addi (posW i v1) 1#32) = BitVec.ofNat 32 (full i v1.toNat) := by
  have hq := q_lt i
  have hb : pos i v1.toNat ≤ 12000 := by unfold pos; omega
  exact fdiv_eq (Affine.addi (posW_isInt i v1 h) (Affine.ofNat 1 ⟨rfl, by omega⟩) (by omega)) (by omega) (by omega)

theorem lastW_eq (h : v1.toNat ≤ 10240) :
    fdiv (Scalar.subi (Scalar.addi (Scalar.addi (posW i v1) 512#32) 512#32) 1#32) = BitVec.ofNat 32 (last i v1.toNat) := by
  have hq := q_lt i
  have hb : pos i v1.toNat ≤ 12000 := by unfold pos; omega
  have h512 : Affine.IsInt 512#32 512 := Affine.ofNat _ ⟨rfl, by omega⟩
  have ha : Affine.IsInt _ ((pos i v1.toNat : Nat) + 512 : Int) := Affine.addi (posW_isInt i v1 h) h512 (by omega)
  have hb' : Affine.IsInt _ ((pos i v1.toNat : Nat) + 1024 : Int) := Affine.addi ha h512 (by omega)
  exact fdiv_eq (Affine.subi hb' (Affine.ofNat 1 ⟨rfl, by omega⟩) (by omega)) (by omega) (by omega)

/-! ## The four loops -/

theorem t1_eq (h : v1.toNat ≤ 10240) : k0_t1_loop i v1 = ⟨0#32, BitVec.ofNat 32 (full i v1.toNat), 1#32⟩ := by
  have e : k0_t1_loop i v1 = ⟨BitVec.ofNat 32 0, Scalar.addi (BitVec.ofNat 32 0) (Scalar.muli (Scalar.divsi
      (Scalar.subi (fdiv (Scalar.addi (posW i v1) 1#32)) (BitVec.ofNat 32 0)) 1#32) 1#32), 1#32⟩ := rfl
  rw [e, fullW_eq i v1 h, span_eq (Nat.zero_le _) (full_lt i h)]

theorem t2_eq (h : v1.toNat ≤ 10240) :
    k0_t2_loop i v1 = ⟨BitVec.ofNat 32 (full i v1.toNat), BitVec.ofNat 32 (full i v1.toNat), 1#32⟩ := by
  have e : k0_t2_loop i v1 = ⟨Scalar.addi (BitVec.ofNat 32 0) (Scalar.muli (Scalar.divsi
      (Scalar.subi (fdiv (Scalar.addi (posW i v1) 1#32)) (BitVec.ofNat 32 0)) 1#32) 1#32),
      Scalar.addi (BitVec.ofNat 32 0) (Scalar.subi (fdiv (Scalar.addi (posW i v1) 1#32)) (BitVec.ofNat 32 0)), 1#32⟩ := rfl
  rw [e, fullW_eq i v1 h, span_eq (Nat.zero_le _) (full_lt i h), back_eq (Nat.zero_le _) (full_lt i h)]

theorem t3_eq (h : v1.toNat ≤ 10240) :
    k0_t3_loop i v1 = ⟨BitVec.ofNat 32 (full i v1.toNat), BitVec.ofNat 32 (last i v1.toNat), 1#32⟩ := by
  have e : k0_t3_loop i v1 = ⟨fdiv (Scalar.addi (posW i v1) 1#32), Scalar.addi (fdiv (Scalar.addi (posW i v1) 1#32))
      (Scalar.muli (Scalar.divsi (Scalar.subi (fdiv (Scalar.subi (Scalar.addi (Scalar.addi (posW i v1) 512#32) 512#32) 1#32))
        (fdiv (Scalar.addi (posW i v1) 1#32))) 1#32) 1#32), 1#32⟩ := rfl
  have hl := last_le i h
  rw [e, fullW_eq i v1 h, lastW_eq i v1 h, span_eq (full_le_last i _) (by omega)]

theorem t4_eq (h : v1.toNat ≤ 10240) :
    k0_t4_loop i v1 = ⟨BitVec.ofNat 32 (last i v1.toNat), BitVec.ofNat 32 (last i v1.toNat), 1#32⟩ := by
  have e : k0_t4_loop i v1 = ⟨Scalar.addi (fdiv (Scalar.addi (posW i v1) 1#32))
      (Scalar.muli (Scalar.divsi (Scalar.subi (fdiv (Scalar.subi (Scalar.addi (Scalar.addi (posW i v1) 512#32) 512#32) 1#32))
        (fdiv (Scalar.addi (posW i v1) 1#32))) 1#32) 1#32),
      Scalar.addi (fdiv (Scalar.addi (posW i v1) 1#32))
        (Scalar.subi (fdiv (Scalar.subi (Scalar.addi (Scalar.addi (posW i v1) 512#32) 512#32) 1#32))
        (fdiv (Scalar.addi (posW i v1) 1#32))), 1#32⟩ := rfl
  have hl := last_le i h
  rw [e, fullW_eq i v1 h, lastW_eq i v1 h, span_eq (full_le_last i _) (by omega), back_eq (full_le_last i _) (by omega)]

theorem t1_trips (h : v1.toNat ≤ 10240) : (k0_t1_loop i v1).trips = full i v1.toNat := by
  rw [t1_eq i v1 h]; exact loop_trips (a := 0) (Nat.zero_le _) (full_lt i h)
theorem t2_trips (h : v1.toNat ≤ 10240) : (k0_t2_loop i v1).trips = 0 := by
  rw [t2_eq i v1 h]; exact (loop_trips le_rfl (full_lt i h)).trans (Nat.sub_self _)
theorem t3_trips (h : v1.toNat ≤ 10240) : (k0_t3_loop i v1).trips = last i v1.toNat - full i v1.toNat := by
  have hl := last_le i h
  rw [t3_eq i v1 h]; exact loop_trips (full_le_last i _) (by omega)
theorem t4_trips (h : v1.toNat ≤ 10240) : (k0_t4_loop i v1).trips = 0 := by
  have hl := last_le i h
  rw [t4_eq i v1 h]; exact (loop_trips le_rfl (by omega)).trans (Nat.sub_self _)

/-! ## The tile of a trip -/

theorem t1_lt (h : v1.toNat ≤ 10240) (k : Fin (k0_t1_loop i v1).trips) : k.val < full i v1.toNat := by
  have := k.isLt; have := t1_trips i v1 h; omega
theorem t3_lt (h : v1.toNat ≤ 10240) (k : Fin (k0_t3_loop i v1).trips) : full i v1.toNat + k.val < last i v1.toNat := by
  have := k.isLt; have := t3_trips i v1 h; omega

theorem mult1_toNat (h : v1.toNat ≤ 10240) (k : Fin (k0_t1_loop i v1).trips) : (k0_mult1 i v1 k).toNat = 512 * k.val := by
  have := t1_lt i v1 h k; have := last_le i h; have := full_le_last i v1.toNat
  have e : k0_mult1 i v1 k = Scalar.muli (Scf.iv (BitVec.ofNat 32 0) 1#32 k) 512#32 := rfl
  rw [e, tile_toNat (by omega), Nat.zero_add]

theorem mult3_toNat (h : v1.toNat ≤ 10240) (k : Fin (k0_t3_loop i v1).trips) :
    (k0_mult3 i v1 k).toNat = 512 * (full i v1.toNat + k.val) := by
  have := t3_lt i v1 h k; have := last_le i h
  have e : k0_mult3 i v1 k = Scalar.muli (Scf.iv (fdiv (Scalar.addi (posW i v1) 1#32)) 1#32 k) 512#32 := rfl
  rw [e, fullW_eq i v1 h, tile_toNat (by omega)]

theorem off2_eq (h : v1.toNat ≤ 10240) (k : Fin (k0_t1_loop i v1).trips) : k0_off2 i v1 k = ![0, 0, 512 * k.val, 0] := by
  have e : k0_off2 i v1 k = ![0, 0, (k0_mult1 i v1 k).toNat, 0] := rfl
  rw [e, mult1_toNat i v1 h]
theorem off3_eq (h : v1.toNat ≤ 10240) (k : Fin (k0_t1_loop i v1).trips) : k0_off3 i v1 k = ![0, 0, 0, 512 * k.val] := by
  have e : k0_off3 i v1 k = ![0, 0, 0, (k0_mult1 i v1 k).toNat] := rfl
  rw [e, mult1_toNat i v1 h]
theorem off6_eq (h : v1.toNat ≤ 10240) (k : Fin (k0_t3_loop i v1).trips) :
    k0_off6 i v1 k = ![0, 0, 512 * (full i v1.toNat + k.val), 0] := by
  have e : k0_off6 i v1 k = ![0, 0, (k0_mult3 i v1 k).toNat, 0] := rfl
  rw [e, mult3_toNat i v1 h]
theorem off7_eq (h : v1.toNat ≤ 10240) (k : Fin (k0_t3_loop i v1).trips) :
    k0_off7 i v1 k = ![0, 0, 0, 512 * (full i v1.toNat + k.val)] := by
  have e : k0_off7 i v1 k = ![0, 0, 0, (k0_mult3 i v1 k).toNat] := rfl
  rw [e, mult3_toNat i v1 h]

/-- A tile below the 24th lies inside the cached keys. -/
theorem k_inb {n : Nat} (h : n < 24) : ∀ a, (![0, 0, 512 * n, 0] : Fin 4 → Nat) a + S1x1x512x128.size a ≤ S1x1x12288x128.size a := by
  intro a; fin_cases a <;> simp [S1x1x512x128, S1x1x12288x128]; omega
/-- A tile below the 24th lies inside the cached values. -/
theorem v_inb {n : Nat} (h : n < 24) : ∀ a, (![0, 0, 0, 512 * n] : Fin 4 → Nat) a + S1x1x128x512.size a ≤ S1x1x128x12288.size a := by
  intro a; fin_cases a <;> simp [S1x1x128x512, S1x1x128x12288]; omega

/-- The side condition of the body, of a word in range. -/
theorem chk (h : v1.toNat ≤ 10240) : k0_chk1 i v1 := by
  have hl := last_le i h
  have hf := full_le_last i v1.toNat
  have no2 : ∀ k : Fin (k0_t2_loop i v1).trips, False := fun k => by have := k.isLt; have := t2_trips i v1 h; omega
  have no4 : ∀ k : Fin (k0_t4_loop i v1).trips, False := fun k => by have := k.isLt; have := t4_trips i v1 h; omega
  refine ⟨?_, fun k => ?_, fun k => ?_, fun k => ?_, ?_, fun k => (no2 k).elim, fun k => (no2 k).elim, fun k => (no2 k).elim,
    ?_, fun k => ?_, fun k => ?_, fun k => ?_, ?_, fun k => (no4 k).elim, fun k => (no4 k).elim, fun k => (no4 k).elim⟩
  · rw [t1_eq i v1 h]; exact loop_ok (a := 0) (Nat.zero_le _) (full_lt i h)
  · rw [mult1_toNat i v1 h]; exact Nat.dvd_mul_right _ _
  · rw [off2_eq i v1 h]; exact k_inb (by have := t1_lt i v1 h k; omega)
  · rw [off3_eq i v1 h]; exact v_inb (by have := t1_lt i v1 h k; omega)
  · rw [t2_eq i v1 h]; exact loop_ok le_rfl (full_lt i h)
  · rw [t3_eq i v1 h]; exact loop_ok hf (by omega)
  · rw [mult3_toNat i v1 h]; exact Nat.dvd_mul_right _ _
  · rw [off6_eq i v1 h]; exact k_inb (by have := t3_lt i v1 h k; omega)
  · rw [off7_eq i v1 h]; exact v_inb (by have := t3_lt i v1 h k; omega)
  · rw [t4_eq i v1 h]; exact loop_ok le_rfl (by omega)

/-! ## From the precondition -/

section
variable (m : (ℓ : Loc nD τ sig) → Buf (Elt Bits) ℓ)

theorem ok (m : (ℓ : Loc nD τ sig) → Buf (Elt Bits) ℓ) : Ok m := trivial

/-- The index of the sequence of point `i` among the words of `start_pos`. -/
def seqIx (i : grid0.Coords) : S2.Idx := fun a => ⟨(i 0).val, by fin_cases a; exact (i 0).isLt⟩
/-- The word of `start_pos` the block at point `i` reads. -/
def startW (c : Dev nD) (i : grid0.Coords) : BitVec 32 := m ((c : Thread nD τ).loc main_arg0) (seqIx i)

theorem start_le (h : Cert.Pre_Kernel m) (c : Dev nD) (y : S2.Idx) : (m ((c : Thread nD τ).loc main_arg0) y).toNat ≤ 10240 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun (h c) y
  simp only [Pre_in_range.fn, andi, cmpi, broadcastInDim, constantI, IntOp.cmpi, andi_ofBool, ofBool_eq_one,
    Bool.and_eq_true] at e
  obtain ⟨hge, hle⟩ := e
  simp only [BitVec.sle, decide_eq_true_eq, BitVec.toInt, BitVec.toNat_ofNat] at hge hle
  omega

/-- The word the body reads off the table is that word. -/
theorem readW_eq (c : Dev nD) (i : grid0.Coords) :
    tbM0_0.view.readAt (Elt Bits) (Rect.unit (s := S2) (k0_off1 i) S1.size (k0_off1_inb _)).toLoadRect (tbl m 0)
      (Shape.Idx.first (numel1_S1.symm ▸ Nat.one_pos)) = startW m c i := by
  obtain rfl : c = 0 := Subsingleton.elim _ _
  unfold startW
  have hi : (i 0).val < 2 := (i 0).isLt
  refine congrArg (m (((0 : Dev nD) : Thread nD τ).loc main_arg0)) (funext fun (a : Fin 1) => Fin.ext ?_)
  obtain rfl : a = 0 := Subsingleton.elim _ _
  change (BitVec.ofNat 32 (i 0).val).toNat + 1 * 0 = (i 0).val
  rw [BitVec.toNat_ofNat]; omega

theorem startW_le (h : Cert.Pre_Kernel m) (c : Dev nD) (i : grid0.Coords) : (startW m c i).toNat ≤ 10240 := start_le m h c _

/-- The precondition implies the side conditions the body assumes. -/
theorem hyps (h : Cert.Pre_Kernel m) : Hyps m (ok m) := by
  intro c t
  rw [readW_eq m c]
  exact chk _ _ (startW_le m h c _)

end

end Cert.Kernel.Value

end
-- ==== Proof.Range.lean ====
/- What the loop bounds and tile offsets of the attention kernel come to when the words of `start_pos` lie in
   [0, 10240], as natural numbers; and from that the side conditions the kernel's body assumes. -/
module

public import proofs.«01_k».proof.Defs
public import proofs.«01_k».proof.Proof.Gen.KernelIdeal.Frame
public import proofs.«01_k».proof.Proof.Gen.Pre_in_range
public import proofs.«01_k».proof.Proof.Words

@[expose] public section

noncomputable section

namespace Cert.KernelIdeal.Value

open Cert.KernelIdeal Cert.KernelIdeal.Gen Cert.Words
open Idealize.ShloMosaic Idealize.ShloMosaic.TcCoe

/-- The first query position of the block at grid point `i`, of the sequence whose past has `n` tokens. -/
def pos (i : grid0.Coords) (n : Nat) : Nat := n + 512 * (i 3).val
/-- The key tiles every query of the block sees whole. -/
def full (i : grid0.Coords) (n : Nat) : Nat := (pos i n + 1) / 512
/-- The key tiles some query of the block sees. -/
def last (i : grid0.Coords) (n : Nat) : Nat := (pos i n + 1023) / 512

variable (i : grid0.Coords) (v1 : BitVec 32)

theorem q_lt : (i 3).val < 4 := (i 3).isLt

theorem full_le_last (n : Nat) : full i n ≤ last i n := by unfold full last; omega

theorem last_le {n : Nat} (h : n ≤ 10240) : last i n ≤ 24 := by
  have := q_lt i; unfold last pos; omega

theorem full_lt {n : Nat} (h : n ≤ 10240) : full i n < 2 ^ 31 := by
  have := full_le_last i n; have := last_le i h; omega

/-- The word the body computes for the first query position. -/
def posW : BitVec 32 := Scalar.addi v1 (Scalar.muli (BitVec.ofNat 32 (i 3).val) 512#32)

theorem posW_isInt (h : v1.toNat ≤ 10240) : Affine.IsInt (posW i v1) (pos i v1.toNat : Nat) := by
  have hq := q_lt i
  have h1 : Affine.IsInt v1 (v1.toNat : Int) := by
    have := Affine.ofNat (e := (v1.toNat : Int)) v1.toNat ⟨rfl, by omega⟩
    rwa [BitVec.ofNat_toNat, BitVec.setWidth_eq] at this
  have h3 : Affine.IsInt (BitVec.ofNat 32 (i 3).val) ((i 3).val : Int) := Affine.ofNat _ ⟨rfl, by omega⟩
  have hm : Affine.IsInt _ (512 * ((i 3).val : Int)) := Affine.muli h3 (Affine.ofNat 512 ⟨rfl, by omega⟩) (by omega)
  exact Affine.addi h1 hm (by unfold pos; omega)

theorem fullW_eq (h : v1.toNat ≤ 10240) : fdiv (Scalar.addi (posW i v1) 1#32) = BitVec.ofNat 32 (full i v1.toNat) := by
  have hq := q_lt i
  have hb : pos i v1.toNat ≤ 12000 := by unfold pos; omega
  exact fdiv_eq (Affine.addi (posW_isInt i v1 h) (Affine.ofNat 1 ⟨rfl, by omega⟩) (by omega)) (by omega) (by omega)

theorem lastW_eq (h : v1.toNat ≤ 10240) :
    fdiv (Scalar.subi (Scalar.addi (Scalar.addi (posW i v1) 512#32) 512#32) 1#32) = BitVec.ofNat 32 (last i v1.toNat) := by
  have hq := q_lt i
  have hb : pos i v1.toNat ≤ 12000 := by unfold pos; omega
  have h512 : Affine.IsInt 512#32 512 := Affine.ofNat _ ⟨rfl, by omega⟩
  have ha : Affine.IsInt _ ((pos i v1.toNat : Nat) + 512 : Int) := Affine.addi (posW_isInt i v1 h) h512 (by omega)
  have hb' : Affine.IsInt _ ((pos i v1.toNat : Nat) + 1024 : Int) := Affine.addi ha h512 (by omega)
  exact fdiv_eq (Affine.subi hb' (Affine.ofNat 1 ⟨rfl, by omega⟩) (by omega)) (by omega) (by omega)

/-! ## The four loops -/

theorem t1_eq (h : v1.toNat ≤ 10240) : k0_t1_loop i v1 = ⟨0#32, BitVec.ofNat 32 (full i v1.toNat), 1#32⟩ := by
  have e : k0_t1_loop i v1 = ⟨BitVec.ofNat 32 0, Scalar.addi (BitVec.ofNat 32 0) (Scalar.muli (Scalar.divsi
      (Scalar.subi (fdiv (Scalar.addi (posW i v1) 1#32)) (BitVec.ofNat 32 0)) 1#32) 1#32), 1#32⟩ := rfl
  rw [e, fullW_eq i v1 h, span_eq (Nat.zero_le _) (full_lt i h)]

theorem t2_eq (h : v1.toNat ≤ 10240) :
    k0_t2_loop i v1 = ⟨BitVec.ofNat 32 (full i v1.toNat), BitVec.ofNat 32 (full i v1.toNat), 1#32⟩ := by
  have e : k0_t2_loop i v1 = ⟨Scalar.addi (BitVec.ofNat 32 0) (Scalar.muli (Scalar.divsi
      (Scalar.subi (fdiv (Scalar.addi (posW i v1) 1#32)) (BitVec.ofNat 32 0)) 1#32) 1#32),
      Scalar.addi (BitVec.ofNat 32 0) (Scalar.subi (fdiv (Scalar.addi (posW i v1) 1#32)) (BitVec.ofNat 32 0)), 1#32⟩ := rfl
  rw [e, fullW_eq i v1 h, span_eq (Nat.zero_le _) (full_lt i h), back_eq (Nat.zero_le _) (full_lt i h)]

theorem t3_eq (h : v1.toNat ≤ 10240) :
    k0_t3_loop i v1 = ⟨BitVec.ofNat 32 (full i v1.toNat), BitVec.ofNat 32 (last i v1.toNat), 1#32⟩ := by
  have e : k0_t3_loop i v1 = ⟨fdiv (Scalar.addi (posW i v1) 1#32), Scalar.addi (fdiv (Scalar.addi (posW i v1) 1#32))
      (Scalar.muli (Scalar.divsi (Scalar.subi (fdiv (Scalar.subi (Scalar.addi (Scalar.addi (posW i v1) 512#32) 512#32) 1#32))
        (fdiv (Scalar.addi (posW i v1) 1#32))) 1#32) 1#32), 1#32⟩ := rfl
  have hl := last_le i h
  rw [e, fullW_eq i v1 h, lastW_eq i v1 h, span_eq (full_le_last i _) (by omega)]

theorem t4_eq (h : v1.toNat ≤ 10240) :
    k0_t4_loop i v1 = ⟨BitVec.ofNat 32 (last i v1.toNat), BitVec.ofNat 32 (last i v1.toNat), 1#32⟩ := by
  have e : k0_t4_loop i v1 = ⟨Scalar.addi (fdiv (Scalar.addi (posW i v1) 1#32))
      (Scalar.muli (Scalar.divsi (Scalar.subi (fdiv (Scalar.subi (Scalar.addi (Scalar.addi (posW i v1) 512#32) 512#32) 1#32))
        (fdiv (Scalar.addi (posW i v1) 1#32))) 1#32) 1#32),
      Scalar.addi (fdiv (Scalar.addi (posW i v1) 1#32))
        (Scalar.subi (fdiv (Scalar.subi (Scalar.addi (Scalar.addi (posW i v1) 512#32) 512#32) 1#32))
        (fdiv (Scalar.addi (posW i v1) 1#32))), 1#32⟩ := rfl
  have hl := last_le i h
  rw [e, fullW_eq i v1 h, lastW_eq i v1 h, span_eq (full_le_last i _) (by omega), back_eq (full_le_last i _) (by omega)]

theorem t1_trips (h : v1.toNat ≤ 10240) : (k0_t1_loop i v1).trips = full i v1.toNat := by
  rw [t1_eq i v1 h]; exact loop_trips (a := 0) (Nat.zero_le _) (full_lt i h)
theorem t2_trips (h : v1.toNat ≤ 10240) : (k0_t2_loop i v1).trips = 0 := by
  rw [t2_eq i v1 h]; exact (loop_trips le_rfl (full_lt i h)).trans (Nat.sub_self _)
theorem t3_trips (h : v1.toNat ≤ 10240) : (k0_t3_loop i v1).trips = last i v1.toNat - full i v1.toNat := by
  have hl := last_le i h
  rw [t3_eq i v1 h]; exact loop_trips (full_le_last i _) (by omega)
theorem t4_trips (h : v1.toNat ≤ 10240) : (k0_t4_loop i v1).trips = 0 := by
  have hl := last_le i h
  rw [t4_eq i v1 h]; exact (loop_trips le_rfl (by omega)).trans (Nat.sub_self _)

/-! ## The tile of a trip -/

theorem t1_lt (h : v1.toNat ≤ 10240) (k : Fin (k0_t1_loop i v1).trips) : k.val < full i v1.toNat := by
  have := k.isLt; have := t1_trips i v1 h; omega
theorem t3_lt (h : v1.toNat ≤ 10240) (k : Fin (k0_t3_loop i v1).trips) : full i v1.toNat + k.val < last i v1.toNat := by
  have := k.isLt; have := t3_trips i v1 h; omega

theorem mult1_toNat (h : v1.toNat ≤ 10240) (k : Fin (k0_t1_loop i v1).trips) : (k0_mult1 i v1 k).toNat = 512 * k.val := by
  have := t1_lt i v1 h k; have := last_le i h; have := full_le_last i v1.toNat
  have e : k0_mult1 i v1 k = Scalar.muli (Scf.iv (BitVec.ofNat 32 0) 1#32 k) 512#32 := rfl
  rw [e, tile_toNat (by omega), Nat.zero_add]

theorem mult3_toNat (h : v1.toNat ≤ 10240) (k : Fin (k0_t3_loop i v1).trips) :
    (k0_mult3 i v1 k).toNat = 512 * (full i v1.toNat + k.val) := by
  have := t3_lt i v1 h k; have := last_le i h
  have e : k0_mult3 i v1 k = Scalar.muli (Scf.iv (fdiv (Scalar.addi (posW i v1) 1#32)) 1#32 k) 512#32 := rfl
  rw [e, fullW_eq i v1 h, tile_toNat (by omega)]

theorem off2_eq (h : v1.toNat ≤ 10240) (k : Fin (k0_t1_loop i v1).trips) : k0_off2 i v1 k = ![0, 0, 512 * k.val, 0] := by
  have e : k0_off2 i v1 k = ![0, 0, (k0_mult1 i v1 k).toNat, 0] := rfl
  rw [e, mult1_toNat i v1 h]
theorem off3_eq (h : v1.toNat ≤ 10240) (k : Fin (k0_t1_loop i v1).trips) : k0_off3 i v1 k = ![0, 0, 0, 512 * k.val] := by
  have e : k0_off3 i v1 k = ![0, 0, 0, (k0_mult1 i v1 k).toNat] := rfl
  rw [e, mult1_toNat i v1 h]
theorem off6_eq (h : v1.toNat ≤ 10240) (k : Fin (k0_t3_loop i v1).trips) :
    k0_off6 i v1 k = ![0, 0, 512 * (full i v1.toNat + k.val), 0] := by
  have e : k0_off6 i v1 k = ![0, 0, (k0_mult3 i v1 k).toNat, 0] := rfl
  rw [e, mult3_toNat i v1 h]
theorem off7_eq (h : v1.toNat ≤ 10240) (k : Fin (k0_t3_loop i v1).trips) :
    k0_off7 i v1 k = ![0, 0, 0, 512 * (full i v1.toNat + k.val)] := by
  have e : k0_off7 i v1 k = ![0, 0, 0, (k0_mult3 i v1 k).toNat] := rfl
  rw [e, mult3_toNat i v1 h]

/-- A tile below the 24th lies inside the cached keys. -/
theorem k_inb {n : Nat} (h : n < 24) : ∀ a, (![0, 0, 512 * n, 0] : Fin 4 → Nat) a + S1x1x512x128.size a ≤ S1x1x12288x128.size a := by
  intro a; fin_cases a <;> simp [S1x1x512x128, S1x1x12288x128]; omega
/-- A tile below the 24th lies inside the cached values. -/
theorem v_inb {n : Nat} (h : n < 24) : ∀ a, (![0, 0, 0, 512 * n] : Fin 4 → Nat) a + S1x1x128x512.size a ≤ S1x1x128x12288.size a := by
  intro a; fin_cases a <;> simp [S1x1x128x512, S1x1x128x12288]; omega

/-- The side condition of the body, of a word in range. -/
theorem chk (h : v1.toNat ≤ 10240) : k0_chk1 i v1 := by
  have hl := last_le i h
  have hf := full_le_last i v1.toNat
  have no2 : ∀ k : Fin (k0_t2_loop i v1).trips, False := fun k => by have := k.isLt; have := t2_trips i v1 h; omega
  have no4 : ∀ k : Fin (k0_t4_loop i v1).trips, False := fun k => by have := k.isLt; have := t4_trips i v1 h; omega
  refine ⟨?_, fun k => ?_, fun k => ?_, fun k => ?_, ?_, fun k => (no2 k).elim, fun k => (no2 k).elim, fun k => (no2 k).elim,
    ?_, fun k => ?_, fun k => ?_, fun k => ?_, ?_, fun k => (no4 k).elim, fun k => (no4 k).elim, fun k => (no4 k).elim⟩
  · rw [t1_eq i v1 h]; exact loop_ok (a := 0) (Nat.zero_le _) (full_lt i h)
  · rw [mult1_toNat i v1 h]; exact Nat.dvd_mul_right _ _
  · rw [off2_eq i v1 h]; exact k_inb (by have := t1_lt i v1 h k; omega)
  · rw [off3_eq i v1 h]; exact v_inb (by have := t1_lt i v1 h k; omega)
  · rw [t2_eq i v1 h]; exact loop_ok le_rfl (full_lt i h)
  · rw [t3_eq i v1 h]; exact loop_ok hf (by omega)
  · rw [mult3_toNat i v1 h]; exact Nat.dvd_mul_right _ _
  · rw [off6_eq i v1 h]; exact k_inb (by have := t3_lt i v1 h k; omega)
  · rw [off7_eq i v1 h]; exact v_inb (by have := t3_lt i v1 h k; omega)
  · rw [t4_eq i v1 h]; exact loop_ok le_rfl (by omega)

/-! ## From the precondition -/

section
variable (m : (ℓ : Loc nD τ sig) → Buf (Elt Ideal) ℓ)

theorem ok (m : (ℓ : Loc nD τ sig) → Buf (Elt Ideal) ℓ) : Ok m := trivial

/-- The index of the sequence of point `i` among the words of `start_pos`. -/
def seqIx (i : grid0.Coords) : S2.Idx := fun a => ⟨(i 0).val, by fin_cases a; exact (i 0).isLt⟩
/-- The word of `start_pos` the block at point `i` reads. -/
def startW (c : Dev nD) (i : grid0.Coords) : BitVec 32 := m ((c : Thread nD τ).loc main_arg0) (seqIx i)

theorem start_le (h : Cert.Pre_KernelIdeal m) (c : Dev nD) (y : S2.Idx) : (m ((c : Thread nD τ).loc main_arg0) y).toNat ≤ 10240 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun (h c) y
  simp only [Pre_in_range.fn, andi, cmpi, broadcastInDim, constantI, IntOp.cmpi, andi_ofBool, ofBool_eq_one,
    Bool.and_eq_true] at e
  obtain ⟨hge, hle⟩ := e
  simp only [BitVec.sle, decide_eq_true_eq, BitVec.toInt, BitVec.toNat_ofNat] at hge hle
  omega

/-- The word the body reads off the table is that word. -/
theorem readW_eq (c : Dev nD) (i : grid0.Coords) :
    tbM0_0.view.readAt (Elt Ideal) (Rect.unit (s := S2) (k0_off1 i) S1.size (k0_off1_inb _)).toLoadRect (tbl m 0)
      (Shape.Idx.first (numel1_S1.symm ▸ Nat.one_pos)) = startW m c i := by
  obtain rfl : c = 0 := Subsingleton.elim _ _
  unfold startW
  have hi : (i 0).val < 2 := (i 0).isLt
  refine congrArg (m (((0 : Dev nD) : Thread nD τ).loc main_arg0)) (funext fun (a : Fin 1) => Fin.ext ?_)
  obtain rfl : a = 0 := Subsingleton.elim _ _
  change (BitVec.ofNat 32 (i 0).val).toNat + 1 * 0 = (i 0).val
  rw [BitVec.toNat_ofNat]; omega

theorem startW_le (h : Cert.Pre_KernelIdeal m) (c : Dev nD) (i : grid0.Coords) : (startW m c i).toNat ≤ 10240 := start_le m h c _

/-- The precondition implies the side conditions the body assumes. -/
theorem hyps (h : Cert.Pre_KernelIdeal m) : Hyps m (ok m) := by
  intro c t
  rw [readW_eq m c]
  exact chk _ _ (startW_le m h c _)

end

end Cert.KernelIdeal.Value

end
-- ==== Proof.Block.lean ====
/- What one run of the kernel's body leaves: the running maximum, the running sum and the running weighted values,
   tile after tile of keys, read back from the scratch buffers as a recursion over the tiles; and the two blocks the
   body stores, as functions of the last state. -/
module

public import proofs.«01_k».proof.Proof.Range
public import Idealize.ShloMosaic.Lib.VecWindow
public import Idealize.ShloMosaic.Lib.Pipeline.ValueKit

@[expose] public section

noncomputable section

namespace Cert.KernelIdeal.Value

open Cert.KernelIdeal Cert.KernelIdeal.Gen Cert.Words
open Idealize.ShloMosaic Idealize.ShloMosaic.TcCoe
open Facts

variable {F : FTy → Type} [FloatOps F]

/-! ## One step of the running softmax -/

/-- The state carried over the key tiles: running maximum, running sum, running weighted values. -/
structure St (F : FTy → Type) where
  mx : Vec F S1x512 .f32
  sm : Vec F S1x512 .f32
  ac : Vec F S128x512 .f32

/-- The next running maximum: the old one or the ceiling of the tile's maximum. -/
def mNext (s : FVec F S512x512 .f32) (m : Vec F S1x512 .f32) : FVec F S1x512 .f32 :=
  maximumf m (ceil (shapeCast S1x512 (multiReduction .maximumf [0] S512 s 0xFF800000#32 reduces_S512x512_S512 (.inl rfl) rfl) shapeCasts_S512_S1x512))

/-- The factor rescaling what was accumulated before. -/
def alpha (s : FVec F S512x512 .f32) (m : Vec F S1x512 .f32) : FVec F S1x512 .f32 := exp2 (subf m (mNext s m))

/-- The tile's weights. -/
def prob (s : FVec F S512x512 .f32) (m : Vec F S1x512 .f32) : FVec F S512x512 .f32 :=
  exp2 (subf s (broadcastTo S512x512 (mNext s m) broadcasts_S1x512_S512x512))

/-- The next running sum. -/
def lNext (s : FVec F S512x512 .f32) (m l : Vec F S1x512 .f32) : FVec F S1x512 .f32 :=
  addf (mulf l (alpha s m)) (shapeCast S1x512 (multiReduction .add [0] S512 (prob s m) 0x00000000#32 reduces_S512x512_S512 (.inl rfl) rfl) shapeCasts_S512_S1x512)

/-- The next running weighted values. -/
def aNext (s : FVec F S512x512 .f32) (vb : Vec F S1x1x128x512 .bf16) (m : Vec F S1x512 .f32) (a : Vec F S128x512 .f32) : FVec F S128x512 .f32 :=
  addf (mulf a (broadcastTo S128x512 (alpha s m) broadcasts_S1x512_S128x512))
    (matmul dot_S128x512_S512x512_S128x512_1_0_0_1_n_n none (shapeCast S128x512 vb shapeCasts_S1x1x128x512_S128x512)
      (truncf .bf16 (prob s m) bitsLt_bf16_f32) (constant S128x512 .f32 0x00000000#32))

/-- One tile's step, from the tile's scores and its values. -/
def step (s : FVec F S512x512 .f32) (vb : Vec F S1x1x128x512 .bf16) (x : St F) : St F :=
  ⟨mNext s x.mx, lNext s x.mx x.sm, aNext s vb x.mx x.ac⟩

/-- The tile's scores with the keys past the query's own position left out: key row minus query column at most `w`. -/
def maskAt (w : BitVec 32) (s : FVec F S512x512 .f32) : FVec F S512x512 .f32 :=
  select (cmpi .sle (subi (iota .tc S512x512 32 [0] iota_S512x512_d0_w32) (iota .tc S512x512 32 [1] iota_S512x512_d1_w32)) (broadcast S512x512 w))
    s (broadcast S512x512 (Scalar.ofBits .f32 0xFF800000#32 : F .f32))

/-- Tile `n` of the cached keys. -/
def kTile (x1 : Vec F S1x1x12288x128 .bf16) (n : Nat) : Vec F S1x1x512x128 .bf16 := fun y =>
  x1 (ix4 (0 : Fin 1) (0 : Fin 1) (⟨(512 * n + (y 2).val) % 12288, Nat.mod_lt _ (by decide)⟩ : Fin 12288) (y 3 : Fin 128))
/-- Tile `n` of the cached values. -/
def vTile (x2 : Vec F S1x1x128x12288 .bf16) (n : Nat) : Vec F S1x1x128x512 .bf16 := fun y =>
  x2 (ix4 (0 : Fin 1) (0 : Fin 1) (y 2 : Fin 128) (⟨(512 * n + (y 3).val) % 12288, Nat.mod_lt _ (by decide)⟩ : Fin 12288))

theorem idx4 {a b c d : Nat} (x y : (⟨4, ![a, b, c, d]⟩ : Shape).Idx) (h0 : (x 0).val = (y 0).val) (h1 : (x 1).val = (y 1).val)
    (h2 : (x 2).val = (y 2).val) (h3 : (x 3).val = (y 3).val) : x = y := by
  funext k; apply Fin.ext; fin_cases k <;> assumption

theorem kLoad (a6 : Memref sig .tc .vmem S1x1x12288x128 .bf16) (h6 : a6.IsWhole) (x1 : Vec F S1x1x12288x128 .bf16) {n : Nat} (hn : n < 24)
    {off : Fin 4 → Nat} (he : off = ![0, 0, 512 * n, 0]) (inb : ∀ a, off a + S1x1x512x128.size a ≤ S1x1x12288x128.size a) :
    a6.view.readAt (Elt F) (Rect.unit (s := S1x1x12288x128) off S1x1x512x128.size inb).toLoadRect (h6.unread x1) = kTile x1 n := by
  subst he
  funext y
  rw [View.readAt_apply, h6.read_unread]
  unfold kTile
  have h0 : (y 0).val < 1 := (y 0).isLt
  have h1 : (y 1).val < 1 := (y 1).isLt
  have h2 : (y 2).val < 512 := (y 2).isLt
  refine congrArg x1 (idx4 _ _ ?_ ?_ ?_ ?_)
  · change 0 + 1 * (y 0).val = 0; omega
  · change 0 + 1 * (y 1).val = 0; omega
  · change 512 * n + 1 * (y 2).val = (512 * n + (y 2).val) % 12288; omega
  · change 0 + 1 * (y 3).val = (y 3).val; omega

theorem vLoad (a7 : Memref sig .tc .vmem S1x1x128x12288 .bf16) (h7 : a7.IsWhole) (x2 : Vec F S1x1x128x12288 .bf16) {n : Nat} (hn : n < 24)
    {off : Fin 4 → Nat} (he : off = ![0, 0, 0, 512 * n]) (inb : ∀ a, off a + S1x1x128x512.size a ≤ S1x1x128x12288.size a) :
    a7.view.readAt (Elt F) (Rect.unit (s := S1x1x128x12288) off S1x1x128x512.size inb).toLoadRect (h7.unread x2) = vTile x2 n := by
  subst he
  funext y
  rw [View.readAt_apply, h7.read_unread]
  unfold vTile
  have h0 : (y 0).val < 1 := (y 0).isLt
  have h1 : (y 1).val < 1 := (y 1).isLt
  have h3 : (y 3).val < 512 := (y 3).isLt
  refine congrArg x2 (idx4 _ _ ?_ ?_ ?_ ?_)
  · change 0 + 1 * (y 0).val = 0; omega
  · change 0 + 1 * (y 1).val = 0; omega
  · change 0 + 1 * (y 2).val = (y 2).val; omega
  · change 512 * n + 1 * (y 3).val = (512 * n + (y 3).val) % 12288; omega

/-- The state after the first `n` whole tiles. -/
def run1 (v5 : FVec F S128x512 .bf16) (x1 : Vec F S1x1x12288x128 .bf16) (x2 : Vec F S1x1x128x12288 .bf16) (s : St F) : Nat → St F
  | 0 => s
  | n + 1 => step (k0_pay3 v5 (kTile x1 n)) (vTile x2 n) (run1 v5 x1 x2 s n)

/-- The state after `n` masked tiles from tile `f` on; `p` the word of the block's first query position. -/
def run3 (p : BitVec 32) (f : Nat) (v5 : FVec F S128x512 .bf16) (x1 : Vec F S1x1x12288x128 .bf16) (x2 : Vec F S1x1x128x12288 .bf16) (s : St F) : Nat → St F
  | 0 => s
  | n + 1 => step (maskAt (Scalar.subi p (BitVec.ofNat 32 (512 * (f + n)))) (k0_pay3 v5 (kTile x1 (f + n)))) (vTile x2 (f + n)) (run3 p f v5 x1 x2 s n)

/-! ## The trips' stores read back -/

section
variable (c : Dev nD) (i : grid0.Coords) (a5 : Memref sig .tc .vmem S1x128x512 .bf16) (h5 : a5.IsWhole) (a6 : Memref sig .tc .vmem S1x1x12288x128 .bf16) (h6 : a6.IsWhole) (a7 : Memref sig .tc .vmem S1x1x128x12288 .bf16) (h7 : a7.IsWhole) (a8 : Memref sig .tc .vmem S1x512x128 .f32) (h8 : a8.IsWhole) (a9 : Memref sig .tc .vmem S1x1x1x512 .f32) (h9 : a9.IsWhole) (a10 : Memref sig .tc .vmem S1x512 .f32) (h10 : a10.IsWhole) (a11 : Memref sig .tc .vmem S1x512 .f32) (h11 : a11.IsWhole) (a12 : Memref sig .tc .vmem S128x512 .f32) (h12 : a12.IsWhole)
  (v1 : Elt F .i32) (hw : k0_chk1 i v1) (v3 : BitVec 32) (v5 : FVec F S128x512 .bf16) (v19 : BitVec 32) (v30 : BitVec 1) (v31 : BitVec 32) (w : BitVec 32)
  (x1 : Vec F S1x1x12288x128 .bf16) (x2 : Vec F S1x1x128x12288 .bf16)

/-- The three scratch buffers read whole. -/
def stOf (f10 : BufTy.Contents (Elt F) a10.view.ty) (f11 : BufTy.Contents (Elt F) a11.view.ty) (f12 : BufTy.Contents (Elt F) a12.view.ty) : St F :=
  ⟨a10.view.read (Elt F) f10, a11.view.read (Elt F) f11, a12.view.read (Elt F) f12⟩

theorem trip1 (h : BitVec.toNat v1 ≤ 10240) (k : Fin (k0_t1_loop i v1).trips) (f10 : BufTy.Contents (Elt F) a10.view.ty) (f11 : BufTy.Contents (Elt F) a11.view.ty) (f12 : BufTy.Contents (Elt F) a12.view.ty) :
    stOf a10 a11 a12 (a10.view.writes (Elt F) f10 (tripL_k0_t1 (F := F) Variants.none c none i tbM0_0 htbM0_0 a5 h5 a6 h6 a7 h7 a8 h8 a9 h9 a10 h10 a11 h11 a12 h12 v1 hw v3 v5 v19 v30 v31 w (h6.unread x1) (h7.unread x2) k f10 f11 f12).1)
      (a11.view.writes (Elt F) f11 (tripL_k0_t1 (F := F) Variants.none c none i tbM0_0 htbM0_0 a5 h5 a6 h6 a7 h7 a8 h8 a9 h9 a10 h10 a11 h11 a12 h12 v1 hw v3 v5 v19 v30 v31 w (h6.unread x1) (h7.unread x2) k f10 f11 f12).2.1)
      (a12.view.writes (Elt F) f12 (tripL_k0_t1 (F := F) Variants.none c none i tbM0_0 htbM0_0 a5 h5 a6 h6 a7 h7 a8 h8 a9 h9 a10 h10 a11 h11 a12 h12 v1 hw v3 v5 v19 v30 v31 w (h6.unread x1) (h7.unread x2) k f10 f11 f12).2.2)
      = step (k0_pay3 v5 (kTile x1 k)) (vTile x2 k) (stOf a10 a11 a12 f10 f11 f12) := by
  have hk := t1_lt i v1 h k
  have hl := last_le i h
  have hf := full_le_last i (BitVec.toNat v1)
  unfold tripL_k0_t1 trip_k0_t1
  dsimp only
  unfold trip_k0_t1.sl.r trip_k0_t1.sl.r_1 stOf
  have e6 := kLoad a6 h6 x1 (show k.val < 24 by omega) (off2_eq i v1 h k) (k0_off2_inb i v1 hw k)
  have e7 := vLoad a7 h7 x2 (show k.val < 24 by omega) (off3_eq i v1 h k) (k0_off3_inb i v1 hw k)
  have e10 : a10.view.readAt (Elt F) (Rect.unit (s := S1x512) ![0, 0] S1x512.size inb_S1x512_S1x512_0_0).toLoadRect f10 = a10.view.read (Elt F) f10 := View.readAt_full ..
  have e11 : a11.view.readAt (Elt F) (Rect.unit (s := S1x512) ![0, 0] S1x512.size inb_S1x512_S1x512_0_0).toLoadRect f11 = a11.view.read (Elt F) f11 := View.readAt_full ..
  have e12 : a12.view.readAt (Elt F) (Rect.unit (s := S128x512) ![0, 0] S128x512.size inb_S128x512_S128x512_0_0).toLoadRect f12 = a12.view.read (Elt F) f12 := View.readAt_full ..
  refine congr (congr (congrArg St.mk ((View.read_writes_full (s := S1x512) _ _ inb_S1x512_S1x512_0_0 _ _).trans ?_))
    ((View.read_writes_full (s := S1x512) _ _ inb_S1x512_S1x512_0_0 _ _).trans ?_))
    ((View.read_writes_full (s := S128x512) _ _ inb_S128x512_S128x512_0_0 _ _).trans ?_)
  · change k0_pay32 (k0_pay4 v5 (a6.view.readAt (Elt F) (Rect.unit (s := S1x1x12288x128) (k0_off2 i v1 k) S1x1x512x128.size (k0_off2_inb i v1 hw k)).toLoadRect (h6.unread x1)) (a10.view.readAt (Elt F) (Rect.unit (s := S1x512) ![0, 0] S1x512.size inb_S1x512_S1x512_0_0).toLoadRect f10)) = _
    rw [e6, e10]; exact shapeCast_self _ _
  · change k0_pay7 v5 (a6.view.readAt (Elt F) (Rect.unit (s := S1x1x12288x128) (k0_off2 i v1 k) S1x1x512x128.size (k0_off2_inb i v1 hw k)).toLoadRect (h6.unread x1)) (a10.view.readAt (Elt F) (Rect.unit (s := S1x512) ![0, 0] S1x512.size inb_S1x512_S1x512_0_0).toLoadRect f10) (a11.view.readAt (Elt F) (Rect.unit (s := S1x512) ![0, 0] S1x512.size inb_S1x512_S1x512_0_0).toLoadRect f11) = _
    rw [e6, e10, e11]; exact shapeCast_self _ _
  · change k0_pay31 (k0_pay8 v5 (a6.view.readAt (Elt F) (Rect.unit (s := S1x1x12288x128) (k0_off2 i v1 k) S1x1x512x128.size (k0_off2_inb i v1 hw k)).toLoadRect (h6.unread x1)) (a10.view.readAt (Elt F) (Rect.unit (s := S1x512) ![0, 0] S1x512.size inb_S1x512_S1x512_0_0).toLoadRect f10) (a7.view.readAt (Elt F) (Rect.unit (s := S1x1x128x12288) (k0_off3 i v1 k) S1x1x128x512.size (k0_off3_inb i v1 hw k)).toLoadRect (h7.unread x2)) (a12.view.readAt (Elt F) (Rect.unit (s := S128x512) ![0, 0] S128x512.size inb_S128x512_S128x512_0_0).toLoadRect f12)) = _
    rw [e6, e7, e10, e12]; exact shapeCast_self _ _

theorem trip3 (h : BitVec.toNat v1 ≤ 10240) (v35 : BitVec 32) (hv : v35 = BitVec.ofNat 32 (full i (BitVec.toNat v1))) (k : Fin (k0_t3_loop i v1).trips) (f10 : BufTy.Contents (Elt F) a10.view.ty) (f11 : BufTy.Contents (Elt F) a11.view.ty) (f12 : BufTy.Contents (Elt F) a12.view.ty) :
    stOf a10 a11 a12 (a10.view.writes (Elt F) f10 (tripL_k0_t3 (F := F) Variants.none c none i tbM0_0 htbM0_0 a5 h5 a6 h6 a7 h7 a8 h8 a9 h9 a10 h10 a11 h11 a12 h12 v1 hw v3 v5 v19 v30 v31 w v35 (h6.unread x1) (h7.unread x2) k f10 f11 f12).1)
      (a11.view.writes (Elt F) f11 (tripL_k0_t3 (F := F) Variants.none c none i tbM0_0 htbM0_0 a5 h5 a6 h6 a7 h7 a8 h8 a9 h9 a10 h10 a11 h11 a12 h12 v1 hw v3 v5 v19 v30 v31 w v35 (h6.unread x1) (h7.unread x2) k f10 f11 f12).2.1)
      (a12.view.writes (Elt F) f12 (tripL_k0_t3 (F := F) Variants.none c none i tbM0_0 htbM0_0 a5 h5 a6 h6 a7 h7 a8 h8 a9 h9 a10 h10 a11 h11 a12 h12 v1 hw v3 v5 v19 v30 v31 w v35 (h6.unread x1) (h7.unread x2) k f10 f11 f12).2.2)
      = step (maskAt (Scalar.subi v3 (BitVec.ofNat 32 (512 * (full i (BitVec.toNat v1) + k.val)))) (k0_pay3 v5 (kTile x1 (full i (BitVec.toNat v1) + k.val)))) (vTile x2 (full i (BitVec.toNat v1) + k.val)) (stOf a10 a11 a12 f10 f11 f12) := by
  have hk := t3_lt i v1 h k
  have hl := last_le i h
  have hb : BitVec.ofNat 32 (512 * (full i (BitVec.toNat v1) + k.val)) = Scalar.muli (Scf.iv v35 1#32 k) 512#32 := by
    have e := tile_toNat (a := full i (BitVec.toNat v1)) (k := k.val) (by omega)
    rw [hv]
    apply BitVec.eq_of_toNat_eq
    rw [e, BitVec.toNat_ofNat]; omega
  rw [hb]
  unfold tripL_k0_t3 trip_k0_t3
  dsimp only
  unfold trip_k0_t3.sl.r trip_k0_t3.sl.r_1 trip_k0_t3.sl.r_2 stOf
  have e6 := kLoad a6 h6 x1 (show full i (BitVec.toNat v1) + k.val < 24 by omega) (off6_eq i v1 h k) (k0_off6_inb i v1 hw k)
  have e7 := vLoad a7 h7 x2 (show full i (BitVec.toNat v1) + k.val < 24 by omega) (off7_eq i v1 h k) (k0_off7_inb i v1 hw k)
  have e10 : a10.view.readAt (Elt F) (Rect.unit (s := S1x512) ![0, 0] S1x512.size inb_S1x512_S1x512_0_0).toLoadRect f10 = a10.view.read (Elt F) f10 := View.readAt_full ..
  have e11 : a11.view.readAt (Elt F) (Rect.unit (s := S1x512) ![0, 0] S1x512.size inb_S1x512_S1x512_0_0).toLoadRect f11 = a11.view.read (Elt F) f11 := View.readAt_full ..
  have e12 : a12.view.readAt (Elt F) (Rect.unit (s := S128x512) ![0, 0] S128x512.size inb_S128x512_S128x512_0_0).toLoadRect f12 = a12.view.read (Elt F) f12 := View.readAt_full ..
  refine congr (congr (congrArg St.mk ((View.read_writes_full (s := S1x512) _ _ inb_S1x512_S1x512_0_0 _ _).trans ?_))
    ((View.read_writes_full (s := S1x512) _ _ inb_S1x512_S1x512_0_0 _ _).trans ?_))
    ((View.read_writes_full (s := S128x512) _ _ inb_S128x512_S128x512_0_0 _ _).trans ?_)
  · change k0_pay36 (k0_pay16 i v1 v3 v5 v35 1#32 k (a6.view.readAt (Elt F) (Rect.unit (s := S1x1x12288x128) (k0_off6 i v1 k) S1x1x512x128.size (k0_off6_inb i v1 hw k)).toLoadRect (h6.unread x1)) (a10.view.readAt (Elt F) (Rect.unit (s := S1x512) ![0, 0] S1x512.size inb_S1x512_S1x512_0_0).toLoadRect f10)) = _
    rw [e6, e10]; exact shapeCast_self _ _
  · change k0_pay19 i v1 v3 v5 v35 1#32 k (a6.view.readAt (Elt F) (Rect.unit (s := S1x1x12288x128) (k0_off6 i v1 k) S1x1x512x128.size (k0_off6_inb i v1 hw k)).toLoadRect (h6.unread x1)) (a10.view.readAt (Elt F) (Rect.unit (s := S1x512) ![0, 0] S1x512.size inb_S1x512_S1x512_0_0).toLoadRect f10) (a11.view.readAt (Elt F) (Rect.unit (s := S1x512) ![0, 0] S1x512.size inb_S1x512_S1x512_0_0).toLoadRect f11) = _
    rw [e6, e10, e11]; exact shapeCast_self _ _
  · change k0_pay35 (k0_pay17 i v1 v3 v5 v35 1#32 k (a6.view.readAt (Elt F) (Rect.unit (s := S1x1x12288x128) (k0_off6 i v1 k) S1x1x512x128.size (k0_off6_inb i v1 hw k)).toLoadRect (h6.unread x1)) (a10.view.readAt (Elt F) (Rect.unit (s := S1x512) ![0, 0] S1x512.size inb_S1x512_S1x512_0_0).toLoadRect f10))
      (k0_pay20 i v1 v3 v5 v35 1#32 k (a6.view.readAt (Elt F) (Rect.unit (s := S1x1x12288x128) (k0_off6 i v1 k) S1x1x512x128.size (k0_off6_inb i v1 hw k)).toLoadRect (h6.unread x1)) (a10.view.readAt (Elt F) (Rect.unit (s := S1x512) ![0, 0] S1x512.size inb_S1x512_S1x512_0_0).toLoadRect f10) (a7.view.readAt (Elt F) (Rect.unit (s := S1x1x128x12288) (k0_off7 i v1 k) S1x1x128x512.size (k0_off7_inb i v1 hw k)).toLoadRect (h7.unread x2)))
      (a12.view.readAt (Elt F) (Rect.unit (s := S128x512) ![0, 0] S128x512.size inb_S128x512_S128x512_0_0).toLoadRect f12) = _
    rw [e6, e7, e10, e12]; exact shapeCast_self _ _

theorem loop1 (h : BitVec.toNat v1 ≤ 10240) (G10 : BufTy.Contents (Elt F) a10.view.ty) (G11 : BufTy.Contents (Elt F) a11.view.ty) (G12 : BufTy.Contents (Elt F) a12.view.ty) (n : Nat) (hn : n ≤ full i (BitVec.toNat v1)) :
    stOf a10 a11 a12 (a10.view.writes (Elt F) G10 (pb_k0_t1 (F := F) Variants.none c none i tbM0_0 htbM0_0 a5 h5 a6 h6 a7 h7 a8 h8 a9 h9 a10 h10 a11 h11 a12 h12 v1 hw v3 v5 v19 v30 v31 w (h6.unread x1) (h7.unread x2) G10 G11 G12 n).1)
      (a11.view.writes (Elt F) G11 (pb_k0_t1 (F := F) Variants.none c none i tbM0_0 htbM0_0 a5 h5 a6 h6 a7 h7 a8 h8 a9 h9 a10 h10 a11 h11 a12 h12 v1 hw v3 v5 v19 v30 v31 w (h6.unread x1) (h7.unread x2) G10 G11 G12 n).2.1)
      (a12.view.writes (Elt F) G12 (pb_k0_t1 (F := F) Variants.none c none i tbM0_0 htbM0_0 a5 h5 a6 h6 a7 h7 a8 h8 a9 h9 a10 h10 a11 h11 a12 h12 v1 hw v3 v5 v19 v30 v31 w (h6.unread x1) (h7.unread x2) G10 G11 G12 n).2.2)
      = run1 v5 x1 x2 (stOf a10 a11 a12 G10 G11 G12) n := by
  induction n with
  | zero => rfl
  | succ n ih =>
    have ht : n < (k0_t1_loop i v1).trips := by rw [t1_trips i v1 h]; omega
    rw [pb_k0_t1_succ (F := F) Variants.none c none i tbM0_0 htbM0_0 a5 h5 a6 h6 a7 h7 a8 h8 a9 h9 a10 h10 a11 h11 a12 h12 v1 hw v3 v5 v19 v30 v31 w (h6.unread x1) (h7.unread x2) G10 G11 G12 ⟨n, ht⟩]
    dsimp only
    rw [View.writes_append, View.writes_append, View.writes_append]
    rw [run1, ← ih (by omega)]
    exact trip1 c i a5 h5 a6 h6 a7 h7 a8 h8 a9 h9 a10 h10 a11 h11 a12 h12 v1 hw v3 v5 v19 v30 v31 w x1 x2 h ⟨n, ht⟩ _ _ _

theorem loop3 (h : BitVec.toNat v1 ≤ 10240) (v35 : BitVec 32) (hv : v35 = BitVec.ofNat 32 (full i (BitVec.toNat v1))) (G10 : BufTy.Contents (Elt F) a10.view.ty) (G11 : BufTy.Contents (Elt F) a11.view.ty) (G12 : BufTy.Contents (Elt F) a12.view.ty) (n : Nat) (hn : full i (BitVec.toNat v1) + n ≤ last i (BitVec.toNat v1)) :
    stOf a10 a11 a12 (a10.view.writes (Elt F) G10 (pb_k0_t3 (F := F) Variants.none c none i tbM0_0 htbM0_0 a5 h5 a6 h6 a7 h7 a8 h8 a9 h9 a10 h10 a11 h11 a12 h12 v1 hw v3 v5 v19 v30 v31 w v35 (h6.unread x1) (h7.unread x2) G10 G11 G12 n).1)
      (a11.view.writes (Elt F) G11 (pb_k0_t3 (F := F) Variants.none c none i tbM0_0 htbM0_0 a5 h5 a6 h6 a7 h7 a8 h8 a9 h9 a10 h10 a11 h11 a12 h12 v1 hw v3 v5 v19 v30 v31 w v35 (h6.unread x1) (h7.unread x2) G10 G11 G12 n).2.1)
      (a12.view.writes (Elt F) G12 (pb_k0_t3 (F := F) Variants.none c none i tbM0_0 htbM0_0 a5 h5 a6 h6 a7 h7 a8 h8 a9 h9 a10 h10 a11 h11 a12 h12 v1 hw v3 v5 v19 v30 v31 w v35 (h6.unread x1) (h7.unread x2) G10 G11 G12 n).2.2)
      = run3 v3 (full i (BitVec.toNat v1)) v5 x1 x2 (stOf a10 a11 a12 G10 G11 G12) n := by
  induction n with
  | zero => rfl
  | succ n ih =>
    have ht : n < (k0_t3_loop i v1).trips := by rw [t3_trips i v1 h]; omega
    rw [pb_k0_t3_succ (F := F) Variants.none c none i tbM0_0 htbM0_0 a5 h5 a6 h6 a7 h7 a8 h8 a9 h9 a10 h10 a11 h11 a12 h12 v1 hw v3 v5 v19 v30 v31 w v35 (h6.unread x1) (h7.unread x2) G10 G11 G12 ⟨n, ht⟩]
    dsimp only
    rw [View.writes_append, View.writes_append, View.writes_append]
    rw [run3, ← ih (by omega)]
    exact trip3 c i a5 h5 a6 h6 a7 h7 a8 h8 a9 h9 a10 h10 a11 h11 a12 h12 v1 hw v3 v5 v19 v30 v31 w x1 x2 h v35 hv ⟨n, ht⟩ _ _ _

theorem stop2 (u : BitVec 32) (G10 : BufTy.Contents (Elt F) a10.view.ty) (G11 : BufTy.Contents (Elt F) a11.view.ty) (G12 : BufTy.Contents (Elt F) a12.view.ty) :
    pb_k0_t2 (F := F) Variants.none c none i tbM0_0 htbM0_0 a5 h5 a6 h6 a7 h7 a8 h8 a9 h9 a10 h10 a11 h11 a12 h12 v1 hw v3 v5 v19 v30 v31 w u (h6.unread x1) (h7.unread x2) G10 G11 G12 0 = ([], [], []) := rfl
theorem stop4 (u : BitVec 32) (G10 : BufTy.Contents (Elt F) a10.view.ty) (G11 : BufTy.Contents (Elt F) a11.view.ty) (G12 : BufTy.Contents (Elt F) a12.view.ty) :
    pb_k0_t4 (F := F) Variants.none c none i tbM0_0 htbM0_0 a5 h5 a6 h6 a7 h7 a8 h8 a9 h9 a10 h10 a11 h11 a12 h12 v1 hw v3 v5 v19 v30 v31 w u (h6.unread x1) (h7.unread x2) G10 G11 G12 0 = ([], [], []) := rfl

/-- All four loops: the two over whole tiles, of which the second of each pair makes no trip. -/
theorem loops (h : BitVec.toNat v1 ≤ 10240) (v35 u2 u4 : BitVec 32) (hv : v35 = BitVec.ofNat 32 (full i (BitVec.toNat v1)))
    (G10 A10 B10 C10 : BufTy.Contents (Elt F) a10.view.ty) (G11 A11 B11 C11 : BufTy.Contents (Elt F) a11.view.ty) (G12 A12 B12 C12 : BufTy.Contents (Elt F) a12.view.ty)
    (n1 n2 n3 n4 : Nat) (e1 : n1 = full i (BitVec.toNat v1)) (e2 : n2 = 0) (e3 : n3 = last i (BitVec.toNat v1) - full i (BitVec.toNat v1)) (e4 : n4 = 0)
    (hA10 : A10 = a10.view.writes (Elt F) G10 (pb_k0_t1 (F := F) Variants.none c none i tbM0_0 htbM0_0 a5 h5 a6 h6 a7 h7 a8 h8 a9 h9 a10 h10 a11 h11 a12 h12 v1 hw v3 v5 v19 v30 v31 w (h6.unread x1) (h7.unread x2) G10 G11 G12 n1).1)
    (hA11 : A11 = a11.view.writes (Elt F) G11 (pb_k0_t1 (F := F) Variants.none c none i tbM0_0 htbM0_0 a5 h5 a6 h6 a7 h7 a8 h8 a9 h9 a10 h10 a11 h11 a12 h12 v1 hw v3 v5 v19 v30 v31 w (h6.unread x1) (h7.unread x2) G10 G11 G12 n1).2.1)
    (hA12 : A12 = a12.view.writes (Elt F) G12 (pb_k0_t1 (F := F) Variants.none c none i tbM0_0 htbM0_0 a5 h5 a6 h6 a7 h7 a8 h8 a9 h9 a10 h10 a11 h11 a12 h12 v1 hw v3 v5 v19 v30 v31 w (h6.unread x1) (h7.unread x2) G10 G11 G12 n1).2.2)
    (hB10 : B10 = a10.view.writes (Elt F) A10 (pb_k0_t2 (F := F) Variants.none c none i tbM0_0 htbM0_0 a5 h5 a6 h6 a7 h7 a8 h8 a9 h9 a10 h10 a11 h11 a12 h12 v1 hw v3 v5 v19 v30 v31 w u2 (h6.unread x1) (h7.unread x2) A10 A11 A12 n2).1)
    (hB11 : B11 = a11.view.writes (Elt F) A11 (pb_k0_t2 (F := F) Variants.none c none i tbM0_0 htbM0_0 a5 h5 a6 h6 a7 h7 a8 h8 a9 h9 a10 h10 a11 h11 a12 h12 v1 hw v3 v5 v19 v30 v31 w u2 (h6.unread x1) (h7.unread x2) A10 A11 A12 n2).2.1)
    (hB12 : B12 = a12.view.writes (Elt F) A12 (pb_k0_t2 (F := F) Variants.none c none i tbM0_0 htbM0_0 a5 h5 a6 h6 a7 h7 a8 h8 a9 h9 a10 h10 a11 h11 a12 h12 v1 hw v3 v5 v19 v30 v31 w u2 (h6.unread x1) (h7.unread x2) A10 A11 A12 n2).2.2)
    (hC10 : C10 = a10.view.writes (Elt F) B10 (pb_k0_t3 (F := F) Variants.none c none i tbM0_0 htbM0_0 a5 h5 a6 h6 a7 h7 a8 h8 a9 h9 a10 h10 a11 h11 a12 h12 v1 hw v3 v5 v19 v30 v31 w v35 (h6.unread x1) (h7.unread x2) B10 B11 B12 n3).1)
    (hC11 : C11 = a11.view.writes (Elt F) B11 (pb_k0_t3 (F := F) Variants.none c none i tbM0_0 htbM0_0 a5 h5 a6 h6 a7 h7 a8 h8 a9 h9 a10 h10 a11 h11 a12 h12 v1 hw v3 v5 v19 v30 v31 w v35 (h6.unread x1) (h7.unread x2) B10 B11 B12 n3).2.1)
    (hC12 : C12 = a12.view.writes (Elt F) B12 (pb_k0_t3 (F := F) Variants.none c none i tbM0_0 htbM0_0 a5 h5 a6 h6 a7 h7 a8 h8 a9 h9 a10 h10 a11 h11 a12 h12 v1 hw v3 v5 v19 v30 v31 w v35 (h6.unread x1) (h7.unread x2) B10 B11 B12 n3).2.2)
    : stOf a10 a11 a12 (a10.view.writes (Elt F) C10 (pb_k0_t4 (F := F) Variants.none c none i tbM0_0 htbM0_0 a5 h5 a6 h6 a7 h7 a8 h8 a9 h9 a10 h10 a11 h11 a12 h12 v1 hw v3 v5 v19 v30 v31 w u4 (h6.unread x1) (h7.unread x2) C10 C11 C12 n4).1)
      (a11.view.writes (Elt F) C11 (pb_k0_t4 (F := F) Variants.none c none i tbM0_0 htbM0_0 a5 h5 a6 h6 a7 h7 a8 h8 a9 h9 a10 h10 a11 h11 a12 h12 v1 hw v3 v5 v19 v30 v31 w u4 (h6.unread x1) (h7.unread x2) C10 C11 C12 n4).2.1)
      (a12.view.writes (Elt F) C12 (pb_k0_t4 (F := F) Variants.none c none i tbM0_0 htbM0_0 a5 h5 a6 h6 a7 h7 a8 h8 a9 h9 a10 h10 a11 h11 a12 h12 v1 hw v3 v5 v19 v30 v31 w u4 (h6.unread x1) (h7.unread x2) C10 C11 C12 n4).2.2)
      = run3 v3 (full i (BitVec.toNat v1)) v5 x1 x2 (run1 v5 x1 x2 (stOf a10 a11 a12 G10 G11 G12) (full i (BitVec.toNat v1)))
          (last i (BitVec.toNat v1) - full i (BitVec.toNat v1)) := by
  have hf := full_le_last i (BitVec.toNat v1)
  subst e1 e2 e3 e4
  rw [stop4]
  rw [stop2] at hB10 hB11 hB12
  change stOf a10 a11 a12 C10 C11 C12 = _
  change B10 = A10 at hB10
  change B11 = A11 at hB11
  change B12 = A12 at hB12
  rw [hC10, hC11, hC12, loop3 c i a5 h5 a6 h6 a7 h7 a8 h8 a9 h9 a10 h10 a11 h11 a12 h12 v1 hw v3 v5 v19 v30 v31 w x1 x2 h v35 hv B10 B11 B12 _ (by omega),
    hB10, hB11, hB12, hA10, hA11, hA12, loop1 c i a5 h5 a6 h6 a7 h7 a8 h8 a9 h9 a10 h10 a11 h11 a12 h12 v1 hw v3 v5 v19 v30 v31 w x1 x2 h G10 G11 G12 _ le_rfl]
end

end Cert.KernelIdeal.Value

end
-- ==== Proof.Body.lean ====
/- The two blocks that one run of the body stores, as functions of the state the loops leave. -/
module

public import proofs.«01_k».proof.Proof.Block

@[expose] public section

noncomputable section

namespace Cert.KernelIdeal.Value

open Cert.KernelIdeal Cert.KernelIdeal.Gen Cert.Words
open Idealize.ShloMosaic Idealize.ShloMosaic.TcCoe
open Facts

variable {F : FTy → Type} [FloatOps F]

/-- The state before the first tile: −∞, 0, 0. -/
def start : St F := ⟨k0_pay28, k0_pay29, k0_pay30⟩

/-- The state after the last tile, for a query block `x0`, the cached keys `x1` and values `x2`, and the sequence's start word `v1`. -/
def fin (i : grid0.Coords) (v1 : BitVec 32) (x0 : Vec F S1x128x512 .bf16) (x1 : Vec F S1x1x12288x128 .bf16) (x2 : Vec F S1x1x128x12288 .bf16) : St F :=
  run3 (posW i v1) (full i v1.toNat) (k0_pay27 x0) x1 x2 (run1 (k0_pay27 x0) x1 x2 start (full i v1.toNat)) (last i v1.toNat - full i v1.toNat)

section
variable (c : Dev nD) (i : grid0.Coords) (a5 : Memref sig .tc .vmem S1x128x512 .bf16) (h5 : a5.IsWhole) (a6 : Memref sig .tc .vmem S1x1x12288x128 .bf16) (h6 : a6.IsWhole) (a7 : Memref sig .tc .vmem S1x1x128x12288 .bf16) (h7 : a7.IsWhole) (a8 : Memref sig .tc .vmem S1x512x128 .f32) (h8 : a8.IsWhole) (a9 : Memref sig .tc .vmem S1x1x1x512 .f32) (h9 : a9.IsWhole) (a10 : Memref sig .tc .vmem S1x512 .f32) (h10 : a10.IsWhole) (a11 : Memref sig .tc .vmem S1x512 .f32) (h11 : a11.IsWhole) (a12 : Memref sig .tc .vmem S128x512 .f32) (h12 : a12.IsWhole)
  (x0 : Vec F S1x128x512 .bf16) (x1 : Vec F S1x1x12288x128 .bf16) (x2 : Vec F S1x1x128x12288 .bf16) (xt0 : TbBuf0 (F := F) c tbM0_0)
  (hw : k0_chk1 i (tbM0_0.view.readAt (Elt F) (Rect.unit (s := S2) (k0_off1 i) S1.size (k0_off1_inb i)).toLoadRect xt0 (Shape.Idx.first (numel1_S1.symm ▸ Nat.one_pos))))
  (v1 : BitVec 32) (hv1 : tbM0_0.view.readAt (Elt F) (Rect.unit (s := S2) (k0_off1 i) S1.size (k0_off1_inb i)).toLoadRect xt0 (Shape.Idx.first (numel1_S1.symm ▸ Nat.one_pos)) = v1)
  (h : v1.toNat ≤ 10240)

theorem query : kernelRun0_A.sl.r_1 c a5 h5 x0 = k0_pay27 x0 := by
  unfold kernelRun0_A.sl.r_1
  refine congrArg k0_pay27 ((View.readAt_full (s := S1x128x512) _ _ _).trans ?_)
  exact Memref.IsWhole.read_unread ..

theorem first_state : stOf a10 a11 a12 (a10.view.writes (Elt F) a10.view.junk kernelRun0_A.sl.HS0_1) (a11.view.writes (Elt F) a11.view.junk kernelRun0_A.sl.HS1_1)
    (a12.view.writes (Elt F) a12.view.junk kernelRun0_A.sl.HS2_1) = start := by
  unfold kernelRun0_A.sl.HS0_1 kernelRun0_A.sl.HS1_1 kernelRun0_A.sl.HS2_1 stOf start
  exact congr (congr (congrArg St.mk (View.read_writes_full (s := S1x512) _ _ inb_S1x512_S1x512_0_0 _ _))
    (View.read_writes_full (s := S1x512) _ _ inb_S1x512_S1x512_0_0 _ _)) (View.read_writes_full (s := S128x512) _ _ inb_S128x512_S128x512_0_0 _ _)

include h hv1 in
theorem v66_eq : kernelRun0_A.sl.v66 c i a5 h5 a6 h6 a7 h7 a8 h8 a9 h9 a10 h10 a11 h11 a12 h12 x0 x1 x2 xt0 hw = (fin i v1 x0 x1 x2).sm := by
  have e5 : kernelRun0_A.sl.r_1 c a5 h5 x0 = k0_pay27 x0 := query c a5 h5 x0
  have e0 : stOf a10 a11 a12 (a10.view.writes (Elt F) a10.view.junk kernelRun0_A.sl.HS0_1) (a11.view.writes (Elt F) a11.view.junk kernelRun0_A.sl.HS1_1)
      (a12.view.writes (Elt F) a12.view.junk kernelRun0_A.sl.HS2_1) = start := first_state a10 a11 a12
  have hr : kernelRun0_A.sl.r c i xt0 = v1 := hv1
  have h' : (kernelRun0_A.sl.r c i xt0).toNat ≤ 10240 := hr ▸ h
  unfold kernelRun0_A.sl.v66 View.readCov
  simp only [View.writes_append]
  refine (View.readAt_full (s := S1x512) _ _ _).trans ?_
  refine (congrArg St.sm (loops c i a5 h5 a6 h6 a7 h7 a8 h8 a9 h9 a10 h10 a11 h11 a12 h12 _ _ _ _ _ _ _ _ x1 x2 h' _ _ _ ?_ _ _ _ _ _ _ _ _ _ _ _ _ _ _ _ _ ?_ ?_ ?_ ?_ rfl rfl rfl rfl rfl rfl rfl rfl rfl)).trans ?_
  · exact fullW_eq i _ h'
  · exact t1_trips i _ h'
  · exact t2_trips i _ h'
  · exact t3_trips i _ h'
  · exact t4_trips i _ h'
  · rw [e5, e0, hr]
    unfold fin
    rw [← hr]; rfl

include h hv1 in
theorem v67_eq : kernelRun0_A.sl.v67 c i a5 h5 a6 h6 a7 h7 a8 h8 a9 h9 a10 h10 a11 h11 a12 h12 x0 x1 x2 xt0 hw = (fin i v1 x0 x1 x2).ac := by
  have e5 : kernelRun0_A.sl.r_1 c a5 h5 x0 = k0_pay27 x0 := query c a5 h5 x0
  have e0 : stOf a10 a11 a12 (a10.view.writes (Elt F) a10.view.junk kernelRun0_A.sl.HS0_1) (a11.view.writes (Elt F) a11.view.junk kernelRun0_A.sl.HS1_1)
      (a12.view.writes (Elt F) a12.view.junk kernelRun0_A.sl.HS2_1) = start := first_state a10 a11 a12
  have hr : kernelRun0_A.sl.r c i xt0 = v1 := hv1
  have h' : (kernelRun0_A.sl.r c i xt0).toNat ≤ 10240 := hr ▸ h
  unfold kernelRun0_A.sl.v67 View.readCov
  simp only [View.writes_append]
  refine (View.readAt_full (s := S128x512) _ _ _).trans ?_
  refine (congrArg St.ac (loops c i a5 h5 a6 h6 a7 h7 a8 h8 a9 h9 a10 h10 a11 h11 a12 h12 _ _ _ _ _ _ _ _ x1 x2 h' _ _ _ ?_ _ _ _ _ _ _ _ _ _ _ _ _ _ _ _ _ ?_ ?_ ?_ ?_ rfl rfl rfl rfl rfl rfl rfl rfl rfl)).trans ?_
  · exact fullW_eq i _ h'
  · exact t1_trips i _ h'
  · exact t2_trips i _ h'
  · exact t3_trips i _ h'
  · exact t4_trips i _ h'
  · rw [e5, e0, hr]
    unfold fin
    rw [← hr]; rfl

include h hv1 in
theorem v79_eq : kernelRun0_A.sl.v79 c i a5 h5 a6 h6 a7 h7 a8 h8 a9 h9 a10 h10 a11 h11 a12 h12 x0 x1 x2 xt0 hw = (fin i v1 x0 x1 x2).mx := by
  have e5 : kernelRun0_A.sl.r_1 c a5 h5 x0 = k0_pay27 x0 := query c a5 h5 x0
  have e0 : stOf a10 a11 a12 (a10.view.writes (Elt F) a10.view.junk kernelRun0_A.sl.HS0_1) (a11.view.writes (Elt F) a11.view.junk kernelRun0_A.sl.HS1_1)
      (a12.view.writes (Elt F) a12.view.junk kernelRun0_A.sl.HS2_1) = start := first_state a10 a11 a12
  have hr : kernelRun0_A.sl.r c i xt0 = v1 := hv1
  have h' : (kernelRun0_A.sl.r c i xt0).toNat ≤ 10240 := hr ▸ h
  unfold kernelRun0_A.sl.v79 View.readCov
  simp only [View.writes_append]
  refine (View.readAt_full (s := S1x512) _ _ _).trans ?_
  refine (congrArg St.mx (loops c i a5 h5 a6 h6 a7 h7 a8 h8 a9 h9 a10 h10 a11 h11 a12 h12 _ _ _ _ _ _ _ _ x1 x2 h' _ _ _ ?_ _ _ _ _ _ _ _ _ _ _ _ _ _ _ _ _ ?_ ?_ ?_ ?_ rfl rfl rfl rfl rfl rfl rfl rfl rfl)).trans ?_
  · exact fullW_eq i _ h'
  · exact t1_trips i _ h'
  · exact t2_trips i _ h'
  · exact t3_trips i _ h'
  · exact t4_trips i _ h'
  · rw [e5, e0, hr]
    unfold fin
    rw [← hr]; rfl

include hv1 h in
/-- The stored block of attention outputs. -/
theorem blk_o : out0_A_3 c i a5 h5 a6 h6 a7 h7 a8 h8 a9 h9 a10 h10 a11 h11 a12 h12 x0 x1 x2 xt0 hw = k0_pay1 (fin i v1 x0 x1 x2).sm (fin i v1 x0 x1 x2).ac := by
  unfold out0_A_3
  refine (View.read_writes_full (s := S1x512x128) _ _ inb_S1x512x128_S1x512x128_0_0_0 _ _).trans ?_
  exact congr (congrArg k0_pay1 (v66_eq c i a5 h5 a6 h6 a7 h7 a8 h8 a9 h9 a10 h10 a11 h11 a12 h12 x0 x1 x2 xt0 hw v1 hv1 h)) (v67_eq c i a5 h5 a6 h6 a7 h7 a8 h8 a9 h9 a10 h10 a11 h11 a12 h12 x0 x1 x2 xt0 hw v1 hv1 h)

include hv1 h in
/-- The stored block of log-sum-exps. -/
theorem blk_lse : out0_A_4 c i a5 h5 a6 h6 a7 h7 a8 h8 a9 h9 a10 h10 a11 h11 a12 h12 x0 x1 x2 xt0 hw = k0_pay2 (posW i v1) (fin i v1 x0 x1 x2).sm (fin i v1 x0 x1 x2).mx := by
  have hr : kernelRun0_A.sl.r c i xt0 = v1 := hv1
  unfold out0_A_4
  refine (View.read_writes_full (s := S1x1x1x512) _ _ inb_S1x1x1x512_S1x1x1x512_0_0_0_0 _ _).trans ?_
  exact congr (congr (congrArg k0_pay2 (congrArg (posW i) hr)) (v66_eq c i a5 h5 a6 h6 a7 h7 a8 h8 a9 h9 a10 h10 a11 h11 a12 h12 x0 x1 x2 xt0 hw v1 hv1 h)) (v79_eq c i a5 h5 a6 h6 a7 h7 a8 h8 a9 h9 a10 h10 a11 h11 a12 h12 x0 x1 x2 xt0 hw v1 hv1 h)
end

end Cert.KernelIdeal.Value

end
-- ==== Proof.Softmax.lean ====
/- The running softmax over the extended reals: a maximum, a sum and a weighted sum carried from one tile of keys to the
   next give those of all keys seen so far.  No score needs to be finite. -/
module

public import Idealize.ShloMosaic.PureOps.Ideal
public import Idealize.ShloMosaic.Lib.Pipeline.ValueKit

@[expose] public section

noncomputable section

namespace Cert.Softmax

open Idealize.ShloMosaic Finset

/-- The least integer not below. -/
abbrev cl : EReal → EReal := Ideal.liftRound Int.ceil

theorem cl_mono : Monotone cl := by
  intro a b hab
  induction a using EReal.rec with
  | bot => exact bot_le
  | top => rw [top_le_iff.mp hab]
  | coe a =>
    induction b using EReal.rec with
    | bot => exact absurd (le_bot_iff.mp hab) (EReal.coe_ne_bot a)
    | top => exact le_top
    | coe b => exact EReal.coe_le_coe_iff.mpr (by exact_mod_cast Int.ceil_le_ceil (EReal.coe_le_coe_iff.mp hab))

theorem le_cl (a : EReal) : a ≤ cl a := by
  induction a using EReal.rec with
  | bot => exact bot_le
  | top => exact le_top
  | coe a => exact EReal.coe_le_coe_iff.mpr (Int.le_ceil a)

theorem exp2_nonneg (x : EReal) : 0 ≤ Ideal.exp2 x := by
  induction x using EReal.rec with
  | bot => exact le_rfl
  | top => exact le_top
  | coe x => exact EReal.coe_nonneg.mpr (Real.rpow_nonneg (by norm_num) x)

theorem exp2_ne_top {x : EReal} (h : x ≠ ⊤) : Ideal.exp2 x ≠ ⊤ := by
  induction x using EReal.rec with
  | bot => exact EReal.zero_ne_top
  | top => exact absurd rfl h
  | coe x => exact EReal.coe_ne_top _

theorem sub_ne_top {a b : EReal} (h : a ≤ b) : a - b ≠ ⊤ := by
  induction a using EReal.rec with
  | bot => rw [EReal.bot_sub]; exact bot_ne_top
  | top => rw [top_le_iff.mp h, EReal.sub_top]; exact bot_ne_top
  | coe a =>
    induction b using EReal.rec with
    | bot => exact absurd (le_bot_iff.mp h) (EReal.coe_ne_bot a)
    | top => rw [EReal.sub_top]; exact bot_ne_top
    | coe b => rw [← EReal.coe_sub]; exact EReal.coe_ne_top _

/-- Rescaling a weight from one maximum to a larger one. -/
theorem exp2_rescale {s m m' : EReal} (h : s ≤ m) (h' : m ≤ m') :
    Ideal.exp2 (s - m) * Ideal.exp2 (m - m') = Ideal.exp2 (s - m') := by
  induction s using EReal.rec with
  | bot => rw [EReal.bot_sub, EReal.bot_sub]; exact zero_mul _
  | top =>
    have e := top_le_iff.mp h; subst e
    have e := top_le_iff.mp h'; subst e
    rw [EReal.sub_top]; exact zero_mul _
  | coe s =>
    induction m using EReal.rec with
    | bot => exact absurd (le_bot_iff.mp h) (EReal.coe_ne_bot s)
    | top =>
      have e := top_le_iff.mp h'; subst e
      rw [EReal.sub_top]; exact zero_mul _
    | coe m =>
      induction m' using EReal.rec with
      | bot => exact absurd (le_bot_iff.mp h') (EReal.coe_ne_bot m)
      | top => rw [EReal.sub_top, EReal.sub_top]; exact mul_zero _
      | coe m' =>
        rw [← EReal.coe_sub, ← EReal.coe_sub, ← EReal.coe_sub]
        change ((Real.rpow 2 (s - m) : ℝ) : EReal) * ((Real.rpow 2 (m - m') : ℝ) : EReal) = ((Real.rpow 2 (s - m') : ℝ) : EReal)
        rw [← EReal.coe_mul]
        congr 1
        have := Real.rpow_add (show (0 : ℝ) < 2 by norm_num) (s - m) (m - m')
        rw [show s - m + (m - m') = s - m' by ring] at this
        exact this.symm

theorem sum_mul_of_nonneg {ι : Type*} (t : Finset ι) (f : ι → EReal) {a : EReal} (h : 0 ≤ a) (h' : a ≠ ⊤) :
    (∑ i ∈ t, f i) * a = ∑ i ∈ t, f i * a := by
  classical
  induction t using Finset.induction_on with
  | empty => simp
  | insert i t hi ih => rw [sum_insert hi, sum_insert hi, EReal.right_distrib_of_nonneg_of_ne_top h h', ih]

variable (S v : ℕ → EReal)

/-- The ceiling of the largest of the first `n` scores. -/
def mx (n : ℕ) : EReal := cl ((range n).sup S)
/-- The sum of the first `n` weights. -/
def sm (n : ℕ) : EReal := ∑ t ∈ range n, Ideal.exp2 (S t - mx S n)
/-- The sum of the first `n` weighted values. -/
def ac (n : ℕ) : EReal := ∑ t ∈ range n, v t * Ideal.exp2 (S t - mx S n)

theorem mx_zero : mx S 0 = ⊥ := rfl
theorem sm_zero : sm S 0 = 0 := rfl
theorem ac_zero : ac S v 0 = 0 := rfl

theorem le_mx {n t : ℕ} (h : t < n) : S t ≤ mx S n := (le_sup (f := S) (mem_range.mpr h)).trans (le_cl _)

theorem mx_mono {n n' : ℕ} (h : n ≤ n') : mx S n ≤ mx S n' := cl_mono (sup_mono (range_mono h))

theorem sup_add (n d : ℕ) : (range (n + d)).sup S = max ((range n).sup S) ((range d).sup fun y => S (n + y)) := by
  induction d with
  | zero => simp
  | succ d ih =>
    rw [← add_assoc, range_add_one, sup_insert, ih, range_add_one (n := d), sup_insert]
    exact sup_left_comm _ _ _

theorem mx_step (n d : ℕ) : max (mx S n) (cl ((range d).sup fun y => S (n + y))) = mx S (n + d) := by
  unfold mx
  rw [sup_add, cl_mono.map_max]

theorem ac_step (n d : ℕ) :
    ac S v n * Ideal.exp2 (mx S n - mx S (n + d)) + ∑ y ∈ range d, v (n + y) * Ideal.exp2 (S (n + y) - mx S (n + d)) = ac S v (n + d) := by
  have hm := mx_mono S (Nat.le_add_right n d)
  unfold ac
  rw [sum_range_add, sum_mul_of_nonneg _ _ (exp2_nonneg _) (exp2_ne_top (sub_ne_top hm))]
  congr 1
  refine sum_congr rfl fun t ht => ?_
  rw [mul_assoc, exp2_rescale (le_mx S (mem_range.mp ht)) hm]

theorem sm_eq_ac (n : ℕ) : sm S n = ac S (fun _ => 1) n := by
  unfold sm ac
  exact sum_congr rfl fun t _ => (one_mul _).symm

theorem sm_step (n d : ℕ) :
    sm S n * Ideal.exp2 (mx S n - mx S (n + d)) + ∑ y ∈ range d, Ideal.exp2 (S (n + y) - mx S (n + d)) = sm S (n + d) := by
  rw [sm_eq_ac, sm_eq_ac, ← ac_step S (fun _ => 1) n d]
  congr 1
  exact sum_congr rfl fun t _ => (one_mul _).symm

/-- Keys left out by the mask count for nothing. -/
theorem mx_all {n n' : ℕ} (h : n ≤ n') (hS : ∀ t, n ≤ t → S t = ⊥) : mx S n = mx S n' := by
  obtain ⟨d, rfl⟩ := Nat.exists_eq_add_of_le h
  unfold mx
  rw [sup_add, show ((range d).sup fun y => S (n + y)) = ⊥ from le_bot_iff.mp (Finset.sup_le fun y _ => (hS _ (Nat.le_add_right n y)).le)]
  rw [max_bot_right]

theorem ac_all {n n' : ℕ} (h : n ≤ n') (hS : ∀ t, n ≤ t → S t = ⊥) : ac S v n = ac S v n' := by
  have hm := mx_all S h hS
  obtain ⟨d, rfl⟩ := Nat.exists_eq_add_of_le h
  unfold ac
  rw [sum_range_add, ← hm]
  refine (add_zero _).symm.trans (congrArg _ (sum_eq_zero fun y _ => ?_).symm)
  rw [hS _ (Nat.le_add_right n y), EReal.bot_sub]
  exact mul_zero _

theorem sm_all {n n' : ℕ} (h : n ≤ n') (hS : ∀ t, n ≤ t → S t = ⊥) : sm S n = sm S n' := by
  rw [sm_eq_ac, sm_eq_ac, ac_all S _ h hS]

theorem pow_two (x : EReal) : Ideal.pow ((2 : ℝ) : EReal) x = Ideal.exp2 x := by
  induction x using EReal.rec with
  | bot =>
    change (if (2 : ℝ) < 0 then (⊥ : EReal) else if (1 : ℝ) < 2 then 0 else if (2 : ℝ) = 1 then 1 else ⊤) = 0
    rw [if_neg (by norm_num), if_pos (by norm_num)]
  | top =>
    change (if (2 : ℝ) < 0 then (⊥ : EReal) else if (1 : ℝ) < 2 then ⊤ else if (2 : ℝ) = 1 then 1 else 0) = ⊤
    rw [if_neg (by norm_num), if_pos (by norm_num)]
  | coe x => rfl

/-- A maximum folded over the places of an axis, from −∞. -/
theorem fold_sup (n : ℕ) (f : ℕ → EReal) : (Finset.univ : Finset (Fin n)).fold max ⊥ (fun k => f k.val) = (range n).sup f := by
  rw [show (Finset.univ : Finset (Fin n)).fold max ⊥ (fun k => f k.val) = (Finset.univ : Finset (Fin n)).sup fun k => f k.val from rfl]
  apply le_antisymm
  · exact Finset.sup_le fun k _ => le_sup (f := f) (mem_range.mpr k.isLt)
  · exact Finset.sup_le fun k hk => le_sup (f := fun k : Fin n => f k.val) (mem_univ (⟨k, mem_range.mp hk⟩ : Fin n))

end Cert.Softmax

end
-- ==== Proof.Tiles.lean ====
/- The running softmax of one query against the key tiles, over the extended reals: after `n` tiles the carried maximum,
   sum and weighted values are those of the first `512 n` keys. -/
module

public import proofs.«01_k».proof.Proof.Body
public import proofs.«01_k».proof.Proof.Softmax
public import Idealize.ShloMosaic.Lib.Pointwise

@[expose] public section

set_option maxRecDepth 16384

noncomputable section

namespace Cert.KernelIdeal.Value

open Cert.KernelIdeal Cert.KernelIdeal.Gen Cert.Words Cert.Softmax
open Idealize.ShloMosaic Idealize.ShloMosaic.TcCoe
open Facts

theorem minus_inf : Ideal.ofBits .f32 0xFF800000#32 = ⊥ := by simp [Ideal.ofBits, Ideal.ieee]

/-! ## One step, at a column -/

section
variable (col : Fin 512)

theorem mNext_apply (s : FVec Ideal S512x512 .f32) (m : Vec Ideal S1x512 .f32) :
    mNext s m (ix2 (0 : Fin 1) col) = max (m (ix2 0 col)) (cl (Finset.univ.fold max ⊥ fun x : Fin 512 => s (ix2 x col))) := by
  rw [← minus_inf]
  pointwise [mNext]

theorem lNext_apply (s : FVec Ideal S512x512 .f32) (m l : Vec Ideal S1x512 .f32) :
    lNext s m l (ix2 (0 : Fin 1) col) = l (ix2 0 col) * Ideal.exp2 (m (ix2 0 col) - mNext s m (ix2 0 col)) +
      ∑ x : Fin 512, Ideal.exp2 (s (ix2 x col) - mNext s m (ix2 0 col)) := by
  pointwise [lNext, alpha, prob]
  rfl

theorem aNext_apply (s : FVec Ideal S512x512 .f32) (vb : Vec Ideal S1x1x128x512 .bf16) (m : Vec Ideal S1x512 .f32) (a : Vec Ideal S128x512 .f32) (d : Fin 128) :
    aNext s vb m a (ix2 d col) = a (ix2 d col) * Ideal.exp2 (m (ix2 0 col) - mNext s m (ix2 0 col)) +
      ∑ x : Fin 512, vb (ix4 0 0 d x) * Ideal.exp2 (s (ix2 x col) - mNext s m (ix2 0 col)) := by
  pointwise [aNext, alpha, prob]
  rfl

theorem maskAt_apply (w : BitVec 32) (s : FVec Ideal S512x512 .f32) (row : Fin 512) :
    maskAt w s (ix2 row col) =
      Scalar.select (Scalar.cmpi .sle (Scalar.subi (BitVec.ofNat 32 row.val) (BitVec.ofNat 32 col.val)) w) (s (ix2 row col)) ⊥ := by
  rw [← minus_inf]
  pointwise [maskAt]
  rfl

/-- The state's column `col` is the softmax of the first `n` keys. -/
structure At (S : ℕ → EReal) (v : Fin 128 → ℕ → EReal) (n : ℕ) (x : St Ideal) : Prop where
  mx : x.mx (ix2 (0 : Fin 1) col) = Softmax.mx S n
  sm : x.sm (ix2 (0 : Fin 1) col) = Softmax.sm S n
  ac : ∀ d : Fin 128, x.ac (ix2 d col) = Softmax.ac S (v d) n

theorem at_start (S : ℕ → EReal) (v : Fin 128 → ℕ → EReal) : At col S v 0 start where
  mx := minus_inf
  sm := Ideal.ofBits_zero_f32
  ac := fun _ => Ideal.ofBits_zero_f32

theorem at_step {S : ℕ → EReal} {v : Fin 128 → ℕ → EReal} {n : ℕ} {x : St Ideal} (hx : At col S v n x)
    (s : FVec Ideal S512x512 .f32) (vb : Vec Ideal S1x1x128x512 .bf16)
    (hs : ∀ row : Fin 512, s (ix2 row col) = S (n + row.val)) (hv : ∀ (d : Fin 128) (y : Fin 512), vb (ix4 0 0 d y) = v d (n + y.val)) :
    At col S v (n + 512) (step s vb x) := by
  have hm : mNext s x.mx (ix2 (0 : Fin 1) col) = Softmax.mx S (n + 512) := by
    rw [mNext_apply, hx.mx]
    simp only [hs]
    rw [fold_sup 512 (fun k => S (n + k)), mx_step]
  refine ⟨hm, ?_, fun d => ?_⟩
  · change lNext s x.mx x.sm (ix2 (0 : Fin 1) col) = _
    rw [lNext_apply, hm, hx.mx, hx.sm]
    simp only [hs]
    rw [Fin.sum_univ_eq_sum_range (fun k => Ideal.exp2 (S (n + k) - Softmax.mx S (n + 512))) 512, sm_step]
  · change aNext s vb x.mx x.ac (ix2 d col) = _
    rw [aNext_apply, hm, hx.mx, hx.ac]
    simp only [hs, hv]
    rw [Fin.sum_univ_eq_sum_range (fun k => v d (n + k) * Ideal.exp2 (S (n + k) - Softmax.mx S (n + 512))) 512, ac_step]

end

/-! ## All tiles -/

/-- The factor every score is scaled by. -/
abbrev scale : EReal := Ideal.ofBits .f32 0x3E0293EE#32

variable (x0 : Vec Ideal S1x128x512 .bf16) (x1 : Vec Ideal S1x1x12288x128 .bf16) (x2 : Vec Ideal S1x1x128x12288 .bf16) (col : Fin 512)

/-- The score of key `t` for the query in column `col`. -/
def score (t : ℕ) : EReal :=
  (∑ d : Fin 128, x1 (ix4 (0 : Fin 1) (0 : Fin 1) (⟨t % 12288, Nat.mod_lt _ (by decide)⟩ : Fin 12288) d) * x0 (ix3 (0 : Fin 1) d col)) * scale

/-- The same with the keys past position `p` left out. -/
def seen (p t : ℕ) : EReal := if t ≤ p then score x0 x1 col t else ⊥

/-- Component `d` of the value at position `t`. -/
def valAt (d : Fin 128) (t : ℕ) : EReal := x2 (ix4 (0 : Fin 1) (0 : Fin 1) d (⟨t % 12288, Nat.mod_lt _ (by decide)⟩ : Fin 12288))

theorem pay3_apply (n : ℕ) (row : Fin 512) :
    k0_pay3 (F := Ideal) (k0_pay27 x0) (kTile x1 n) (ix2 row col) = score x0 x1 col (512 * n + row.val) := by
  unfold score kTile
  pointwise [k0_pay3, k0_pay27]

theorem vTile_apply (n : ℕ) (d : Fin 128) (y : Fin 512) : vTile x2 n (ix4 0 0 d y) = valAt x2 d (512 * n + y.val) := rfl

theorem at_run1 {p : ℕ} (n : ℕ) (hn : 512 * n ≤ p + 1) :
    At col (seen x0 x1 col p) (valAt x2) (512 * n) (run1 (k0_pay27 x0) x1 x2 start n) := by
  induction n with
  | zero => exact at_start col _ _
  | succ n ih =>
    refine at_step col (ih (by omega)) _ _ (fun row => ?_) (fun d y => vTile_apply x2 n d y)
    rw [pay3_apply, seen, if_pos (by omega)]

theorem at_run3 {p f : ℕ} {w : BitVec 32} {b : ℕ} (hw : Affine.IsInt w (b : Int)) (hb : b < 2 ^ 30) (hp : p = b + col.val) {s : St Ideal}
    (hs : At col (seen x0 x1 col p) (valAt x2) (512 * f) s) (n : ℕ) (hn : 512 * (f + n) < 2 ^ 30) :
    At col (seen x0 x1 col p) (valAt x2) (512 * (f + n)) (run3 w f (k0_pay27 x0) x1 x2 s n) := by
  induction n with
  | zero => exact hs
  | succ n ih =>
    refine at_step col (ih (by omega)) _ _ (fun row => ?_) (fun d y => vTile_apply x2 (f + n) d y)
    have hr := row.isLt
    have hc := col.isLt
    have h1 : Affine.IsInt (Scalar.subi (BitVec.ofNat 32 row.val) (BitVec.ofNat 32 col.val)) ((row.val : Int) - col.val) :=
      Affine.subi (Affine.ofNat _ ⟨rfl, by omega⟩) (Affine.ofNat _ ⟨rfl, by omega⟩) (by omega)
    have h2 : Affine.IsInt (Scalar.subi w (BitVec.ofNat 32 (512 * (f + n)))) ((b : Int) - (512 * (f + n) : ℕ)) :=
      Affine.subi hw (Affine.ofNat _ ⟨rfl, by omega⟩) (by omega)
    rw [maskAt_apply, pay3_apply, seen]
    by_cases h : 512 * (f + n) + row.val ≤ p
    · rw [if_pos h, Scalar.select, if_pos]
      exact Affine.sle_holds h1 h2 (by omega)
    · rw [if_neg h, Scalar.select, if_neg]
      exact Affine.sle_fails h1 h2 (by omega)

/-- After the last tile: the softmax over all keys up to the query's own position. -/
theorem at_fin (i : grid0.Coords) (v1 : BitVec 32) (h : v1.toNat ≤ 10240) :
    At col (seen x0 x1 col (pos i v1.toNat + col.val)) (valAt x2) 12288 (fin i v1 x0 x1 x2) := by
  have hf := full_le_last i v1.toNat
  have hl := last_le i h
  have hq := q_lt i
  have hc := col.isLt
  have hp : pos i v1.toNat ≤ 12000 := by unfold pos; omega
  have hfull : 512 * full i v1.toNat ≤ pos i v1.toNat + 1 := by unfold full; omega
  have hlast : pos i v1.toNat + 512 ≤ 512 * last i v1.toNat := by unfold last; omega
  have a := at_run3 x0 x1 x2 col (posW_isInt i v1 h) (by omega) rfl
    (at_run1 x0 x1 x2 col (p := pos i v1.toNat + col.val) (full i v1.toNat) (by omega)) (last i v1.toNat - full i v1.toNat) (by omega)
  rw [show full i v1.toNat + (last i v1.toNat - full i v1.toNat) = last i v1.toNat by omega] at a
  have hS : ∀ t, 512 * last i v1.toNat ≤ t → seen x0 x1 col (pos i v1.toNat + col.val) t = ⊥ := fun t ht => if_neg (by omega)
  have hle : 512 * last i v1.toNat ≤ 12288 := by omega
  exact ⟨a.mx.trans (mx_all _ hle hS), a.sm.trans (sm_all _ hle hS), fun d => (a.ac d).trans (ac_all _ _ hle hS)⟩

end Cert.KernelIdeal.Value

end
-- ==== Proof.Arrays.lean ====
/- The two result arrays after the run, element by element: each is the softmax of one query over the keys it sees. -/
module

public import proofs.«01_k».proof.Proof.Tiles
public import Idealize.ShloMosaic.Lib.Pipeline.ValueKit
public import Idealize.ShloMosaic.Lib.Pipeline.Covers

@[expose] public section

set_option maxRecDepth 16384

noncomputable section

namespace Cert.KernelIdeal.Value

open Cert.KernelIdeal Cert.KernelIdeal.Gen Cert.Words Cert.Softmax
open Idealize.ShloMosaic Idealize.ShloMosaic.TcCoe Idealize.SL.Sem
open Idealize.ShloMosaic.Pipeline (Dat)
open Facts

/-! ## Where the blocks lie -/

section
variable (i : grid0.Coords)

theorem i0_lt : (i 0).val < 2 := (i 0).isLt
theorem i1_lt : (i 1).val < 4 := (i 1).isLt
theorem i2_lt : (i 2).val < 16 := (i 2).isLt
theorem i3_lt : (i 3).val < 4 := (i 3).isLt

theorem head_word : (Scalar.addi (Scalar.muli (BitVec.ofNat 32 (i 1).val) 16#32) (BitVec.ofNat 32 (i 2).val)).toNat = 16 * (i 1).val + (i 2).val := by
  have h1 := i1_lt i
  have h2 := i2_lt i
  simp only [Scalar.addi, Scalar.muli, IntOp.addi, IntOp.muli, BitVec.toNat_add, BitVec.toNat_mul, BitVec.toNat_ofNat]
  omega

theorem query_word : (Scalar.addi (Scalar.muli (BitVec.ofNat 32 (i 0).val) 4#32) (BitVec.ofNat 32 (i 3).val)).toNat = 4 * (i 0).val + (i 3).val := by
  have h1 := i0_lt i
  have h2 := i3_lt i
  simp only [Scalar.addi, Scalar.muli, IntOp.addi, IntOp.muli, BitVec.toNat_add, BitVec.toNat_mul, BitVec.toNat_ofNat]
  omega

theorem word_val {n : Nat} (h : n < 2 ^ 32) : (BitVec.ofNat 32 n).toNat = n := by
  rw [BitVec.toNat_ofNat]; omega

theorem tr0 : cc0_transform_0 i = ![16 * (i 1).val + (i 2).val, 0, 4 * (i 0).val + (i 3).val] := by
  unfold cc0_transform_0; dsimp only; rw [head_word, query_word]; rfl
theorem tr1 : cc0_transform_1 i = ![(i 0).val, (i 1).val, 0, 0] := by
  have h0 := i0_lt i
  have h1 := i1_lt i
  unfold cc0_transform_1; dsimp only; rw [word_val (by omega), word_val (by omega)]; rfl
theorem tr2 : cc0_transform_2 i = ![(i 0).val, (i 1).val, 0, 0] := by
  have h0 := i0_lt i
  have h1 := i1_lt i
  unfold cc0_transform_2; dsimp only; rw [word_val (by omega), word_val (by omega)]; rfl
theorem tr3 : cc0_transform_3 i = ![(i 0).val, (i 3).val, 16 * (i 1).val + (i 2).val] := by
  have h0 := i0_lt i
  have h1 := i3_lt i
  unfold cc0_transform_3; dsimp only; rw [head_word, word_val (n := (i 0).val) (by omega), word_val (n := (i 3).val) (by omega)]
theorem tr4 : cc0_transform_4 i = ![(i 0).val, 16 * (i 1).val + (i 2).val, 0, (i 3).val] := by
  have h0 := i0_lt i
  have h1 := i3_lt i
  unfold cc0_transform_4; dsimp only; rw [head_word, word_val (n := (i 0).val) (by omega), word_val (n := (i 3).val) (by omega)]; rfl
end

variable (m : (ℓ : Loc nD τ sig) → Buf (Elt Ideal) ℓ)

section
variable (c : Dev nD) (t : Fin (cfgM m (ok m)).N)

theorem q_blk (d : Fin 128) (col : Fin 512) (h : Fin 64) (r : Fin 4096)
    (hh : h.val = 16 * (grid0.coords t 1).val + (grid0.coords t 2).val) (hr : r.val = 512 * (4 * (grid0.coords t 0).val + (grid0.coords t 3).val) + col.val) :
    (iblk m (ok m) c 0 t : Vec Ideal S1x128x512 .bf16) (ix3 (0 : Fin 1) d col) = m ((c : Thread nD τ).loc main_arg1) (ix3 h d r) := by
  unfold iblk
  refine congrArg (m ((c : Thread nD τ).loc main_arg1)) (funext fun a => Fin.ext ?_)
  have e := tr0 (grid0.coords t)
  match a with
  | ⟨0, _⟩ => change cc0_transform_0 (grid0.coords t) 0 * 1 + 1 * 0 = h.val; rw [e, hh]; simp
  | ⟨1, _⟩ => change cc0_transform_0 (grid0.coords t) 1 * 128 + 1 * d.val = d.val; rw [e]; simp
  | ⟨2, _⟩ => change cc0_transform_0 (grid0.coords t) 2 * 512 + 1 * col.val = r.val; rw [e, hr]; simp; omega

theorem k_blk (y : Fin 12288) (d : Fin 128) (b : Fin 2) (g : Fin 4) (hb : b.val = (grid0.coords t 0).val) (hg : g.val = (grid0.coords t 1).val) :
    (iblk m (ok m) c 1 t : Vec Ideal S1x1x12288x128 .bf16) (ix4 (0 : Fin 1) (0 : Fin 1) y d) = m ((c : Thread nD τ).loc main_arg2) (ix4 b g y d) := by
  unfold iblk
  refine congrArg (m ((c : Thread nD τ).loc main_arg2)) (funext fun a => Fin.ext ?_)
  have e := tr1 (grid0.coords t)
  match a with
  | ⟨0, _⟩ => change cc0_transform_1 (grid0.coords t) 0 * 1 + 1 * 0 = b.val; rw [e, hb]; simp
  | ⟨1, _⟩ => change cc0_transform_1 (grid0.coords t) 1 * 1 + 1 * 0 = g.val; rw [e, hg]; simp
  | ⟨2, _⟩ => change cc0_transform_1 (grid0.coords t) 2 * 12288 + 1 * y.val = y.val; rw [e]; simp
  | ⟨3, _⟩ => change cc0_transform_1 (grid0.coords t) 3 * 128 + 1 * d.val = d.val; rw [e]; simp

theorem v_blk (y : Fin 12288) (d : Fin 128) (b : Fin 2) (g : Fin 4) (hb : b.val = (grid0.coords t 0).val) (hg : g.val = (grid0.coords t 1).val) :
    (iblk m (ok m) c 2 t : Vec Ideal S1x1x128x12288 .bf16) (ix4 (0 : Fin 1) (0 : Fin 1) d y) = m ((c : Thread nD τ).loc main_arg3) (ix4 b g d y) := by
  unfold iblk
  refine congrArg (m ((c : Thread nD τ).loc main_arg3)) (funext fun a => Fin.ext ?_)
  have e := tr2 (grid0.coords t)
  match a with
  | ⟨0, _⟩ => change cc0_transform_2 (grid0.coords t) 0 * 1 + 1 * 0 = b.val; rw [e, hb]; simp
  | ⟨1, _⟩ => change cc0_transform_2 (grid0.coords t) 1 * 1 + 1 * 0 = g.val; rw [e, hg]; simp
  | ⟨2, _⟩ => change cc0_transform_2 (grid0.coords t) 2 * 128 + 1 * d.val = d.val; rw [e]; simp
  | ⟨3, _⟩ => change cc0_transform_2 (grid0.coords t) 3 * 12288 + 1 * y.val = y.val; rw [e]; simp
end

/-! ## The payloads, at an index -/

theorem pay1_apply (l : Vec Ideal S1x512 .f32) (a : Vec Ideal S128x512 .f32) (r : Fin 512) (d : Fin 128) :
    k0_pay1 l a (ix3 (0 : Fin 1) r d) = Ideal.div (a (ix2 d r)) (l (ix2 0 r)) := by
  pointwise [k0_pay1]

/-- The logarithm-of-the-sum written out of a query whose number of keys is the word `w`. -/
def lse (w : BitVec 32) (l mx : EReal) : EReal :=
  Ideal.ofBits .f32 1060205080#32 * (mx + Ideal.div (Ideal.log l) (Ideal.log (Ideal.ofBits .f32 1073741824#32))) -
    Ideal.log (FloatOps.sitofp (F := Ideal) .f32 w : EReal)

theorem pay2_apply (w : BitVec 32) (l mx : Vec Ideal S1x512 .f32) (r : Fin 512) :
    k0_pay2 w l mx (ix4 (0 : Fin 1) (0 : Fin 1) (0 : Fin 1) r) =
      lse (IntOp.addi (Scalar.addi w 1#32) (BitVec.ofNat 32 r.val)) (l (ix2 0 r)) (mx (ix2 0 r)) := by
  unfold lse
  pointwise [k0_pay2]

/-! ## One query -/

section
variable (c : Dev nD)

/-- The queries, the keys and the values, as the arguments hold them. -/
def qA : Vec Ideal S64x128x4096 .bf16 := m ((c : Thread nD τ).loc main_arg1)
def kA : Vec Ideal S2x4x12288x128 .bf16 := m ((c : Thread nD τ).loc main_arg2)
def vA : Vec Ideal S2x4x128x12288 .bf16 := m ((c : Thread nD τ).loc main_arg3)

/-- The first position of sequence `b`, as the table holds it. -/
def startB (b : Fin 2) : BitVec 32 := m ((c : Thread nD τ).loc main_arg0) (ix1 b)

/-- The group of key heads query head `h` reads. -/
def grp (h : Fin 64) : Fin 4 := ⟨h.val / 16, by omega⟩

/-- Where query `r` of sequence `b` lies among all queries. -/
def qCol (b : Fin 2) (r : Fin 2048) : Fin 4096 := ⟨2048 * b.val + r.val, by omega⟩

/-- The score of query `r` of sequence `b` at head `h` against key `t`. -/
def scoreA (b : Fin 2) (h : Fin 64) (r : Fin 2048) (t : ℕ) : EReal :=
  (∑ d : Fin 128, kA m c (ix4 b (grp h) ⟨t % 12288, Nat.mod_lt _ (by decide)⟩ d) * qA m c (ix3 h d (qCol b r))) * scale

/-- The same, `⊥` where the key lies after the query. -/
def seenA (b : Fin 2) (h : Fin 64) (r : Fin 2048) (t : ℕ) : EReal :=
  if t ≤ (startB m c b).toNat + r.val then scoreA m c b h r t else ⊥

/-- Channel `d` of the value of key `t`. -/
def valA (b : Fin 2) (h : Fin 64) (d : Fin 128) (t : ℕ) : EReal :=
  vA m c (ix4 b (grp h) d ⟨t % 12288, Nat.mod_lt _ (by decide)⟩)

/-- One element of the attention output. -/
def outE (b : Fin 2) (r : Fin 2048) (h : Fin 64) (d : Fin 128) : EReal :=
  Ideal.div (ac (seenA m c b h r) (valA m c b h d) 12288) (sm (seenA m c b h r) 12288)

/-- The number of keys query `r` of sequence `b` sees, as a word. -/
def nVis (b : Fin 2) (r : Fin 2048) : BitVec 32 := IntOp.addi (IntOp.addi (startB m c b) (BitVec.ofNat 32 r.val)) 1#32

/-- One element of the logarithms of the sums. -/
def lseE (b : Fin 2) (h : Fin 64) (r : Fin 2048) : EReal :=
  lse (nVis m c b r) (sm (seenA m c b h r) 12288) (mx (seenA m c b h r) 12288)

/-- The attention output, whole. -/
def outG : Vec Ideal S2x2048x8192 .f32 := fun j =>
  outE m c (j 0) (j 1) ⟨(j 2).val / 128, by have : (j 2).val < 8192 := (j 2).isLt; omega⟩ ⟨(j 2).val % 128, Nat.mod_lt _ (by decide)⟩

/-- The logarithms of the sums, whole. -/
def lseG : Vec Ideal S2x64x1x2048 .f32 := fun j => lseE m c (j 0) (j 1) (j 3)
end

/-! ## One point of the grid -/

section
variable (hP : Cert.Pre_KernelIdeal m) (c : Dev nD) (t : Fin (cfgM m (ok m)).N)

/-- The sequence, the head and the query of column `col` at a grid point. -/
def bAt : Fin 2 := ⟨(grid0.coords t 0).val, i0_lt _⟩
def hAt : Fin 64 := ⟨16 * (grid0.coords t 1).val + (grid0.coords t 2).val, by have := i1_lt (grid0.coords t); have := i2_lt (grid0.coords t); omega⟩
def rAt (col : Fin 512) : Fin 2048 := ⟨512 * (grid0.coords t 3).val + col.val, by have := i3_lt (grid0.coords t); omega⟩

theorem start_eq : startW m c (grid0.coords t) = startB m c (bAt m t) := by
  unfold startW startB
  refine congrArg (m _) (funext fun a => Fin.ext ?_)
  match a with
  | ⟨0, _⟩ => rfl

theorem grp_hAt : (grp (hAt m t)).val = (grid0.coords t 1).val := by
  have := i2_lt (grid0.coords t)
  show (16 * (grid0.coords t 1).val + (grid0.coords t 2).val) / 16 = _
  omega

theorem score_eq (col : Fin 512) (y : ℕ) :
    score (iblk m (ok m) c 0 t) (iblk m (ok m) c 1 t) col y = scoreA m c (bAt m t) (hAt m t) (rAt m t col) y := by
  unfold score scoreA
  refine congrArg (· * scale) (Finset.sum_congr rfl fun d _ => ?_)
  rw [k_blk m c t _ d (bAt m t) (grp (hAt m t)) rfl (grp_hAt m t),
    q_blk m c t d col (hAt m t) (qCol (bAt m t) (rAt m t col)) rfl (by show 2048 * (grid0.coords t 0).val + (512 * (grid0.coords t 3).val + col.val) = _; omega)]
  rfl

theorem seen_eq (col : Fin 512) :
    seen (iblk m (ok m) c 0 t) (iblk m (ok m) c 1 t) col (pos (grid0.coords t) (startW m c (grid0.coords t)).toNat + col.val) =
      seenA m c (bAt m t) (hAt m t) (rAt m t col) := by
  funext y
  unfold seen seenA
  rw [score_eq, start_eq, show pos (grid0.coords t) (startB m c (bAt m t)).toNat + col.val = (startB m c (bAt m t)).toNat + (rAt m t col).val from Nat.add_assoc _ _ _]

theorem val_eq (d : Fin 128) : valAt (iblk m (ok m) c 2 t) d = valA m c (bAt m t) (hAt m t) d := by
  funext y
  exact v_blk m c t _ d (bAt m t) (grp (hAt m t)) rfl (grp_hAt m t)

include hP in
theorem fin_at (col : Fin 512) :
    At col (seenA m c (bAt m t) (hAt m t) (rAt m t col)) (valA m c (bAt m t) (hAt m t)) 12288
      (fin (grid0.coords t) (startW m c (grid0.coords t)) (iblk m (ok m) c 0 t) (iblk m (ok m) c 1 t) (iblk m (ok m) c 2 t)) := by
  have := at_fin (iblk m (ok m) c 0 t) (iblk m (ok m) c 1 t) (iblk m (ok m) c 2 t) col (grid0.coords t) (startW m c (grid0.coords t)) (startW_le m hP c (grid0.coords t))
  rw [seen_eq, show valAt (iblk m (ok m) c 2 t) = valA m c (bAt m t) (hAt m t) from funext fun d => val_eq m c t d] at this
  exact this

end

end Cert.KernelIdeal.Value

end
-- ==== Proof.Final.lean ====
/- The run of the kernel, read: both result arrays element by element. -/
module

public import proofs.«01_k».proof.Proof.Arrays
public import Idealize.ShloMosaic.Lib.Pipeline.ValueKit
public import Idealize.ShloMosaic.Lib.Pipeline.Covers

@[expose] public section

set_option maxRecDepth 16384

noncomputable section

namespace Cert.KernelIdeal.Value

open Cert.KernelIdeal Cert.KernelIdeal.Gen Cert.Words Cert.Softmax
open Idealize.ShloMosaic Idealize.ShloMosaic.TcCoe Idealize.SL.Sem
open Idealize.ShloMosaic.Pipeline (Dat)
open Facts

variable (m : (ℓ : Loc nD τ sig) → Buf (Elt Ideal) ℓ)

/-! ## The blocks a point writes back -/

section
variable (hP : Cert.Pre_KernelIdeal m) (c : Dev nD)

include hP in
theorem blk_o_at (i : grid0.Coords) (a5 : Memref sig .tc .vmem S1x128x512 .bf16) (h5 : a5.IsWhole) (a6 : Memref sig .tc .vmem S1x1x12288x128 .bf16) (h6 : a6.IsWhole) (a7 : Memref sig .tc .vmem S1x1x128x12288 .bf16) (h7 : a7.IsWhole) (a8 : Memref sig .tc .vmem S1x512x128 .f32) (h8 : a8.IsWhole) (a9 : Memref sig .tc .vmem S1x1x1x512 .f32) (h9 : a9.IsWhole) (a10 : Memref sig .tc .vmem S1x512 .f32) (h10 : a10.IsWhole) (a11 : Memref sig .tc .vmem S1x512 .f32) (h11 : a11.IsWhole) (a12 : Memref sig .tc .vmem S128x512 .f32) (h12 : a12.IsWhole)
  (x0 : Vec Ideal S1x128x512 .bf16) (x1 : Vec Ideal S1x1x12288x128 .bf16) (x2 : Vec Ideal S1x1x128x12288 .bf16)
  (hw : k0_chk1 i (tbM0_0.view.readAt (Elt Ideal) (Rect.unit (s := S2) (k0_off1 i) S1.size (k0_off1_inb i)).toLoadRect (tbl m 0) (Shape.Idx.first (numel1_S1.symm ▸ Nat.one_pos)))) :
    out0_A_3 c i a5 h5 a6 h6 a7 h7 a8 h8 a9 h9 a10 h10 a11 h11 a12 h12 x0 x1 x2 (tbl m 0) hw = k0_pay1 (fin i (startW m c i) x0 x1 x2).sm (fin i (startW m c i) x0 x1 x2).ac :=
  blk_o c i a5 h5 a6 h6 a7 h7 a8 h8 a9 h9 a10 h10 a11 h11 a12 h12 x0 x1 x2 (tbl m 0) hw (startW m c i) (readW_eq m c i) (startW_le m hP c i)

include hP in
theorem blk_lse_at (i : grid0.Coords) (a5 : Memref sig .tc .vmem S1x128x512 .bf16) (h5 : a5.IsWhole) (a6 : Memref sig .tc .vmem S1x1x12288x128 .bf16) (h6 : a6.IsWhole) (a7 : Memref sig .tc .vmem S1x1x128x12288 .bf16) (h7 : a7.IsWhole) (a8 : Memref sig .tc .vmem S1x512x128 .f32) (h8 : a8.IsWhole) (a9 : Memref sig .tc .vmem S1x1x1x512 .f32) (h9 : a9.IsWhole) (a10 : Memref sig .tc .vmem S1x512 .f32) (h10 : a10.IsWhole) (a11 : Memref sig .tc .vmem S1x512 .f32) (h11 : a11.IsWhole) (a12 : Memref sig .tc .vmem S128x512 .f32) (h12 : a12.IsWhole)
  (x0 : Vec Ideal S1x128x512 .bf16) (x1 : Vec Ideal S1x1x12288x128 .bf16) (x2 : Vec Ideal S1x1x128x12288 .bf16)
  (hw : k0_chk1 i (tbM0_0.view.readAt (Elt Ideal) (Rect.unit (s := S2) (k0_off1 i) S1.size (k0_off1_inb i)).toLoadRect (tbl m 0) (Shape.Idx.first (numel1_S1.symm ▸ Nat.one_pos)))) :
    out0_A_4 c i a5 h5 a6 h6 a7 h7 a8 h8 a9 h9 a10 h10 a11 h11 a12 h12 x0 x1 x2 (tbl m 0) hw = k0_pay2 (posW i (startW m c i)) (fin i (startW m c i) x0 x1 x2).sm (fin i (startW m c i) x0 x1 x2).mx :=
  blk_lse c i a5 h5 a6 h6 a7 h7 a8 h8 a9 h9 a10 h10 a11 h11 a12 h12 x0 x1 x2 (tbl m 0) hw (startW m c i) (readW_eq m c i) (startW_le m hP c i)

end

section
variable (hP : Cert.Pre_KernelIdeal m) (c : Dev nD) (t : Fin (cfgM m (ok m)).N)

theorem outs_o : (outsAt0 m (ok m) (hyps m hP) c t).1 = out0_A_3 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) scM0_0 (Memref.isWhole_whole _) scM0_1 (Memref.isWhole_whole _) scM0_2 (Memref.isWhole_whole _) (iblk m (ok m) c 0 t) (iblk m (ok m) c 1 t) (iblk m (ok m) c 2 t) (tbl m 0) (Hyps.c0 (hyps m hP) c t) := by
  dsimp only [outsAt0]

theorem outs_lse : (outsAt0 m (ok m) (hyps m hP) c t).2 = out0_A_4 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) scM0_0 (Memref.isWhole_whole _) scM0_1 (Memref.isWhole_whole _) scM0_2 (Memref.isWhole_whole _) (iblk m (ok m) c 0 t) (iblk m (ok m) c 1 t) (iblk m (ok m) c 2 t) (tbl m 0) (Hyps.c0 (hyps m hP) c t) := by
  dsimp only [outsAt0]

theorem o_point (col : Fin 512) (d : Fin 128) :
    (outsAt0 m (ok m) (hyps m hP) c t).1 (ix3 (0 : Fin 1) col d) = outE m c (bAt m t) (rAt m t col) (hAt m t) d := by
  have e : (outsAt0 m (ok m) (hyps m hP) c t).1 = k0_pay1 (fin (grid0.coords t) (startW m c (grid0.coords t)) (iblk m (ok m) c 0 t) (iblk m (ok m) c 1 t) (iblk m (ok m) c 2 t)).sm (fin (grid0.coords t) (startW m c (grid0.coords t)) (iblk m (ok m) c 0 t) (iblk m (ok m) c 1 t) (iblk m (ok m) c 2 t)).ac :=
    (outs_o m hP c t).trans (blk_o_at m hP c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) scM0_0 (Memref.isWhole_whole _) scM0_1 (Memref.isWhole_whole _) scM0_2 (Memref.isWhole_whole _) (iblk m (ok m) c 0 t) (iblk m (ok m) c 1 t) (iblk m (ok m) c 2 t) (Hyps.c0 (hyps m hP) c t))
  rw [e]
  rw [pay1_apply, (fin_at m hP c t col).sm, (fin_at m hP c t col).ac d]
  rfl

theorem words_eq (col : Fin 512) :
    IntOp.addi (Scalar.addi (posW (grid0.coords t) (startW m c (grid0.coords t))) 1#32) (BitVec.ofNat 32 col.val) =
      nVis m c (bAt m t) (rAt m t col) := by
  rw [start_eq]
  unfold nVis posW
  have h3 := i3_lt (grid0.coords t)
  have hc := col.isLt
  apply BitVec.eq_of_toNat_eq
  simp only [Scalar.addi, Scalar.muli, IntOp.addi, IntOp.muli, BitVec.toNat_add, BitVec.toNat_mul, BitVec.toNat_ofNat, rAt]
  omega

theorem lse_point (col : Fin 512) :
    (outsAt0 m (ok m) (hyps m hP) c t).2 (ix4 (0 : Fin 1) (0 : Fin 1) (0 : Fin 1) col) = lseE m c (bAt m t) (hAt m t) (rAt m t col) := by
  have e : (outsAt0 m (ok m) (hyps m hP) c t).2 = k0_pay2 (posW (grid0.coords t) (startW m c (grid0.coords t))) (fin (grid0.coords t) (startW m c (grid0.coords t)) (iblk m (ok m) c 0 t) (iblk m (ok m) c 1 t) (iblk m (ok m) c 2 t)).sm (fin (grid0.coords t) (startW m c (grid0.coords t)) (iblk m (ok m) c 0 t) (iblk m (ok m) c 1 t) (iblk m (ok m) c 2 t)).mx :=
    (outs_lse m hP c t).trans (blk_lse_at m hP c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) scM0_0 (Memref.isWhole_whole _) scM0_1 (Memref.isWhole_whole _) scM0_2 (Memref.isWhole_whole _) (iblk m (ok m) c 0 t) (iblk m (ok m) c 1 t) (iblk m (ok m) c 2 t) (Hyps.c0 (hyps m hP) c t))
  rw [e]
  rw [pay2_apply, (fin_at m hP c t col).sm, (fin_at m hP c t col).mx, words_eq]
  rfl
end

/-! ## The arrays after the run -/

section
variable (hP : Cert.Pre_KernelIdeal m) (c : Dev nD)

theorem covers_o : ((cfgM m (ok m)).win 3).Covers := by
  refine ⟨fun (a : Fin 3) => match a with | ⟨0, _⟩ => (by decide : 0 < 1) | ⟨1, _⟩ => (by decide : 0 < 512) | ⟨2, _⟩ => (by decide : 0 < 128), fun (β : (a : Fin 3) → Fin (((cfgM m (ok m)).win 3).nblk a)) => ?_⟩
  have h0 : (β 0).val < 2 := (show (β 0).val < (2 + 1 - 1) / 1 from (β 0).isLt)
  have h1 : (β 1).val < 4 := (show (β 1).val < (2048 + 512 - 1) / 512 from (β 1).isLt)
  have h2 : (β 2).val < 64 := (show (β 2).val < (8192 + 128 - 1) / 128 from (β 2).isLt)
  let x : grid0.Coords := fun a => match a with
    | ⟨0, _⟩ => (⟨(β 0).val, h0⟩ : Fin 2)
    | ⟨1, _⟩ => (⟨(β 2).val / 16, by omega⟩ : Fin 4)
    | ⟨2, _⟩ => (⟨(β 2).val % 16, by omega⟩ : Fin 16)
    | ⟨3, _⟩ => (⟨(β 1).val, h1⟩ : Fin 4)
  obtain ⟨t, ht⟩ := Pipeline.Grid.coords_surjective grid0 x
  refine ⟨t, flush0_3 _ t, fun a => ⟨?_, .inl rfl⟩⟩
  have e := tr3 (grid0.coords t)
  rw [ht] at e
  have e' : cc0_transform_3 (grid0.coords t) = ![(β 0).val, (β 1).val, 16 * ((β 2).val / 16) + (β 2).val % 16] := by rw [ht]; exact e
  match a with
  | ⟨0, _⟩ => exact congrFun e' 0
  | ⟨1, _⟩ => exact congrFun e' 1
  | ⟨2, _⟩ => exact (congrFun e' 2).trans (Nat.div_add_mod _ _)

theorem covers_lse : ((cfgM m (ok m)).win 4).Covers := by
  refine ⟨fun (a : Fin 4) => match a with | ⟨0, _⟩ => (by decide : 0 < 1) | ⟨1, _⟩ => (by decide : 0 < 1) | ⟨2, _⟩ => (by decide : 0 < 1) | ⟨3, _⟩ => (by decide : 0 < 512), fun (β : (a : Fin 4) → Fin (((cfgM m (ok m)).win 4).nblk a)) => ?_⟩
  have h0 : (β 0).val < 2 := (show (β 0).val < (2 + 1 - 1) / 1 from (β 0).isLt)
  have h1 : (β 1).val < 64 := (show (β 1).val < (64 + 1 - 1) / 1 from (β 1).isLt)
  have h2 : (β 2).val < 1 := (show (β 2).val < (1 + 1 - 1) / 1 from (β 2).isLt)
  have h3 : (β 3).val < 4 := (show (β 3).val < (2048 + 512 - 1) / 512 from (β 3).isLt)
  let x : grid0.Coords := fun a => match a with
    | ⟨0, _⟩ => (⟨(β 0).val, h0⟩ : Fin 2)
    | ⟨1, _⟩ => (⟨(β 1).val / 16, by omega⟩ : Fin 4)
    | ⟨2, _⟩ => (⟨(β 1).val % 16, by omega⟩ : Fin 16)
    | ⟨3, _⟩ => (⟨(β 3).val, h3⟩ : Fin 4)
  obtain ⟨t, ht⟩ := Pipeline.Grid.coords_surjective grid0 x
  refine ⟨t, flush0_4 _ t, fun a => ⟨?_, .inl rfl⟩⟩
  have e := tr4 (grid0.coords t)
  rw [ht] at e
  have e' : cc0_transform_4 (grid0.coords t) = ![(β 0).val, 16 * ((β 1).val / 16) + (β 1).val % 16, 0, (β 3).val] := by rw [ht]; exact e
  match a with
  | ⟨0, _⟩ => exact congrFun e' 0
  | ⟨1, _⟩ => exact (congrFun e' 1).trans (Nat.div_add_mod _ _)
  | ⟨2, _⟩ => exact (congrFun e' 2).trans (by show 0 = (β 2).val; omega)
  | ⟨3, _⟩ => exact congrFun e' 3

/-- Where element `y` of the output block of a grid point lies in the attention output. -/
def emb3 (t : Fin (cfgM m (ok m)).N) (y : S1x512x128.Idx) : S2x2048x8192.Idx := (((cfgM m (ok m)).win 3).blk t).view.emb y

/-- Where element `y` of the block of log-sum-exps of a grid point lies in their array. -/
def emb4 (t : Fin (cfgM m (ok m)).N) (y : S1x1x1x512.Idx) : S2x64x1x2048.Idx := (((cfgM m (ok m)).win 4).blk t).view.emb y

theorem final_o : (dats m (ok m) (hyps m hP) 0 c).arrAt 3 (cfgM m (ok m)).N = outG m c := by
  refine (dats m (ok m) (hyps m hP) 0 c).arrAt_eq_of_covers 3 (outG m c) (covers_o m) fun t hf (y : S1x512x128.Idx) => ?_
  have e := tr3 (grid0.coords t)
  have h2 := i2_lt (grid0.coords t)
  have hl : (y 2).val < 128 := (y 2).isLt
  have hr : (y 1).val < 512 := (y 1).isLt
  have hz : (y 0).val < 1 := (y 0).isLt
  have a0 : emb3 m t y 0 = bAt m t := Fin.ext (by
    show cc0_transform_3 (grid0.coords t) 0 * 1 + 1 * (y 0).val = (grid0.coords t 0).val
    rw [e]; simp <;> omega)
  have a1 : emb3 m t y 1 = rAt m t ⟨(y 1).val, hr⟩ := Fin.ext (by
    show cc0_transform_3 (grid0.coords t) 1 * 512 + 1 * (y 1).val = 512 * (grid0.coords t 3).val + (y 1).val
    rw [e]; simp <;> omega)
  have a2 : (emb3 m t y 2).val = 128 * (hAt m t).val + (y 2).val := by
    show cc0_transform_3 (grid0.coords t) 2 * 128 + 1 * (y 2).val = 128 * (16 * (grid0.coords t 1).val + (grid0.coords t 2).val) + (y 2).val
    rw [e]; simp <;> omega
  have hy : y = ix3 (0 : Fin 1) (⟨(y 1).val, hr⟩ : Fin 512) (⟨(y 2).val, hl⟩ : Fin 128) := funext fun a => Fin.ext (by
    match a with
    | ⟨0, _⟩ => show (y 0).val = 0; omega
    | ⟨1, _⟩ => rfl
    | ⟨2, _⟩ => rfl)
  have hval : outG m c (emb3 m t y) = outE m c (bAt m t) (rAt m t ⟨(y 1).val, hr⟩) (hAt m t) ⟨(y 2).val, hl⟩ := by
    unfold outG
    rw [a0, a1]
    refine congr (congrArg _ (Fin.ext ?_)) (Fin.ext ?_)
    · show (emb3 m t y 2).val / 128 = _
      rw [a2]; omega
    · show (emb3 m t y 2).val % 128 = (y 2).val
      rw [a2]; omega
  refine Eq.trans ?_ hval.symm
  refine Eq.trans ?_ (o_point m hP c t ⟨(y 1).val, hr⟩ ⟨(y 2).val, hl⟩)
  rw [after0_3]
  exact congrArg (outsAt0 m (ok m) (hyps m hP) c t).1 hy

theorem final_lse : (dats m (ok m) (hyps m hP) 0 c).arrAt 4 (cfgM m (ok m)).N = lseG m c := by
  refine (dats m (ok m) (hyps m hP) 0 c).arrAt_eq_of_covers 4 (lseG m c) (covers_lse m) fun t hf (y : S1x1x1x512.Idx) => ?_
  have e := tr4 (grid0.coords t)
  have h0' : (y 0).val < 1 := (y 0).isLt
  have h1' : (y 1).val < 1 := (y 1).isLt
  have h2' : (y 2).val < 1 := (y 2).isLt
  have hr : (y 3).val < 512 := (y 3).isLt
  have a0 : emb4 m t y 0 = bAt m t := Fin.ext (by
    show cc0_transform_4 (grid0.coords t) 0 * 1 + 1 * (y 0).val = (grid0.coords t 0).val
    rw [e]; simp <;> omega)
  have a1 : emb4 m t y 1 = hAt m t := Fin.ext (by
    show cc0_transform_4 (grid0.coords t) 1 * 1 + 1 * (y 1).val = 16 * (grid0.coords t 1).val + (grid0.coords t 2).val
    rw [e]; simp <;> omega)
  have a3 : emb4 m t y 3 = rAt m t ⟨(y 3).val, hr⟩ := Fin.ext (by
    show cc0_transform_4 (grid0.coords t) 3 * 512 + 1 * (y 3).val = 512 * (grid0.coords t 3).val + (y 3).val
    rw [e]; simp <;> omega)
  have hy : y = ix4 (0 : Fin 1) (0 : Fin 1) (0 : Fin 1) (⟨(y 3).val, hr⟩ : Fin 512) := funext fun a => Fin.ext (by
    match a with
    | ⟨0, _⟩ => show (y 0).val = 0; omega
    | ⟨1, _⟩ => show (y 1).val = 0; omega
    | ⟨2, _⟩ => show (y 2).val = 0; omega
    | ⟨3, _⟩ => rfl)
  have hval : lseG m c (emb4 m t y) = lseE m c (bAt m t) (hAt m t) (rAt m t ⟨(y 3).val, hr⟩) := by
    unfold lseG
    rw [← a0, ← a1, ← a3]
  refine Eq.trans ?_ hval.symm
  refine Eq.trans ?_ (lse_point m hP c t ⟨(y 3).val, hr⟩)
  rw [after0_4]
  exact congrArg (outsAt0 m (ok m) (hyps m hP) c t).2 hy
end

/-- The run, read: both result arrays element by element, the arguments unchanged. -/
theorem run (ρ : Dev nD → PrngReg) (hP : Cert.Pre_KernelIdeal m) : θ_run defs (onTc (τ := τ) (main (F := Ideal))) ⟨m, fun _ => 0, ρ⟩ fun r => ∀ c : Dev nD,
      r.2.mem ((c : Thread nD τ).loc main_v0_0) = outG m c ∧ r.2.mem ((c : Thread nD τ).loc main_v0_1) = lseG m c :=
  (θ_run defs _ _).mono (fun _ h c => ⟨((h c).1 3).trans (final_o m hP c), ((h c).1 4).trans (final_lse m hP c)⟩)
    (run_main m ρ (ok m) (hyps m hP))

end Cert.KernelIdeal.Value

end
-- ==== Proof.Ref.lean ====
/- The reference's two results, element by element. -/
module

public import proofs.«01_k».proof.Proof.Final
public import proofs.«01_k».proof.Proof.Gen.ReferenceIdeal.Run

@[expose] public section

set_option maxRecDepth 16384

noncomputable section

namespace Cert.ReferenceIdeal.Value

open Cert.ReferenceIdeal Cert.ReferenceIdeal.Gen Cert.Softmax
open Idealize.ShloMosaic Idealize.ShloMosaic.TcCoe Idealize.SL.Sem
open Facts

section
variable {F : FTy → Type} [FloatOps F] (m : (ℓ : Loc nD τ sig) → Buf (Elt F) ℓ) (c : Dev nD)

/-- The arguments: first positions, queries, keys, values. -/
def pR : IVec S2 32 := m ((c.tc : Thread nD τ).loc main_arg0)
def qR : Vec F S64x128x4096 .bf16 := m ((c.tc : Thread nD τ).loc main_arg1)
def kR : Vec F S2x4x12288x128 .bf16 := m ((c.tc : Thread nD τ).loc main_arg2)
def vR : Vec F S2x4x128x12288 .bf16 := m ((c.tc : Thread nD τ).loc main_arg3)

/-- The masked scores. -/
def sV : Vec F S2x2048x4x16x12288 .f32 :=
  select (broadcastInDim S2x2048x4x16x12288 ![0, 1, 2, 3, 4] bcast_S2x2048x1x1x12288_S2x2048x4x16x12288_0_1_2_3_4 (broadcastInDim S2x2048x1x1x12288 ![0, 1, 4] bcast_S2x2048x12288_S2x2048x1x1x12288_0_1_4 (cmpi .sle (broadcastInDim S2x2048x12288 ![0, 1, 2] bcast_S1x1x12288_S2x2048x12288_0_1_2 (broadcastInDim S1x1x12288 ![2] bcast_S12288_S1x1x12288_2 (iotaInDim S12288 32 0))) (broadcastInDim S2x2048x12288 ![0, 1, 2] bcast_S2x2048x1_S2x2048x12288_0_1_2 (broadcastInDim S2x2048x1 ![0, 1] bcast_S2x2048_S2x2048x1_0_1 (addi (broadcastInDim S2x2048 ![0, 1] bcast_S2x1_S2x2048_0_1 (broadcastInDim S2x1 ![0] bcast_S2_S2x1_0 (pR m c))) (broadcastInDim S2x2048 ![0, 1] bcast_S1x2048_S2x2048_0_1 (broadcastInDim S1x2048 ![1] bcast_S2048_S1x2048_1 (iotaInDim S2048 32 0))))))))) (mulf (transpose S2x2048x4x16x12288 [0, 3, 1, 4, 2] (Host.dotGeneral dot_S2x4x12288x128_S2x2048x4x16x128_S2x4x12288x2048x16_3_4_2_13_01_02 none (kR m c) (transpose S2x2048x4x16x128 [3, 4, 0, 1, 2] (shapeCast _ (qR m c) shapeCasts_S64x128x4096_S4x16x128x2x2048) transposes_S4x16x128x2x2048_S2x2048x4x16x128_3_4_0_1_2)) transposes_S2x4x12288x2048x16_S2x2048x4x16x12288_0_3_1_4_2) (broadcastInDim S2x2048x4x16x12288 ![] bcast_S_S2x2048x4x16x12288 (constant S_ .f32 0x3E0293EE#32))) (broadcastInDim S2x2048x4x16x12288 ![] bcast_S_S2x2048x4x16x12288 (constant S_ .f32 0xFF800000#32))

/-- The maxima. -/
def xV : Vec F S2x2048x4x16 .f32 :=
  Host.reduce FloatOps.maximumf (sV m c) (constant S_ .f32 0xFF800000#32) reducesTo_S2x2048x4x16x12288_S2x2048x4x16_d4 h_S_

/-- The maxima, rounded up. -/
def mV : Vec F S2x2048x4x16 .f32 :=
  Host.ceil (xV m c)

/-- The weights. -/
def pV : Vec F S2x2048x4x16x12288 .f32 :=
  Host.powf (broadcastInDim S2x2048x4x16x12288 ![] bcast_S_S2x2048x4x16x12288 (constant S_ .f32 0x40000000#32)) (subf (sV m c) (broadcastInDim S2x2048x4x16x12288 ![0, 1, 2, 3, 4] bcast_S2x2048x4x16x1_S2x2048x4x16x12288_0_1_2_3_4 (broadcastInDim S2x2048x4x16x1 ![0, 1, 2, 3] bcast_S2x2048x4x16_S2x2048x4x16x1_0_1_2_3 (mV m c))))

/-- The sums of the weights. -/
def lV : Vec F S2x2048x4x16 .f32 :=
  Host.reduceAdd (pV m c) (constant S_ .f32 0x00000000#32) reducesTo_S2x2048x4x16x12288_S2x2048x4x16_d4 h_S_

/-- The attention output. -/
theorem v50_eq : res_main_v50 m c = shapeCast _ (Host.divf (transpose S2x2048x4x16x128 [0, 3, 1, 4, 2] (Host.dotGeneral dot_S2x4x128x12288_S2x2048x4x16x12288_S2x4x128x2048x16_3_4_2_13_01_02 none (vR m c) (truncf .bf16 (pV m c) bitsLt_bf16_f32)) transposes_S2x4x128x2048x16_S2x2048x4x16x128_0_3_1_4_2) (broadcastInDim S2x2048x4x16x128 ![0, 1, 2, 3, 4] bcast_S2x2048x4x16x1_S2x2048x4x16x128_0_1_2_3_4 (broadcastInDim S2x2048x4x16x1 ![0, 1, 2, 3] bcast_S2x2048x4x16_S2x2048x4x16x1_0_1_2_3 (lV m c)))) shapeCasts_S2x2048x4x16x128_S2x2048x8192 := by
  unfold res_main_v50
  rfl

/-- The logarithms of the sums. -/
theorem v51_eq : res_main_v51 m c = shapeCast _ (transpose S2x64x2048 [0, 2, 1] (shapeCast _ (subf (mulf (broadcastInDim S2x2048x4x16 ![] bcast_S_S2x2048x4x16 (constant S_ .f32 0x3F317218#32)) (addf (mV m c) (Host.divf (Host.log (lV m c)) (Host.log (broadcastInDim S2x2048x4x16 ![] bcast_S_S2x2048x4x16 (constant S_ .f32 0x40000000#32)))))) (broadcastInDim S2x2048x4x16 ![0, 1, 2, 3] bcast_S2x2048x1x1_S2x2048x4x16_0_1_2_3 (broadcastInDim S2x2048x1x1 ![0, 1] bcast_S2x2048_S2x2048x1x1_0_1 (Host.log (sitofp .f32 (addi (addi (broadcastInDim S2x2048 ![0, 1] bcast_S2x1_S2x2048_0_1 (broadcastInDim S2x1 ![0] bcast_S2_S2x1_0 (pR m c))) (broadcastInDim S2x2048 ![0, 1] bcast_S1x2048_S2x2048_0_1 (broadcastInDim S1x2048 ![1] bcast_S2048_S1x2048_1 (iotaInDim S2048 32 0)))) (broadcastInDim S2x2048 ![] bcast_S_S2x2048 (constantI S_ 32 1#32)))))))) shapeCasts_S2x2048x4x16_S2x2048x64) transposes_S2x2048x64_S2x64x2048_0_2_1) shapeCasts_S2x64x2048_S2x64x1x2048 := by
  unfold res_main_v51
  rfl

end

/-! ## Each step at an index -/

theorem ceil_at (u : Vec Ideal S2x2048x4x16 .f32) (b : Fin 2) (r : Fin 2048) (g : Fin 4) (q : Fin 16) :
    (Host.ceil (F := Ideal) (φ := .f32) u : Vec Ideal S2x2048x4x16 .f32) (ix4 b r g q) = Ideal.liftRound Int.ceil (u (ix4 b r g q)) := by
  pointwise

theorem max_at (s : Vec Ideal S2x2048x4x16x12288 .f32) (b : Fin 2) (r : Fin 2048) (g : Fin 4) (q : Fin 16) :
    Host.reduce (FloatOps.maximumf (F := Ideal)) s (constant (F := Ideal) S_ .f32 0xFF800000#32) reducesTo_S2x2048x4x16x12288_S2x2048x4x16_d4 h_S_ (ix4 b r g q) =
      Finset.fold max (Ideal.ofBits .f32 0xFF800000#32) (fun x => s (ix5 b r g q x)) Finset.univ := by
  pointwise

theorem pow_at (s : Vec Ideal S2x2048x4x16x12288 .f32) (mx : Vec Ideal S2x2048x4x16 .f32) (b : Fin 2) (r : Fin 2048) (g : Fin 4) (q : Fin 16) (t : Fin 12288) :
    Host.powf (broadcastInDim S2x2048x4x16x12288 ![] bcast_S_S2x2048x4x16x12288 (constant (F := Ideal) S_ .f32 0x40000000#32)) (subf s (broadcastInDim S2x2048x4x16x12288 ![0, 1, 2, 3, 4] bcast_S2x2048x4x16x1_S2x2048x4x16x12288_0_1_2_3_4 (broadcastInDim S2x2048x4x16x1 ![0, 1, 2, 3] bcast_S2x2048x4x16_S2x2048x4x16x1_0_1_2_3 mx))) (ix5 b r g q t) =
      Ideal.pow (Ideal.ofBits .f32 0x40000000#32) (s (ix5 b r g q t) - mx (ix4 b r g q)) := by
  pointwise

theorem sum_at (p : Vec Ideal S2x2048x4x16x12288 .f32) (b : Fin 2) (r : Fin 2048) (g : Fin 4) (q : Fin 16) :
    Host.reduceAdd (F := Ideal) p (constant (F := Ideal) S_ .f32 0x00000000#32) reducesTo_S2x2048x4x16x12288_S2x2048x4x16_d4 h_S_ (ix4 b r g q) = ∑ x, p (ix5 b r g q x) := by
  pointwise

theorem out_at (p : Vec Ideal S2x2048x4x16x12288 .f32) (l : Vec Ideal S2x2048x4x16 .f32) (v : Vec Ideal S2x4x128x12288 .bf16) (b : Fin 2) (r : Fin 2048) (h : Fin 8192) :
    shapeCast S2x2048x8192 (Host.divf (transpose S2x2048x4x16x128 [0, 3, 1, 4, 2] (Host.dotGeneral (F := Ideal) (φ₁ := .f32) (φ₂ := .bf16) dot_S2x4x128x12288_S2x2048x4x16x12288_S2x4x128x2048x16_3_4_2_13_01_02 none v (truncf (F := Ideal) .bf16 p bitsLt_bf16_f32)) transposes_S2x4x128x2048x16_S2x2048x4x16x128_0_3_1_4_2) (broadcastInDim S2x2048x4x16x128 ![0, 1, 2, 3, 4] bcast_S2x2048x4x16x1_S2x2048x4x16x128_0_1_2_3_4 (broadcastInDim S2x2048x4x16x1 ![0, 1, 2, 3] bcast_S2x2048x4x16_S2x2048x4x16x1_0_1_2_3 l))) shapeCasts_S2x2048x4x16x128_S2x2048x8192 (ix3 b r h) =
      Ideal.div (∑ x, v (ix4 b ⟨h.val / 2048, by omega⟩ ⟨h.val % 128, by omega⟩ x) * p (ix5 b r ⟨h.val / 2048, by omega⟩ ⟨h.val / 128 % 16, by omega⟩ x))
        (l (ix4 b r ⟨h.val / 2048, by omega⟩ ⟨h.val / 128 % 16, by omega⟩)) := by
  pointwise

theorem lse_at (mx l : Vec Ideal S2x2048x4x16 .f32) (w : IVec S2 32) (b : Fin 2) (r : Fin 2048) (h : Fin 64) :
    shapeCast S2x64x1x2048 (transpose S2x64x2048 [0, 2, 1] (shapeCast S2x2048x64 (subf (mulf (broadcastInDim S2x2048x4x16 ![] bcast_S_S2x2048x4x16 (constant (F := Ideal) S_ .f32 0x3F317218#32)) (addf mx (Host.divf (Host.log l) (Host.log (broadcastInDim S2x2048x4x16 ![] bcast_S_S2x2048x4x16 (constant (F := Ideal) S_ .f32 0x40000000#32)))))) (broadcastInDim S2x2048x4x16 ![0, 1, 2, 3] bcast_S2x2048x1x1_S2x2048x4x16_0_1_2_3 (broadcastInDim S2x2048x1x1 ![0, 1] bcast_S2x2048_S2x2048x1x1_0_1 (Host.log (sitofp (F := Ideal) .f32 (addi (addi (broadcastInDim S2x2048 ![0, 1] bcast_S2x1_S2x2048_0_1 (broadcastInDim S2x1 ![0] bcast_S2_S2x1_0 w)) (broadcastInDim S2x2048 ![0, 1] bcast_S1x2048_S2x2048_0_1 (broadcastInDim S1x2048 ![1] bcast_S2048_S1x2048_1 (iotaInDim S2048 32 0)))) (broadcastInDim S2x2048 ![] bcast_S_S2x2048 (constantI S_ 32 1#32)))))))) shapeCasts_S2x2048x4x16_S2x2048x64) transposes_S2x2048x64_S2x64x2048_0_2_1) shapeCasts_S2x64x2048_S2x64x1x2048 (ix4 b h (0 : Fin 1) r) =
      KernelIdeal.Value.lse (IntOp.addi (IntOp.addi (w (ix1 b)) (BitVec.ofNat 32 r.val)) 1#32)
        (l (ix4 b r ⟨h.val / 16, by omega⟩ ⟨h.val % 16, by omega⟩)) (mx (ix4 b r ⟨h.val / 16, by omega⟩ ⟨h.val % 16, by omega⟩)) := by
  unfold KernelIdeal.Value.lse
  pointwise

variable (m : (ℓ : Loc nD τ sig) → Buf (Elt Ideal) ℓ) (c : Dev nD)

theorem sV_apply (b : Fin 2) (r : Fin 2048) (g : Fin 4) (q : Fin 16) (t : Fin 12288) :
    sV m c (ix5 b r g q t) =
      Scalar.select (IntOp.cmpi .sle (BitVec.ofNat 32 t.val) (IntOp.addi (pR m c (ix1 b)) (BitVec.ofNat 32 r.val)))
        ((∑ x : Fin 128, kR m c (ix4 b g t x) * qR m c (ix3 ⟨g.val * 16 + q.val, by omega⟩ x ⟨b.val * 2048 + r.val, by omega⟩)) *
          Ideal.ofBits .f32 0x3E0293EE#32)
        (Ideal.ofBits .f32 0xFF800000#32) := by
  pointwise [sV]

theorem visible (w : BitVec 32) (hw : w.toNat ≤ 10240) (r : Fin 2048) (t : Fin 12288) (a b : EReal) :
    Scalar.select (IntOp.cmpi .sle (BitVec.ofNat 32 t.val) (IntOp.addi w (BitVec.ofNat 32 r.val))) a b =
      if t.val ≤ w.toNat + r.val then a else b := by
  have hr := r.isLt
  have ht := t.isLt
  have e1 : (BitVec.ofNat 32 t.val).toInt = (t.val : Int) := by
    rw [BitVec.toInt_eq_toNat_of_lt] <;> simp only [BitVec.toNat_ofNat] <;> omega
  have e2 : (IntOp.addi w (BitVec.ofNat 32 r.val)).toInt = ((w.toNat + r.val : Nat) : Int) := by
    rw [BitVec.toInt_eq_toNat_of_lt] <;> simp only [IntOp.addi, BitVec.toNat_add, BitVec.toNat_ofNat] <;> omega
  have e : IntOp.cmpi .sle (BitVec.ofNat 32 t.val) (IntOp.addi w (BitVec.ofNat 32 r.val)) = BitVec.ofBool (decide (t.val ≤ w.toNat + r.val)) := by
    simp only [IntOp.cmpi, BitVec.sle, e1, e2]
    norm_cast
  rw [e]
  by_cases h : t.val ≤ w.toNat + r.val <;> simp [h, Scalar.select]

/-! ## The results are the kernel's -/

section
variable (mK : (ℓ : Loc KernelIdeal.nD KernelIdeal.τ KernelIdeal.sig) → Buf (Elt Ideal) ℓ)
  (hP : Cert.Pre_KernelIdeal mK) (cK : Dev KernelIdeal.nD)
  (h0 : ∀ b, pR m c (ix1 b) = KernelIdeal.Value.startB mK cK b) (h1 : qR m c = KernelIdeal.Value.qA mK cK)
  (h2 : kR m c = KernelIdeal.Value.kA mK cK) (h3 : vR m c = KernelIdeal.Value.vA mK cK)

open KernelIdeal.Value (seenA scoreA valA outE lseE outG lseG startB grp qCol)

/-- The head of a group and a number within it. -/
def hd (g : Fin 4) (q : Fin 16) : Fin 64 := ⟨g.val * 16 + q.val, by omega⟩

theorem grp_hd (g : Fin 4) (q : Fin 16) : grp (hd g q) = g := Fin.ext (by show (g.val * 16 + q.val) / 16 = g.val; omega)

include hP h0 h1 h2 in
theorem sV_seen (b : Fin 2) (r : Fin 2048) (g : Fin 4) (q : Fin 16) (t : Fin 12288) :
    sV m c (ix5 b r g q t) = seenA mK cK b (hd g q) r t.val := by
  rw [sV_apply, h0, visible (startB mK cK b) (KernelIdeal.Value.start_le mK hP cK _), KernelIdeal.Value.minus_inf, h1, h2]
  unfold seenA scoreA
  rw [grp_hd]
  have et : (⟨t.val % 12288, Nat.mod_lt _ (by decide)⟩ : Fin 12288) = t := Fin.ext (Nat.mod_eq_of_lt t.isLt)
  have er : (⟨b.val * 2048 + r.val, by omega⟩ : Fin 4096) = qCol b r := Fin.ext (by show b.val * 2048 + r.val = 2048 * b.val + r.val; omega)
  rw [et, er]
  rfl

include hP h0 h1 h2 in
theorem mV_mx (b : Fin 2) (r : Fin 2048) (g : Fin 4) (q : Fin 16) : mV m c (ix4 b r g q) = mx (seenA mK cK b (hd g q) r) 12288 := by
  unfold mV
  rw [ceil_at]
  refine congrArg (Ideal.liftRound Int.ceil) ?_
  unfold xV
  rw [max_at, KernelIdeal.Value.minus_inf]
  rw [show (fun x : Fin 12288 => sV m c (ix5 b r g q x)) = fun x => seenA mK cK b (hd g q) r x.val from funext fun x => sV_seen m c mK hP cK h0 h1 h2 b r g q x]
  generalize seenA mK cK b (hd g q) r = S
  show _ = (Finset.range 12288).sup S
  rw [fold_sup]

theorem two : Ideal.ofBits .f32 0x40000000#32 = ((2 : ℝ) : EReal) := by
  simp [Ideal.ofBits, Ideal.ieee]
  rw [← EReal.coe_mul]
  norm_num

include hP h0 h1 h2 in
theorem pV_exp (b : Fin 2) (r : Fin 2048) (g : Fin 4) (q : Fin 16) (t : Fin 12288) :
    pV m c (ix5 b r g q t) = Ideal.exp2 (seenA mK cK b (hd g q) r t.val - mx (seenA mK cK b (hd g q) r) 12288) := by
  unfold pV
  rw [pow_at, two, pow_two, sV_seen m c mK hP cK h0 h1 h2, mV_mx m c mK hP cK h0 h1 h2]

include hP h0 h1 h2 in
theorem lV_sm (b : Fin 2) (r : Fin 2048) (g : Fin 4) (q : Fin 16) : lV m c (ix4 b r g q) = sm (seenA mK cK b (hd g q) r) 12288 := by
  unfold lV
  rw [sum_at, Finset.sum_congr rfl fun x _ => pV_exp m c mK hP cK h0 h1 h2 b r g q x]
  exact Fin.sum_univ_eq_sum_range (fun t => Ideal.exp2 (seenA mK cK b (hd g q) r t - mx (seenA mK cK b (hd g q) r) 12288)) 12288

include hP h0 h1 h2 h3 in
theorem out_eq : (res_main_v50 m c : Vec Ideal S2x2048x8192 .f32) = outG mK cK := by
  funext j
  idx_vars j
  rw [v50_eq]
  refine (out_at _ _ _ j0 j1 j2).trans ?_
  have hg : hd ⟨j2.val / 2048, by omega⟩ ⟨j2.val / 128 % 16, by omega⟩ = ⟨j2.val / 128, by omega⟩ :=
    Fin.ext (by show j2.val / 2048 * 16 + j2.val / 128 % 16 = j2.val / 128; omega)
  rw [lV_sm m c mK hP cK h0 h1 h2, hg, h3]
  refine congrArg (Ideal.div · _) ?_
  rw [Finset.sum_congr rfl fun x _ => congrArg (KernelIdeal.Value.vA mK cK _ * ·) (pV_exp m c mK hP cK h0 h1 h2 j0 j1 ⟨j2.val / 2048, by omega⟩ ⟨j2.val / 128 % 16, by omega⟩ x), hg]
  refine Eq.trans ?_ (Fin.sum_univ_eq_sum_range (fun t => valA mK cK j0 ⟨j2.val / 128, by omega⟩ ⟨j2.val % 128, Nat.mod_lt _ (by decide)⟩ t *
    Ideal.exp2 (seenA mK cK j0 ⟨j2.val / 128, by omega⟩ j1 t - mx (seenA mK cK j0 ⟨j2.val / 128, by omega⟩ j1) 12288)) 12288)
  refine Finset.sum_congr rfl fun x _ => congrArg (· * _) (congrArg (KernelIdeal.Value.vA mK cK) (congr (congr (congrArg (ix4 j0) (Fin.ext ?_)) rfl) (Fin.ext ?_)))
  · show j2.val / 2048 = j2.val / 128 / 16
    omega
  · exact (Nat.mod_eq_of_lt x.isLt).symm

include hP h0 h1 h2 in
theorem lse_eq : (res_main_v51 m c : Vec Ideal S2x64x1x2048 .f32) = lseG mK cK := by
  funext j
  idx_vars j
  obtain rfl : j2 = 0 := Subsingleton.elim _ _
  rw [v51_eq]
  refine (lse_at _ _ _ j0 j3 j1).trans ?_
  have hg : hd ⟨j1.val / 16, by omega⟩ ⟨j1.val % 16, by omega⟩ = j1 := Fin.ext (by show j1.val / 16 * 16 + j1.val % 16 = j1.val; omega)
  rw [lV_sm m c mK hP cK h0 h1 h2, mV_mx m c mK hP cK h0 h1 h2, hg, h0]
  rfl
end

end Cert.ReferenceIdeal.Value

end
-- ==== Proof.NormIdealRun.lean ====
/- The run of this program with its result arrays named by the windows that write them. -/
module

public import proofs.«01_k».proof.Proof.Gen.NormIdeal.Frame
public import Idealize.ShloMosaic.Lib.Pipeline.Value

@[expose] public section

noncomputable section

namespace Cert.NormIdeal.Value

open Cert.NormIdeal Cert.NormIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v2_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v2_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v2_2) = (dats m 0 c).arrAt 4 cfg0.N :=
  (h c).1 4

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The frame run with each output array after the run NAMED,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 2 cfg0.N
      ∧ r.2.mem ((c : Thread nD τ).loc main_v2_1) = (dats m 0 c).arrAt 3 cfg0.N
      ∧ r.2.mem ((c : Thread nD τ).loc main_v2_2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      post4 m r h c,
      kept_main_arg0 m r h c,
      kept_main_arg1 m r h c⟩)
    (run_main m ρ)

end Cert.NormIdeal.Value

end
-- ==== Proof.Quant.lean ====
/- Rows as eight-bit codes of one power of two scale: the exponent, the scale and the codes of a row, and what the
   normalisation and the output projection make of them, as functions of their arrays alone. -/
module

public import Idealize.ShloMosaic.Lib.Pointwise

@[expose] public section

noncomputable section

namespace Cert.Quant

open Idealize.ShloMosaic

/-- The largest magnitude of a row. -/
def amax {n : Nat} (f : Fin n → EReal) : EReal :=
  Finset.univ.fold max (Ideal.ofBits .f32 0xFF800000#32) fun k => FloatOps.absf (F := Ideal) (φ := .f32) (f k)

/-- The exponent of the least power of two above `a / 448`. -/
def expo (a : EReal) : EReal :=
  Ideal.liftRound Int.floor (Ideal.div (Ideal.log (a * Ideal.ofBits .f32 0x3B124925#32)) (Ideal.log (Ideal.ofBits .f32 0x40000000#32))) + 1

/-- The same, 0 for a row of zeros. -/
def expoZ (a : EReal) : EReal := if a = 0 then 0 else expo a

/-- The scale of a row whose largest magnitude is `a`. -/
def scale (a : EReal) : EReal := Ideal.exp2 (expoZ a)

/-- The code of `v` in a row whose largest magnitude is `a`. -/
def code (v a : EReal) : EReal :=
  min (Ideal.ofBits .f32 0x43E00000#32) (max (Ideal.ofBits .f32 0xC3E00000#32) (v * Ideal.exp2 (0 - expoZ a)))

theorem exp2_zero : Ideal.exp2 0 = 1 := by
  show ((Real.rpow 2 0 : ℝ) : EReal) = 1
  rw [show Real.rpow 2 0 = 1 from Real.rpow_zero 2]; rfl

theorem scale_of (a : EReal) : (if a = 0 then 1 else Ideal.exp2 (expo a)) = scale a := by
  unfold scale expoZ
  split
  · exact exp2_zero.symm
  · rfl

theorem inv_of (a : EReal) : (if a = 0 then 1 else Ideal.exp2 (0 - expo a)) = Ideal.exp2 (0 - expoZ a) := by
  unfold expoZ
  split
  · rw [sub_zero, exp2_zero]
  · rfl

/-! ## The normalisation -/

/-- Row `i`, divided by its root mean square and weighted. -/
def normE (x : Fin 4096 → Fin 4096 → EReal) (g : Fin 4096 → EReal) (i k : Fin 4096) : EReal :=
  x i k * Ideal.rsqrt (Ideal.div (∑ l, x i l * x i l) (Ideal.ofBits .f32 0x45800000#32) + Ideal.ofBits .f32 0x358637BD#32) * g k

/-- The scale of the normalised row `i`. -/
def normScale (x : Fin 4096 → Fin 4096 → EReal) (g : Fin 4096 → EReal) (i : Fin 4096) : EReal := scale (amax (normE x g i))

/-- The codes of the normalised row `i`. -/
def normCode (x : Fin 4096 → Fin 4096 → EReal) (g : Fin 4096 → EReal) (i k : Fin 4096) : EReal := code (normE x g i k) (amax (normE x g i))

/-! ## The output projection -/

/-- The codes of row `i` of the attention output. -/
def codesE (o : Fin 4096 → Fin 8192 → EReal) (i : Fin 4096) (k : Fin 8192) : EReal := code (o i k) (amax (o i))

/-- The product of the codes with the weight codes, scaled, added to the residual. -/
def outE (o : Fin 4096 → Fin 8192 → EReal) (x : Fin 4096 → Fin 4096 → EReal) (w : Fin 8192 → Fin 4096 → EReal)
    (s : Fin 4096 → EReal) (i j : Fin 4096) : EReal :=
  x i j + (∑ k, codesE o i k * w k j) * scale (amax (o i)) * s j

end Cert.Quant

end
-- ==== Proof.NormKernel.lean ====
/- The normalisation run by blocks of rows: each element of its three result arrays, as a function of the arguments. -/
module

public import proofs.«01_k».proof.Proof.NormIdealRun
public import proofs.«01_k».proof.Proof.Quant
public import Idealize.ShloMosaic.Lib.Pipeline.ValueKit
public import Idealize.ShloMosaic.Lib.Pipeline.Covers
public import Idealize.ShloMosaic.Lib.Claim

@[expose] public section

set_option maxRecDepth 16384

noncomputable section

namespace Cert.NormIdeal.Value

open Cert.NormIdeal Cert.NormIdeal.Gen Cert.Quant
open Idealize.ShloMosaic Idealize.ShloMosaic.TcCoe Idealize.SL.Sem
open Idealize.ShloMosaic.Pipeline (Dat)
open Facts

/-! ## One block of rows -/

section
variable (x0 : Vec Ideal S256x4096 .bf16) (x1 : Vec Ideal S1x4096 .f32) (h : FVec Ideal S256x4096 .f32) (r : Fin 256)

/-- Row `r` of the normalised block. -/
def hrow : Fin 4096 → EReal := fun k => h (ix2 r k)

/-- The sum of the squares of each row. -/
def rowSq : FVec Ideal S256 .f32 :=
  multiReduction .add [1] S256 (mulf (extf .f32 (shapeCast S256x4096 x0 shapeCasts_S256x4096_S256x4096 : FVec Ideal S256x4096 .bf16) bitsLt_bf16_f32)
    (extf .f32 (shapeCast S256x4096 x0 shapeCasts_S256x4096_S256x4096 : FVec Ideal S256x4096 .bf16) bitsLt_bf16_f32)) 0x00000000#32 reduces_S256x4096_S256 (.inl rfl) rfl

theorem sq_at : rowSq x0 (ix1 r) = (∑ k : Fin 4096, x0 (ix2 r k) * x0 (ix2 r k) : EReal) := by
  pointwise [rowSq] <;> rfl

theorem col_at (v : FVec Ideal S256 .f32) : (shapeCast S256x1 v shapeCasts_S256_S256x1 : FVec Ideal S256x1 .f32) (ix2 r (0 : Fin 1)) = v (ix1 r) := by
  pointwise [] <;> rfl

theorem norm_gen (s : FVec Ideal S256x1 .f32) (k : Fin 4096) :
    (mulf (mulf (extf .f32 (shapeCast S256x4096 x0 shapeCasts_S256x4096_S256x4096 : FVec Ideal S256x4096 .bf16) bitsLt_bf16_f32)
      (broadcastTo S256x4096 (rsqrt (addf (divf s (broadcast S256x1 (Scalar.ofBits .f32 0x45800000#32))) (broadcast S256x1 (Scalar.ofBits .f32 0x358637BD#32)))) broadcasts_S256x1_S256x4096))
      (broadcastTo S256x4096 (shapeCast S1x4096 x1 shapeCasts_S1x4096_S1x4096) broadcasts_S1x4096_S256x4096) : FVec Ideal S256x4096 .f32) (ix2 r k) =
    (x0 (ix2 r k) * Ideal.rsqrt (Ideal.div (s (ix2 r (0 : Fin 1))) (Ideal.ofBits .f32 0x45800000#32) + Ideal.ofBits .f32 0x358637BD#32) * x1 (ix2 (0 : Fin 1) k) : EReal) := by
  pointwise [] <;> rfl

theorem norm_at (k : Fin 4096) : k0_pay3 (F := Ideal) x0 x1 (ix2 r k) =
    (x0 (ix2 r k) * Ideal.rsqrt (Ideal.div (∑ l : Fin 4096, x0 (ix2 r l) * x0 (ix2 r l)) (Ideal.ofBits .f32 0x45800000#32) + Ideal.ofBits .f32 0x358637BD#32) * x1 (ix2 (0 : Fin 1) k) : EReal) := by
  refine (norm_gen x0 x1 r (shapeCast S256x1 (rowSq x0) shapeCasts_S256_S256x1) k).trans ?_
  rw [col_at, sq_at]

/-- The largest magnitude of each row. -/
def rowMax : FVec Ideal S256 .f32 := multiReduction .maximumf [1] S256 (absf h) 0xFF800000#32 reduces_S256x4096_S256 (.inl rfl) rfl

theorem red_at : rowMax h (ix1 r) = amax (hrow h r) := by
  pointwise [rowMax] <;> rfl

theorem max_eq : k0_pay4 (F := Ideal) x0 x1 = shapeCast S256x1 (rowMax (k0_pay3 x0 x1)) shapeCasts_S256_S256x1 := rfl

theorem amax_at : k0_pay4 (F := Ideal) x0 x1 (ix2 r (0 : Fin 1)) = amax (hrow (k0_pay3 x0 x1) r) := by
  rw [max_eq, col_at, red_at]

theorem expo_gen (a : FVec Ideal S256x1 .f32) :
    (addf (floor (divf (log (mulf a (broadcast S256x1 (Scalar.ofBits .f32 0x3B124925#32)))) (log (broadcast S256x1 (Scalar.ofBits .f32 0x40000000#32)))))
      (broadcast S256x1 (Scalar.ofBits .f32 0x3F800000#32)) : FVec Ideal S256x1 .f32) (ix2 r (0 : Fin 1)) = expo (a (ix2 r (0 : Fin 1))) := by
  pointwise [] <;> rfl

theorem expo_at : k0_pay5 (F := Ideal) x0 x1 (ix2 r (0 : Fin 1)) = expo (amax (hrow (k0_pay3 x0 x1) r)) :=
  (expo_gen r (k0_pay4 x0 x1)).trans (congrArg expo (amax_at x0 x1 r))

theorem scale_gen (a e : FVec Ideal S256x1 .f32) :
    (select (cmpf .oeq a (broadcast S256x1 (Scalar.ofBits .f32 0x00000000#32))) (broadcast S256x1 (Scalar.ofBits .f32 0x3F800000#32)) (exp2 e) :
      FVec Ideal S256x1 .f32) (ix2 r (0 : Fin 1)) = if a (ix2 r (0 : Fin 1)) = (0 : EReal) then (1 : EReal) else Ideal.exp2 (e (ix2 r (0 : Fin 1))) := by
  pointwise [] <;> rfl

theorem scale_at : k0_pay7 (F := Ideal) x0 x1 (ix2 r (0 : Fin 1)) = scale (amax (hrow (k0_pay3 x0 x1) r)) := by
  refine (scale_gen r (k0_pay4 x0 x1) (k0_pay5 x0 x1)).trans ?_
  rw [amax_at, expo_at]
  exact scale_of _

theorem code_gen (a e : FVec Ideal S256x1 .f32) (k : Fin 4096) :
    (truncf .fp8e4m3 (minimumf (broadcast S256x4096 (Scalar.ofBits .f32 0x43E00000#32)) (maximumf (broadcast S256x4096 (Scalar.ofBits .f32 0xC3E00000#32))
      (mulf h (broadcastTo S256x4096 (select (cmpf .oeq a (broadcast S256x1 (Scalar.ofBits .f32 0x0000000#32))) (broadcast S256x1 (Scalar.ofBits .f32 0x3F800000#32))
        (exp2 (subf (broadcast S256x1 (Scalar.ofBits .f32 0x0000000#32)) e))) broadcasts_S256x1_S256x4096)))) bitsLt_fp8e4m3_f32 : FVec Ideal S256x4096 .fp8e4m3) (ix2 r k) =
    min (Ideal.ofBits .f32 0x43E00000#32) (max (Ideal.ofBits .f32 0xC3E00000#32)
      (hrow h r k * if a (ix2 r (0 : Fin 1)) = (0 : EReal) then (1 : EReal) else Ideal.exp2 (0 - e (ix2 r (0 : Fin 1))))) := by
  pointwise [] <;> rfl

theorem code_at (k : Fin 4096) : k0_pay1 (F := Ideal) (k0_pay8 x0 x1) (Scalar.ofBits .f32 0x43E00000#32) k0_pay9 (ix2 r k) =
    code (hrow (k0_pay3 x0 x1) r k) (amax (hrow (k0_pay3 x0 x1) r)) := by
  refine (code_gen (k0_pay3 x0 x1) r (k0_pay4 x0 x1) (k0_pay5 x0 x1) k).trans ?_
  rw [amax_at, expo_at, inv_of]
  rfl

theorem line_at (v : FVec Ideal S256x1 .f32) : k0_pay2 (F := Ideal) v (ix3 (0 : Fin 1) (0 : Fin 1) r) = v (ix2 r (0 : Fin 1)) := by
  pointwise [k0_pay2] <;> rfl

end

theorem out2_eq (x0 : Vec Ideal S256x4096 .bf16) (x1 : Vec Ideal S1x4096 .f32) :
    out0_2 x0 x1 = k0_pay1 (k0_pay8 x0 x1) (Scalar.ofBits .f32 0x43E00000#32) k0_pay9 := by
  unfold out0_2
  rw [View.canon_cons_unit_lit _ _ _ (by decide), View.ld_unit_lit _ _ (by decide), View.ld_unit_lit _ _ (by decide)]

theorem out3_eq (x0 : Vec Ideal S256x4096 .bf16) (x1 : Vec Ideal S1x4096 .f32) : out0_3 x0 x1 = k0_pay7 x0 x1 := by
  unfold out0_3 k0_pay10
  rw [View.canon_cons_unit_lit _ _ _ (by decide), View.ld_unit_lit _ _ (by decide), View.ld_unit_lit _ _ (by decide)]

theorem out4_eq (x0 : Vec Ideal S256x4096 .bf16) (x1 : Vec Ideal S1x4096 .f32) : out0_4 x0 x1 = k0_pay2 (k0_pay7 x0 x1) := by
  unfold out0_4 k0_pay10
  rw [View.canon_cons_unit_lit _ _ _ (by decide), View.ld_unit_lit _ _ (by decide), View.ld_unit_lit _ _ (by decide)]

/-! ## The arguments, and the blocks read from them -/

section
variable (m : (ℓ : Loc nD τ sig) → Buf (Elt Ideal) ℓ) (c : Dev nD)

/-- The tokens, one to a row. -/
def argX : Fin 4096 → Fin 4096 → EReal := fun i k =>
  (shapeCast S4096x4096 (m ((c : Thread nD τ).loc main_arg0) : Vec Ideal S2x2048x4096 .bf16) shapeCasts_S2x2048x4096_S4096x4096 : Vec Ideal S4096x4096 .bf16) (ix2 i k)
/-- The weight of the normalisation. -/
def argG : Fin 4096 → EReal := fun k => m ((c : Thread nD τ).loc main_arg1) (ix1 k)

/-- The three result arrays. -/
def codesG : Buf (Elt Ideal) ((c : Thread nD τ).loc main_v2_0) := fun (y : S4096x4096.Idx) => normCode (argX m c) (argG m c) (y 0) (y 1)
def colG : Buf (Elt Ideal) ((c : Thread nD τ).loc main_v2_1) := fun (y : S4096x1.Idx) => normScale (argX m c) (argG m c) (y 0)
def linesG : Buf (Elt Ideal) ((c : Thread nD τ).loc main_v2_2) := fun (y : S16x1x256.Idx) =>
  normScale (argX m c) (argG m c) ⟨256 * (y 0).val + (y 2).val, by have h0 : (y 0).val < 16 := (y 0).isLt; have h2 : (y 2).val < 256 := (y 2).isLt; omega⟩

theorem tokens_shaped (i k : Fin 4096) : V m c main_v0 (ix2 i k) = argX m c i k := by
  have e : (V m c main_v0 : Vec Ideal S4096x4096 .bf16) =
      shapeCast S4096x4096 (m ((c : Thread nD τ).loc main_arg0) : Vec Ideal S2x2048x4096 .bf16) shapeCasts_S2x2048x4096_S4096x4096 := by
    entry_read
    rfl
  exact congrFun e _

theorem weight_shaped (k : Fin 4096) : V m c main_v1 (ix2 (0 : Fin 1) k) = argG m c k := by
  have e : (V m c main_v1 : Vec Ideal S1x4096 .f32) = shapeCast S1x4096 (m ((c : Thread nD τ).loc main_arg1) : Vec Ideal S4096 .f32) shapeCasts_S4096_S1x4096 := by
    entry_read
    rfl
  have g : ∀ v : Vec Ideal S4096 .f32, (shapeCast S1x4096 v shapeCasts_S4096_S1x4096 : Vec Ideal S1x4096 .f32) (ix2 (0 : Fin 1) k) = v (ix1 k) := fun v => by
    pointwise []
  exact (congrFun e _).trans (g _)

variable (t : Fin cfg0.N)

theorem i_lt : (grid0.coords t 0).val < 16 := (grid0.coords t 0).isLt

theorem word_val {n : Nat} (h : n < 2 ^ 32) : (BitVec.ofNat 32 n).toNat = n := by
  rw [BitVec.toNat_ofNat]; omega

/-- The row of the array that row `r` of the block of point `t` is. -/
def rowOf (r : Fin 256) : Fin 4096 := ⟨256 * (grid0.coords t 0).val + r.val, by have := i_lt t; have := r.isLt; omega⟩

theorem tr0 : cc0_transform_0 (grid0.coords t) = ![(grid0.coords t 0).val, 0] := by
  unfold cc0_transform_0; dsimp only; rw [word_val (by have := i_lt t; omega)]; rfl
theorem tr2 : cc0_transform_2 (grid0.coords t) = ![(grid0.coords t 0).val, 0] := by
  unfold cc0_transform_2; dsimp only; rw [word_val (by have := i_lt t; omega)]; rfl
theorem tr3 : cc0_transform_3 (grid0.coords t) = ![(grid0.coords t 0).val, 0] := by
  unfold cc0_transform_3; dsimp only; rw [word_val (by have := i_lt t; omega)]; rfl
theorem tr4 : cc0_transform_4 (grid0.coords t) = ![(grid0.coords t 0).val, 0, 0] := by
  unfold cc0_transform_4; dsimp only; rw [word_val (by have := i_lt t; omega)]; rfl
theorem tr1 : cc0_transform_1 (grid0.coords t) = ![0, 0] := rfl

theorem blk0 (r : Fin 256) (k : Fin 4096) : (iblk m c 0 t : Vec Ideal S256x4096 .bf16) (ix2 r k) = argX m c (rowOf t r) k := by
  refine Eq.trans ?_ (tokens_shaped m c (rowOf t r) k)
  unfold iblk
  refine congrArg (V m c main_v0) (funext fun a => Fin.ext ?_)
  have e := tr0 t
  match a with
  | ⟨0, _⟩ => change cc0_transform_0 (grid0.coords t) 0 * 256 + 1 * r.val = 256 * (grid0.coords t 0).val + r.val; rw [e]; simp; omega
  | ⟨1, _⟩ => change cc0_transform_0 (grid0.coords t) 1 * 4096 + 1 * k.val = k.val; rw [e]; simp

theorem blk1 (j : Fin 4096) : (iblk m c 1 t : Vec Ideal S1x4096 .f32) (ix2 (0 : Fin 1) j) = argG m c j := by
  refine Eq.trans ?_ (weight_shaped m c j)
  unfold iblk
  refine congrArg (V m c main_v1) (funext fun a => Fin.ext ?_)
  have e := tr1 t
  match a with
  | ⟨0, _⟩ => change cc0_transform_1 (grid0.coords t) 0 * 1 + 1 * 0 = 0; rw [e]; simp
  | ⟨1, _⟩ => change cc0_transform_1 (grid0.coords t) 1 * 4096 + 1 * j.val = j.val; rw [e]; simp

theorem hblk (r : Fin 256) : hrow (k0_pay3 (F := Ideal) (iblk m c 0 t) (iblk m c 1 t)) r = normE (argX m c) (argG m c) (rowOf t r) := by
  funext k
  unfold hrow normE
  rw [norm_at, blk0, blk1]
  refine congrArg (fun z : EReal => argX m c (rowOf t r) k * Ideal.rsqrt (Ideal.div z (Ideal.ofBits .f32 0x45800000#32) + Ideal.ofBits .f32 0x358637BD#32) * argG m c k)
    (Finset.sum_congr rfl fun l _ => ?_)
  rw [blk0]

/-! ## What each point writes -/

theorem point2 (r : Fin 256) (k : Fin 4096) : out0_2 (iblk m c 0 t) (iblk m c 1 t) (ix2 r k) = normCode (argX m c) (argG m c) (rowOf t r) k := by
  rw [out2_eq, code_at, hblk]
  rfl

theorem point3 (r : Fin 256) : out0_3 (iblk m c 0 t) (iblk m c 1 t) (ix2 r (0 : Fin 1)) = normScale (argX m c) (argG m c) (rowOf t r) := by
  rw [out3_eq, scale_at, hblk]
  rfl

theorem point4 (r : Fin 256) : out0_4 (iblk m c 0 t) (iblk m c 1 t) (ix3 (0 : Fin 1) (0 : Fin 1) r) = normScale (argX m c) (argG m c) (rowOf t r) := by
  rw [out4_eq, line_at, scale_at, hblk]
  rfl
end

/-! ## The arrays after the run -/

theorem covers2 : (cfg0.win 2).Covers := by
  refine ⟨fun (a : Fin 2) => match a with | ⟨0, _⟩ => (by decide : 0 < 256) | ⟨1, _⟩ => (by decide : 0 < 4096), fun (β : (a : Fin 2) → Fin ((cfg0.win 2).nblk a)) => ?_⟩
  have h0 : (β 0).val < 16 := (show (β 0).val < (4096 + 256 - 1) / 256 from (β 0).isLt)
  have h1 : (β 1).val < 1 := (show (β 1).val < (4096 + 4096 - 1) / 4096 from (β 1).isLt)
  let x : grid0.Coords := fun a => match a with
    | ⟨0, _⟩ => (⟨(β 0).val, h0⟩ : Fin 16)
  obtain ⟨t, ht⟩ := Pipeline.Grid.coords_surjective grid0 x
  refine ⟨t, flush0_2 t, fun a => ⟨?_, .inl rfl⟩⟩
  have e := tr2 t
  have e' : cc0_transform_2 (grid0.coords t) = ![(β 0).val, 0] := by rw [e, ht]
  match a with
  | ⟨0, _⟩ => exact congrFun e' 0
  | ⟨1, _⟩ => exact (congrFun e' 1).trans (by show 0 = (β 1).val; omega)

theorem covers3 : (cfg0.win 3).Covers := by
  refine ⟨fun (a : Fin 2) => match a with | ⟨0, _⟩ => (by decide : 0 < 256) | ⟨1, _⟩ => (by decide : 0 < 1), fun (β : (a : Fin 2) → Fin ((cfg0.win 3).nblk a)) => ?_⟩
  have h0 : (β 0).val < 16 := (show (β 0).val < (4096 + 256 - 1) / 256 from (β 0).isLt)
  have h1 : (β 1).val < 1 := (show (β 1).val < (1 + 1 - 1) / 1 from (β 1).isLt)
  let x : grid0.Coords := fun a => match a with
    | ⟨0, _⟩ => (⟨(β 0).val, h0⟩ : Fin 16)
  obtain ⟨t, ht⟩ := Pipeline.Grid.coords_surjective grid0 x
  refine ⟨t, flush0_3 t, fun a => ⟨?_, .inl rfl⟩⟩
  have e := tr3 t
  have e' : cc0_transform_3 (grid0.coords t) = ![(β 0).val, 0] := by rw [e, ht]
  match a with
  | ⟨0, _⟩ => exact congrFun e' 0
  | ⟨1, _⟩ => exact (congrFun e' 1).trans (by show 0 = (β 1).val; omega)

theorem covers4 : (cfg0.win 4).Covers := by
  refine ⟨fun (a : Fin 3) => match a with | ⟨0, _⟩ => (by decide : 0 < 1) | ⟨1, _⟩ => (by decide : 0 < 1) | ⟨2, _⟩ => (by decide : 0 < 256), fun (β : (a : Fin 3) → Fin ((cfg0.win 4).nblk a)) => ?_⟩
  have h0 : (β 0).val < 16 := (show (β 0).val < (16 + 1 - 1) / 1 from (β 0).isLt)
  have h1 : (β 1).val < 1 := (show (β 1).val < (1 + 1 - 1) / 1 from (β 1).isLt)
  have h2 : (β 2).val < 1 := (show (β 2).val < (256 + 256 - 1) / 256 from (β 2).isLt)
  let x : grid0.Coords := fun a => match a with
    | ⟨0, _⟩ => (⟨(β 0).val, h0⟩ : Fin 16)
  obtain ⟨t, ht⟩ := Pipeline.Grid.coords_surjective grid0 x
  refine ⟨t, flush0_4 t, fun a => ⟨?_, .inl rfl⟩⟩
  have e := tr4 t
  have e' : cc0_transform_4 (grid0.coords t) = ![(β 0).val, 0, 0] := by rw [e, ht]
  match a with
  | ⟨0, _⟩ => exact congrFun e' 0
  | ⟨1, _⟩ => exact (congrFun e' 1).trans (by show 0 = (β 1).val; omega)
  | ⟨2, _⟩ => exact (congrFun e' 2).trans (by show 0 = (β 2).val; omega)

end Cert.NormIdeal.Value

end
-- ==== Proof.NormFinal.lean ====
/- The three result arrays of the normalisation after its run. -/
module

public import proofs.«01_k».proof.Proof.NormKernel
public import Idealize.ShloMosaic.Lib.Pipeline.ValueKit
public import Idealize.ShloMosaic.Lib.Pipeline.Covers
public import Idealize.ShloMosaic.Lib.Claim

@[expose] public section

set_option maxRecDepth 16384

noncomputable section

namespace Cert.NormIdeal.Value

open Cert.NormIdeal Cert.NormIdeal.Gen Cert.Quant
open Idealize.ShloMosaic Idealize.ShloMosaic.TcCoe Idealize.SL.Sem
open Idealize.ShloMosaic.Pipeline (Dat)
open Facts

section
variable (m : (ℓ : Loc nD τ sig) → Buf (Elt Ideal) ℓ) (c : Dev nD)

/-- Where element `y` of the block of a point lies in the array of a window. -/
def emb2 (t : Fin cfg0.N) (y : S256x4096.Idx) : S4096x4096.Idx := ((cfg0.win 2).blk t).view.emb y
def emb3 (t : Fin cfg0.N) (y : S256x1.Idx) : S4096x1.Idx := ((cfg0.win 3).blk t).view.emb y
def emb4 (t : Fin cfg0.N) (y : S1x1x256.Idx) : S16x1x256.Idx := ((cfg0.win 4).blk t).view.emb y

theorem xinj2 (t : Fin cfg0.N) (y : S256x4096.Idx) : (cfg0.win 2).xinj (cfg0.grid.coords t) y = y := rfl
theorem xinj3 (t : Fin cfg0.N) (y : S256x1.Idx) : (cfg0.win 3).xinj (cfg0.grid.coords t) y = y := rfl
theorem xinj4 (t : Fin cfg0.N) (y : S1x1x256.Idx) : (cfg0.win 4).xinj (cfg0.grid.coords t) y = y := rfl

theorem final2 : (dats m 0 c).arrAt 2 cfg0.N = codesG m c := by
  refine (dats m 0 c).arrAt_eq_of_covers 2 (codesG m c) covers2 fun t hf (y : S256x4096.Idx) => ?_
  have e := tr2 t
  have hr : (y 0).val < 256 := (y 0).isLt
  have hj : (y 1).val < 4096 := (y 1).isLt
  have a0 : emb2 t y 0 = rowOf t ⟨(y 0).val, hr⟩ := Fin.ext (by
    show cc0_transform_2 (grid0.coords t) 0 * 256 + 1 * (y 0).val = 256 * (grid0.coords t 0).val + (y 0).val
    rw [e]; simp <;> omega)
  have a1 : emb2 t y 1 = (⟨(y 1).val, hj⟩ : Fin 4096) := Fin.ext (by
    show cc0_transform_2 (grid0.coords t) 1 * 4096 + 1 * (y 1).val = (y 1).val
    rw [e]; simp <;> omega)
  have hy : y = ix2 (⟨(y 0).val, hr⟩ : Fin 256) (⟨(y 1).val, hj⟩ : Fin 4096) := funext fun a => by
    match a with
    | ⟨0, _⟩ => rfl
    | ⟨1, _⟩ => rfl
  have hval : codesG m c (emb2 t y) = normCode (argX m c) (argG m c) (rowOf t ⟨(y 0).val, hr⟩) ⟨(y 1).val, hj⟩ := by
    unfold codesG
    rw [a0, a1]
  refine Eq.trans ?_ hval.symm
  refine Eq.trans ?_ (point2 m c t ⟨(y 0).val, hr⟩ ⟨(y 1).val, hj⟩)
  rw [after0_2]
  exact (cast_eq _ _).trans (congrArg (out0_2 (iblk m c 0 t) (iblk m c 1 t)) ((xinj2 t y).trans hy))

theorem final3 : (dats m 0 c).arrAt 3 cfg0.N = colG m c := by
  refine (dats m 0 c).arrAt_eq_of_covers 3 (colG m c) covers3 fun t hf (y : S256x1.Idx) => ?_
  have e := tr3 t
  have hr : (y 0).val < 256 := (y 0).isLt
  have h1 : (y 1).val < 1 := (y 1).isLt
  have a0 : emb3 t y 0 = rowOf t ⟨(y 0).val, hr⟩ := Fin.ext (by
    show cc0_transform_3 (grid0.coords t) 0 * 256 + 1 * (y 0).val = 256 * (grid0.coords t 0).val + (y 0).val
    rw [e]; simp <;> omega)
  have hy : y = ix2 (⟨(y 0).val, hr⟩ : Fin 256) (0 : Fin 1) := funext fun a => Fin.ext (by
    match a with
    | ⟨0, _⟩ => rfl
    | ⟨1, _⟩ => show (y 1).val = 0; omega)
  have hval : colG m c (emb3 t y) = normScale (argX m c) (argG m c) (rowOf t ⟨(y 0).val, hr⟩) := by
    unfold colG
    rw [a0]
  refine Eq.trans ?_ hval.symm
  refine Eq.trans ?_ (point3 m c t ⟨(y 0).val, hr⟩)
  rw [after0_3]
  exact (cast_eq _ _).trans (congrArg (out0_3 (iblk m c 0 t) (iblk m c 1 t)) ((xinj3 t y).trans hy))

theorem final4 : (dats m 0 c).arrAt 4 cfg0.N = linesG m c := by
  refine (dats m 0 c).arrAt_eq_of_covers 4 (linesG m c) covers4 fun t hf (y : S1x1x256.Idx) => ?_
  have e := tr4 t
  have h0 : (y 0).val < 1 := (y 0).isLt
  have h1 : (y 1).val < 1 := (y 1).isLt
  have hr : (y 2).val < 256 := (y 2).isLt
  have a0 : (emb4 t y 0).val = (grid0.coords t 0).val := by
    show cc0_transform_4 (grid0.coords t) 0 * 1 + 1 * (y 0).val = (grid0.coords t 0).val
    rw [e]; simp <;> omega
  have a2 : (emb4 t y 2).val = (y 2).val := by
    show cc0_transform_4 (grid0.coords t) 2 * 256 + 1 * (y 2).val = (y 2).val
    rw [e]; simp <;> omega
  have hy : y = ix3 (0 : Fin 1) (0 : Fin 1) (⟨(y 2).val, hr⟩ : Fin 256) := funext fun a => Fin.ext (by
    match a with
    | ⟨0, _⟩ => show (y 0).val = 0; omega
    | ⟨1, _⟩ => show (y 1).val = 0; omega
    | ⟨2, _⟩ => rfl)
  have hval : linesG m c (emb4 t y) = normScale (argX m c) (argG m c) (rowOf t ⟨(y 2).val, hr⟩) := by
    unfold linesG
    refine congrArg (fun i => normScale (argX m c) (argG m c) i) (Fin.ext ?_)
    show 256 * (emb4 t y 0).val + (emb4 t y 2).val = 256 * (grid0.coords t 0).val + (y 2).val
    rw [a0, a2]
  refine Eq.trans ?_ hval.symm
  refine Eq.trans ?_ (point4 m c t ⟨(y 2).val, hr⟩)
  rw [after0_4]
  exact (cast_eq _ _).trans (congrArg (out0_4 (iblk m c 0 t) (iblk m c 1 t)) ((xinj4 t y).trans hy))
end

/-- The run, read: the three result arrays element by element. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2_0) = codesG m c ∧ r.2.mem ((c : Thread nD τ).loc main_v2_1) = colG m c
        ∧ r.2.mem ((c : Thread nD τ).loc main_v2_2) = linesG m c :=
  (θ_run defs _ _).mono (fun _ h c => ⟨(h c).1.trans (final2 m c), (h c).2.1.trans (final3 m c), (h c).2.2.1.trans (final4 m c)⟩)
    (run_blocks m ρ)

end Cert.NormIdeal.Value

end
-- ==== Proof.NormRef.lean ====
/- The normalisation of the reference: each element of its three results, as a function of the arguments. -/
module

public import proofs.«01_k».proof.Proof.Gen.NormReferenceIdeal.Run
public import proofs.«01_k».proof.Proof.Quant
public import proofs.«01_k».proof.Proof.Softmax
public import Idealize.ShloMosaic.Lib.Claim

@[expose] public section

set_option maxRecDepth 16384

noncomputable section

namespace Cert.NormReferenceIdeal.Value

open Cert.NormReferenceIdeal Cert.NormReferenceIdeal.Gen Cert.Quant
open Idealize.ShloMosaic Idealize.ShloMosaic.TcCoe Idealize.SL.Sem
open Facts

/-! ## The steps of the reference -/

section
variable {F : FTy → Type} [FloatOps F] (x : Vec F S2x2048x4096 .bf16) (g : Vec F S4096 .f32)
  (h : Vec F S2x2048x4096 .f32) (a e : Vec F S2x2048 .f32)

/-- The normalised rows. -/
def hV : Vec F S2x2048x4096 .f32 :=
  mulf (mulf (extf .f32 x bitsLt_bf16_f32) (broadcastInDim S2x2048x4096 ![0, 1, 2] bcast_S2x2048x1_S2x2048x4096_0_1_2 (Host.rsqrt (addf (Host.divf (broadcastInDim S2x2048x1 ![0, 1] bcast_S2x2048_S2x2048x1_0_1 (Host.reduceAdd (mulf (extf .f32 x bitsLt_bf16_f32) (extf .f32 x bitsLt_bf16_f32)) (constant S_ .f32 0x00000000#32) reducesTo_S2x2048x4096_S2x2048_d2 h_S_)) (broadcastInDim S2x2048x1 ![] bcast_S_S2x2048x1 (constant S_ .f32 0x45800000#32))) (broadcastInDim S2x2048x1 ![] bcast_S_S2x2048x1 (constant S_ .f32 0x358637BD#32)))))) (broadcastInDim S2x2048x4096 ![0, 1, 2] bcast_S1x1x4096_S2x2048x4096_0_1_2 (broadcastInDim S1x1x4096 ![2] bcast_S4096_S1x1x4096_2 g))

/-- The largest magnitude of each row. -/
def aV : Vec F S2x2048 .f32 :=
  Host.reduce FloatOps.maximumf (Host.absf h) (constant S_ .f32 0xFF800000#32) reducesTo_S2x2048x4096_S2x2048_d2 h_S_

/-- The exponent of each row. -/
def eV : Vec F S2x2048 .f32 :=
  select (cmpf .oeq a (broadcastInDim S2x2048 ![] bcast_S_S2x2048 (constant S_ .f32 0x00000000#32))) (broadcastInDim S2x2048 ![] bcast_S_S2x2048 (constant S_ .f32 0x00000000#32)) (addf (Host.floor (Host.divf (Host.log (mulf a (broadcastInDim S2x2048 ![] bcast_S_S2x2048 (constant S_ .f32 0x3B124925#32)))) (Host.log (broadcastInDim S2x2048 ![] bcast_S_S2x2048 (constant S_ .f32 0x40000000#32))))) (broadcastInDim S2x2048 ![] bcast_S_S2x2048 (constant S_ .f32 0x3F800000#32)))

/-- The scale of each row. -/
def scaleV : Vec F S2x2048 .f32 := Host.powf (broadcastInDim S2x2048 ![] bcast_S_S2x2048 (constant S_ .f32 0x40000000#32)) e

/-- The codes, one row of a matrix to a token. -/
def codesV : Vec F S4096x4096 .fp8e4m3 :=
  shapeCast S4096x4096 (Host.convertf .fp8e4m3 (minimumf (broadcastInDim S2x2048x4096 ![] bcast_S_S2x2048x4096 (id (constant S_ .f32 0x43E00000#32))) (maximumf (broadcastInDim S2x2048x4096 ![] bcast_S_S2x2048x4096 (id (constant S_ .f32 0xC3E00000#32))) (mulf h (broadcastInDim S2x2048x4096 ![0, 1, 2] bcast_S2x2048x1_S2x2048x4096_0_1_2 (broadcastInDim S2x2048x1 ![0, 1] bcast_S2x2048_S2x2048x1_0_1 (Host.powf (broadcastInDim S2x2048 ![] bcast_S_S2x2048 (constant S_ .f32 0x40000000#32)) (Host.negf e)))))))) shapeCasts_S2x2048x4096_S4096x4096
end

/-! ## Each step at an index -/

section
variable (x : Vec Ideal S2x2048x4096 .bf16) (g : Vec Ideal S4096 .f32) (h : Vec Ideal S2x2048x4096 .f32) (a e : Vec Ideal S2x2048 .f32)
  (b : Fin 2) (r : Fin 2048)

theorem h_at (k : Fin 4096) : hV x g (ix3 b r k) =
    (x (ix3 b r k) * Ideal.rsqrt (Ideal.div (∑ l : Fin 4096, x (ix3 b r l) * x (ix3 b r l)) (Ideal.ofBits .f32 0x45800000#32) + Ideal.ofBits .f32 0x358637BD#32) * g (ix1 k) : EReal) := by
  pointwise [hV] <;> rfl

theorem a_at : aV h (ix2 b r) = amax fun k => h (ix3 b r k) := by
  unfold amax
  pointwise [aV] <;> rfl

theorem e_at : eV a (ix2 b r) = expoZ (a (ix2 b r)) := by
  pointwise [eV] <;> rfl

theorem two : Ideal.ofBits .f32 0x40000000#32 = ((2 : ℝ) : EReal) := by
  simp [Ideal.ofBits, Ideal.ieee]
  rw [← EReal.coe_mul]
  norm_num

theorem scale_pow : scaleV e (ix2 b r) = Ideal.pow (Ideal.ofBits .f32 0x40000000#32) (e (ix2 b r)) := by
  pointwise [scaleV] <;> rfl

theorem scale_at : scaleV e (ix2 b r) = Ideal.exp2 (e (ix2 b r)) := by
  rw [scale_pow, two, Cert.Softmax.pow_two]

theorem codes_pow (i k : Fin 4096) : codesV h e (ix2 i k) =
    min (Ideal.ofBits .f32 0x43E00000#32) (max (Ideal.ofBits .f32 0xC3E00000#32) (h (ix3 ⟨i.val / 2048, by omega⟩ ⟨i.val % 2048, by omega⟩ k) *
      Ideal.pow (Ideal.ofBits .f32 0x40000000#32) (-e (ix2 ⟨i.val / 2048, by omega⟩ ⟨i.val % 2048, by omega⟩)))) := by
  pointwise [codesV] <;> rfl

theorem codes_at (i k : Fin 4096) : codesV h e (ix2 i k) =
    min (Ideal.ofBits .f32 0x43E00000#32) (max (Ideal.ofBits .f32 0xC3E00000#32) (h (ix3 ⟨i.val / 2048, by omega⟩ ⟨i.val % 2048, by omega⟩ k) *
      Ideal.exp2 (0 - e (ix2 ⟨i.val / 2048, by omega⟩ ⟨i.val % 2048, by omega⟩)))) := by
  rw [codes_pow, two, Cert.Softmax.pow_two, zero_sub]

theorem col_at (v : Vec Ideal S2x2048 .f32) (i : Fin 4096) :
    (shapeCast S4096x1 v shapeCasts_S2x2048_S4096x1 : Vec Ideal S4096x1 .f32) (ix2 i (0 : Fin 1)) = v (ix2 ⟨i.val / 2048, by omega⟩ ⟨i.val % 2048, by omega⟩) := by
  pointwise [] <;> rfl

theorem lines_at (v : Vec Ideal S2x2048 .f32) (q : Fin 16) (l : Fin 256) :
    (shapeCast S16x1x256 v shapeCasts_S2x2048_S16x1x256 : Vec Ideal S16x1x256 .f32) (ix3 q (0 : Fin 1) l) =
      v (ix2 ⟨(256 * q.val + l.val) / 2048, by omega⟩ ⟨(256 * q.val + l.val) % 2048, by omega⟩) := by
  have e : (shapeCast S16x1x256 v shapeCasts_S2x2048_S16x1x256 : Vec Ideal S16x1x256 .f32) (ix3 q (0 : Fin 1) l) =
      v (ix2 ⟨q.val / 8, by omega⟩ ⟨q.val % 8 * 256 + l.val, by omega⟩) := by
    pointwise [] <;> rfl
  rw [e]
  refine congrArg v (congr (congrArg ix2 (Fin.ext ?_)) (Fin.ext ?_))
  · show q.val / 8 = (256 * q.val + l.val) / 2048
    omega
  · show q.val % 8 * 256 + l.val = (256 * q.val + l.val) % 2048
    omega

theorem tokens_at (i k : Fin 4096) : (shapeCast S4096x4096 x shapeCasts_S2x2048x4096_S4096x4096 : Vec Ideal S4096x4096 .bf16) (ix2 i k) =
    x (ix3 ⟨i.val / 2048, by omega⟩ ⟨i.val % 2048, by omega⟩ k) := by
  pointwise [] <;> rfl
end

/-! ## The results -/

section
variable (m : (ℓ : Loc nD τ sig) → Buf (Elt Ideal) ℓ) (c : Dev nD)

/-- The arguments: the tokens and the weight of the normalisation. -/
def xR : Vec Ideal S2x2048x4096 .bf16 := m ((c : Thread nD τ).loc main_arg0)
def gR : Vec Ideal S4096 .f32 := m ((c : Thread nD τ).loc main_arg1)

/-- The tokens, one to a row. -/
def argX : Fin 4096 → Fin 4096 → EReal := fun i k =>
  (shapeCast S4096x4096 (xR m c) shapeCasts_S2x2048x4096_S4096x4096 : Vec Ideal S4096x4096 .bf16) (ix2 i k)
def argG : Fin 4096 → EReal := fun k => gR m c (ix1 k)

/-- The three result arrays. -/
def codesG : Buf (Elt Ideal) ((c : Thread nD τ).loc main_v38) := fun (y : S4096x4096.Idx) => normCode (argX m c) (argG m c) (y 0) (y 1)
def colG : Buf (Elt Ideal) ((c : Thread nD τ).loc main_v39) := fun (y : S4096x1.Idx) => normScale (argX m c) (argG m c) (y 0)
def linesG : Buf (Elt Ideal) ((c : Thread nD τ).loc main_v40) := fun (y : S16x1x256.Idx) =>
  normScale (argX m c) (argG m c) ⟨256 * (y 0).val + (y 2).val, by have h0 : (y 0).val < 16 := (y 0).isLt; have h2 : (y 2).val < 256 := (y 2).isLt; omega⟩

theorem argX_at (i k : Fin 4096) : argX m c i k = xR m c (ix3 ⟨i.val / 2048, by omega⟩ ⟨i.val % 2048, by omega⟩ k) := tokens_at _ i k

theorem hrow (i : Fin 4096) : (fun k => hV (xR m c) (gR m c) (ix3 ⟨i.val / 2048, by omega⟩ ⟨i.val % 2048, by omega⟩ k)) = normE (argX m c) (argG m c) i := by
  funext k
  rw [h_at]
  unfold normE
  simp only [argX_at]
  rfl

theorem expo_row (i : Fin 4096) : eV (aV (hV (xR m c) (gR m c))) (ix2 ⟨i.val / 2048, by omega⟩ ⟨i.val % 2048, by omega⟩) =
    expoZ (amax (normE (argX m c) (argG m c) i)) := by
  rw [e_at, a_at, hrow]

theorem scale_row (i : Fin 4096) : scaleV (eV (aV (hV (xR m c) (gR m c)))) (ix2 ⟨i.val / 2048, by omega⟩ ⟨i.val % 2048, by omega⟩) =
    normScale (argX m c) (argG m c) i := by
  rw [scale_at, expo_row]
  rfl

theorem codes_eq : codesV (hV (xR m c) (gR m c)) (eV (aV (hV (xR m c) (gR m c)))) = codesG m c := by
  funext (y : S4096x4096.Idx)
  idx_vars y
  rw [codes_at, expo_row, congrFun (hrow m c y0) y1]
  rfl

theorem col_eq : (shapeCast S4096x1 (scaleV (eV (aV (hV (xR m c) (gR m c))))) shapeCasts_S2x2048_S4096x1 : Vec Ideal S4096x1 .f32) = colG m c := by
  funext (y : S4096x1.Idx)
  idx_vars y
  obtain rfl : y1 = 0 := Subsingleton.elim _ _
  rw [col_at, scale_row]
  rfl

theorem lines_eq : (shapeCast S16x1x256 (scaleV (eV (aV (hV (xR m c) (gR m c))))) shapeCasts_S2x2048_S16x1x256 : Vec Ideal S16x1x256 .f32) = linesG m c := by
  funext (y : S16x1x256.Idx)
  idx_vars y
  obtain rfl : y1 = 0 := Subsingleton.elim _ _
  rw [lines_at]
  exact scale_row m c ⟨256 * y0.val + y2.val, by omega⟩
end

/-- The run, read: the three results element by element, the arguments as they were. -/
theorem run_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v38) = codesG m c ∧ r.2.mem ((c : Thread nD τ).loc main_v39) = colG m c
        ∧ r.2.mem ((c : Thread nD τ).loc main_v40) = linesG m c
        ∧ r.2.mem ((c : Thread nD τ).loc main_arg0) = m ((c : Thread nD τ).loc main_arg0)
        ∧ r.2.mem ((c : Thread nD τ).loc main_arg1) = m ((c : Thread nD τ).loc main_arg1) :=
  (θ_run defs _ _).mono (fun _ h c => ⟨(h c).1.trans (codes_eq m c), (h c).2.1.trans (col_eq m c), (h c).2.2.1.trans (lines_eq m c), (h c).2.2.2⟩)
    (run (F := Ideal) m ρ)

end Cert.NormReferenceIdeal.Value

end
-- ==== Proof.OutIdealRun.lean ====
/- The run of this program with its result arrays named by the windows that write them. -/
module

public import proofs.«01_k».proof.Proof.Gen.OutIdeal.Frame
public import Idealize.ShloMosaic.Lib.Pipeline.Value

@[expose] public section

noncomputable section

namespace Cert.OutIdeal.Value

open Cert.OutIdeal Cert.OutIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v1_2) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_v1_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

end Cert.OutIdeal.Value

end
-- ==== Proof.OutKernel.lean ====
/- The output projection run by blocks of rows: each element of its three result arrays, as a function of the arguments. -/
module

public import proofs.«01_k».proof.Proof.OutIdealRun
public import proofs.«01_k».proof.Proof.Quant
public import Idealize.ShloMosaic.Lib.Pipeline.ValueKit
public import Idealize.ShloMosaic.Lib.Pipeline.Covers
public import Idealize.ShloMosaic.Lib.Claim

@[expose] public section

set_option maxRecDepth 16384

noncomputable section

namespace Cert.OutIdeal.Value

open Cert.OutIdeal Cert.OutIdeal.Gen Cert.Quant
open Idealize.ShloMosaic Idealize.ShloMosaic.TcCoe Idealize.SL.Sem
open Idealize.ShloMosaic.Pipeline (Dat)
open Facts

/-! ## One block of rows -/

section
variable (x0 : Vec Ideal S128x8192 .f32) (r : Fin 128)

/-- Row `r` of the block. -/
def row : Fin 8192 → EReal := fun k => x0 (ix2 r k)

/-- The largest magnitude of each row. -/
def rowMax : FVec Ideal S128 .f32 := multiReduction .maximumf [1] S128 (absf x0) 0xFF800000#32 reduces_S128x8192_S128 (.inl rfl) rfl

theorem red_at : rowMax x0 (ix1 r) = amax (row x0 r) := by
  pointwise [rowMax] <;> rfl

theorem max_eq : k0_pay2 (F := Ideal) x0 = shapeCast S128x1 (rowMax x0) shapeCasts_S128_S128x1 := rfl

theorem col_at (v : FVec Ideal S128 .f32) : (shapeCast S128x1 v shapeCasts_S128_S128x1 : FVec Ideal S128x1 .f32) (ix2 r (0 : Fin 1)) = v (ix1 r) := by
  pointwise [] <;> rfl

theorem amax_at : k0_pay2 (F := Ideal) x0 (ix2 r (0 : Fin 1)) = amax (row x0 r) := by
  rw [max_eq, col_at, red_at]

theorem expo_gen (a : FVec Ideal S128x1 .f32) :
    (addf (floor (divf (log (mulf a (broadcast S128x1 (Scalar.ofBits .f32 0x3B124925#32)))) (log (broadcast S128x1 (Scalar.ofBits .f32 0x40000000#32)))))
      (broadcast S128x1 (Scalar.ofBits .f32 0x3F800000#32)) : FVec Ideal S128x1 .f32) (ix2 r (0 : Fin 1)) = expo (a (ix2 r (0 : Fin 1))) := by
  pointwise [] <;> rfl

theorem expo_at : k0_pay3 (F := Ideal) x0 (ix2 r (0 : Fin 1)) = expo (amax (row x0 r)) :=
  (expo_gen r (k0_pay2 x0)).trans (congrArg expo (amax_at x0 r))

theorem scale_gen (a e : FVec Ideal S128x1 .f32) :
    (select (cmpf .oeq a (broadcast S128x1 (Scalar.ofBits .f32 0x00000000#32))) (broadcast S128x1 (Scalar.ofBits .f32 0x3F800000#32)) (exp2 e) :
      FVec Ideal S128x1 .f32) (ix2 r (0 : Fin 1)) = if a (ix2 r (0 : Fin 1)) = (0 : EReal) then (1 : EReal) else Ideal.exp2 (e (ix2 r (0 : Fin 1))) := by
  pointwise [] <;> rfl

theorem scale_at : k0_pay5 (F := Ideal) x0 (ix2 r (0 : Fin 1)) = scale (amax (row x0 r)) := by
  refine (scale_gen r (k0_pay2 x0) (k0_pay3 x0)).trans ?_
  rw [amax_at, expo_at]
  exact scale_of _

theorem code_gen (a e : FVec Ideal S128x1 .f32) (k : Fin 8192) :
    (truncf .fp8e4m3 (minimumf (broadcast S128x8192 (Scalar.ofBits .f32 0x43E00000#32)) (maximumf (broadcast S128x8192 (Scalar.ofBits .f32 0xC3E00000#32))
      (mulf x0 (broadcastTo S128x8192 (select (cmpf .oeq a (broadcast S128x1 (Scalar.ofBits .f32 0x00000000#32))) (broadcast S128x1 (Scalar.ofBits .f32 0x3F800000#32))
        (exp2 (subf (broadcast S128x1 (Scalar.ofBits .f32 0x00000000#32)) e))) broadcasts_S128x1_S128x8192)))) bitsLt_fp8e4m3_f32 : FVec Ideal S128x8192 .fp8e4m3) (ix2 r k) =
    min (Ideal.ofBits .f32 0x43E00000#32) (max (Ideal.ofBits .f32 0xC3E00000#32)
      (row x0 r k * if a (ix2 r (0 : Fin 1)) = (0 : EReal) then (1 : EReal) else Ideal.exp2 (0 - e (ix2 r (0 : Fin 1))))) := by
  pointwise [] <;> rfl

theorem code_at (k : Fin 8192) : k0_pay6 (F := Ideal) x0 (ix2 r k) = code (row x0 r k) (amax (row x0 r)) := by
  refine (code_gen x0 r (k0_pay2 x0) (k0_pay3 x0) k).trans ?_
  rw [amax_at, expo_at, inv_of]
  rfl

theorem line_at (v : FVec Ideal S128x1 .f32) :
    (shapeCast S1x1x128 (extractStridedSlice S1x128 ![0, 0] (transpose S128x128 [1, 0] (broadcastTo S128x128 (shapeCast S128x1 v shapeCasts_S128x1_S128x1) broadcasts_S128x1_S128x128) transposes_S128x128_p1_0_S128x128) slices_S128x128_o0_0_S1x128) shapeCasts_S1x128_S1x1x128 :
      FVec Ideal S1x1x128 .f32) (ix3 (0 : Fin 1) (0 : Fin 1) r) = v (ix2 r (0 : Fin 1)) := by
  pointwise [] <;> rfl

theorem scale_row_at : k0_pay7 (F := Ideal) x0 (ix3 (0 : Fin 1) (0 : Fin 1) r) = scale (amax (row x0 r)) :=
  (line_at r (k0_pay5 x0)).trans (scale_at x0 r)

theorem prod_at (s : FVec Ideal S128x1 .f32) (q : FVec Ideal S128x8192 .fp8e4m3) (w : Vec Ideal S8192x4096 .fp8e4m3)
    (x : Vec Ideal S128x4096 .bf16) (ws : Vec Ideal S1x4096 .f32) (j : Fin 4096) :
    k0_pay1 (F := Ideal) s q w x ws (ix2 r j) =
      (x (ix2 r j) + (∑ k : Fin 8192, q (ix2 r k) * w (ix2 k j)) * s (ix2 r (0 : Fin 1)) * ws (ix2 (0 : Fin 1) j) : EReal) := by
  pointwise [k0_pay1] <;> rfl

end

theorem out4_eq (x0 : Vec Ideal S128x8192 .f32) (x1 : Vec Ideal S128x4096 .bf16) (x2 : Vec Ideal S8192x4096 .fp8e4m3) (x3 : Vec Ideal S1x4096 .f32) :
    out0_4 x0 x1 x2 x3 = k0_pay1 (k0_pay5 x0) (k0_pay6 x0) x2 x1 x3 := by
  unfold out0_4
  rw [View.canon_cons_unit_lit _ _ _ (by decide), View.ld_unit_lit _ _ (by decide), View.ld_unit_lit _ _ (by decide),
    View.ld_unit_lit _ _ (by decide), View.ld_unit_lit _ _ (by decide)]

theorem out5_eq (x0 : Vec Ideal S128x8192 .f32) (x1 : Vec Ideal S128x4096 .bf16) (x2 : Vec Ideal S8192x4096 .fp8e4m3) (x3 : Vec Ideal S1x4096 .f32) :
    out0_5 x0 x1 x2 x3 = k0_pay6 x0 := by
  unfold out0_5
  rw [View.canon_cons_unit_lit _ _ _ (by decide), View.ld_unit_lit _ _ (by decide)]

theorem out6_eq (x0 : Vec Ideal S128x8192 .f32) (x1 : Vec Ideal S128x4096 .bf16) (x2 : Vec Ideal S8192x4096 .fp8e4m3) (x3 : Vec Ideal S1x4096 .f32) :
    out0_6 x0 x1 x2 x3 = k0_pay7 x0 := by
  unfold out0_6
  rw [View.canon_cons_unit_lit _ _ _ (by decide), View.ld_unit_lit _ _ (by decide)]

/-! ## The arguments, and the blocks read from them -/

section
variable (m : (ℓ : Loc nD τ sig) → Buf (Elt Ideal) ℓ) (c : Dev nD)

/-- The attention output. -/
def argO : Fin 4096 → Fin 8192 → EReal := fun i k => m ((c : Thread nD τ).loc main_arg0) (ix2 i k)
/-- The residual. -/
def argX : Fin 4096 → Fin 4096 → EReal := fun i j => m ((c : Thread nD τ).loc main_arg1) (ix2 i j)
/-- The weight codes. -/
def argW : Fin 8192 → Fin 4096 → EReal := fun k j => m ((c : Thread nD τ).loc main_arg2) (ix2 k j)
/-- The scales of the weight's columns. -/
def argS : Fin 4096 → EReal := fun j => m ((c : Thread nD τ).loc main_arg3) (ix1 j)

/-- The three result arrays. -/
def outG : Buf (Elt Ideal) ((c : Thread nD τ).loc main_v1_0) := fun (y : S4096x4096.Idx) => outE (argO m c) (argX m c) (argW m c) (argS m c) (y 0) (y 1)
def codesG : Buf (Elt Ideal) ((c : Thread nD τ).loc main_v1_1) := fun (y : S4096x8192.Idx) => codesE (argO m c) (y 0) (y 1)
def scalesG : Buf (Elt Ideal) ((c : Thread nD τ).loc main_v1_2) := fun (y : S32x1x128.Idx) =>
  scale (amax (argO m c ⟨128 * (y 0).val + (y 2).val, by have h0 : (y 0).val < 32 := (y 0).isLt; have h2 : (y 2).val < 128 := (y 2).isLt; omega⟩))

theorem scales_shaped (j : Fin 4096) : V m c main_v0 (ix2 (0 : Fin 1) j) = argS m c j := by
  have e : (V m c main_v0 : Vec Ideal S1x4096 .f32) = shapeCast S1x4096 (m ((c : Thread nD τ).loc main_arg3) : Vec Ideal S4096 .f32) shapeCasts_S4096_S1x4096 := by
    entry_read
    rfl
  have g : ∀ v : Vec Ideal S4096 .f32, (shapeCast S1x4096 v shapeCasts_S4096_S1x4096 : Vec Ideal S1x4096 .f32) (ix2 (0 : Fin 1) j) = v (ix1 j) := fun v => by
    pointwise []
  exact (congrFun e _).trans (g _)

variable (t : Fin cfg0.N)

theorem i_lt : (grid0.coords t 0).val < 32 := (grid0.coords t 0).isLt

theorem word_val {n : Nat} (h : n < 2 ^ 32) : (BitVec.ofNat 32 n).toNat = n := by
  rw [BitVec.toNat_ofNat]; omega

/-- The row of the array that row `r` of the block of point `t` is. -/
def rowOf (r : Fin 128) : Fin 4096 := ⟨128 * (grid0.coords t 0).val + r.val, by have := i_lt t; have := r.isLt; omega⟩

theorem tr0 : cc0_transform_0 (grid0.coords t) = ![(grid0.coords t 0).val, 0] := by
  unfold cc0_transform_0; dsimp only; rw [word_val (by have := i_lt t; omega)]; rfl
theorem tr1 : cc0_transform_1 (grid0.coords t) = ![(grid0.coords t 0).val, 0] := by
  unfold cc0_transform_1; dsimp only; rw [word_val (by have := i_lt t; omega)]; rfl
theorem tr2 : cc0_transform_2 (grid0.coords t) = ![0, 0] := rfl
theorem tr3 : cc0_transform_3 (grid0.coords t) = ![0, 0] := rfl
theorem tr4 : cc0_transform_4 (grid0.coords t) = ![(grid0.coords t 0).val, 0] := by
  unfold cc0_transform_4; dsimp only; rw [word_val (by have := i_lt t; omega)]; rfl
theorem tr5 : cc0_transform_5 (grid0.coords t) = ![(grid0.coords t 0).val, 0] := by
  unfold cc0_transform_5; dsimp only; rw [word_val (by have := i_lt t; omega)]; rfl
theorem tr6 : cc0_transform_6 (grid0.coords t) = ![(grid0.coords t 0).val, 0, 0] := by
  unfold cc0_transform_6; dsimp only; rw [word_val (by have := i_lt t; omega)]; rfl

theorem blk0 (r : Fin 128) : row (iblk m c 0 t) r = argO m c (rowOf t r) := by
  funext k
  unfold row iblk
  refine (congrFun (V_main_arg0 m c) _).trans (congrArg (m ((c : Thread nD τ).loc main_arg0)) (funext fun a => Fin.ext ?_))
  have e := tr0 t
  match a with
  | ⟨0, _⟩ => change cc0_transform_0 (grid0.coords t) 0 * 128 + 1 * r.val = 128 * (grid0.coords t 0).val + r.val; rw [e]; simp; omega
  | ⟨1, _⟩ => change cc0_transform_0 (grid0.coords t) 1 * 8192 + 1 * k.val = k.val; rw [e]; simp

theorem blk1 (r : Fin 128) (j : Fin 4096) : (iblk m c 1 t : Vec Ideal S128x4096 .bf16) (ix2 r j) = argX m c (rowOf t r) j := by
  unfold iblk
  refine (congrFun (V_main_arg1 m c) _).trans (congrArg (m ((c : Thread nD τ).loc main_arg1)) (funext fun a => Fin.ext ?_))
  have e := tr1 t
  match a with
  | ⟨0, _⟩ => change cc0_transform_1 (grid0.coords t) 0 * 128 + 1 * r.val = 128 * (grid0.coords t 0).val + r.val; rw [e]; simp; omega
  | ⟨1, _⟩ => change cc0_transform_1 (grid0.coords t) 1 * 4096 + 1 * j.val = j.val; rw [e]; simp

theorem blk2 (k : Fin 8192) (j : Fin 4096) : (iblk m c 2 t : Vec Ideal S8192x4096 .fp8e4m3) (ix2 k j) = argW m c k j := by
  unfold iblk
  refine (congrFun (V_main_arg2 m c) _).trans (congrArg (m ((c : Thread nD τ).loc main_arg2)) (funext fun a => Fin.ext ?_))
  have e := tr2 t
  match a with
  | ⟨0, _⟩ => change cc0_transform_2 (grid0.coords t) 0 * 8192 + 1 * k.val = k.val; rw [e]; simp
  | ⟨1, _⟩ => change cc0_transform_2 (grid0.coords t) 1 * 4096 + 1 * j.val = j.val; rw [e]; simp

theorem blk3 (j : Fin 4096) : (iblk m c 3 t : Vec Ideal S1x4096 .f32) (ix2 (0 : Fin 1) j) = argS m c j := by
  refine Eq.trans ?_ (scales_shaped m c j)
  unfold iblk
  refine congrArg (V m c main_v0) (funext fun a => Fin.ext ?_)
  have e := tr3 t
  match a with
  | ⟨0, _⟩ => change cc0_transform_3 (grid0.coords t) 0 * 1 + 1 * 0 = 0; rw [e]; simp
  | ⟨1, _⟩ => change cc0_transform_3 (grid0.coords t) 1 * 4096 + 1 * j.val = j.val; rw [e]; simp

/-! ## What each point writes -/

theorem point4 (r : Fin 128) (j : Fin 4096) :
    out0_4 (iblk m c 0 t) (iblk m c 1 t) (iblk m c 2 t) (iblk m c 3 t) (ix2 r j) = outE (argO m c) (argX m c) (argW m c) (argS m c) (rowOf t r) j := by
  rw [out4_eq, prod_at, scale_at, blk0, blk1, blk3]
  unfold outE codesE
  refine congrArg (fun z : EReal => argX m c (rowOf t r) j + z * scale (amax (argO m c (rowOf t r))) * argS m c j) (Finset.sum_congr rfl fun k _ => ?_)
  rw [code_at, blk0, blk2]

theorem point5 (r : Fin 128) (k : Fin 8192) :
    out0_5 (iblk m c 0 t) (iblk m c 1 t) (iblk m c 2 t) (iblk m c 3 t) (ix2 r k) = codesE (argO m c) (rowOf t r) k := by
  rw [out5_eq, code_at, blk0]
  rfl

theorem point6 (r : Fin 128) :
    out0_6 (iblk m c 0 t) (iblk m c 1 t) (iblk m c 2 t) (iblk m c 3 t) (ix3 (0 : Fin 1) (0 : Fin 1) r) = scale (amax (argO m c (rowOf t r))) := by
  rw [out6_eq, scale_row_at, blk0]
end

/-! ## The arrays after the run -/

theorem covers4 : (cfg0.win 4).Covers := by
  refine ⟨fun (a : Fin 2) => match a with | ⟨0, _⟩ => (by decide : 0 < 128) | ⟨1, _⟩ => (by decide : 0 < 4096), fun (β : (a : Fin 2) → Fin ((cfg0.win 4).nblk a)) => ?_⟩
  have h0 : (β 0).val < 32 := (show (β 0).val < (4096 + 128 - 1) / 128 from (β 0).isLt)
  have h1 : (β 1).val < 1 := (show (β 1).val < (4096 + 4096 - 1) / 4096 from (β 1).isLt)
  let x : grid0.Coords := fun a => match a with
    | ⟨0, _⟩ => (⟨(β 0).val, h0⟩ : Fin 32)
  obtain ⟨t, ht⟩ := Pipeline.Grid.coords_surjective grid0 x
  refine ⟨t, flush0_4 t, fun a => ⟨?_, .inl rfl⟩⟩
  have e := tr4 t
  have e' : cc0_transform_4 (grid0.coords t) = ![(β 0).val, 0] := by rw [e, ht]
  match a with
  | ⟨0, _⟩ => exact congrFun e' 0
  | ⟨1, _⟩ => exact (congrFun e' 1).trans (by show 0 = (β 1).val; omega)

theorem covers5 : (cfg0.win 5).Covers := by
  refine ⟨fun (a : Fin 2) => match a with | ⟨0, _⟩ => (by decide : 0 < 128) | ⟨1, _⟩ => (by decide : 0 < 8192), fun (β : (a : Fin 2) → Fin ((cfg0.win 5).nblk a)) => ?_⟩
  have h0 : (β 0).val < 32 := (show (β 0).val < (4096 + 128 - 1) / 128 from (β 0).isLt)
  have h1 : (β 1).val < 1 := (show (β 1).val < (8192 + 8192 - 1) / 8192 from (β 1).isLt)
  let x : grid0.Coords := fun a => match a with
    | ⟨0, _⟩ => (⟨(β 0).val, h0⟩ : Fin 32)
  obtain ⟨t, ht⟩ := Pipeline.Grid.coords_surjective grid0 x
  refine ⟨t, flush0_5 t, fun a => ⟨?_, .inl rfl⟩⟩
  have e := tr5 t
  have e' : cc0_transform_5 (grid0.coords t) = ![(β 0).val, 0] := by rw [e, ht]
  match a with
  | ⟨0, _⟩ => exact congrFun e' 0
  | ⟨1, _⟩ => exact (congrFun e' 1).trans (by show 0 = (β 1).val; omega)

theorem covers6 : (cfg0.win 6).Covers := by
  refine ⟨fun (a : Fin 3) => match a with | ⟨0, _⟩ => (by decide : 0 < 1) | ⟨1, _⟩ => (by decide : 0 < 1) | ⟨2, _⟩ => (by decide : 0 < 128), fun (β : (a : Fin 3) → Fin ((cfg0.win 6).nblk a)) => ?_⟩
  have h0 : (β 0).val < 32 := (show (β 0).val < (32 + 1 - 1) / 1 from (β 0).isLt)
  have h1 : (β 1).val < 1 := (show (β 1).val < (1 + 1 - 1) / 1 from (β 1).isLt)
  have h2 : (β 2).val < 1 := (show (β 2).val < (128 + 128 - 1) / 128 from (β 2).isLt)
  let x : grid0.Coords := fun a => match a with
    | ⟨0, _⟩ => (⟨(β 0).val, h0⟩ : Fin 32)
  obtain ⟨t, ht⟩ := Pipeline.Grid.coords_surjective grid0 x
  refine ⟨t, flush0_6 t, fun a => ⟨?_, .inl rfl⟩⟩
  have e := tr6 t
  have e' : cc0_transform_6 (grid0.coords t) = ![(β 0).val, 0, 0] := by rw [e, ht]
  match a with
  | ⟨0, _⟩ => exact congrFun e' 0
  | ⟨1, _⟩ => exact (congrFun e' 1).trans (by show 0 = (β 1).val; omega)
  | ⟨2, _⟩ => exact (congrFun e' 2).trans (by show 0 = (β 2).val; omega)

end Cert.OutIdeal.Value

end
-- ==== Proof.OutFinal.lean ====
/- The three result arrays of the output projection after its run. -/
module

public import proofs.«01_k».proof.Proof.OutKernel
public import Idealize.ShloMosaic.Lib.Pipeline.ValueKit
public import Idealize.ShloMosaic.Lib.Pipeline.Covers
public import Idealize.ShloMosaic.Lib.Claim

@[expose] public section

set_option maxRecDepth 16384

noncomputable section

namespace Cert.OutIdeal.Value

open Cert.OutIdeal Cert.OutIdeal.Gen Cert.Quant
open Idealize.ShloMosaic Idealize.ShloMosaic.TcCoe Idealize.SL.Sem
open Idealize.ShloMosaic.Pipeline (Dat)
open Facts

section
variable (m : (ℓ : Loc nD τ sig) → Buf (Elt Ideal) ℓ) (c : Dev nD)

/-- Where element `y` of the block of a point lies in the array of a window. -/
def emb4 (t : Fin cfg0.N) (y : S128x4096.Idx) : S4096x4096.Idx := ((cfg0.win 4).blk t).view.emb y
def emb5 (t : Fin cfg0.N) (y : S128x8192.Idx) : S4096x8192.Idx := ((cfg0.win 5).blk t).view.emb y
def emb6 (t : Fin cfg0.N) (y : S1x1x128.Idx) : S32x1x128.Idx := ((cfg0.win 6).blk t).view.emb y

theorem xinj4 (t : Fin cfg0.N) (y : S128x4096.Idx) : (cfg0.win 4).xinj (cfg0.grid.coords t) y = y := rfl

theorem final4 : (dats m 0 c).arrAt 4 cfg0.N = outG m c := by
  refine (dats m 0 c).arrAt_eq_of_covers 4 (outG m c) covers4 fun t hf (y : S128x4096.Idx) => ?_
  have e := tr4 t
  have hr : (y 0).val < 128 := (y 0).isLt
  have hj : (y 1).val < 4096 := (y 1).isLt
  have a0 : emb4 t y 0 = rowOf t ⟨(y 0).val, hr⟩ := Fin.ext (by
    show cc0_transform_4 (grid0.coords t) 0 * 128 + 1 * (y 0).val = 128 * (grid0.coords t 0).val + (y 0).val
    rw [e]; simp <;> omega)
  have a1 : emb4 t y 1 = (⟨(y 1).val, hj⟩ : Fin 4096) := Fin.ext (by
    show cc0_transform_4 (grid0.coords t) 1 * 4096 + 1 * (y 1).val = (y 1).val
    rw [e]; simp <;> omega)
  have hy : y = ix2 (⟨(y 0).val, hr⟩ : Fin 128) (⟨(y 1).val, hj⟩ : Fin 4096) := funext fun a => by
    match a with
    | ⟨0, _⟩ => rfl
    | ⟨1, _⟩ => rfl
  have hval : outG m c (emb4 t y) = outE (argO m c) (argX m c) (argW m c) (argS m c) (rowOf t ⟨(y 0).val, hr⟩) ⟨(y 1).val, hj⟩ := by
    unfold outG
    rw [a0, a1]
  refine Eq.trans ?_ hval.symm
  refine Eq.trans ?_ (point4 m c t ⟨(y 0).val, hr⟩ ⟨(y 1).val, hj⟩)
  rw [after0_4]
  exact (cast_eq _ _).trans (congrArg (out0_4 (iblk m c 0 t) (iblk m c 1 t) (iblk m c 2 t) (iblk m c 3 t)) ((xinj4 t y).trans hy))

theorem xinj5 (t : Fin cfg0.N) (y : S128x8192.Idx) : (cfg0.win 5).xinj (cfg0.grid.coords t) y = y := rfl

theorem final5 : (dats m 0 c).arrAt 5 cfg0.N = codesG m c := by
  refine (dats m 0 c).arrAt_eq_of_covers 5 (codesG m c) covers5 fun t hf (y : S128x8192.Idx) => ?_
  have e := tr5 t
  have hr : (y 0).val < 128 := (y 0).isLt
  have hj : (y 1).val < 8192 := (y 1).isLt
  have a0 : emb5 t y 0 = rowOf t ⟨(y 0).val, hr⟩ := Fin.ext (by
    show cc0_transform_5 (grid0.coords t) 0 * 128 + 1 * (y 0).val = 128 * (grid0.coords t 0).val + (y 0).val
    rw [e]; simp <;> omega)
  have a1 : emb5 t y 1 = (⟨(y 1).val, hj⟩ : Fin 8192) := Fin.ext (by
    show cc0_transform_5 (grid0.coords t) 1 * 8192 + 1 * (y 1).val = (y 1).val
    rw [e]; simp <;> omega)
  have hy : y = ix2 (⟨(y 0).val, hr⟩ : Fin 128) (⟨(y 1).val, hj⟩ : Fin 8192) := funext fun a => by
    match a with
    | ⟨0, _⟩ => rfl
    | ⟨1, _⟩ => rfl
  have hval : codesG m c (emb5 t y) = codesE (argO m c) (rowOf t ⟨(y 0).val, hr⟩) ⟨(y 1).val, hj⟩ := by
    unfold codesG
    rw [a0, a1]
  refine Eq.trans ?_ hval.symm
  refine Eq.trans ?_ (point5 m c t ⟨(y 0).val, hr⟩ ⟨(y 1).val, hj⟩)
  rw [after0_5]
  exact (cast_eq _ _).trans (congrArg (out0_5 (iblk m c 0 t) (iblk m c 1 t) (iblk m c 2 t) (iblk m c 3 t)) ((xinj5 t y).trans hy))

theorem xinj6 (t : Fin cfg0.N) (y : S1x1x128.Idx) : (cfg0.win 6).xinj (cfg0.grid.coords t) y = y := rfl

theorem final6 : (dats m 0 c).arrAt 6 cfg0.N = scalesG m c := by
  refine (dats m 0 c).arrAt_eq_of_covers 6 (scalesG m c) covers6 fun t hf (y : S1x1x128.Idx) => ?_
  have e := tr6 t
  have h0 : (y 0).val < 1 := (y 0).isLt
  have h1 : (y 1).val < 1 := (y 1).isLt
  have hr : (y 2).val < 128 := (y 2).isLt
  have a0 : (emb6 t y 0).val = (grid0.coords t 0).val := by
    show cc0_transform_6 (grid0.coords t) 0 * 1 + 1 * (y 0).val = (grid0.coords t 0).val
    rw [e]; simp <;> omega
  have a2 : (emb6 t y 2).val = (y 2).val := by
    show cc0_transform_6 (grid0.coords t) 2 * 128 + 1 * (y 2).val = (y 2).val
    rw [e]; simp <;> omega
  have hy : y = ix3 (0 : Fin 1) (0 : Fin 1) (⟨(y 2).val, hr⟩ : Fin 128) := funext fun a => Fin.ext (by
    match a with
    | ⟨0, _⟩ => show (y 0).val = 0; omega
    | ⟨1, _⟩ => show (y 1).val = 0; omega
    | ⟨2, _⟩ => rfl)
  have hval : scalesG m c (emb6 t y) = scale (amax (argO m c (rowOf t ⟨(y 2).val, hr⟩))) := by
    unfold scalesG
    refine congrArg (fun i => scale (amax (argO m c i))) (Fin.ext ?_)
    show 128 * (emb6 t y 0).val + (emb6 t y 2).val = 128 * (grid0.coords t 0).val + (y 2).val
    rw [a0, a2]
  refine Eq.trans ?_ hval.symm
  refine Eq.trans ?_ (point6 m c t ⟨(y 2).val, hr⟩)
  rw [after0_6]
  exact (cast_eq _ _).trans (congrArg (out0_6 (iblk m c 0 t) (iblk m c 1 t) (iblk m c 2 t) (iblk m c 3 t)) ((xinj6 t y).trans hy))
end

/-- The run, read: the three result arrays element by element. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1_0) = outG m c ∧ r.2.mem ((c : Thread nD τ).loc main_v1_1) = codesG m c
        ∧ r.2.mem ((c : Thread nD τ).loc main_v1_2) = scalesG m c :=
  (θ_run defs _ _).mono (fun _ h c => ⟨(h c).1.trans (final4 m c), (h c).2.1.trans (final5 m c), (h c).2.2.1.trans (final6 m c)⟩)
    (run_blocks m ρ)

end Cert.OutIdeal.Value

end
-- ==== Proof.OutReferenceIdealRun.lean ====
/- The run of this program with its result arrays named by the windows that write them. -/
module

public import proofs.«01_k».proof.Proof.Gen.OutReferenceIdeal.Frame
public import Idealize.ShloMosaic.Lib.Pipeline.Value

@[expose] public section

noncomputable section

namespace Cert.OutReferenceIdeal.Value

open Cert.OutReferenceIdeal Cert.OutReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v1_2) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_v1_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

end Cert.OutReferenceIdeal.Value

end
-- ==== Proof.OutRef.lean ====
/- The output projection of the reference, run on whole arrays: each element of its three result arrays, as a function of the arguments. -/
module

public import proofs.«01_k».proof.Proof.OutReferenceIdealRun
public import proofs.«01_k».proof.Proof.Quant
public import Idealize.ShloMosaic.Lib.Pipeline.ValueKit
public import Idealize.ShloMosaic.Lib.Pipeline.Covers
public import Idealize.ShloMosaic.Lib.Claim

@[expose] public section

set_option maxRecDepth 16384

noncomputable section

namespace Cert.OutReferenceIdeal.Value

open Cert.OutReferenceIdeal Cert.OutReferenceIdeal.Gen Cert.Quant
open Idealize.ShloMosaic Idealize.ShloMosaic.TcCoe Idealize.SL.Sem
open Idealize.ShloMosaic.Pipeline (Dat)
open Facts

/-! ## One row -/

section
variable (x0 : Vec Ideal S4096x8192 .f32) (r : Fin 4096)

/-- Row `r` of the block. -/
def row : Fin 8192 → EReal := fun k => x0 (ix2 r k)

/-- The largest magnitude of each row. -/
def rowMax : FVec Ideal S4096 .f32 := multiReduction .maximumf [1] S4096 (absf x0) 0xFF800000#32 reduces_S4096x8192_S4096 (.inl rfl) rfl

theorem red_at : rowMax x0 (ix1 r) = amax (row x0 r) := by
  pointwise [rowMax] <;> rfl

theorem col_at (v : FVec Ideal S4096 .f32) : (shapeCast S4096x1 v shapeCasts_S4096_S4096x1 : FVec Ideal S4096x1 .f32) (ix2 r (0 : Fin 1)) = v (ix1 r) := by
  pointwise [] <;> rfl

theorem expoZ_gen (a : FVec Ideal S4096x1 .f32) :
    (select (cmpf .oeq a (broadcast S4096x1 (Scalar.ofBits .f32 0x00000000#32))) (broadcast S4096x1 (Scalar.ofBits .f32 0x00000000#32))
      (addf (floor (divf (log (mulf a (broadcast S4096x1 (Scalar.ofBits .f32 0x3B124925#32)))) (log (broadcast S4096x1 (Scalar.ofBits .f32 0x40000000#32)))))
        (broadcast S4096x1 (Scalar.ofBits .f32 0x3F800000#32))) : FVec Ideal S4096x1 .f32) (ix2 r (0 : Fin 1)) = expoZ (a (ix2 r (0 : Fin 1))) := by
  pointwise [] <;> rfl

theorem expo_at : k0_pay2 (F := Ideal) x0 (ix2 r (0 : Fin 1)) = expoZ (amax (row x0 r)) := by
  refine (expoZ_gen r (shapeCast S4096x1 (rowMax x0) shapeCasts_S4096_S4096x1)).trans ?_
  rw [col_at, red_at]

theorem code_gen (e : FVec Ideal S4096x1 .f32) (k : Fin 8192) :
    (truncf .fp8e4m3 (minimumf (broadcast S4096x8192 (Scalar.ofBits .f32 0x43E00000#32)) (maximumf (broadcast S4096x8192 (Scalar.ofBits .f32 0xC3E00000#32))
      (mulf x0 (broadcastTo S4096x8192 (exp2 (subf (broadcast S4096x1 (Scalar.ofBits .f32 0x00000000#32)) e)) broadcasts_S4096x1_S4096x8192)))) bitsLt_fp8e4m3_f32 :
        FVec Ideal S4096x8192 .fp8e4m3) (ix2 r k) =
    min (Ideal.ofBits .f32 0x43E00000#32) (max (Ideal.ofBits .f32 0xC3E00000#32) (row x0 r k * Ideal.exp2 (0 - e (ix2 r (0 : Fin 1))))) := by
  pointwise [] <;> rfl

theorem code_at (k : Fin 8192) : k0_pay3 (F := Ideal) x0 (ix2 r k) = code (row x0 r k) (amax (row x0 r)) := by
  refine (code_gen x0 r (k0_pay2 x0) k).trans ?_
  rw [expo_at]
  rfl

theorem scale_gen (e : FVec Ideal S4096x1 .f32) : (exp2 e : FVec Ideal S4096x1 .f32) (ix2 r (0 : Fin 1)) = Ideal.exp2 (e (ix2 r (0 : Fin 1))) := by
  pointwise [] <;> rfl

theorem scale_at : (exp2 (k0_pay2 (F := Ideal) x0) : FVec Ideal S4096x1 .f32) (ix2 r (0 : Fin 1)) = scale (amax (row x0 r)) := by
  rw [scale_gen, expo_at]
  rfl

theorem lines_at (e : FVec Ideal S4096x1 .f32) (b : Fin 32) (l : Fin 128) (i : Fin 4096) (hi : i.val = 128 * b.val + l.val) :
    k0_pay1 (F := Ideal) e (ix3 b (0 : Fin 1) l) = Ideal.exp2 (e (ix2 i (0 : Fin 1))) := by
  rw [show i = ⟨b.val * 128 + l.val, by have := b.isLt; have := l.isLt; omega⟩ from Fin.ext (by show i.val = b.val * 128 + l.val; omega)]
  pointwise [k0_pay1] <;> rfl

theorem prod_gen (s : FVec Ideal S4096x1 .f32) (q : FVec Ideal S4096x8192 .fp8e4m3) (w : FVec Ideal S8192x4096 .fp8e4m3)
    (x : FVec Ideal S4096x4096 .bf16) (ws : FVec Ideal S1x4096 .f32) (j : Fin 4096) :
    (truncf .bf16 (addf (extf .f32 x bitsLt_bf16_f32) (mulf (mulf (matmul dot_S4096x8192_S8192x4096_S4096x4096_1_0_0_1_n_n none q w (constant S4096x4096 .f32 0x00000000#32))
      (broadcastTo S4096x4096 s broadcasts_S4096x1_S4096x4096)) (broadcastTo S4096x4096 (shapeCast S1x4096 ws shapeCasts_S1x4096_S1x4096) broadcasts_S1x4096_S4096x4096))) bitsLt_bf16_f32 :
        FVec Ideal S4096x4096 .bf16) (ix2 r j) =
      (x (ix2 r j) + (∑ k : Fin 8192, q (ix2 r k) * w (ix2 k j)) * s (ix2 r (0 : Fin 1)) * ws (ix2 (0 : Fin 1) j) : EReal) := by
  pointwise [] <;> rfl

theorem prod_at (w : Vec Ideal S8192x4096 .fp8e4m3) (x : Vec Ideal S4096x4096 .bf16) (ws : Vec Ideal S1x4096 .f32) (j : Fin 4096) :
    k0_pay4 (F := Ideal) x0 w x ws (ix2 r j) =
      (x (ix2 r j) + (∑ k : Fin 8192, k0_pay3 (F := Ideal) x0 (ix2 r k) * w (ix2 k j)) * scale (amax (row x0 r)) * ws (ix2 (0 : Fin 1) j) : EReal) := by
  refine (prod_gen r (exp2 (k0_pay2 x0)) (k0_pay3 x0) w x ws j).trans ?_
  rw [scale_at]

end

theorem out4_eq (x0 : Vec Ideal S4096x8192 .f32) (x1 : Vec Ideal S4096x4096 .bf16) (x2 : Vec Ideal S8192x4096 .fp8e4m3) (x3 : Vec Ideal S1x4096 .f32) :
    out0_4 x0 x1 x2 x3 = k0_pay4 x0 x2 x1 x3 := by
  unfold out0_4
  rw [View.canon_cons_unit_lit _ _ _ (by decide), View.ld_unit_lit _ _ (by decide), View.ld_unit_lit _ _ (by decide),
    View.ld_unit_lit _ _ (by decide), View.ld_unit_lit _ _ (by decide)]

theorem out5_eq (x0 : Vec Ideal S4096x8192 .f32) (x1 : Vec Ideal S4096x4096 .bf16) (x2 : Vec Ideal S8192x4096 .fp8e4m3) (x3 : Vec Ideal S1x4096 .f32) :
    out0_5 x0 x1 x2 x3 = k0_pay3 x0 := by
  unfold out0_5
  rw [View.canon_cons_unit_lit _ _ _ (by decide), View.ld_unit_lit _ _ (by decide)]

theorem out6_eq (x0 : Vec Ideal S4096x8192 .f32) (x1 : Vec Ideal S4096x4096 .bf16) (x2 : Vec Ideal S8192x4096 .fp8e4m3) (x3 : Vec Ideal S1x4096 .f32) :
    out0_6 x0 x1 x2 x3 = k0_pay1 (k0_pay2 x0) := by
  unfold out0_6
  rw [View.canon_cons_unit_lit _ _ _ (by decide), View.ld_unit_lit _ _ (by decide)]

/-! ## The arguments, and what the body reads -/

section
variable (m : (ℓ : Loc nD τ sig) → Buf (Elt Ideal) ℓ) (c : Dev nD)

/-- The attention output. -/
def argO : Fin 4096 → Fin 8192 → EReal := fun i k => m ((c : Thread nD τ).loc main_arg0) (ix2 i k)
/-- The residual. -/
def argX : Fin 4096 → Fin 4096 → EReal := fun i j => m ((c : Thread nD τ).loc main_arg1) (ix2 i j)
/-- The weight codes. -/
def argW : Fin 8192 → Fin 4096 → EReal := fun k j => m ((c : Thread nD τ).loc main_arg2) (ix2 k j)
/-- The scales of the weight's columns. -/
def argS : Fin 4096 → EReal := fun j => m ((c : Thread nD τ).loc main_arg3) (ix1 j)

/-- The three result arrays. -/
def outG : Buf (Elt Ideal) ((c : Thread nD τ).loc main_v1_0) := fun (y : S4096x4096.Idx) => outE (argO m c) (argX m c) (argW m c) (argS m c) (y 0) (y 1)
def codesG : Buf (Elt Ideal) ((c : Thread nD τ).loc main_v1_1) := fun (y : S4096x8192.Idx) => codesE (argO m c) (y 0) (y 1)
def scalesG : Buf (Elt Ideal) ((c : Thread nD τ).loc main_v1_2) := fun (y : S32x1x128.Idx) =>
  scale (amax (argO m c ⟨128 * (y 0).val + (y 2).val, by have h0 : (y 0).val < 32 := (y 0).isLt; have h2 : (y 2).val < 128 := (y 2).isLt; omega⟩))

theorem scales_shaped (j : Fin 4096) : V m c main_v0 (ix2 (0 : Fin 1) j) = argS m c j := by
  have e : (V m c main_v0 : Vec Ideal S1x4096 .f32) = shapeCast S1x4096 (m ((c : Thread nD τ).loc main_arg3) : Vec Ideal S4096 .f32) shapeCasts_S4096_S1x4096 := by
    entry_read
    rfl
  have g : ∀ v : Vec Ideal S4096 .f32, (shapeCast S1x4096 v shapeCasts_S4096_S1x4096 : Vec Ideal S1x4096 .f32) (ix2 (0 : Fin 1) j) = v (ix1 j) := fun v => by
    pointwise []
  exact (congrFun e _).trans (g _)

variable (t : Fin cfg0.N)

theorem blk0 (r : Fin 4096) : row (iblk m c 0 t) r = argO m c r := by
  funext k
  unfold row iblk
  refine (congrFun (V_main_arg0 m c) _).trans (congrArg (m ((c : Thread nD τ).loc main_arg0)) (funext fun a => Fin.ext ?_))
  match a with
  | ⟨0, _⟩ => change 0 * 4096 + 1 * r.val = r.val; omega
  | ⟨1, _⟩ => change 0 * 8192 + 1 * k.val = k.val; omega

theorem blk1 (r : Fin 4096) (j : Fin 4096) : (iblk m c 1 t : Vec Ideal S4096x4096 .bf16) (ix2 r j) = argX m c r j := by
  unfold iblk
  refine (congrFun (V_main_arg1 m c) _).trans (congrArg (m ((c : Thread nD τ).loc main_arg1)) (funext fun a => Fin.ext ?_))
  match a with
  | ⟨0, _⟩ => change 0 * 4096 + 1 * r.val = r.val; omega
  | ⟨1, _⟩ => change 0 * 4096 + 1 * j.val = j.val; omega

theorem blk2 (k : Fin 8192) (j : Fin 4096) : (iblk m c 2 t : Vec Ideal S8192x4096 .fp8e4m3) (ix2 k j) = argW m c k j := by
  unfold iblk
  refine (congrFun (V_main_arg2 m c) _).trans (congrArg (m ((c : Thread nD τ).loc main_arg2)) (funext fun a => Fin.ext ?_))
  match a with
  | ⟨0, _⟩ => change 0 * 8192 + 1 * k.val = k.val; omega
  | ⟨1, _⟩ => change 0 * 4096 + 1 * j.val = j.val; omega

theorem blk3 (j : Fin 4096) : (iblk m c 3 t : Vec Ideal S1x4096 .f32) (ix2 (0 : Fin 1) j) = argS m c j := by
  refine Eq.trans ?_ (scales_shaped m c j)
  unfold iblk
  refine congrArg (V m c main_v0) (funext fun a => Fin.ext ?_)
  match a with
  | ⟨0, _⟩ => change 0 * 1 + 1 * 0 = 0; rfl
  | ⟨1, _⟩ => change 0 * 4096 + 1 * j.val = j.val; omega

/-! ## What the body leaves -/

theorem point4 (r : Fin 4096) (j : Fin 4096) :
    out0_4 (iblk m c 0 t) (iblk m c 1 t) (iblk m c 2 t) (iblk m c 3 t) (ix2 r j) = outE (argO m c) (argX m c) (argW m c) (argS m c) r j := by
  rw [out4_eq, prod_at, blk0, blk1, blk3]
  unfold outE codesE
  refine congrArg (fun z : EReal => argX m c r j + z * scale (amax (argO m c r)) * argS m c j) (Finset.sum_congr rfl fun k _ => ?_)
  rw [code_at, blk0, blk2]

theorem point5 (r : Fin 4096) (k : Fin 8192) :
    out0_5 (iblk m c 0 t) (iblk m c 1 t) (iblk m c 2 t) (iblk m c 3 t) (ix2 r k) = codesE (argO m c) r k := by
  rw [out5_eq, code_at, blk0]
  rfl

theorem point6 (b : Fin 32) (l : Fin 128) (i : Fin 4096) (hi : i.val = 128 * b.val + l.val) :
    out0_6 (iblk m c 0 t) (iblk m c 1 t) (iblk m c 2 t) (iblk m c 3 t) (ix3 b (0 : Fin 1) l) = scale (amax (argO m c i)) := by
  rw [out6_eq, lines_at _ b l i hi, expo_at, blk0]
  rfl

/-! ## The arrays after the run -/

/-- The one point of the run. -/
def t0 : Fin cfg0.N := (0 : Fin 1)

theorem t0_only (t : Fin cfg0.N) : t = t0 := Fin.ext (by have h : t.val < 1 := t.isLt; show t.val = 0; omega)

theorem final4 : (dats m 0 c).arrAt 4 cfg0.N = outG m c := by
  refine (dats m 0 c).arrAt_eq_of_after_last 4 t0 ⟨flush0_4 t0, fun t _ => t0_only t, fun a => ⟨rfl, rfl⟩⟩ (outG m c) fun (y : S4096x4096.Idx) => ?_
  have hr : (y 0).val < 4096 := (y 0).isLt
  have hj : (y 1).val < 4096 := (y 1).isLt
  have hy : y = ix2 (⟨(y 0).val, hr⟩ : Fin 4096) (⟨(y 1).val, hj⟩ : Fin 4096) := funext fun a => by
    match a with
    | ⟨0, _⟩ => rfl
    | ⟨1, _⟩ => rfl
  rw [after0_4]
  exact (cast_eq _ _).trans ((congrArg (out0_4 (iblk m c 0 t0) (iblk m c 1 t0) (iblk m c 2 t0) (iblk m c 3 t0)) hy).trans (point4 m c t0 ⟨(y 0).val, hr⟩ ⟨(y 1).val, hj⟩))

theorem final5 : (dats m 0 c).arrAt 5 cfg0.N = codesG m c := by
  refine (dats m 0 c).arrAt_eq_of_after_last 5 t0 ⟨flush0_5 t0, fun t _ => t0_only t, fun a => ⟨rfl, rfl⟩⟩ (codesG m c) fun (y : S4096x8192.Idx) => ?_
  have hr : (y 0).val < 4096 := (y 0).isLt
  have hj : (y 1).val < 8192 := (y 1).isLt
  have hy : y = ix2 (⟨(y 0).val, hr⟩ : Fin 4096) (⟨(y 1).val, hj⟩ : Fin 8192) := funext fun a => by
    match a with
    | ⟨0, _⟩ => rfl
    | ⟨1, _⟩ => rfl
  rw [after0_5]
  exact (cast_eq _ _).trans ((congrArg (out0_5 (iblk m c 0 t0) (iblk m c 1 t0) (iblk m c 2 t0) (iblk m c 3 t0)) hy).trans (point5 m c t0 ⟨(y 0).val, hr⟩ ⟨(y 1).val, hj⟩))

theorem final6 : (dats m 0 c).arrAt 6 cfg0.N = scalesG m c := by
  refine (dats m 0 c).arrAt_eq_of_after_last 6 t0 ⟨flush0_6 t0, fun t _ => t0_only t, fun a => ⟨rfl, rfl⟩⟩ (scalesG m c) fun (y : S32x1x128.Idx) => ?_
  have h0 : (y 0).val < 32 := (y 0).isLt
  have h1 : (y 1).val < 1 := (y 1).isLt
  have h2 : (y 2).val < 128 := (y 2).isLt
  have hy : y = ix3 (⟨(y 0).val, h0⟩ : Fin 32) (0 : Fin 1) (⟨(y 2).val, h2⟩ : Fin 128) := funext fun a => Fin.ext (by
    match a with
    | ⟨0, _⟩ => rfl
    | ⟨1, _⟩ => show (y 1).val = 0; omega
    | ⟨2, _⟩ => rfl)
  rw [after0_6]
  exact (cast_eq _ _).trans ((congrArg (out0_6 (iblk m c 0 t0) (iblk m c 1 t0) (iblk m c 2 t0) (iblk m c 3 t0)) hy).trans
    (point6 m c t0 ⟨(y 0).val, h0⟩ ⟨(y 2).val, h2⟩ ⟨128 * (y 0).val + (y 2).val, by omega⟩ rfl))
end

/-- The run, read: the three result arrays element by element. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1_0) = outG m c ∧ r.2.mem ((c : Thread nD τ).loc main_v1_1) = codesG m c
        ∧ r.2.mem ((c : Thread nD τ).loc main_v1_2) = scalesG m c :=
  (θ_run defs _ _).mono (fun _ h c => ⟨(h c).1.trans (final4 m c), (h c).2.1.trans (final5 m c), (h c).2.2.1.trans (final6 m c)⟩)
    (run_blocks m ρ)

end Cert.OutReferenceIdeal.Value

end
-- ==== Proof.QkvVals.lean ====
module

public import proofs.«01_k».proof.Proof.Gen.Qkv.Frame
public import proofs.«01_k».proof.Proof.Gen.Qkv.Skeleton
public import Idealize.ShloMosaic.Lib.Claim

/-! # The projection's body, run at the two kinds of grid points

At the key and value points (the first eight) the body stores six blocks and leaves the queries';
at the others it stores the queries' block and leaves the six. -/

@[expose] public section

set_option maxRecDepth 16384

noncomputable section

namespace Cert.Qkv.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Qkv.Gen

variable {F : FTy → Type} [FloatOps F]

abbrev Mem (F : FTy → Type) := MT nD τ sig Unit (Elt F) ℕ (UR sig nD τ) ℕ

/-! ## The values of the key and value branch, in the body's order -/

section Values

def v20 (z : FVec F S512x1024 .f32) (co si : FVec F S512x128 .f32) : IVec S512x128 32 := iota .tc S512x128 32 [1] iota_S512x128_d1_w32
def v54 (z : FVec F S512x1024 .f32) (co si : FVec F S512x128 .f32) : FVec F S512x128 .fp8e4m3 := k0_pay19 z co si
def v56 (z : FVec F S512x1024 .f32) (co si : FVec F S512x128 .f32) : FVec F S512x128 .f32 := k0_pay20 z co si
def v61 (z : FVec F S512x1024 .f32) (co si : FVec F S512x128 .f32) : FVec F S512x128 .f32 := k0_pay21 z co si
def v64 (z : FVec F S512x1024 .f32) (co si : FVec F S512x128 .f32) : FVec F S512x1 .f32 := k0_pay22 z co si
def v65 (z : FVec F S512x1024 .f32) (co si : FVec F S512x128 .f32) : FVec F S512x1 .f32 := k0_pay23 (F := F)
def v90 (z : FVec F S512x1024 .f32) (co si : FVec F S512x128 .f32) : FVec F S512x128 .fp8e4m3 := k0_pay26 (v61 z co si) (v64 z co si) (v65 z co si)
def v92 (z : FVec F S512x1024 .f32) (co si : FVec F S512x128 .f32) : FVec F S512x128 .f32 := k0_pay27 (v64 z co si) (v65 z co si)
def v110 (z : FVec F S512x1024 .f32) (co si : FVec F S512x128 .f32) : IVec S512x128 1 := k0_pay28 (v20 z co si)
def v111 (z : FVec F S512x1024 .f32) (co si : FVec F S512x128 .f32) : FVec F S512x128 .f32 := k0_pay29 (v56 z co si) (v92 z co si) (v110 z co si)
def v145 (z : FVec F S512x1024 .f32) (co si : FVec F S512x128 .f32) : FVec F S512x128 .fp8e4m3 := k0_pay34 z co si
def v147 (z : FVec F S512x1024 .f32) (co si : FVec F S512x128 .f32) : FVec F S512x128 .f32 := k0_pay35 z co si
def v149 (z : FVec F S512x1024 .f32) (co si : FVec F S512x128 .f32) : BitVec 32 := Scalar.select (Scalar.cmpi .eq 4#32 0#32) 1#32 4#32
def v151 (z : FVec F S512x1024 .f32) (co si : FVec F S512x128 .f32) : IVec S512x128 32 := k0_pay36 (v20 z co si)
def v153 (z : FVec F S512x1024 .f32) (co si : FVec F S512x128 .f32) : IVec S512x128 1 := k0_pay37 (v20 z co si)
def v154 (z : FVec F S512x1024 .f32) (co si : FVec F S512x128 .f32) : IVec S512x128 32 := k0_pay38
def v166 (z : FVec F S512x1024 .f32) (co si : FVec F S512x128 .f32) : FVec F S512x128 .f32 := k0_pay39 (v111 z co si) (v147 z co si) (v149 z co si) (v151 z co si) (v153 z co si) (v154 z co si)
def v200 (z : FVec F S512x1024 .f32) (co si : FVec F S512x128 .f32) : FVec F S512x128 .fp8e4m3 := k0_pay44 z co si
def v201 (z : FVec F S512x1024 .f32) (co si : FVec F S512x128 .f32) : FVec F S512x1 .f32 := k0_pay45 z co si
def v235 (z : FVec F S512x1024 .f32) (co si : FVec F S512x128 .f32) : FVec F S512x128 .f32 := k0_pay50 z
def v238 (z : FVec F S512x1024 .f32) (co si : FVec F S512x128 .f32) : FVec F S512x1 .f32 := k0_pay51 z
def v241 (z : FVec F S512x1024 .f32) (co si : FVec F S512x128 .f32) : FVec F S512x1 .f32 := k0_pay52 z
def v264 (z : FVec F S512x1024 .f32) (co si : FVec F S512x128 .f32) : FVec F S512x128 .fp8e4m3 := k0_pay55 (v235 z co si) (v238 z co si) (v241 z co si)
def v266 (z : FVec F S512x1024 .f32) (co si : FVec F S512x128 .f32) : FVec F S512x128 .f32 := k0_pay56 (v238 z co si) (v241 z co si)
def v267 (z : FVec F S512x1024 .f32) (co si : FVec F S512x128 .f32) : FVec F S512x128 .f32 := k0_pay57 z
def v280 (z : FVec F S512x1024 .f32) (co si : FVec F S512x128 .f32) : FVec F S512x1 .f32 := k0_pay60 z
def v283 (z : FVec F S512x1024 .f32) (co si : FVec F S512x128 .f32) : FVec F S512x1 .f32 := k0_pay61 z
def v285 (z : FVec F S512x1024 .f32) (co si : FVec F S512x128 .f32) : IVec S512x1 1 := k0_pay62 z
def v286 (z : FVec F S512x1024 .f32) (co si : FVec F S512x128 .f32) : FVec F S512x1 .f32 := k0_pay63 (F := F)
def v296 (z : FVec F S512x1024 .f32) (co si : FVec F S512x128 .f32) : FVec F S512x128 .fp8e4m3 := k0_pay64 (v267 z co si) (v283 z co si) (v285 z co si)
def v317 (z : FVec F S512x1024 .f32) (co si : FVec F S512x128 .f32) : FVec F S512x128 .f32 := k0_pay65 (v20 z co si) (v266 z co si) (v280 z co si) (v285 z co si) (v286 z co si)
def v318 (z : FVec F S512x1024 .f32) (co si : FVec F S512x128 .f32) : FVec F S512x128 .f32 := k0_pay66 z
def v321 (z : FVec F S512x1024 .f32) (co si : FVec F S512x128 .f32) : FVec F S512x1 .f32 := k0_pay67 z
def v330 (z : FVec F S512x1024 .f32) (co si : FVec F S512x128 .f32) : FVec F S512x1 .f32 := k0_pay68 z
def v331 (z : FVec F S512x1024 .f32) (co si : FVec F S512x128 .f32) : FVec F S512x1 .f32 := k0_pay69 z
def cst_113 (z : FVec F S512x1024 .f32) (co si : FVec F S512x128 .f32) : F .f32 := Scalar.ofBits .f32 0x00000000#32
def v347 (z : FVec F S512x1024 .f32) (co si : FVec F S512x128 .f32) : FVec F S512x128 .fp8e4m3 := k0_pay71 (v318 z co si) (v321 z co si) (v330 z co si) (cst_113 z co si)
def v368 (z : FVec F S512x1024 .f32) (co si : FVec F S512x128 .f32) : FVec F S512x128 .f32 := k0_pay72 (v20 z co si) (v317 z co si) (v321 z co si) (v331 z co si)
def v369 (z : FVec F S512x1024 .f32) (co si : FVec F S512x128 .f32) : FVec F S512x128 .f32 := k0_pay73 z
def v372 (z : FVec F S512x1024 .f32) (co si : FVec F S512x128 .f32) : FVec F S512x1 .f32 := k0_pay74 z
def v375 (z : FVec F S512x1024 .f32) (co si : FVec F S512x128 .f32) : FVec F S512x1 .f32 := k0_pay75 z
def v376 (z : FVec F S512x1024 .f32) (co si : FVec F S512x128 .f32) : FVec F S512x1 .f32 := k0_pay76 (F := F)
def v398 (z : FVec F S512x1024 .f32) (co si : FVec F S512x128 .f32) : FVec F S512x128 .fp8e4m3 := k0_pay79 (v369 z co si) (v372 z co si) (v375 z co si) (v376 z co si)
def v419 (z : FVec F S512x1024 .f32) (co si : FVec F S512x128 .f32) : FVec F S512x128 .f32 := k0_pay80 (v20 z co si) (v368 z co si) (v372 z co si) (v375 z co si) (v376 z co si)
def v420 (z : FVec F S512x1024 .f32) (co si : FVec F S512x128 .f32) : FVec F S512x1x128 .fp8e4m3 := k0_pay81 (v264 z co si)
def v421 (z : FVec F S512x1024 .f32) (co si : FVec F S512x128 .f32) : FVec F S512x1x128 .fp8e4m3 := k0_pay82 (v296 z co si)
def v422 (z : FVec F S512x1024 .f32) (co si : FVec F S512x128 .f32) : FVec F S512x1x128 .fp8e4m3 := k0_pay83 (v347 z co si)

end Values

abbrev rx : Rect S512x4096 := Rect.unit (s := S512x4096) ![0, 0] S512x4096.size inb_S512x4096_S512x4096_0_0
abbrev rw : Rect S4096x1024 := Rect.unit (s := S4096x1024) ![0, 0] S4096x1024.size inb_S4096x1024_S4096x1024_0_0
abbrev rxs : Rect S512x1 := Rect.unit (s := S512x1) ![0, 0] S512x1.size inb_S512x1_S512x1_0_0
abbrev rws : Rect S1x1024 := Rect.unit (s := S1x1024) ![0, 0] S1x1024.size inb_S1x1024_S1x1024_0_0
abbrev rt : Rect S512x128 := Rect.unit (s := S512x128) ![0, 0] S512x128.size inb_S512x128_S512x128_0_0
abbrev rc : Rect S512x4x128 := Rect.unit (s := S512x4x128) ![0, 0, 0] S512x4x128.size inb_S512x4x128_S512x4x128_0_0_0
abbrev rs : Rect S1x4x512 := Rect.unit (s := S1x4x512) ![0, 0, 0] S1x4x512.size inb_S1x4x512_S1x4x512_0_0_0
abbrev rq0 : Rect S8x128x512 := Rect.unit (s := S8x128x512) ![0, 0, 0] S1x128x512.size inb_S8x128x512_S1x128x512_0_0_0
abbrev rq1 : Rect S8x128x512 := Rect.unit (s := S8x128x512) ![1, 0, 0] S1x128x512.size inb_S8x128x512_S1x128x512_1_0_0
abbrev rq2 : Rect S8x128x512 := Rect.unit (s := S8x128x512) ![2, 0, 0] S1x128x512.size inb_S8x128x512_S1x128x512_2_0_0
abbrev rq3 : Rect S8x128x512 := Rect.unit (s := S8x128x512) ![3, 0, 0] S1x128x512.size inb_S8x128x512_S1x128x512_3_0_0
abbrev rq4 : Rect S8x128x512 := Rect.unit (s := S8x128x512) ![4, 0, 0] S1x128x512.size inb_S8x128x512_S1x128x512_4_0_0
abbrev rq5 : Rect S8x128x512 := Rect.unit (s := S8x128x512) ![5, 0, 0] S1x128x512.size inb_S8x128x512_S1x128x512_5_0_0
abbrev rq6 : Rect S8x128x512 := Rect.unit (s := S8x128x512) ![6, 0, 0] S1x128x512.size inb_S8x128x512_S1x128x512_6_0_0
abbrev rq7 : Rect S8x128x512 := Rect.unit (s := S8x128x512) ![7, 0, 0] S1x128x512.size inb_S8x128x512_S1x128x512_7_0_0

/-- The block's product, scaled. -/
abbrev zOf (x0 : Vec F S512x4096 .fp8e4m3) (x1 : Vec F S512x1 .f32) (x2 : Vec F S4096x1024 .fp8e4m3) (x3 : Vec F S1x1024 .f32) : FVec F S512x1024 .f32 :=
  k0_pay1 (View.ld x0 rx) (View.ld x2 rw) (View.ld x1 rxs) (View.ld x3 rws)
abbrev coOf (x4 : Vec F S512x128 .f32) : FVec F S512x128 .f32 := k0_pay2 (View.ld x4 rt)
abbrev siOf (x5 : Vec F S512x128 .f32) : FVec F S512x128 .f32 := k0_pay3 (View.ld x5 rt)

/-- What the query points leave in window 6's buffer. -/
def out6 (x0 : Vec F S512x4096 .fp8e4m3) (x1 : Vec F S512x1 .f32) (x2 : Vec F S4096x1024 .fp8e4m3) (x3 : Vec F S1x1024 .f32) (x4 x5 : Vec F S512x128 .f32) : Vec F S8x128x512 .bf16 :=
  View.canon [⟨rq7, k0_pay14 (zOf x0 x1 x2 x3) (coOf x4) (siOf x5)⟩, ⟨rq6, k0_pay13 (zOf x0 x1 x2 x3) (coOf x4) (siOf x5)⟩, ⟨rq5, k0_pay12 (zOf x0 x1 x2 x3) (coOf x4) (siOf x5)⟩, ⟨rq4, k0_pay11 (zOf x0 x1 x2 x3) (coOf x4) (siOf x5)⟩, ⟨rq3, k0_pay10 (zOf x0 x1 x2 x3) (coOf x4) (siOf x5)⟩, ⟨rq2, k0_pay9 (zOf x0 x1 x2 x3) (coOf x4) (siOf x5)⟩, ⟨rq1, k0_pay8 (zOf x0 x1 x2 x3) (coOf x4) (siOf x5)⟩, ⟨rq0, k0_pay7 (zOf x0 x1 x2 x3) (coOf x4) (siOf x5)⟩]

theorem cover6 (p0 p1 p2 p3 p4 p5 p6 p7 : Vec F S1x128x512 .bf16) (y : S8x128x512.Idx) :
    ∃ pc ∈ ([⟨rq7, p7⟩, ⟨rq6, p6⟩, ⟨rq5, p5⟩, ⟨rq4, p4⟩, ⟨rq3, p3⟩, ⟨rq2, p2⟩, ⟨rq1, p1⟩, ⟨rq0, p0⟩] : List (View.Piece (Elt F) S8x128x512 .bf16)), y ∈ pc.1.set :=
  View.cover_of_tiled [⟨rq7, p7⟩, ⟨rq6, p6⟩, ⟨rq5, p5⟩, ⟨rq4, p4⟩, ⟨rq3, p3⟩, ⟨rq2, p2⟩, ⟨rq1, p1⟩, ⟨rq0, p0⟩] S1x128x512.size (by rfl) y

/-- What the key and value points leave in window 7's buffer. -/
def out7 (x0 : Vec F S512x4096 .fp8e4m3) (x1 : Vec F S512x1 .f32) (x2 : Vec F S4096x1024 .fp8e4m3) (x3 : Vec F S1x1024 .f32) (x4 x5 : Vec F S512x128 .f32) : Vec F S512x4x128 .fp8e4m3 :=
  View.canon [⟨rc, k0_pay47 (v54 (zOf x0 x1 x2 x3) (coOf x4) (siOf x5)) (v90 (zOf x0 x1 x2 x3) (coOf x4) (siOf x5)) (v145 (zOf x0 x1 x2 x3) (coOf x4) (siOf x5)) (v200 (zOf x0 x1 x2 x3) (coOf x4) (siOf x5))⟩]

theorem cover7 (p0 : Vec F S512x4x128 .fp8e4m3) (y : S512x4x128.Idx) :
    ∃ pc ∈ ([⟨rc, p0⟩] : List (View.Piece (Elt F) S512x4x128 .fp8e4m3)), y ∈ pc.1.set :=
  View.cover_of_tiled [⟨rc, p0⟩] S512x4x128.size (by rfl) y

/-- What the key and value points leave in window 8's buffer. -/
def out8 (x0 : Vec F S512x4096 .fp8e4m3) (x1 : Vec F S512x1 .f32) (x2 : Vec F S4096x1024 .fp8e4m3) (x3 : Vec F S1x1024 .f32) (x4 x5 : Vec F S512x128 .f32) : Vec F S512x4x128 .fp8e4m3 :=
  View.canon [⟨rc, k0_pay4 (v398 (zOf x0 x1 x2 x3) (coOf x4) (siOf x5)) (v420 (zOf x0 x1 x2 x3) (coOf x4) (siOf x5)) (v421 (zOf x0 x1 x2 x3) (coOf x4) (siOf x5)) (v422 (zOf x0 x1 x2 x3) (coOf x4) (siOf x5))⟩]

theorem cover8 (p0 : Vec F S512x4x128 .fp8e4m3) (y : S512x4x128.Idx) :
    ∃ pc ∈ ([⟨rc, p0⟩] : List (View.Piece (Elt F) S512x4x128 .fp8e4m3)), y ∈ pc.1.set :=
  View.cover_of_tiled [⟨rc, p0⟩] S512x4x128.size (by rfl) y

/-- What the key and value points leave in window 9's buffer. -/
def out9 (x0 : Vec F S512x4096 .fp8e4m3) (x1 : Vec F S512x1 .f32) (x2 : Vec F S4096x1024 .fp8e4m3) (x3 : Vec F S1x1024 .f32) (x4 x5 : Vec F S512x128 .f32) : Vec F S1x4x512 .f32 :=
  View.canon [⟨rs, k0_pay49 (v20 (zOf x0 x1 x2 x3) (coOf x4) (siOf x5)) (v166 (zOf x0 x1 x2 x3) (coOf x4) (siOf x5)) (v201 (zOf x0 x1 x2 x3) (coOf x4) (siOf x5))⟩]

theorem cover9 (p0 : Vec F S1x4x512 .f32) (y : S1x4x512.Idx) :
    ∃ pc ∈ ([⟨rs, p0⟩] : List (View.Piece (Elt F) S1x4x512 .f32)), y ∈ pc.1.set :=
  View.cover_of_tiled [⟨rs, p0⟩] S1x4x512.size (by rfl) y

/-- What the key and value points leave in window 10's buffer. -/
def out10 (x0 : Vec F S512x4096 .fp8e4m3) (x1 : Vec F S512x1 .f32) (x2 : Vec F S4096x1024 .fp8e4m3) (x3 : Vec F S1x1024 .f32) (x4 x5 : Vec F S512x128 .f32) : Vec F S1x4x512 .f32 :=
  View.canon [⟨rs, k0_pay6 (v419 (zOf x0 x1 x2 x3) (coOf x4) (siOf x5))⟩]

theorem cover10 (p0 : Vec F S1x4x512 .f32) (y : S1x4x512.Idx) :
    ∃ pc ∈ ([⟨rs, p0⟩] : List (View.Piece (Elt F) S1x4x512 .f32)), y ∈ pc.1.set :=
  View.cover_of_tiled [⟨rs, p0⟩] S1x4x512.size (by rfl) y

/-- What the key and value points leave in window 11's buffer. -/
def out11 (x0 : Vec F S512x4096 .fp8e4m3) (x1 : Vec F S512x1 .f32) (x2 : Vec F S4096x1024 .fp8e4m3) (x3 : Vec F S1x1024 .f32) (x4 x5 : Vec F S512x128 .f32) : Vec F S512x128 .bf16 :=
  View.canon [⟨rt, k0_pay48 (v20 (zOf x0 x1 x2 x3) (coOf x4) (siOf x5)) (v166 (zOf x0 x1 x2 x3) (coOf x4) (siOf x5)) (v201 (zOf x0 x1 x2 x3) (coOf x4) (siOf x5))⟩]

theorem cover11 (p0 : Vec F S512x128 .bf16) (y : S512x128.Idx) :
    ∃ pc ∈ ([⟨rt, p0⟩] : List (View.Piece (Elt F) S512x128 .bf16)), y ∈ pc.1.set :=
  View.cover_of_tiled [⟨rt, p0⟩] S512x128.size (by rfl) y

/-- What the key and value points leave in window 12's buffer. -/
def out12 (x0 : Vec F S512x4096 .fp8e4m3) (x1 : Vec F S512x1 .f32) (x2 : Vec F S4096x1024 .fp8e4m3) (x3 : Vec F S1x1024 .f32) (x4 x5 : Vec F S512x128 .f32) : Vec F S512x128 .bf16 :=
  View.canon [⟨rt, k0_pay5 (v419 (zOf x0 x1 x2 x3) (coOf x4) (siOf x5))⟩]

theorem cover12 (p0 : Vec F S512x128 .bf16) (y : S512x128.Idx) :
    ∃ pc ∈ ([⟨rt, p0⟩] : List (View.Piece (Elt F) S512x128 .bf16)), y ∈ pc.1.set :=
  View.cover_of_tiled [⟨rt, p0⟩] S512x128.size (by rfl) y

end Cert.Qkv.Run

end
-- ==== Proof.QkvKv.lean ====
module

public import proofs.«01_k».proof.Proof.Gen.Qkv.Frame
public import proofs.«01_k».proof.Proof.Gen.Qkv.Skeleton
public import proofs.«01_k».proof.Proof.QkvVals
public import Idealize.ShloMosaic.Lib.Claim

/-! # The projection's body, run at the two kinds of grid points

At the key and value points (the first eight) the body stores six blocks and leaves the queries';
at the others it stores the queries' block and leaves the six. -/

@[expose] public section

set_option maxRecDepth 16384

noncomputable section

namespace Cert.Qkv.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Qkv.Gen

variable {F : FTy → Type} [FloatOps F]

set_option maxHeartbeats 4000000 in
theorem sound_kv (c : Dev nD) (E : Set ℕ) (i : grid0.Coords) (h1 : ¬ (k0_cond1 i = 1#1)) (h2 : k0_cond2 i = 1#1) (arg2 : Memref sig .tc .vmem S512x4096 .fp8e4m3) (harg2 : arg2.IsWhole) (arg3 : Memref sig .tc .vmem S512x1 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x512 .bf16) (harg8 : arg8.IsWhole) (arg9 : Memref sig .tc .vmem S512x4x128 .fp8e4m3) (harg9 : arg9.IsWhole) (arg10 : Memref sig .tc .vmem S512x4x128 .fp8e4m3) (harg10 : arg10.IsWhole) (arg11 : Memref sig .tc .vmem S1x4x512 .f32) (harg11 : arg11.IsWhole) (arg12 : Memref sig .tc .vmem S1x4x512 .f32) (harg12 : arg12.IsWhole) (arg13 : Memref sig .tc .vmem S512x128 .bf16) (harg13 : arg13.IsWhole) (arg14 : Memref sig .tc .vmem S512x128 .bf16) (harg14 : arg14.IsWhole)
    (x0 : Vec F S512x4096 .fp8e4m3) (x1 : Vec F S512x1 .f32) (x2 : Vec F S4096x1024 .fp8e4m3) (x3 : Vec F S1x1024 .f32) (x4 x5 : Vec F S512x128 .f32) (y6 : Vec F S8x128x512 .bf16) (K : PUnit → sProp (Mem F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare (out7 x0 x1 x2 x3 x4 x5) ∗ owns (c : Thread nD τ) arg10 fullShare (out8 x0 x1 x2 x3 x4 x5) ∗ owns (c : Thread nD τ) arg11 fullShare (out9 x0 x1 x2 x3 x4 x5) ∗ owns (c : Thread nD τ) arg12 fullShare (out10 x0 x1 x2 x3 x4 x5) ∗ owns (c : Thread nD τ) arg13 fullShare (out11 x0 x1 x2 x3 x4 x5) ∗ owns (c : Thread nD τ) arg14 fullShare (out12 x0 x1 x2 x3 x4 x5)) -∗ K ⟨⟩))
      ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12 arg13 harg13 arg14 harg14) K := by
  simp only [cc0_qkv_proj_eq_skeleton]; unfold cc0_qkv_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4 hf5 hf6
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover7 _ )
  isplitl [H8]
  · iexists _; isplitr
    swap; · iexact H8
    ipureintro
    exact View.read_writes_eq_canon _ _ _ (cover8 _ )
  isplitl [H9]
  · iexists _; isplitr
    swap; · iexact H9
    ipureintro
    exact View.read_writes_eq_canon _ _ _ (cover9 _ )
  isplitl [H10]
  · iexists _; isplitr
    swap; · iexact H10
    ipureintro
    exact View.read_writes_eq_canon _ _ _ (cover10 _ )
  isplitl [H11]
  · iexists _; isplitr
    swap; · iexact H11
    ipureintro
    exact View.read_writes_eq_canon _ _ _ (cover11 _ )
  iexists _; isplitr
  swap; · iexact H12
  ipureintro
  exact View.read_writes_eq_canon _ _ _ (cover12 _ )

end Cert.Qkv.Run

end
-- ==== Proof.QkvQ.lean ====
module

public import proofs.«01_k».proof.Proof.Gen.Qkv.Frame
public import proofs.«01_k».proof.Proof.Gen.Qkv.Skeleton
public import proofs.«01_k».proof.Proof.QkvVals
public import Idealize.ShloMosaic.Lib.Claim

/-! # The projection's body, run at the two kinds of grid points

At the key and value points (the first eight) the body stores six blocks and leaves the queries';
at the others it stores the queries' block and leaves the six. -/

@[expose] public section

set_option maxRecDepth 16384

noncomputable section

namespace Cert.Qkv.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Qkv.Gen

variable {F : FTy → Type} [FloatOps F]

set_option maxHeartbeats 4000000 in
theorem sound_q (c : Dev nD) (E : Set ℕ) (i : grid0.Coords) (h1 : k0_cond1 i = 1#1) (h2 : ¬ (k0_cond2 i = 1#1)) (arg2 : Memref sig .tc .vmem S512x4096 .fp8e4m3) (harg2 : arg2.IsWhole) (arg3 : Memref sig .tc .vmem S512x1 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x512 .bf16) (harg8 : arg8.IsWhole) (arg9 : Memref sig .tc .vmem S512x4x128 .fp8e4m3) (harg9 : arg9.IsWhole) (arg10 : Memref sig .tc .vmem S512x4x128 .fp8e4m3) (harg10 : arg10.IsWhole) (arg11 : Memref sig .tc .vmem S1x4x512 .f32) (harg11 : arg11.IsWhole) (arg12 : Memref sig .tc .vmem S1x4x512 .f32) (harg12 : arg12.IsWhole) (arg13 : Memref sig .tc .vmem S512x128 .bf16) (harg13 : arg13.IsWhole) (arg14 : Memref sig .tc .vmem S512x128 .bf16) (harg14 : arg14.IsWhole)
    (x0 : Vec F S512x4096 .fp8e4m3) (x1 : Vec F S512x1 .f32) (x2 : Vec F S4096x1024 .fp8e4m3) (x3 : Vec F S1x1024 .f32) (x4 x5 : Vec F S512x128 .f32) (y7 : Vec F S512x4x128 .fp8e4m3) (y8 : Vec F S512x4x128 .fp8e4m3) (y9 : Vec F S1x4x512 .f32) (y10 : Vec F S1x4x512 .f32) (y11 : Vec F S512x128 .bf16) (y12 : Vec F S512x128 .bf16) (K : PUnit → sProp (Mem F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out6 x0 x1 x2 x3 x4 x5) ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12) -∗ K ⟨⟩))
      ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12 arg13 harg13 arg14 harg14) K := by
  simp only [cc0_qkv_proj_eq_skeleton]; unfold cc0_qkv_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf0 hf1 hf2 hf3 hf4 hf5 hf7 hf8 hf9 hf10 hf11 hf12
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6 _ _ _ _ _ _ _ _ )
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists f12; isplitr; · ipureintro; rfl
  iexact H12

end Cert.Qkv.Run

end
-- ==== Proof.QkvFrame.lean ====
module

public import proofs.«01_k».proof.Proof.QkvKv
public import proofs.«01_k».proof.Proof.QkvQ
public import Idealize.ShloMosaic.Lib.Pipeline.TableIdle

/-! # The projection's run

The six key and value blocks are stored at the first eight points and left alone afterwards; the pipeline
writes the last of them back only at its last point, which finds them as the eighth point left them. -/

@[expose] public section

set_option maxRecDepth 16384

noncomputable section

namespace Cert.Qkv.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Qkv.Gen

variable {F : FTy → Type} [FloatOps F]

variable (m : (ℓ : Loc nD τ sig) → Buf (Elt F) ℓ) (ρ : Dev nD → PrngReg)

/-! ## The schedule -/

theorem cond1_iff : ∀ t : Fin grid0.N, k0_cond1 (grid0.coords t) = 1#1 ↔ 8 ≤ t.val := by decide +kernel
theorem cond2_iff : ∀ t : Fin grid0.N, k0_cond2 (grid0.coords t) = 1#1 ↔ t.val < 8 := by decide +kernel
theorem flush6 : ∀ t : Fin cfg0.N, (cfg0.win 6).flush t = true ↔ 8 ≤ t.val :=
  (by decide +kernel : ∀ t : Fin grid0.N, win0_6.flush t = true ↔ 8 ≤ t.val)

/-- Where a key or value buffer holds nothing the body stored. -/
def tab (n : ℕ) : Bool := decide (n ≤ 7) || decide (n = 72)

theorem flush7 : ∀ t : Fin cfg0.N, (cfg0.win 7).flush t = true ↔ t.val < 7 ∨ t.val = 71 :=
  (by decide +kernel : ∀ t : Fin grid0.N, win0_7.flush t = true ↔ t.val < 7 ∨ t.val = 71)
theorem fresh7 (t : Fin cfg0.N) : cfg0.fresh 7 t.val = tab t.val :=
  Cfg.fresh_tab cfg0 7 tab rfl
    (by decide +kernel : ∀ t : Fin grid0.N, tab (t.val + 1) = (win0_7.flush t || (idle0 7 (grid0.coords t) && tab t.val)))
    t.val (Nat.le_of_lt t.isLt)

theorem flush8 : ∀ t : Fin cfg0.N, (cfg0.win 8).flush t = true ↔ t.val < 7 ∨ t.val = 71 :=
  (by decide +kernel : ∀ t : Fin grid0.N, win0_8.flush t = true ↔ t.val < 7 ∨ t.val = 71)
theorem fresh8 (t : Fin cfg0.N) : cfg0.fresh 8 t.val = tab t.val :=
  Cfg.fresh_tab cfg0 8 tab rfl
    (by decide +kernel : ∀ t : Fin grid0.N, tab (t.val + 1) = (win0_8.flush t || (idle0 8 (grid0.coords t) && tab t.val)))
    t.val (Nat.le_of_lt t.isLt)

theorem flush9 : ∀ t : Fin cfg0.N, (cfg0.win 9).flush t = true ↔ t.val < 7 ∨ t.val = 71 :=
  (by decide +kernel : ∀ t : Fin grid0.N, win0_9.flush t = true ↔ t.val < 7 ∨ t.val = 71)
theorem fresh9 (t : Fin cfg0.N) : cfg0.fresh 9 t.val = tab t.val :=
  Cfg.fresh_tab cfg0 9 tab rfl
    (by decide +kernel : ∀ t : Fin grid0.N, tab (t.val + 1) = (win0_9.flush t || (idle0 9 (grid0.coords t) && tab t.val)))
    t.val (Nat.le_of_lt t.isLt)

theorem flush10 : ∀ t : Fin cfg0.N, (cfg0.win 10).flush t = true ↔ t.val < 7 ∨ t.val = 71 :=
  (by decide +kernel : ∀ t : Fin grid0.N, win0_10.flush t = true ↔ t.val < 7 ∨ t.val = 71)
theorem fresh10 (t : Fin cfg0.N) : cfg0.fresh 10 t.val = tab t.val :=
  Cfg.fresh_tab cfg0 10 tab rfl
    (by decide +kernel : ∀ t : Fin grid0.N, tab (t.val + 1) = (win0_10.flush t || (idle0 10 (grid0.coords t) && tab t.val)))
    t.val (Nat.le_of_lt t.isLt)

theorem flush11 : ∀ t : Fin cfg0.N, (cfg0.win 11).flush t = true ↔ t.val < 7 ∨ t.val = 71 :=
  (by decide +kernel : ∀ t : Fin grid0.N, win0_11.flush t = true ↔ t.val < 7 ∨ t.val = 71)
theorem fresh11 (t : Fin cfg0.N) : cfg0.fresh 11 t.val = tab t.val :=
  Cfg.fresh_tab cfg0 11 tab rfl
    (by decide +kernel : ∀ t : Fin grid0.N, tab (t.val + 1) = (win0_11.flush t || (idle0 11 (grid0.coords t) && tab t.val)))
    t.val (Nat.le_of_lt t.isLt)

theorem flush12 : ∀ t : Fin cfg0.N, (cfg0.win 12).flush t = true ↔ t.val < 7 ∨ t.val = 71 :=
  (by decide +kernel : ∀ t : Fin grid0.N, win0_12.flush t = true ↔ t.val < 7 ∨ t.val = 71)
theorem fresh12 (t : Fin cfg0.N) : cfg0.fresh 12 t.val = tab t.val :=
  Cfg.fresh_tab cfg0 12 tab rfl
    (by decide +kernel : ∀ t : Fin grid0.N, tab (t.val + 1) = (win0_12.flush t || (idle0 12 (grid0.coords t) && tab t.val)))
    t.val (Nat.le_of_lt t.isLt)

/-- The point that stored what a key or value buffer holds after point `t`. -/
def kPt (t : Fin cfg0.N) : Fin cfg0.N := if t.val < 8 then t else ⟨7, by decide⟩

theorem kPt_pred (t : Fin cfg0.N) (h : 8 ≤ t.val) : kPt t = kPt ⟨t.val - 1, by omega⟩ := by
  unfold kPt
  rw [if_neg (by omega)]
  split
  · next h' => exact Fin.ext (by simp only at h' ⊢; omega)
  · rfl

theorem idle_ge (t : Fin cfg0.N) (h : cfg0.idle 7 (cfg0.grid.coords t) = true) : 8 ≤ t.val :=
  ((by decide +kernel : ∀ t : Fin grid0.N, idle0 7 (grid0.coords t) = true → 8 ≤ t.val)) t h

theorem tab_late (t : Fin cfg0.N) (h : 8 ≤ t.val) : tab t.val = false := by
  have : t.val < 72 := t.isLt
  simp only [tab, Bool.or_eq_false_iff, decide_eq_false_iff_not]; omega

theorem kPt_kv (t : Fin cfg0.N) (h : t.val < 8) : kPt t = t := if_pos h

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 0 (kPt t)) (iblk m c 1 (kPt t)) (iblk m c 2 (kPt t)) (iblk m c 3 (kPt t)) (iblk m c 4 (kPt t)) (iblk m c 5 (kPt t))
    | ⟨8, _⟩ => out8 (iblk m c 0 (kPt t)) (iblk m c 1 (kPt t)) (iblk m c 2 (kPt t)) (iblk m c 3 (kPt t)) (iblk m c 4 (kPt t)) (iblk m c 5 (kPt t))
    | ⟨9, _⟩ => out9 (iblk m c 0 (kPt t)) (iblk m c 1 (kPt t)) (iblk m c 2 (kPt t)) (iblk m c 3 (kPt t)) (iblk m c 4 (kPt t)) (iblk m c 5 (kPt t))
    | ⟨10, _⟩ => out10 (iblk m c 0 (kPt t)) (iblk m c 1 (kPt t)) (iblk m c 2 (kPt t)) (iblk m c 3 (kPt t)) (iblk m c 4 (kPt t)) (iblk m c 5 (kPt t))
    | ⟨11, _⟩ => out11 (iblk m c 0 (kPt t)) (iblk m c 1 (kPt t)) (iblk m c 2 (kPt t)) (iblk m c 3 (kPt t)) (iblk m c 4 (kPt t)) (iblk m c 5 (kPt t))
    | ⟨12, _⟩ => out12 (iblk m c 0 (kPt t)) (iblk m c 1 (kPt t)) (iblk m c 2 (kPt t)) (iblk m c 3 (kPt t)) (iblk m c 4 (kPt t)) (iblk m c 5 (kPt t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out7 (iblk m c 0 (kPt t)) (iblk m c 1 (kPt t)) (iblk m c 2 (kPt t)) (iblk m c 3 (kPt t)) (iblk m c 4 (kPt t)) (iblk m c 5 (kPt t)) := by dsimp only [dats]
theorem after0_8 (c : Dev nD) (t : Fin cfg0.N) : (dats m 0 c).after 8 t = out8 (iblk m c 0 (kPt t)) (iblk m c 1 (kPt t)) (iblk m c 2 (kPt t)) (iblk m c 3 (kPt t)) (iblk m c 4 (kPt t)) (iblk m c 5 (kPt t)) := by dsimp only [dats]
theorem after0_9 (c : Dev nD) (t : Fin cfg0.N) : (dats m 0 c).after 9 t = out9 (iblk m c 0 (kPt t)) (iblk m c 1 (kPt t)) (iblk m c 2 (kPt t)) (iblk m c 3 (kPt t)) (iblk m c 4 (kPt t)) (iblk m c 5 (kPt t)) := by dsimp only [dats]
theorem after0_10 (c : Dev nD) (t : Fin cfg0.N) : (dats m 0 c).after 10 t = out10 (iblk m c 0 (kPt t)) (iblk m c 1 (kPt t)) (iblk m c 2 (kPt t)) (iblk m c 3 (kPt t)) (iblk m c 4 (kPt t)) (iblk m c 5 (kPt t)) := by dsimp only [dats]
theorem after0_11 (c : Dev nD) (t : Fin cfg0.N) : (dats m 0 c).after 11 t = out11 (iblk m c 0 (kPt t)) (iblk m c 1 (kPt t)) (iblk m c 2 (kPt t)) (iblk m c 3 (kPt t)) (iblk m c 4 (kPt t)) (iblk m c 5 (kPt t)) := by dsimp only [dats]
theorem after0_12 (c : Dev nD) (t : Fin cfg0.N) : (dats m 0 c).after 12 t = out12 (iblk m c 0 (kPt t)) (iblk m c 1 (kPt t)) (iblk m c 2 (kPt t)) (iblk m c 3 (kPt t)) (iblk m c 4 (kPt t)) (iblk m c 5 (kPt t)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem carry7 (c : Dev nD) (t : Fin cfg0.N) (h : 8 ≤ t.val) :
    (dats m 0 c).after 7 t = (dats m 0 c).after 7 ⟨t.val - 1, by omega⟩ := by
  rw [after0_7, after0_7, show kPt t = kPt ⟨t.val - 1, by omega⟩ from kPt_pred t h]
theorem before0_7 (c : Dev nD) (t : Fin cfg0.N) (h : 8 ≤ t.val) (d) : (dats m 0 c).before 7 t d = (dats m 0 c).after 7 t := by
  rw [(dats m 0 c).before_out_traj 7 rfl (fun _ _ => rfl) (fun t _ hi _ => carry7 m c t (idle_ge t hi)) t.val t rfl d,
    fresh7 t, if_neg (by rw [tab_late t h]; exact Bool.false_ne_true), ← carry7 m c t h]

theorem carry8 (c : Dev nD) (t : Fin cfg0.N) (h : 8 ≤ t.val) :
    (dats m 0 c).after 8 t = (dats m 0 c).after 8 ⟨t.val - 1, by omega⟩ := by
  rw [after0_8, after0_8, show kPt t = kPt ⟨t.val - 1, by omega⟩ from kPt_pred t h]
theorem before0_8 (c : Dev nD) (t : Fin cfg0.N) (h : 8 ≤ t.val) (d) : (dats m 0 c).before 8 t d = (dats m 0 c).after 8 t := by
  rw [(dats m 0 c).before_out_traj 8 rfl (fun _ _ => rfl) (fun t _ hi _ => carry8 m c t (idle_ge t hi)) t.val t rfl d,
    fresh8 t, if_neg (by rw [tab_late t h]; exact Bool.false_ne_true), ← carry8 m c t h]

theorem carry9 (c : Dev nD) (t : Fin cfg0.N) (h : 8 ≤ t.val) :
    (dats m 0 c).after 9 t = (dats m 0 c).after 9 ⟨t.val - 1, by omega⟩ := by
  rw [after0_9, after0_9, show kPt t = kPt ⟨t.val - 1, by omega⟩ from kPt_pred t h]
theorem before0_9 (c : Dev nD) (t : Fin cfg0.N) (h : 8 ≤ t.val) (d) : (dats m 0 c).before 9 t d = (dats m 0 c).after 9 t := by
  rw [(dats m 0 c).before_out_traj 9 rfl (fun _ _ => rfl) (fun t _ hi _ => carry9 m c t (idle_ge t hi)) t.val t rfl d,
    fresh9 t, if_neg (by rw [tab_late t h]; exact Bool.false_ne_true), ← carry9 m c t h]

theorem carry10 (c : Dev nD) (t : Fin cfg0.N) (h : 8 ≤ t.val) :
    (dats m 0 c).after 10 t = (dats m 0 c).after 10 ⟨t.val - 1, by omega⟩ := by
  rw [after0_10, after0_10, show kPt t = kPt ⟨t.val - 1, by omega⟩ from kPt_pred t h]
theorem before0_10 (c : Dev nD) (t : Fin cfg0.N) (h : 8 ≤ t.val) (d) : (dats m 0 c).before 10 t d = (dats m 0 c).after 10 t := by
  rw [(dats m 0 c).before_out_traj 10 rfl (fun _ _ => rfl) (fun t _ hi _ => carry10 m c t (idle_ge t hi)) t.val t rfl d,
    fresh10 t, if_neg (by rw [tab_late t h]; exact Bool.false_ne_true), ← carry10 m c t h]

theorem carry11 (c : Dev nD) (t : Fin cfg0.N) (h : 8 ≤ t.val) :
    (dats m 0 c).after 11 t = (dats m 0 c).after 11 ⟨t.val - 1, by omega⟩ := by
  rw [after0_11, after0_11, show kPt t = kPt ⟨t.val - 1, by omega⟩ from kPt_pred t h]
theorem before0_11 (c : Dev nD) (t : Fin cfg0.N) (h : 8 ≤ t.val) (d) : (dats m 0 c).before 11 t d = (dats m 0 c).after 11 t := by
  rw [(dats m 0 c).before_out_traj 11 rfl (fun _ _ => rfl) (fun t _ hi _ => carry11 m c t (idle_ge t hi)) t.val t rfl d,
    fresh11 t, if_neg (by rw [tab_late t h]; exact Bool.false_ne_true), ← carry11 m c t h]

theorem carry12 (c : Dev nD) (t : Fin cfg0.N) (h : 8 ≤ t.val) :
    (dats m 0 c).after 12 t = (dats m 0 c).after 12 ⟨t.val - 1, by omega⟩ := by
  rw [after0_12, after0_12, show kPt t = kPt ⟨t.val - 1, by omega⟩ from kPt_pred t h]
theorem before0_12 (c : Dev nD) (t : Fin cfg0.N) (h : 8 ≤ t.val) (d) : (dats m 0 c).before 12 t d = (dats m 0 c).after 12 t := by
  rw [(dats m 0 c).before_out_traj 12 rfl (fun _ _ => rfl) (fun t _ hi _ => carry12 m c t (idle_ge t hi)) t.val t rfl d,
    fresh12 t, if_neg (by rw [tab_late t h]; exact Bool.false_ne_true), ← carry12 m c t h]

/-! ## The body obligation -/

def bodyPre (c : Dev nD) (t : Fin cfg0.N) : sProp (Mem F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What a key or value point returns: the queries' buffer as it was. -/
def postKv (c : Dev nD) (t : Fin cfg0.N) : sProp (Mem F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare ((dats m 0 c).before 6 t d))
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- What a query point returns: the key and value buffers as the eighth point left them. -/
def postQ (c : Dev nD) (t : Fin cfg0.N) : sProp (Mem F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

theorem body_Kv (c : Dev nD) (t : Fin cfg0.N) (h : t.val < 8) :
    bodyPre m c t ⊢ wp frame (wpE (defs₀ (F := F)) Variants.none c none) Set.univ (bodyAt0 t) (fun _ => postKv m c t) := by
  unfold bodyPre postKv bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [after0_7, after0_8, after0_9, after0_10, after0_11, after0_12, kPt_kv t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kv c Set.univ (grid0.coords t) (fun h1 => absurd ((cond1_iff t).mp h1) (by omega)) ((cond2_iff t).mpr h) _ _ _ _ _ _ _ _ _ _ _ _ _ _ _ _ _ _ _ _ _ _ _ _ _ _ (iblk m c 0 t) (iblk m c 1 t) (iblk m c 2 t) (iblk m c 3 t) (iblk m c 4 t) (iblk m c 5 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [H10]; · iexact H10
  isplitl [H11]; · iexact H11
  iexact H12

theorem body_Q (c : Dev nD) (t : Fin cfg0.N) (h : 8 ≤ t.val) :
    bodyPre m c t ⊢ wp frame (wpE (defs₀ (F := F)) Variants.none c none) Set.univ (bodyAt0 t) (fun _ => postQ m c t) := by
  unfold bodyPre postQ bodyAt0
  simp only [before0_0, before0_1, before0_2, before0_3, before0_4, before0_5, before0_7 m c t h, before0_8 m c t h, before0_9 m c t h, before0_10 m c t h, before0_11 m c t h, before0_12 m c t h]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_q c Set.univ (grid0.coords t) ((cond1_iff t).mpr h) (fun h2 => absurd ((cond2_iff t).mp h2) (by omega)) _ _ _ _ _ _ _ _ _ _ _ _ _ _ _ _ _ _ _ _ _ _ _ _ _ _ (iblk m c 0 t) (iblk m c 1 t) (iblk m c 2 t) (iblk m c 3 t) (iblk m c 4 t) (iblk m c 5 t) _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem idle6_kv (t : Fin cfg0.N) (h : t.val < 8) : cfg0.idle 6 (cfg0.grid.coords t) = true :=
  (by decide +kernel : ∀ t : Fin grid0.N, t.val < 8 → idle0 6 (grid0.coords t) = true) t h
theorem idle6_q (t : Fin cfg0.N) (h : 8 ≤ t.val) : cfg0.idle 6 (cfg0.grid.coords t) = false :=
  (by decide +kernel : ∀ t : Fin grid0.N, 8 ≤ t.val → idle0 6 (grid0.coords t) = false) t h
theorem idle7_kv (t : Fin cfg0.N) (h : t.val < 8) : cfg0.idle 7 (cfg0.grid.coords t) = false :=
  (by decide +kernel : ∀ t : Fin grid0.N, t.val < 8 → idle0 7 (grid0.coords t) = false) t h
theorem idle7_q (t : Fin cfg0.N) (h : 8 ≤ t.val) : cfg0.idle 7 (cfg0.grid.coords t) = true :=
  (by decide +kernel : ∀ t : Fin grid0.N, 8 ≤ t.val → idle0 7 (grid0.coords t) = true) t h

theorem body_obligation (c : Dev nD) : BodyObligation (dats (F := F) m 0 c) (defs₀ (F := F)) Variants.none () Set.univ := fun t => by
  rw [bigSep_W0, bigSep_W0, defs₀_row]
  by_cases h : t.val < 8
  · have f6 : (cfg0.win 6).flush t = false := by
      rw [Bool.eq_false_iff]; exact fun h' => absurd ((flush6 t).mp h') (by omega)
    rw [idle6_kv t h, f6, idle7_kv t h]
    exact triple_restated (body_Kv m c t h) rfl .rfl fun _ => .rfl
  · have h8 : 8 ≤ t.val := by omega
    rw [idle6_q t h8, idle7_q t h8]
    refine triple_restated (body_Q m c t h8) rfl .rfl fun _ => ?_
    unfold postQ
    iintro ⟨HΦ, Ho, H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · cases hf : (cfg0.win 7).flush t
      · iexists ((dats m 0 c).after 7 t); rw [before0_7 m c t h8]; iexact H7
      · iexact H7
    isplitl [H8]
    · cases hf : (cfg0.win 8).flush t
      · iexists ((dats m 0 c).after 8 t); rw [before0_8 m c t h8]; iexact H8
      · iexact H8
    isplitl [H9]
    · cases hf : (cfg0.win 9).flush t
      · iexists ((dats m 0 c).after 9 t); rw [before0_9 m c t h8]; iexact H9
      · iexact H9
    isplitl [H10]
    · cases hf : (cfg0.win 10).flush t
      · iexists ((dats m 0 c).after 10 t); rw [before0_10 m c t h8]; iexact H10
      · iexact H10
    isplitl [H11]
    · cases hf : (cfg0.win 11).flush t
      · iexists ((dats m 0 c).after 11 t); rw [before0_11 m c t h8]; iexact H11
      · iexact H11
    cases hf : (cfg0.win 12).flush t
    · iexists ((dats m 0 c).after 12 t); rw [before0_12 m c t h8]; iexact H12
    · iexact H12

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Qkv.Run

end
-- ==== Proof.QkvIdealVals.lean ====
module

public import proofs.«01_k».proof.Proof.Gen.QkvIdeal.Frame
public import proofs.«01_k».proof.Proof.Gen.QkvIdeal.Skeleton
public import Idealize.ShloMosaic.Lib.Claim

/-! # The projection's body, run at the two kinds of grid points

At the key and value points (the first eight) the body stores six blocks and leaves the queries';
at the others it stores the queries' block and leaves the six. -/

@[expose] public section

set_option maxRecDepth 16384

noncomputable section

namespace Cert.QkvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QkvIdeal.Gen

variable {F : FTy → Type} [FloatOps F]

abbrev Mem (F : FTy → Type) := MT nD τ sig Unit (Elt F) ℕ (UR sig nD τ) ℕ

/-! ## The values of the key and value branch, in the body's order -/

section Values

def v20 (z : FVec F S512x1024 .f32) (co si : FVec F S512x128 .f32) : IVec S512x128 32 := iota .tc S512x128 32 [1] iota_S512x128_d1_w32
def v54 (z : FVec F S512x1024 .f32) (co si : FVec F S512x128 .f32) : FVec F S512x128 .fp8e4m3 := k0_pay19 z co si
def v56 (z : FVec F S512x1024 .f32) (co si : FVec F S512x128 .f32) : FVec F S512x128 .f32 := k0_pay20 z co si
def v61 (z : FVec F S512x1024 .f32) (co si : FVec F S512x128 .f32) : FVec F S512x128 .f32 := k0_pay21 z co si
def v64 (z : FVec F S512x1024 .f32) (co si : FVec F S512x128 .f32) : FVec F S512x1 .f32 := k0_pay22 z co si
def v65 (z : FVec F S512x1024 .f32) (co si : FVec F S512x128 .f32) : FVec F S512x1 .f32 := k0_pay23 (F := F)
def v90 (z : FVec F S512x1024 .f32) (co si : FVec F S512x128 .f32) : FVec F S512x128 .fp8e4m3 := k0_pay26 (v61 z co si) (v64 z co si) (v65 z co si)
def v92 (z : FVec F S512x1024 .f32) (co si : FVec F S512x128 .f32) : FVec F S512x128 .f32 := k0_pay27 (v64 z co si) (v65 z co si)
def v110 (z : FVec F S512x1024 .f32) (co si : FVec F S512x128 .f32) : IVec S512x128 1 := k0_pay28 (v20 z co si)
def v111 (z : FVec F S512x1024 .f32) (co si : FVec F S512x128 .f32) : FVec F S512x128 .f32 := k0_pay29 (v56 z co si) (v92 z co si) (v110 z co si)
def v145 (z : FVec F S512x1024 .f32) (co si : FVec F S512x128 .f32) : FVec F S512x128 .fp8e4m3 := k0_pay34 z co si
def v147 (z : FVec F S512x1024 .f32) (co si : FVec F S512x128 .f32) : FVec F S512x128 .f32 := k0_pay35 z co si
def v149 (z : FVec F S512x1024 .f32) (co si : FVec F S512x128 .f32) : BitVec 32 := Scalar.select (Scalar.cmpi .eq 4#32 0#32) 1#32 4#32
def v151 (z : FVec F S512x1024 .f32) (co si : FVec F S512x128 .f32) : IVec S512x128 32 := k0_pay36 (v20 z co si)
def v153 (z : FVec F S512x1024 .f32) (co si : FVec F S512x128 .f32) : IVec S512x128 1 := k0_pay37 (v20 z co si)
def v154 (z : FVec F S512x1024 .f32) (co si : FVec F S512x128 .f32) : IVec S512x128 32 := k0_pay38
def v166 (z : FVec F S512x1024 .f32) (co si : FVec F S512x128 .f32) : FVec F S512x128 .f32 := k0_pay39 (v111 z co si) (v147 z co si) (v149 z co si) (v151 z co si) (v153 z co si) (v154 z co si)
def v200 (z : FVec F S512x1024 .f32) (co si : FVec F S512x128 .f32) : FVec F S512x128 .fp8e4m3 := k0_pay44 z co si
def v201 (z : FVec F S512x1024 .f32) (co si : FVec F S512x128 .f32) : FVec F S512x1 .f32 := k0_pay45 z co si
def v235 (z : FVec F S512x1024 .f32) (co si : FVec F S512x128 .f32) : FVec F S512x128 .f32 := k0_pay50 z
def v238 (z : FVec F S512x1024 .f32) (co si : FVec F S512x128 .f32) : FVec F S512x1 .f32 := k0_pay51 z
def v241 (z : FVec F S512x1024 .f32) (co si : FVec F S512x128 .f32) : FVec F S512x1 .f32 := k0_pay52 z
def v264 (z : FVec F S512x1024 .f32) (co si : FVec F S512x128 .f32) : FVec F S512x128 .fp8e4m3 := k0_pay55 (v235 z co si) (v238 z co si) (v241 z co si)
def v266 (z : FVec F S512x1024 .f32) (co si : FVec F S512x128 .f32) : FVec F S512x128 .f32 := k0_pay56 (v238 z co si) (v241 z co si)
def v267 (z : FVec F S512x1024 .f32) (co si : FVec F S512x128 .f32) : FVec F S512x128 .f32 := k0_pay57 z
def v280 (z : FVec F S512x1024 .f32) (co si : FVec F S512x128 .f32) : FVec F S512x1 .f32 := k0_pay60 z
def v283 (z : FVec F S512x1024 .f32) (co si : FVec F S512x128 .f32) : FVec F S512x1 .f32 := k0_pay61 z
def v285 (z : FVec F S512x1024 .f32) (co si : FVec F S512x128 .f32) : IVec S512x1 1 := k0_pay62 z
def v286 (z : FVec F S512x1024 .f32) (co si : FVec F S512x128 .f32) : FVec F S512x1 .f32 := k0_pay63 (F := F)
def v296 (z : FVec F S512x1024 .f32) (co si : FVec F S512x128 .f32) : FVec F S512x128 .fp8e4m3 := k0_pay64 (v267 z co si) (v283 z co si) (v285 z co si)
def v317 (z : FVec F S512x1024 .f32) (co si : FVec F S512x128 .f32) : FVec F S512x128 .f32 := k0_pay65 (v20 z co si) (v266 z co si) (v280 z co si) (v285 z co si) (v286 z co si)
def v318 (z : FVec F S512x1024 .f32) (co si : FVec F S512x128 .f32) : FVec F S512x128 .f32 := k0_pay66 z
def v321 (z : FVec F S512x1024 .f32) (co si : FVec F S512x128 .f32) : FVec F S512x1 .f32 := k0_pay67 z
def v330 (z : FVec F S512x1024 .f32) (co si : FVec F S512x128 .f32) : FVec F S512x1 .f32 := k0_pay68 z
def v331 (z : FVec F S512x1024 .f32) (co si : FVec F S512x128 .f32) : FVec F S512x1 .f32 := k0_pay69 z
def cst_113 (z : FVec F S512x1024 .f32) (co si : FVec F S512x128 .f32) : F .f32 := Scalar.ofBits .f32 0x00000000#32
def v347 (z : FVec F S512x1024 .f32) (co si : FVec F S512x128 .f32) : FVec F S512x128 .fp8e4m3 := k0_pay71 (v318 z co si) (v321 z co si) (v330 z co si) (cst_113 z co si)
def v368 (z : FVec F S512x1024 .f32) (co si : FVec F S512x128 .f32) : FVec F S512x128 .f32 := k0_pay72 (v20 z co si) (v317 z co si) (v321 z co si) (v331 z co si)
def v369 (z : FVec F S512x1024 .f32) (co si : FVec F S512x128 .f32) : FVec F S512x128 .f32 := k0_pay73 z
def v372 (z : FVec F S512x1024 .f32) (co si : FVec F S512x128 .f32) : FVec F S512x1 .f32 := k0_pay74 z
def v375 (z : FVec F S512x1024 .f32) (co si : FVec F S512x128 .f32) : FVec F S512x1 .f32 := k0_pay75 z
def v376 (z : FVec F S512x1024 .f32) (co si : FVec F S512x128 .f32) : FVec F S512x1 .f32 := k0_pay76 (F := F)
def v398 (z : FVec F S512x1024 .f32) (co si : FVec F S512x128 .f32) : FVec F S512x128 .fp8e4m3 := k0_pay79 (v369 z co si) (v372 z co si) (v375 z co si) (v376 z co si)
def v419 (z : FVec F S512x1024 .f32) (co si : FVec F S512x128 .f32) : FVec F S512x128 .f32 := k0_pay80 (v20 z co si) (v368 z co si) (v372 z co si) (v375 z co si) (v376 z co si)
def v420 (z : FVec F S512x1024 .f32) (co si : FVec F S512x128 .f32) : FVec F S512x1x128 .fp8e4m3 := k0_pay81 (v264 z co si)
def v421 (z : FVec F S512x1024 .f32) (co si : FVec F S512x128 .f32) : FVec F S512x1x128 .fp8e4m3 := k0_pay82 (v296 z co si)
def v422 (z : FVec F S512x1024 .f32) (co si : FVec F S512x128 .f32) : FVec F S512x1x128 .fp8e4m3 := k0_pay83 (v347 z co si)

end Values

abbrev rx : Rect S512x4096 := Rect.unit (s := S512x4096) ![0, 0] S512x4096.size inb_S512x4096_S512x4096_0_0
abbrev rw : Rect S4096x1024 := Rect.unit (s := S4096x1024) ![0, 0] S4096x1024.size inb_S4096x1024_S4096x1024_0_0
abbrev rxs : Rect S512x1 := Rect.unit (s := S512x1) ![0, 0] S512x1.size inb_S512x1_S512x1_0_0
abbrev rws : Rect S1x1024 := Rect.unit (s := S1x1024) ![0, 0] S1x1024.size inb_S1x1024_S1x1024_0_0
abbrev rt : Rect S512x128 := Rect.unit (s := S512x128) ![0, 0] S512x128.size inb_S512x128_S512x128_0_0
abbrev rc : Rect S512x4x128 := Rect.unit (s := S512x4x128) ![0, 0, 0] S512x4x128.size inb_S512x4x128_S512x4x128_0_0_0
abbrev rs : Rect S1x4x512 := Rect.unit (s := S1x4x512) ![0, 0, 0] S1x4x512.size inb_S1x4x512_S1x4x512_0_0_0
abbrev rq0 : Rect S8x128x512 := Rect.unit (s := S8x128x512) ![0, 0, 0] S1x128x512.size inb_S8x128x512_S1x128x512_0_0_0
abbrev rq1 : Rect S8x128x512 := Rect.unit (s := S8x128x512) ![1, 0, 0] S1x128x512.size inb_S8x128x512_S1x128x512_1_0_0
abbrev rq2 : Rect S8x128x512 := Rect.unit (s := S8x128x512) ![2, 0, 0] S1x128x512.size inb_S8x128x512_S1x128x512_2_0_0
abbrev rq3 : Rect S8x128x512 := Rect.unit (s := S8x128x512) ![3, 0, 0] S1x128x512.size inb_S8x128x512_S1x128x512_3_0_0
abbrev rq4 : Rect S8x128x512 := Rect.unit (s := S8x128x512) ![4, 0, 0] S1x128x512.size inb_S8x128x512_S1x128x512_4_0_0
abbrev rq5 : Rect S8x128x512 := Rect.unit (s := S8x128x512) ![5, 0, 0] S1x128x512.size inb_S8x128x512_S1x128x512_5_0_0
abbrev rq6 : Rect S8x128x512 := Rect.unit (s := S8x128x512) ![6, 0, 0] S1x128x512.size inb_S8x128x512_S1x128x512_6_0_0
abbrev rq7 : Rect S8x128x512 := Rect.unit (s := S8x128x512) ![7, 0, 0] S1x128x512.size inb_S8x128x512_S1x128x512_7_0_0

/-- The block's product, scaled. -/
abbrev zOf (x0 : Vec F S512x4096 .fp8e4m3) (x1 : Vec F S512x1 .f32) (x2 : Vec F S4096x1024 .fp8e4m3) (x3 : Vec F S1x1024 .f32) : FVec F S512x1024 .f32 :=
  k0_pay1 (View.ld x0 rx) (View.ld x2 rw) (View.ld x1 rxs) (View.ld x3 rws)
abbrev coOf (x4 : Vec F S512x128 .f32) : FVec F S512x128 .f32 := k0_pay2 (View.ld x4 rt)
abbrev siOf (x5 : Vec F S512x128 .f32) : FVec F S512x128 .f32 := k0_pay3 (View.ld x5 rt)

/-- What the query points leave in window 6's buffer. -/
def out6 (x0 : Vec F S512x4096 .fp8e4m3) (x1 : Vec F S512x1 .f32) (x2 : Vec F S4096x1024 .fp8e4m3) (x3 : Vec F S1x1024 .f32) (x4 x5 : Vec F S512x128 .f32) : Vec F S8x128x512 .bf16 :=
  View.canon [⟨rq7, k0_pay14 (zOf x0 x1 x2 x3) (coOf x4) (siOf x5)⟩, ⟨rq6, k0_pay13 (zOf x0 x1 x2 x3) (coOf x4) (siOf x5)⟩, ⟨rq5, k0_pay12 (zOf x0 x1 x2 x3) (coOf x4) (siOf x5)⟩, ⟨rq4, k0_pay11 (zOf x0 x1 x2 x3) (coOf x4) (siOf x5)⟩, ⟨rq3, k0_pay10 (zOf x0 x1 x2 x3) (coOf x4) (siOf x5)⟩, ⟨rq2, k0_pay9 (zOf x0 x1 x2 x3) (coOf x4) (siOf x5)⟩, ⟨rq1, k0_pay8 (zOf x0 x1 x2 x3) (coOf x4) (siOf x5)⟩, ⟨rq0, k0_pay7 (zOf x0 x1 x2 x3) (coOf x4) (siOf x5)⟩]

theorem cover6 (p0 p1 p2 p3 p4 p5 p6 p7 : Vec F S1x128x512 .bf16) (y : S8x128x512.Idx) :
    ∃ pc ∈ ([⟨rq7, p7⟩, ⟨rq6, p6⟩, ⟨rq5, p5⟩, ⟨rq4, p4⟩, ⟨rq3, p3⟩, ⟨rq2, p2⟩, ⟨rq1, p1⟩, ⟨rq0, p0⟩] : List (View.Piece (Elt F) S8x128x512 .bf16)), y ∈ pc.1.set :=
  View.cover_of_tiled [⟨rq7, p7⟩, ⟨rq6, p6⟩, ⟨rq5, p5⟩, ⟨rq4, p4⟩, ⟨rq3, p3⟩, ⟨rq2, p2⟩, ⟨rq1, p1⟩, ⟨rq0, p0⟩] S1x128x512.size (by rfl) y

/-- What the key and value points leave in window 7's buffer. -/
def out7 (x0 : Vec F S512x4096 .fp8e4m3) (x1 : Vec F S512x1 .f32) (x2 : Vec F S4096x1024 .fp8e4m3) (x3 : Vec F S1x1024 .f32) (x4 x5 : Vec F S512x128 .f32) : Vec F S512x4x128 .fp8e4m3 :=
  View.canon [⟨rc, k0_pay47 (v54 (zOf x0 x1 x2 x3) (coOf x4) (siOf x5)) (v90 (zOf x0 x1 x2 x3) (coOf x4) (siOf x5)) (v145 (zOf x0 x1 x2 x3) (coOf x4) (siOf x5)) (v200 (zOf x0 x1 x2 x3) (coOf x4) (siOf x5))⟩]

theorem cover7 (p0 : Vec F S512x4x128 .fp8e4m3) (y : S512x4x128.Idx) :
    ∃ pc ∈ ([⟨rc, p0⟩] : List (View.Piece (Elt F) S512x4x128 .fp8e4m3)), y ∈ pc.1.set :=
  View.cover_of_tiled [⟨rc, p0⟩] S512x4x128.size (by rfl) y

/-- What the key and value points leave in window 8's buffer. -/
def out8 (x0 : Vec F S512x4096 .fp8e4m3) (x1 : Vec F S512x1 .f32) (x2 : Vec F S4096x1024 .fp8e4m3) (x3 : Vec F S1x1024 .f32) (x4 x5 : Vec F S512x128 .f32) : Vec F S512x4x128 .fp8e4m3 :=
  View.canon [⟨rc, k0_pay4 (v398 (zOf x0 x1 x2 x3) (coOf x4) (siOf x5)) (v420 (zOf x0 x1 x2 x3) (coOf x4) (siOf x5)) (v421 (zOf x0 x1 x2 x3) (coOf x4) (siOf x5)) (v422 (zOf x0 x1 x2 x3) (coOf x4) (siOf x5))⟩]

theorem cover8 (p0 : Vec F S512x4x128 .fp8e4m3) (y : S512x4x128.Idx) :
    ∃ pc ∈ ([⟨rc, p0⟩] : List (View.Piece (Elt F) S512x4x128 .fp8e4m3)), y ∈ pc.1.set :=
  View.cover_of_tiled [⟨rc, p0⟩] S512x4x128.size (by rfl) y

/-- What the key and value points leave in window 9's buffer. -/
def out9 (x0 : Vec F S512x4096 .fp8e4m3) (x1 : Vec F S512x1 .f32) (x2 : Vec F S4096x1024 .fp8e4m3) (x3 : Vec F S1x1024 .f32) (x4 x5 : Vec F S512x128 .f32) : Vec F S1x4x512 .f32 :=
  View.canon [⟨rs, k0_pay49 (v20 (zOf x0 x1 x2 x3) (coOf x4) (siOf x5)) (v166 (zOf x0 x1 x2 x3) (coOf x4) (siOf x5)) (v201 (zOf x0 x1 x2 x3) (coOf x4) (siOf x5))⟩]

theorem cover9 (p0 : Vec F S1x4x512 .f32) (y : S1x4x512.Idx) :
    ∃ pc ∈ ([⟨rs, p0⟩] : List (View.Piece (Elt F) S1x4x512 .f32)), y ∈ pc.1.set :=
  View.cover_of_tiled [⟨rs, p0⟩] S1x4x512.size (by rfl) y

/-- What the key and value points leave in window 10's buffer. -/
def out10 (x0 : Vec F S512x4096 .fp8e4m3) (x1 : Vec F S512x1 .f32) (x2 : Vec F S4096x1024 .fp8e4m3) (x3 : Vec F S1x1024 .f32) (x4 x5 : Vec F S512x128 .f32) : Vec F S1x4x512 .f32 :=
  View.canon [⟨rs, k0_pay6 (v419 (zOf x0 x1 x2 x3) (coOf x4) (siOf x5))⟩]

theorem cover10 (p0 : Vec F S1x4x512 .f32) (y : S1x4x512.Idx) :
    ∃ pc ∈ ([⟨rs, p0⟩] : List (View.Piece (Elt F) S1x4x512 .f32)), y ∈ pc.1.set :=
  View.cover_of_tiled [⟨rs, p0⟩] S1x4x512.size (by rfl) y

/-- What the key and value points leave in window 11's buffer. -/
def out11 (x0 : Vec F S512x4096 .fp8e4m3) (x1 : Vec F S512x1 .f32) (x2 : Vec F S4096x1024 .fp8e4m3) (x3 : Vec F S1x1024 .f32) (x4 x5 : Vec F S512x128 .f32) : Vec F S512x128 .bf16 :=
  View.canon [⟨rt, k0_pay48 (v20 (zOf x0 x1 x2 x3) (coOf x4) (siOf x5)) (v166 (zOf x0 x1 x2 x3) (coOf x4) (siOf x5)) (v201 (zOf x0 x1 x2 x3) (coOf x4) (siOf x5))⟩]

theorem cover11 (p0 : Vec F S512x128 .bf16) (y : S512x128.Idx) :
    ∃ pc ∈ ([⟨rt, p0⟩] : List (View.Piece (Elt F) S512x128 .bf16)), y ∈ pc.1.set :=
  View.cover_of_tiled [⟨rt, p0⟩] S512x128.size (by rfl) y

/-- What the key and value points leave in window 12's buffer. -/
def out12 (x0 : Vec F S512x4096 .fp8e4m3) (x1 : Vec F S512x1 .f32) (x2 : Vec F S4096x1024 .fp8e4m3) (x3 : Vec F S1x1024 .f32) (x4 x5 : Vec F S512x128 .f32) : Vec F S512x128 .bf16 :=
  View.canon [⟨rt, k0_pay5 (v419 (zOf x0 x1 x2 x3) (coOf x4) (siOf x5))⟩]

theorem cover12 (p0 : Vec F S512x128 .bf16) (y : S512x128.Idx) :
    ∃ pc ∈ ([⟨rt, p0⟩] : List (View.Piece (Elt F) S512x128 .bf16)), y ∈ pc.1.set :=
  View.cover_of_tiled [⟨rt, p0⟩] S512x128.size (by rfl) y

end Cert.QkvIdeal.Run

end
-- ==== Proof.QkvIdealKv.lean ====
module

public import proofs.«01_k».proof.Proof.Gen.QkvIdeal.Frame
public import proofs.«01_k».proof.Proof.Gen.QkvIdeal.Skeleton
public import proofs.«01_k».proof.Proof.QkvIdealVals
public import Idealize.ShloMosaic.Lib.Claim

/-! # The projection's body, run at the two kinds of grid points

At the key and value points (the first eight) the body stores six blocks and leaves the queries';
at the others it stores the queries' block and leaves the six. -/

@[expose] public section

set_option maxRecDepth 16384

noncomputable section

namespace Cert.QkvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QkvIdeal.Gen

variable {F : FTy → Type} [FloatOps F]

set_option maxHeartbeats 4000000 in
theorem sound_kv (c : Dev nD) (E : Set ℕ) (i : grid0.Coords) (h1 : ¬ (k0_cond1 i = 1#1)) (h2 : k0_cond2 i = 1#1) (arg2 : Memref sig .tc .vmem S512x4096 .fp8e4m3) (harg2 : arg2.IsWhole) (arg3 : Memref sig .tc .vmem S512x1 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x512 .bf16) (harg8 : arg8.IsWhole) (arg9 : Memref sig .tc .vmem S512x4x128 .fp8e4m3) (harg9 : arg9.IsWhole) (arg10 : Memref sig .tc .vmem S512x4x128 .fp8e4m3) (harg10 : arg10.IsWhole) (arg11 : Memref sig .tc .vmem S1x4x512 .f32) (harg11 : arg11.IsWhole) (arg12 : Memref sig .tc .vmem S1x4x512 .f32) (harg12 : arg12.IsWhole) (arg13 : Memref sig .tc .vmem S512x128 .bf16) (harg13 : arg13.IsWhole) (arg14 : Memref sig .tc .vmem S512x128 .bf16) (harg14 : arg14.IsWhole)
    (x0 : Vec F S512x4096 .fp8e4m3) (x1 : Vec F S512x1 .f32) (x2 : Vec F S4096x1024 .fp8e4m3) (x3 : Vec F S1x1024 .f32) (x4 x5 : Vec F S512x128 .f32) (y6 : Vec F S8x128x512 .bf16) (K : PUnit → sProp (Mem F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare (out7 x0 x1 x2 x3 x4 x5) ∗ owns (c : Thread nD τ) arg10 fullShare (out8 x0 x1 x2 x3 x4 x5) ∗ owns (c : Thread nD τ) arg11 fullShare (out9 x0 x1 x2 x3 x4 x5) ∗ owns (c : Thread nD τ) arg12 fullShare (out10 x0 x1 x2 x3 x4 x5) ∗ owns (c : Thread nD τ) arg13 fullShare (out11 x0 x1 x2 x3 x4 x5) ∗ owns (c : Thread nD τ) arg14 fullShare (out12 x0 x1 x2 x3 x4 x5)) -∗ K ⟨⟩))
      ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12 arg13 harg13 arg14 harg14) K := by
  simp only [cc0_qkv_proj_eq_skeleton]; unfold cc0_qkv_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4 hf5 hf6
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover7 _ )
  isplitl [H8]
  · iexists _; isplitr
    swap; · iexact H8
    ipureintro
    exact View.read_writes_eq_canon _ _ _ (cover8 _ )
  isplitl [H9]
  · iexists _; isplitr
    swap; · iexact H9
    ipureintro
    exact View.read_writes_eq_canon _ _ _ (cover9 _ )
  isplitl [H10]
  · iexists _; isplitr
    swap; · iexact H10
    ipureintro
    exact View.read_writes_eq_canon _ _ _ (cover10 _ )
  isplitl [H11]
  · iexists _; isplitr
    swap; · iexact H11
    ipureintro
    exact View.read_writes_eq_canon _ _ _ (cover11 _ )
  iexists _; isplitr
  swap; · iexact H12
  ipureintro
  exact View.read_writes_eq_canon _ _ _ (cover12 _ )

end Cert.QkvIdeal.Run

end
-- ==== Proof.QkvIdealQ.lean ====
module

public import proofs.«01_k».proof.Proof.Gen.QkvIdeal.Frame
public import proofs.«01_k».proof.Proof.Gen.QkvIdeal.Skeleton
public import proofs.«01_k».proof.Proof.QkvIdealVals
public import Idealize.ShloMosaic.Lib.Claim

/-! # The projection's body, run at the two kinds of grid points

At the key and value points (the first eight) the body stores six blocks and leaves the queries';
at the others it stores the queries' block and leaves the six. -/

@[expose] public section

set_option maxRecDepth 16384

noncomputable section

namespace Cert.QkvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QkvIdeal.Gen

variable {F : FTy → Type} [FloatOps F]

set_option maxHeartbeats 4000000 in
theorem sound_q (c : Dev nD) (E : Set ℕ) (i : grid0.Coords) (h1 : k0_cond1 i = 1#1) (h2 : ¬ (k0_cond2 i = 1#1)) (arg2 : Memref sig .tc .vmem S512x4096 .fp8e4m3) (harg2 : arg2.IsWhole) (arg3 : Memref sig .tc .vmem S512x1 .f32) (harg3 : arg3.IsWhole) (arg4 : Memref sig .tc .vmem S4096x1024 .fp8e4m3) (harg4 : arg4.IsWhole) (arg5 : Memref sig .tc .vmem S1x1024 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x128x512 .bf16) (harg8 : arg8.IsWhole) (arg9 : Memref sig .tc .vmem S512x4x128 .fp8e4m3) (harg9 : arg9.IsWhole) (arg10 : Memref sig .tc .vmem S512x4x128 .fp8e4m3) (harg10 : arg10.IsWhole) (arg11 : Memref sig .tc .vmem S1x4x512 .f32) (harg11 : arg11.IsWhole) (arg12 : Memref sig .tc .vmem S1x4x512 .f32) (harg12 : arg12.IsWhole) (arg13 : Memref sig .tc .vmem S512x128 .bf16) (harg13 : arg13.IsWhole) (arg14 : Memref sig .tc .vmem S512x128 .bf16) (harg14 : arg14.IsWhole)
    (x0 : Vec F S512x4096 .fp8e4m3) (x1 : Vec F S512x1 .f32) (x2 : Vec F S4096x1024 .fp8e4m3) (x3 : Vec F S1x1024 .f32) (x4 x5 : Vec F S512x128 .f32) (y7 : Vec F S512x4x128 .fp8e4m3) (y8 : Vec F S512x4x128 .fp8e4m3) (y9 : Vec F S1x4x512 .f32) (y10 : Vec F S1x4x512 .f32) (y11 : Vec F S512x128 .bf16) (y12 : Vec F S512x128 .bf16) (K : PUnit → sProp (Mem F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out6 x0 x1 x2 x3 x4 x5) ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12) -∗ K ⟨⟩))
      ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12 arg13 harg13 arg14 harg14) K := by
  simp only [cc0_qkv_proj_eq_skeleton]; unfold cc0_qkv_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf0 hf1 hf2 hf3 hf4 hf5 hf7 hf8 hf9 hf10 hf11 hf12
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6 _ _ _ _ _ _ _ _ )
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists f12; isplitr; · ipureintro; rfl
  iexact H12

end Cert.QkvIdeal.Run

end
-- ==== Proof.QkvIdealFrame.lean ====
module

public import proofs.«01_k».proof.Proof.QkvIdealKv
public import proofs.«01_k».proof.Proof.QkvIdealQ
public import Idealize.ShloMosaic.Lib.Pipeline.TableIdle

/-! # The projection's run

The six key and value blocks are stored at the first eight points and left alone afterwards; the pipeline
writes the last of them back only at its last point, which finds them as the eighth point left them. -/

@[expose] public section

set_option maxRecDepth 16384

noncomputable section

namespace Cert.QkvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QkvIdeal.Gen

variable {F : FTy → Type} [FloatOps F]

variable (m : (ℓ : Loc nD τ sig) → Buf (Elt F) ℓ) (ρ : Dev nD → PrngReg)

/-! ## The schedule -/

theorem cond1_iff : ∀ t : Fin grid0.N, k0_cond1 (grid0.coords t) = 1#1 ↔ 8 ≤ t.val := by decide +kernel
theorem cond2_iff : ∀ t : Fin grid0.N, k0_cond2 (grid0.coords t) = 1#1 ↔ t.val < 8 := by decide +kernel
theorem flush6 : ∀ t : Fin cfg0.N, (cfg0.win 6).flush t = true ↔ 8 ≤ t.val :=
  (by decide +kernel : ∀ t : Fin grid0.N, win0_6.flush t = true ↔ 8 ≤ t.val)

/-- Where a key or value buffer holds nothing the body stored. -/
def tab (n : ℕ) : Bool := decide (n ≤ 7) || decide (n = 72)

theorem flush7 : ∀ t : Fin cfg0.N, (cfg0.win 7).flush t = true ↔ t.val < 7 ∨ t.val = 71 :=
  (by decide +kernel : ∀ t : Fin grid0.N, win0_7.flush t = true ↔ t.val < 7 ∨ t.val = 71)
theorem fresh7 (t : Fin cfg0.N) : cfg0.fresh 7 t.val = tab t.val :=
  Cfg.fresh_tab cfg0 7 tab rfl
    (by decide +kernel : ∀ t : Fin grid0.N, tab (t.val + 1) = (win0_7.flush t || (idle0 7 (grid0.coords t) && tab t.val)))
    t.val (Nat.le_of_lt t.isLt)

theorem flush8 : ∀ t : Fin cfg0.N, (cfg0.win 8).flush t = true ↔ t.val < 7 ∨ t.val = 71 :=
  (by decide +kernel : ∀ t : Fin grid0.N, win0_8.flush t = true ↔ t.val < 7 ∨ t.val = 71)
theorem fresh8 (t : Fin cfg0.N) : cfg0.fresh 8 t.val = tab t.val :=
  Cfg.fresh_tab cfg0 8 tab rfl
    (by decide +kernel : ∀ t : Fin grid0.N, tab (t.val + 1) = (win0_8.flush t || (idle0 8 (grid0.coords t) && tab t.val)))
    t.val (Nat.le_of_lt t.isLt)

theorem flush9 : ∀ t : Fin cfg0.N, (cfg0.win 9).flush t = true ↔ t.val < 7 ∨ t.val = 71 :=
  (by decide +kernel : ∀ t : Fin grid0.N, win0_9.flush t = true ↔ t.val < 7 ∨ t.val = 71)
theorem fresh9 (t : Fin cfg0.N) : cfg0.fresh 9 t.val = tab t.val :=
  Cfg.fresh_tab cfg0 9 tab rfl
    (by decide +kernel : ∀ t : Fin grid0.N, tab (t.val + 1) = (win0_9.flush t || (idle0 9 (grid0.coords t) && tab t.val)))
    t.val (Nat.le_of_lt t.isLt)

theorem flush10 : ∀ t : Fin cfg0.N, (cfg0.win 10).flush t = true ↔ t.val < 7 ∨ t.val = 71 :=
  (by decide +kernel : ∀ t : Fin grid0.N, win0_10.flush t = true ↔ t.val < 7 ∨ t.val = 71)
theorem fresh10 (t : Fin cfg0.N) : cfg0.fresh 10 t.val = tab t.val :=
  Cfg.fresh_tab cfg0 10 tab rfl
    (by decide +kernel : ∀ t : Fin grid0.N, tab (t.val + 1) = (win0_10.flush t || (idle0 10 (grid0.coords t) && tab t.val)))
    t.val (Nat.le_of_lt t.isLt)

theorem flush11 : ∀ t : Fin cfg0.N, (cfg0.win 11).flush t = true ↔ t.val < 7 ∨ t.val = 71 :=
  (by decide +kernel : ∀ t : Fin grid0.N, win0_11.flush t = true ↔ t.val < 7 ∨ t.val = 71)
theorem fresh11 (t : Fin cfg0.N) : cfg0.fresh 11 t.val = tab t.val :=
  Cfg.fresh_tab cfg0 11 tab rfl
    (by decide +kernel : ∀ t : Fin grid0.N, tab (t.val + 1) = (win0_11.flush t || (idle0 11 (grid0.coords t) && tab t.val)))
    t.val (Nat.le_of_lt t.isLt)

theorem flush12 : ∀ t : Fin cfg0.N, (cfg0.win 12).flush t = true ↔ t.val < 7 ∨ t.val = 71 :=
  (by decide +kernel : ∀ t : Fin grid0.N, win0_12.flush t = true ↔ t.val < 7 ∨ t.val = 71)
theorem fresh12 (t : Fin cfg0.N) : cfg0.fresh 12 t.val = tab t.val :=
  Cfg.fresh_tab cfg0 12 tab rfl
    (by decide +kernel : ∀ t : Fin grid0.N, tab (t.val + 1) = (win0_12.flush t || (idle0 12 (grid0.coords t) && tab t.val)))
    t.val (Nat.le_of_lt t.isLt)

/-- The point that stored what a key or value buffer holds after point `t`. -/
def kPt (t : Fin cfg0.N) : Fin cfg0.N := if t.val < 8 then t else ⟨7, by decide⟩

theorem kPt_pred (t : Fin cfg0.N) (h : 8 ≤ t.val) : kPt t = kPt ⟨t.val - 1, by omega⟩ := by
  unfold kPt
  rw [if_neg (by omega)]
  split
  · next h' => exact Fin.ext (by simp only at h' ⊢; omega)
  · rfl

theorem idle_ge (t : Fin cfg0.N) (h : cfg0.idle 7 (cfg0.grid.coords t) = true) : 8 ≤ t.val :=
  ((by decide +kernel : ∀ t : Fin grid0.N, idle0 7 (grid0.coords t) = true → 8 ≤ t.val)) t h

theorem tab_late (t : Fin cfg0.N) (h : 8 ≤ t.val) : tab t.val = false := by
  have : t.val < 72 := t.isLt
  simp only [tab, Bool.or_eq_false_iff, decide_eq_false_iff_not]; omega

theorem kPt_kv (t : Fin cfg0.N) (h : t.val < 8) : kPt t = t := if_pos h

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 0 (kPt t)) (iblk m c 1 (kPt t)) (iblk m c 2 (kPt t)) (iblk m c 3 (kPt t)) (iblk m c 4 (kPt t)) (iblk m c 5 (kPt t))
    | ⟨8, _⟩ => out8 (iblk m c 0 (kPt t)) (iblk m c 1 (kPt t)) (iblk m c 2 (kPt t)) (iblk m c 3 (kPt t)) (iblk m c 4 (kPt t)) (iblk m c 5 (kPt t))
    | ⟨9, _⟩ => out9 (iblk m c 0 (kPt t)) (iblk m c 1 (kPt t)) (iblk m c 2 (kPt t)) (iblk m c 3 (kPt t)) (iblk m c 4 (kPt t)) (iblk m c 5 (kPt t))
    | ⟨10, _⟩ => out10 (iblk m c 0 (kPt t)) (iblk m c 1 (kPt t)) (iblk m c 2 (kPt t)) (iblk m c 3 (kPt t)) (iblk m c 4 (kPt t)) (iblk m c 5 (kPt t))
    | ⟨11, _⟩ => out11 (iblk m c 0 (kPt t)) (iblk m c 1 (kPt t)) (iblk m c 2 (kPt t)) (iblk m c 3 (kPt t)) (iblk m c 4 (kPt t)) (iblk m c 5 (kPt t))
    | ⟨12, _⟩ => out12 (iblk m c 0 (kPt t)) (iblk m c 1 (kPt t)) (iblk m c 2 (kPt t)) (iblk m c 3 (kPt t)) (iblk m c 4 (kPt t)) (iblk m c 5 (kPt t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out7 (iblk m c 0 (kPt t)) (iblk m c 1 (kPt t)) (iblk m c 2 (kPt t)) (iblk m c 3 (kPt t)) (iblk m c 4 (kPt t)) (iblk m c 5 (kPt t)) := by dsimp only [dats]
theorem after0_8 (c : Dev nD) (t : Fin cfg0.N) : (dats m 0 c).after 8 t = out8 (iblk m c 0 (kPt t)) (iblk m c 1 (kPt t)) (iblk m c 2 (kPt t)) (iblk m c 3 (kPt t)) (iblk m c 4 (kPt t)) (iblk m c 5 (kPt t)) := by dsimp only [dats]
theorem after0_9 (c : Dev nD) (t : Fin cfg0.N) : (dats m 0 c).after 9 t = out9 (iblk m c 0 (kPt t)) (iblk m c 1 (kPt t)) (iblk m c 2 (kPt t)) (iblk m c 3 (kPt t)) (iblk m c 4 (kPt t)) (iblk m c 5 (kPt t)) := by dsimp only [dats]
theorem after0_10 (c : Dev nD) (t : Fin cfg0.N) : (dats m 0 c).after 10 t = out10 (iblk m c 0 (kPt t)) (iblk m c 1 (kPt t)) (iblk m c 2 (kPt t)) (iblk m c 3 (kPt t)) (iblk m c 4 (kPt t)) (iblk m c 5 (kPt t)) := by dsimp only [dats]
theorem after0_11 (c : Dev nD) (t : Fin cfg0.N) : (dats m 0 c).after 11 t = out11 (iblk m c 0 (kPt t)) (iblk m c 1 (kPt t)) (iblk m c 2 (kPt t)) (iblk m c 3 (kPt t)) (iblk m c 4 (kPt t)) (iblk m c 5 (kPt t)) := by dsimp only [dats]
theorem after0_12 (c : Dev nD) (t : Fin cfg0.N) : (dats m 0 c).after 12 t = out12 (iblk m c 0 (kPt t)) (iblk m c 1 (kPt t)) (iblk m c 2 (kPt t)) (iblk m c 3 (kPt t)) (iblk m c 4 (kPt t)) (iblk m c 5 (kPt t)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem carry7 (c : Dev nD) (t : Fin cfg0.N) (h : 8 ≤ t.val) :
    (dats m 0 c).after 7 t = (dats m 0 c).after 7 ⟨t.val - 1, by omega⟩ := by
  rw [after0_7, after0_7, show kPt t = kPt ⟨t.val - 1, by omega⟩ from kPt_pred t h]
theorem before0_7 (c : Dev nD) (t : Fin cfg0.N) (h : 8 ≤ t.val) (d) : (dats m 0 c).before 7 t d = (dats m 0 c).after 7 t := by
  rw [(dats m 0 c).before_out_traj 7 rfl (fun _ _ => rfl) (fun t _ hi _ => carry7 m c t (idle_ge t hi)) t.val t rfl d,
    fresh7 t, if_neg (by rw [tab_late t h]; exact Bool.false_ne_true), ← carry7 m c t h]

theorem carry8 (c : Dev nD) (t : Fin cfg0.N) (h : 8 ≤ t.val) :
    (dats m 0 c).after 8 t = (dats m 0 c).after 8 ⟨t.val - 1, by omega⟩ := by
  rw [after0_8, after0_8, show kPt t = kPt ⟨t.val - 1, by omega⟩ from kPt_pred t h]
theorem before0_8 (c : Dev nD) (t : Fin cfg0.N) (h : 8 ≤ t.val) (d) : (dats m 0 c).before 8 t d = (dats m 0 c).after 8 t := by
  rw [(dats m 0 c).before_out_traj 8 rfl (fun _ _ => rfl) (fun t _ hi _ => carry8 m c t (idle_ge t hi)) t.val t rfl d,
    fresh8 t, if_neg (by rw [tab_late t h]; exact Bool.false_ne_true), ← carry8 m c t h]

theorem carry9 (c : Dev nD) (t : Fin cfg0.N) (h : 8 ≤ t.val) :
    (dats m 0 c).after 9 t = (dats m 0 c).after 9 ⟨t.val - 1, by omega⟩ := by
  rw [after0_9, after0_9, show kPt t = kPt ⟨t.val - 1, by omega⟩ from kPt_pred t h]
theorem before0_9 (c : Dev nD) (t : Fin cfg0.N) (h : 8 ≤ t.val) (d) : (dats m 0 c).before 9 t d = (dats m 0 c).after 9 t := by
  rw [(dats m 0 c).before_out_traj 9 rfl (fun _ _ => rfl) (fun t _ hi _ => carry9 m c t (idle_ge t hi)) t.val t rfl d,
    fresh9 t, if_neg (by rw [tab_late t h]; exact Bool.false_ne_true), ← carry9 m c t h]

theorem carry10 (c : Dev nD) (t : Fin cfg0.N) (h : 8 ≤ t.val) :
    (dats m 0 c).after 10 t = (dats m 0 c).after 10 ⟨t.val - 1, by omega⟩ := by
  rw [after0_10, after0_10, show kPt t = kPt ⟨t.val - 1, by omega⟩ from kPt_pred t h]
theorem before0_10 (c : Dev nD) (t : Fin cfg0.N) (h : 8 ≤ t.val) (d) : (dats m 0 c).before 10 t d = (dats m 0 c).after 10 t := by
  rw [(dats m 0 c).before_out_traj 10 rfl (fun _ _ => rfl) (fun t _ hi _ => carry10 m c t (idle_ge t hi)) t.val t rfl d,
    fresh10 t, if_neg (by rw [tab_late t h]; exact Bool.false_ne_true), ← carry10 m c t h]

theorem carry11 (c : Dev nD) (t : Fin cfg0.N) (h : 8 ≤ t.val) :
    (dats m 0 c).after 11 t = (dats m 0 c).after 11 ⟨t.val - 1, by omega⟩ := by
  rw [after0_11, after0_11, show kPt t = kPt ⟨t.val - 1, by omega⟩ from kPt_pred t h]
theorem before0_11 (c : Dev nD) (t : Fin cfg0.N) (h : 8 ≤ t.val) (d) : (dats m 0 c).before 11 t d = (dats m 0 c).after 11 t := by
  rw [(dats m 0 c).before_out_traj 11 rfl (fun _ _ => rfl) (fun t _ hi _ => carry11 m c t (idle_ge t hi)) t.val t rfl d,
    fresh11 t, if_neg (by rw [tab_late t h]; exact Bool.false_ne_true), ← carry11 m c t h]

theorem carry12 (c : Dev nD) (t : Fin cfg0.N) (h : 8 ≤ t.val) :
    (dats m 0 c).after 12 t = (dats m 0 c).after 12 ⟨t.val - 1, by omega⟩ := by
  rw [after0_12, after0_12, show kPt t = kPt ⟨t.val - 1, by omega⟩ from kPt_pred t h]
theorem before0_12 (c : Dev nD) (t : Fin cfg0.N) (h : 8 ≤ t.val) (d) : (dats m 0 c).before 12 t d = (dats m 0 c).after 12 t := by
  rw [(dats m 0 c).before_out_traj 12 rfl (fun _ _ => rfl) (fun t _ hi _ => carry12 m c t (idle_ge t hi)) t.val t rfl d,
    fresh12 t, if_neg (by rw [tab_late t h]; exact Bool.false_ne_true), ← carry12 m c t h]

/-! ## The body obligation -/

def bodyPre (c : Dev nD) (t : Fin cfg0.N) : sProp (Mem F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What a key or value point returns: the queries' buffer as it was. -/
def postKv (c : Dev nD) (t : Fin cfg0.N) : sProp (Mem F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare ((dats m 0 c).before 6 t d))
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- What a query point returns: the key and value buffers as the eighth point left them. -/
def postQ (c : Dev nD) (t : Fin cfg0.N) : sProp (Mem F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

theorem body_Kv (c : Dev nD) (t : Fin cfg0.N) (h : t.val < 8) :
    bodyPre m c t ⊢ wp frame (wpE (defs₀ (F := F)) Variants.none c none) Set.univ (bodyAt0 t) (fun _ => postKv m c t) := by
  unfold bodyPre postKv bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [after0_7, after0_8, after0_9, after0_10, after0_11, after0_12, kPt_kv t h]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kv c Set.univ (grid0.coords t) (fun h1 => absurd ((cond1_iff t).mp h1) (by omega)) ((cond2_iff t).mpr h) _ _ _ _ _ _ _ _ _ _ _ _ _ _ _ _ _ _ _ _ _ _ _ _ _ _ (iblk m c 0 t) (iblk m c 1 t) (iblk m c 2 t) (iblk m c 3 t) (iblk m c 4 t) (iblk m c 5 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [H10]; · iexact H10
  isplitl [H11]; · iexact H11
  iexact H12

theorem body_Q (c : Dev nD) (t : Fin cfg0.N) (h : 8 ≤ t.val) :
    bodyPre m c t ⊢ wp frame (wpE (defs₀ (F := F)) Variants.none c none) Set.univ (bodyAt0 t) (fun _ => postQ m c t) := by
  unfold bodyPre postQ bodyAt0
  simp only [before0_0, before0_1, before0_2, before0_3, before0_4, before0_5, before0_7 m c t h, before0_8 m c t h, before0_9 m c t h, before0_10 m c t h, before0_11 m c t h, before0_12 m c t h]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_q c Set.univ (grid0.coords t) ((cond1_iff t).mpr h) (fun h2 => absurd ((cond2_iff t).mp h2) (by omega)) _ _ _ _ _ _ _ _ _ _ _ _ _ _ _ _ _ _ _ _ _ _ _ _ _ _ (iblk m c 0 t) (iblk m c 1 t) (iblk m c 2 t) (iblk m c 3 t) (iblk m c 4 t) (iblk m c 5 t) _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem idle6_kv (t : Fin cfg0.N) (h : t.val < 8) : cfg0.idle 6 (cfg0.grid.coords t) = true :=
  (by decide +kernel : ∀ t : Fin grid0.N, t.val < 8 → idle0 6 (grid0.coords t) = true) t h
theorem idle6_q (t : Fin cfg0.N) (h : 8 ≤ t.val) : cfg0.idle 6 (cfg0.grid.coords t) = false :=
  (by decide +kernel : ∀ t : Fin grid0.N, 8 ≤ t.val → idle0 6 (grid0.coords t) = false) t h
theorem idle7_kv (t : Fin cfg0.N) (h : t.val < 8) : cfg0.idle 7 (cfg0.grid.coords t) = false :=
  (by decide +kernel : ∀ t : Fin grid0.N, t.val < 8 → idle0 7 (grid0.coords t) = false) t h
theorem idle7_q (t : Fin cfg0.N) (h : 8 ≤ t.val) : cfg0.idle 7 (cfg0.grid.coords t) = true :=
  (by decide +kernel : ∀ t : Fin grid0.N, 8 ≤ t.val → idle0 7 (grid0.coords t) = true) t h

theorem body_obligation (c : Dev nD) : BodyObligation (dats (F := F) m 0 c) (defs₀ (F := F)) Variants.none () Set.univ := fun t => by
  rw [bigSep_W0, bigSep_W0, defs₀_row]
  by_cases h : t.val < 8
  · have f6 : (cfg0.win 6).flush t = false := by
      rw [Bool.eq_false_iff]; exact fun h' => absurd ((flush6 t).mp h') (by omega)
    rw [idle6_kv t h, f6, idle7_kv t h]
    exact triple_restated (body_Kv m c t h) rfl .rfl fun _ => .rfl
  · have h8 : 8 ≤ t.val := by omega
    rw [idle6_q t h8, idle7_q t h8]
    refine triple_restated (body_Q m c t h8) rfl .rfl fun _ => ?_
    unfold postQ
    iintro ⟨HΦ, Ho, H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · cases hf : (cfg0.win 7).flush t
      · iexists ((dats m 0 c).after 7 t); rw [before0_7 m c t h8]; iexact H7
      · iexact H7
    isplitl [H8]
    · cases hf : (cfg0.win 8).flush t
      · iexists ((dats m 0 c).after 8 t); rw [before0_8 m c t h8]; iexact H8
      · iexact H8
    isplitl [H9]
    · cases hf : (cfg0.win 9).flush t
      · iexists ((dats m 0 c).after 9 t); rw [before0_9 m c t h8]; iexact H9
      · iexact H9
    isplitl [H10]
    · cases hf : (cfg0.win 10).flush t
      · iexists ((dats m 0 c).after 10 t); rw [before0_10 m c t h8]; iexact H10
      · iexact H10
    isplitl [H11]
    · cases hf : (cfg0.win 11).flush t
      · iexists ((dats m 0 c).after 11 t); rw [before0_11 m c t h8]; iexact H11
      · iexact H11
    cases hf : (cfg0.win 12).flush t
    · iexists ((dats m 0 c).after 12 t); rw [before0_12 m c t h8]; iexact H12
    · iexact H12

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.QkvIdeal.Run

end
-- ==== Proof.Proj.lean ====
/- The projection of the normalised rows onto queries, keys and values, as functions of its arrays alone. -/
module

public import proofs.«01_k».proof.Proof.Quant

@[expose] public section

noncomputable section

namespace Cert.Proj

open Idealize.ShloMosaic Cert.Quant

/-- Column `n` of row `i` of the product of the codes, scaled by the row's scale and the column's. -/
def prodE (x : Fin 4096 → Fin 4096 → EReal) (xs : Fin 4096 → EReal) (w : Fin 4096 → Fin 9216 → EReal) (ws : Fin 9216 → EReal)
    (i : Fin 4096) (n : Fin 9216) : EReal := (∑ k, x i k * w k n) * xs i * ws n

/-- The columns of query head `h`, of key head `h` and of value head `h`. -/
def colQ (h : Fin 64) (d : Fin 128) : Fin 9216 := ⟨128 * h.val + d.val, by omega⟩
def colK (h : Fin 4) (d : Fin 128) : Fin 9216 := ⟨8192 + (128 * h.val + d.val), by omega⟩
def colV (h : Fin 4) (d : Fin 128) : Fin 9216 := ⟨8704 + (128 * h.val + d.val), by omega⟩

/-- The row that position `j` of sequence `b` is. -/
def posOf (b : Fin 2) (j : Fin 2048) : Fin 4096 := ⟨2048 * b.val + j.val, by omega⟩

/-- The first and the second half of a head. -/
def lo (d : Fin 64) : Fin 128 := ⟨d.val, by omega⟩
def hi (d : Fin 64) : Fin 128 := ⟨d.val + 64, by omega⟩

/-- A head rotated: its element pairs `d`, `d + 64` turned by the angle whose cosine and sine are `co d` and `si d`. -/
def rotE (t : Fin 128 → EReal) (co si : Fin 64 → EReal) (d : Fin 128) : EReal :=
  if h : d.val < 64 then t (lo ⟨d.val, h⟩) * co ⟨d.val, h⟩ - t (hi ⟨d.val, h⟩) * si ⟨d.val, h⟩
  else t (hi ⟨d.val - 64, by omega⟩) * co ⟨d.val - 64, by omega⟩ + t (lo ⟨d.val - 64, by omega⟩) * si ⟨d.val - 64, by omega⟩

theorem rotE_lo (t : Fin 128 → EReal) (co si : Fin 64 → EReal) (d : Fin 64) : rotE t co si (lo d) = t (lo d) * co d - t (hi d) * si d := by
  unfold rotE; rw [dif_pos (show (lo d).val < 64 from d.isLt)]; rfl

theorem rotE_hi (t : Fin 128 → EReal) (co si : Fin 64 → EReal) (d : Fin 64) : rotE t co si (hi d) = t (hi d) * co d + t (lo d) * si d := by
  unfold rotE
  have e : ¬ (hi d).val < 64 := by show ¬ d.val + 64 < 64; omega
  have e' : (⟨(hi d).val - 64, by have := (hi d).isLt; omega⟩ : Fin 64) = d := Fin.ext (by show d.val + 64 - 64 = d.val; omega)
  rw [dif_neg e, e']

theorem lo_or_hi (d : Fin 128) : (∃ e, d = lo e) ∨ ∃ e, d = hi e := by
  by_cases h : d.val < 64
  · exact .inl ⟨⟨d.val, h⟩, rfl⟩
  · exact .inr ⟨⟨d.val - 64, by omega⟩, Fin.ext (by show d.val = d.val - 64 + 64; omega)⟩

/-- A rotation as one product with the cosines doubled and the sines signed. -/
theorem rot_of (t : Fin 128 → EReal) (co si : Fin 64 → EReal) (co2 si2 : Fin 128 → EReal) (u : Fin 128 → EReal)
    (hcl : ∀ d, co2 (lo d) = co d) (hch : ∀ d, co2 (hi d) = co d) (hsl : ∀ d, si2 (lo d) = - si d) (hsh : ∀ d, si2 (hi d) = si d)
    (hul : ∀ d, u (lo d) = t (hi d)) (huh : ∀ d, u (hi d) = t (lo d)) (d : Fin 128) :
    t d * co2 d + u d * si2 d = rotE t co si d := by
  rcases lo_or_hi d with ⟨e, rfl⟩ | ⟨e, rfl⟩
  · rw [rotE_lo, hcl, hsl, hul, mul_neg, ← sub_eq_add_neg]
  · rw [rotE_hi, hch, hsh, huh]

end Cert.Proj

end
-- ==== Proof.QkvBlock.lean ====
/- The projection run by blocks: each element of what a grid point's body stores, as a function of the blocks it reads. -/
module

public import proofs.«01_k».proof.Proof.QkvIdealFrame
public import proofs.«01_k».proof.Proof.Proj
public import Idealize.ShloMosaic.Lib.Pipeline.ValueKit
public import Idealize.ShloMosaic.Lib.Pipeline.Covers
public import Idealize.ShloMosaic.Lib.Claim

@[expose] public section

set_option maxRecDepth 16384

noncomputable section

namespace Cert.QkvIdeal.Value

open Cert.QkvIdeal Cert.QkvIdeal.Gen Cert.QkvIdeal.Run Cert.Quant Cert.Proj
open Idealize.ShloMosaic Idealize.ShloMosaic.TcCoe Idealize.SL.Sem
open Idealize.ShloMosaic.Pipeline (Dat)
open Facts

/-! ## The product -/

theorem z_at (x : Vec Ideal S512x4096 .fp8e4m3) (w : Vec Ideal S4096x1024 .fp8e4m3) (xs : Vec Ideal S512x1 .f32) (ws : Vec Ideal S1x1024 .f32)
    (r : Fin 512) (n : Fin 1024) :
    k0_pay1 (F := Ideal) x w xs ws (ix2 r n) = ((∑ k : Fin 4096, x (ix2 r k) * w (ix2 k n)) * xs (ix2 r (0 : Fin 1)) * ws (ix2 (0 : Fin 1) n) : EReal) := by
  pointwise [k0_pay1] <;> rfl

theorem zOf_eq (x0 : Vec Ideal S512x4096 .fp8e4m3) (x1 : Vec Ideal S512x1 .f32) (x2 : Vec Ideal S4096x1024 .fp8e4m3) (x3 : Vec Ideal S1x1024 .f32) :
    zOf x0 x1 x2 x3 = k0_pay1 x0 x2 x1 x3 := by
  unfold zOf
  rw [View.ld_unit_lit _ _ (by decide), View.ld_unit_lit _ _ (by decide), View.ld_unit_lit _ _ (by decide), View.ld_unit_lit _ _ (by decide)]

theorem same_at (v : FVec Ideal S512x128 .f32) (r : Fin 512) (d : Fin 128) :
    (shapeCast S512x128 v shapeCasts_S512x128_S512x128 : FVec Ideal S512x128 .f32) (ix2 r d) = v (ix2 r d) := by
  pointwise [] <;> rfl

theorem coOf_at (x4 : Vec Ideal S512x128 .f32) (r : Fin 512) (d : Fin 128) : coOf x4 (ix2 r d) = x4 (ix2 r d) := by
  unfold coOf
  rw [View.ld_unit_lit _ _ (by decide)]
  exact same_at x4 r d

theorem siOf_at (x5 : Vec Ideal S512x128 .f32) (r : Fin 512) (d : Fin 128) : siOf x5 (ix2 r d) = x5 (ix2 r d) := by
  unfold siOf
  rw [View.ld_unit_lit _ _ (by decide)]
  exact same_at x5 r d

/-! ## One head of a block -/

section
variable (t : FVec Ideal S512x128 .f32) (co si : FVec Ideal S512x128 .f32) (r : Fin 512)

/-- Row `r` of a head. -/
def row : Fin 128 → EReal := fun d => t (ix2 r d)

theorem roll_lo (d : Fin 64) : (dynamicRotate 1 64#32 none t rotates_S512x128_d1 : FVec Ideal S512x128 .f32) (ix2 r (lo d)) = t (ix2 r (hi d)) := by
  refine congrArg t (funext fun a => Fin.ext ?_)
  match a with
  | ⟨0, _⟩ => rfl
  | ⟨1, _⟩ => show (d.val + 128 - 64 % 128) % 128 = d.val + 64; omega

theorem roll_hi (d : Fin 64) : (dynamicRotate 1 64#32 none t rotates_S512x128_d1 : FVec Ideal S512x128 .f32) (ix2 r (hi d)) = t (ix2 r (lo d)) := by
  refine congrArg t (funext fun a => Fin.ext ?_)
  match a with
  | ⟨0, _⟩ => rfl
  | ⟨1, _⟩ => show (d.val + 64 + 128 - 64 % 128) % 128 = d.val; omega

/-- A head rotated. -/
def rope : FVec Ideal S512x128 .f32 := addf (mulf t co) (mulf (dynamicRotate 1 64#32 none t rotates_S512x128_d1) si)

theorem fma_at (u : FVec Ideal S512x128 .f32) (d : Fin 128) :
    (addf (mulf t co) (mulf u si) : FVec Ideal S512x128 .f32) (ix2 r d) = (t (ix2 r d) * co (ix2 r d) + u (ix2 r d) * si (ix2 r d) : EReal) := by
  pointwise [] <;> rfl

theorem rope_at (c s : Fin 64 → EReal) (hcl : ∀ d, co (ix2 r (lo d)) = c d) (hch : ∀ d, co (ix2 r (hi d)) = c d)
    (hsl : ∀ d, si (ix2 r (lo d)) = (- s d : EReal)) (hsh : ∀ d, si (ix2 r (hi d)) = s d) :
    row (rope t co si) r = rotE (row t r) c s :=
  funext fun d => (fma_at t co si r (dynamicRotate 1 64#32 none t rotates_S512x128_d1) d).trans
    (rot_of (row t r) c s (fun d => co (ix2 r d)) (fun d => si (ix2 r d))
      (fun d => (dynamicRotate 1 64#32 none t rotates_S512x128_d1 : FVec Ideal S512x128 .f32) (ix2 r d)) hcl hch hsl hsh (roll_lo t r) (roll_hi t r) d)

theorem turn_at (d : Fin 128) : (shapeCast S1x128x512 (transpose S128x512 [1, 0] (truncf .bf16 t bitsLt_bf16_f32 : FVec Ideal S512x128 .bf16) transposes_S512x128_p1_0_S128x512)
    shapeCasts_S128x512_S1x128x512 : FVec Ideal S1x128x512 .bf16) (ix3 (0 : Fin 1) d r) = row t r d := by
  pointwise [] <;> rfl

/-! ### The quantiser -/

/-- The largest magnitude of each row. -/
def mx1 : FVec Ideal S512 .f32 := multiReduction .maximumf [1] S512 (absf t) 0xFF800000#32 reduces_S512x128_S512 (.inl rfl) rfl
def mx : FVec Ideal S512x1 .f32 := shapeCast S512x1 (mx1 t) shapeCasts_S512_S512x1

theorem mx1_at : mx1 t (ix1 r) = amax (row t r) := by
  pointwise [mx1] <;> rfl

theorem col_at (v : FVec Ideal S512 .f32) : (shapeCast S512x1 v shapeCasts_S512_S512x1 : FVec Ideal S512x1 .f32) (ix2 r (0 : Fin 1)) = v (ix1 r) := by
  pointwise [] <;> rfl

theorem mx_at : mx t (ix2 r (0 : Fin 1)) = amax (row t r) := (col_at r (mx1 t)).trans (mx1_at t r)

/-- The exponent of each row. -/
def ex (a : FVec Ideal S512x1 .f32) : FVec Ideal S512x1 .f32 :=
  addf (floor (divf (log (mulf a (broadcast S512x1 (Scalar.ofBits .f32 0x3B124925#32)))) (log (broadcast S512x1 (Scalar.ofBits .f32 0x40000000#32)))))
    (broadcast S512x1 (Scalar.ofBits .f32 0x3F800000#32))

theorem ex_at (a : FVec Ideal S512x1 .f32) : ex a (ix2 r (0 : Fin 1)) = expo (a (ix2 r (0 : Fin 1))) := by
  pointwise [ex] <;> rfl

/-- The scale of each row. -/
def scaleV (a e : FVec Ideal S512x1 .f32) : FVec Ideal S512x1 .f32 :=
  select (cmpf .oeq a (broadcast S512x1 (Scalar.ofBits .f32 0x00000000#32))) (broadcast S512x1 (Scalar.ofBits .f32 0x3F800000#32)) (exp2 e)

theorem scaleV_at (a e : FVec Ideal S512x1 .f32) :
    scaleV a e (ix2 r (0 : Fin 1)) = if a (ix2 r (0 : Fin 1)) = (0 : EReal) then (1 : EReal) else Ideal.exp2 (e (ix2 r (0 : Fin 1))) := by
  pointwise [scaleV] <;> rfl

def wide (v : FVec Ideal S512x1 .f32) : FVec Ideal S512x128 .f32 := broadcastTo S512x128 (shapeCast S512x1 v shapeCasts_S512x1_S512x1) broadcasts_S512x1_S512x128

theorem wide_gen (v : FVec Ideal S512x1 .f32) (d : Fin 128) : wide v (ix2 r d) = v (ix2 r (0 : Fin 1)) := by
  pointwise [wide] <;> rfl

/-- The scale of each row, in every lane. -/
def scaleW : FVec Ideal S512x128 .f32 := wide (scaleV (mx t) (ex (mx t)))

theorem scaleW_at (d : Fin 128) : scaleW t (ix2 r d) = scale (amax (row t r)) := by
  refine (wide_gen r _ d).trans ?_
  rw [scaleV_at, ex_at, mx_at]
  exact scale_of _

def codeV (a e : FVec Ideal S512x1 .f32) : FVec Ideal S512x128 .fp8e4m3 :=
  truncf .fp8e4m3 (minimumf (broadcast S512x128 (Scalar.ofBits .f32 0x43E00000#32)) (maximumf (broadcast S512x128 (Scalar.ofBits .f32 0xC3E00000#32))
      (mulf t (broadcastTo S512x128 (select (cmpf .oeq a (broadcast S512x1 (Scalar.ofBits .f32 0x00000000#32))) (broadcast S512x1 (Scalar.ofBits .f32 0x3F800000#32))
        (exp2 (subf (broadcast S512x1 (Scalar.ofBits .f32 0x00000000#32)) e))) broadcasts_S512x1_S512x128)))) bitsLt_fp8e4m3_f32

theorem codeV_at (a e : FVec Ideal S512x1 .f32) (d : Fin 128) : codeV t a e (ix2 r d) =
    min (Ideal.ofBits .f32 0x43E00000#32) (max (Ideal.ofBits .f32 0xC3E00000#32)
      (row t r d * if a (ix2 r (0 : Fin 1)) = (0 : EReal) then (1 : EReal) else Ideal.exp2 (0 - e (ix2 r (0 : Fin 1))))) := by
  pointwise [codeV] <;> rfl

/-- The codes of each row. -/
def codes : FVec Ideal S512x128 .fp8e4m3 := codeV t (mx t) (ex (mx t))

theorem codes_at (d : Fin 128) : codes t (ix2 r d) = code (row t r d) (amax (row t r)) := by
  refine (codeV_at t r _ _ d).trans ?_
  rw [ex_at, mx_at, inv_of]
  rfl

end

/-! ### Four heads side by side -/

theorem stack_at (q : Fin 4 → FVec Ideal S512x128 .fp8e4m3) (r : Fin 512) (h : Fin 4) (d : Fin 128) :
    (concatenate S512x4x128 1 [⟨S512x1x128, shapeCast S512x1x128 (q 0) shapeCasts_S512x128_S512x1x128⟩, ⟨S512x1x128, shapeCast S512x1x128 (q 1) shapeCasts_S512x128_S512x1x128⟩,
      ⟨S512x1x128, shapeCast S512x1x128 (q 2) shapeCasts_S512x128_S512x1x128⟩, ⟨S512x1x128, shapeCast S512x1x128 (q 3) shapeCasts_S512x128_S512x1x128⟩]
      concatenates_S512x1x128_S512x1x128_S512x1x128_S512x1x128_S512x4x128_d1 : FVec Ideal S512x4x128 .fp8e4m3) (ix3 r h d) = q h (ix2 r d) := by
  match h with
  | ⟨0, _⟩ => pointwise [] <;> rfl
  | ⟨1, _⟩ => pointwise [] <;> rfl
  | ⟨2, _⟩ => pointwise [] <;> rfl
  | ⟨3, _⟩ => pointwise [] <;> rfl

/-- Whether a lane's number `v` is `n` modulo 4, `w` telling whether 4 is negative. -/
def laneOf (v : IVec S512x128 32) (w : IVec S512x128 1) (n : BitVec 32) : IVec S512x128 1 :=
  have r4 : IVec S512x128 32 := remsi v (broadcast S512x128 (Scalar.select (Scalar.cmpi .eq 4#32 0#32) 1#32 4#32))
  cmpi .eq (select (andi (xori (cmpi .slt r4 (broadcast S512x128 0#32)) w) (cmpi .ne r4 (broadcast S512x128 0#32)))
    (addi r4 (broadcast S512x128 (Scalar.select (Scalar.cmpi .eq 4#32 0#32) 1#32 4#32))) r4) (broadcast S512x128 n)

/-- The same of one lane. -/
def bitOf (x : BitVec 32) (w : BitVec 1) (n : BitVec 32) : BitVec 1 := laneOf (fun _ => x) (fun _ => w) n (ix2 (0 : Fin 512) (0 : Fin 128))

theorem bit_at (v : IVec S512x128 32) (w : IVec S512x128 1) (n : BitVec 32) (i : S512x128.Idx) : laneOf v w n i = bitOf (v i) (w i) n := by
  pointwise [laneOf, bitOf]

theorem iota_at (r : Fin 512) (l : Fin 128) : iota .tc S512x128 32 [1] iota_S512x128_d1_w32 (ix2 r l) = BitVec.ofNat 32 l.val := by
  pointwise [] <;> rfl

theorem neg_at (b : BitVec 1) (i : S512x128.Idx) : (broadcastTo S512x128 (broadcast S512x128 b) broadcasts_S512x128_S512x128 : IVec S512x128 1) i = b := rfl

theorem bits : ∀ l n : Fin 4, bitOf (BitVec.ofNat 32 l.val) (Scalar.cmpi .slt (Scalar.select (Scalar.cmpi .eq 4#32 0#32) 1#32 4#32) 0#32) (BitVec.ofNat 32 n.val) =
    if l = n then 1#1 else 0#1 := by
  decide +kernel

def lane (n : BitVec 32) : IVec S512x128 1 :=
  laneOf (iota .tc S512x128 32 [1] iota_S512x128_d1_w32)
    (broadcastTo S512x128 (broadcast S512x128 (Scalar.cmpi .slt (Scalar.select (Scalar.cmpi .eq 4#32 0#32) 1#32 4#32) 0#32)) broadcasts_S512x128_S512x128) n

theorem lane_at (r : Fin 512) (l : Fin 4) (n : Fin 4) : lane (BitVec.ofNat 32 n.val) (ix2 r (⟨l.val, by omega⟩ : Fin 128)) = if l = n then 1#1 else 0#1 := by
  unfold lane
  rw [bit_at, iota_at, neg_at]
  exact bits l n

/-- The scales of four heads, head `l` modulo 4 in lane `l`. -/
def mixed (s : Fin 4 → FVec Ideal S512x128 .f32) : FVec Ideal S512x128 .f32 :=
  select (lane 3#32) (s 3) (select (lane 2#32) (s 2) (select (lane 1#32) (s 1) (s 0)))

theorem sel_at (b : IVec S512x128 1) (x y : FVec Ideal S512x128 .f32) (i : S512x128.Idx) (v : BitVec 1) (h : b i = v) :
    (select b x y : FVec Ideal S512x128 .f32) i = if v = 1#1 then x i else y i := by
  subst h
  rfl

theorem mixed_at (s : Fin 4 → FVec Ideal S512x128 .f32) (r : Fin 512) (l : Fin 4) :
    mixed s (ix2 r (⟨l.val, by omega⟩ : Fin 128)) = s l (ix2 r (⟨l.val, by omega⟩ : Fin 128)) := by
  unfold mixed
  rw [sel_at (lane 3#32) _ _ _ _ (lane_at r l 3), sel_at (lane 2#32) _ _ _ _ (lane_at r l 2), sel_at (lane 1#32) _ _ _ _ (lane_at r l 1)]
  match l with
  | ⟨0, _⟩ => rfl
  | ⟨1, _⟩ => rfl
  | ⟨2, _⟩ => rfl
  | ⟨3, _⟩ => rfl

theorem lines_at (v : FVec Ideal S512x128 .f32) (h : Fin 4) (r : Fin 512) :
    k0_pay6 (F := Ideal) v (ix3 (0 : Fin 1) h r) = v (ix2 r (⟨h.val, by omega⟩ : Fin 128)) := by
  pointwise [k0_pay6] <;> rfl

/-! ## The heads of a block -/

section
variable (z : FVec Ideal S512x1024 .f32) (co si : FVec Ideal S512x128 .f32)

def head0 : FVec Ideal S512x128 .f32 := extractStridedSlice S512x128 ![0, 0] z slices_S512x1024_o0_0_S512x128
def head1 : FVec Ideal S512x128 .f32 := extractStridedSlice S512x128 ![0, 128] z slices_S512x1024_o0_128_S512x128
def head2 : FVec Ideal S512x128 .f32 := extractStridedSlice S512x128 ![0, 256] z slices_S512x1024_o0_256_S512x128
def head3 : FVec Ideal S512x128 .f32 := extractStridedSlice S512x128 ![0, 384] z slices_S512x1024_o0_384_S512x128
def head4 : FVec Ideal S512x128 .f32 := extractStridedSlice S512x128 ![0, 512] z slices_S512x1024_o0_512_S512x128
def head5 : FVec Ideal S512x128 .f32 := extractStridedSlice S512x128 ![0, 640] z slices_S512x1024_o0_640_S512x128
def head6 : FVec Ideal S512x128 .f32 := extractStridedSlice S512x128 ![0, 768] z slices_S512x1024_o0_768_S512x128
def head7 : FVec Ideal S512x128 .f32 := extractStridedSlice S512x128 ![0, 896] z slices_S512x1024_o0_896_S512x128

/-- The head of number `h`. -/
def head (h : Fin 8) : FVec Ideal S512x128 .f32 := match h with
  | ⟨0, _⟩ => head0 z
  | ⟨1, _⟩ => head1 z
  | ⟨2, _⟩ => head2 z
  | ⟨3, _⟩ => head3 z
  | ⟨4, _⟩ => head4 z
  | ⟨5, _⟩ => head5 z
  | ⟨6, _⟩ => head6 z
  | ⟨7, _⟩ => head7 z

/-- The column of a block that element `d` of head `h` is. -/
def colB (h : Fin 8) (d : Fin 128) : Fin 1024 := ⟨128 * h.val + d.val, by omega⟩

theorem head_at (r : Fin 512) (h : Fin 8) : row (head z h) r = fun d => z (ix2 r (colB h d)) := by
  funext d
  match h with
  | ⟨0, _⟩ => exact congrArg z (funext fun a => Fin.ext (match a with | ⟨0, _⟩ => Nat.zero_add _ | ⟨1, _⟩ => by show 0 + d.val = 128 * 0 + d.val; omega))
  | ⟨1, _⟩ => exact congrArg z (funext fun a => Fin.ext (match a with | ⟨0, _⟩ => Nat.zero_add _ | ⟨1, _⟩ => by show 128 + d.val = 128 * 1 + d.val; omega))
  | ⟨2, _⟩ => exact congrArg z (funext fun a => Fin.ext (match a with | ⟨0, _⟩ => Nat.zero_add _ | ⟨1, _⟩ => by show 256 + d.val = 128 * 2 + d.val; omega))
  | ⟨3, _⟩ => exact congrArg z (funext fun a => Fin.ext (match a with | ⟨0, _⟩ => Nat.zero_add _ | ⟨1, _⟩ => by show 384 + d.val = 128 * 3 + d.val; omega))
  | ⟨4, _⟩ => exact congrArg z (funext fun a => Fin.ext (match a with | ⟨0, _⟩ => Nat.zero_add _ | ⟨1, _⟩ => by show 512 + d.val = 128 * 4 + d.val; omega))
  | ⟨5, _⟩ => exact congrArg z (funext fun a => Fin.ext (match a with | ⟨0, _⟩ => Nat.zero_add _ | ⟨1, _⟩ => by show 640 + d.val = 128 * 5 + d.val; omega))
  | ⟨6, _⟩ => exact congrArg z (funext fun a => Fin.ext (match a with | ⟨0, _⟩ => Nat.zero_add _ | ⟨1, _⟩ => by show 768 + d.val = 128 * 6 + d.val; omega))
  | ⟨7, _⟩ => exact congrArg z (funext fun a => Fin.ext (match a with | ⟨0, _⟩ => Nat.zero_add _ | ⟨1, _⟩ => by show 896 + d.val = 128 * 7 + d.val; omega))

theorem v54_eq : v54 z co si = codes (rope (head0 z) co si) := rfl

theorem v90_eq : v90 z co si = codes (rope (head1 z) co si) := rfl

theorem v145_eq : v145 z co si = codes (rope (head2 z) co si) := rfl

theorem v200_eq : v200 z co si = codes (rope (head3 z) co si) := rfl

theorem v264_eq : v264 z co si = codes (head4 z) := rfl

theorem v296_eq : v296 z co si = codes (head5 z) := rfl

theorem v347_eq : v347 z co si = codes (head6 z) := rfl

theorem v398_eq : v398 z co si = codes (head7 z) := rfl

theorem keys_eq : (k0_pay47 (v54 z co si) (v90 z co si) (v145 z co si) (v200 z co si) : FVec Ideal S512x4x128 .fp8e4m3) =
    k0_pay47 (codes (rope (head0 z) co si)) (codes (rope (head1 z) co si)) (codes (rope (head2 z) co si)) (codes (rope (head3 z) co si)) := by
  rw [v54_eq, v90_eq, v145_eq, v200_eq]

theorem key_at (r : Fin 512) (h : Fin 4) (d : Fin 128) : k0_pay47 (v54 z co si) (v90 z co si) (v145 z co si) (v200 z co si) (ix3 r h d) =
    codes (rope (head z ⟨h.val, by omega⟩) co si) (ix2 r d) := by
  rw [keys_eq]
  refine (stack_at (fun h => codes (rope (head z ⟨h.val, by omega⟩) co si)) r h d)

theorem value_at (r : Fin 512) (h : Fin 4) (d : Fin 128) : k0_pay4 (v398 z co si) (v420 z co si) (v421 z co si) (v422 z co si) (ix3 r h d) =
    codes (head z ⟨4 + h.val, by omega⟩) (ix2 r d) := by
  unfold v420 v421 v422
  rw [v398_eq, v264_eq, v296_eq, v347_eq]
  refine (stack_at (fun h => codes (head z ⟨4 + h.val, by omega⟩)) r h d)

theorem keyMix_eq : k0_pay46 (v20 z co si) (v166 z co si) (v201 z co si) =
    mixed (fun h => scaleW (rope (head z ⟨h.val, by omega⟩) co si)) := rfl

theorem valueMix_eq : v419 z co si = mixed (fun h => scaleW (head z ⟨4 + h.val, by omega⟩)) := rfl

theorem keyScale_at (r : Fin 512) (h : Fin 4) : k0_pay49 (v20 z co si) (v166 z co si) (v201 z co si) (ix3 (0 : Fin 1) h r) =
    scale (amax (row (rope (head z ⟨h.val, by omega⟩) co si) r)) := by
  refine (lines_at (k0_pay46 (v20 z co si) (v166 z co si) (v201 z co si)) h r).trans ?_
  rw [keyMix_eq, mixed_at, scaleW_at]

theorem valueScale_at (r : Fin 512) (h : Fin 4) : k0_pay6 (v419 z co si) (ix3 (0 : Fin 1) h r) =
    scale (amax (row (head z ⟨4 + h.val, by omega⟩) r)) := by
  rw [lines_at, valueMix_eq, mixed_at, scaleW_at]

end

/-! ## What the body stores -/

section
variable (x0 : Vec Ideal S512x4096 .fp8e4m3) (x1 : Vec Ideal S512x1 .f32) (x2 : Vec Ideal S4096x1024 .fp8e4m3) (x3 : Vec Ideal S1x1024 .f32) (x4 x5 : Vec Ideal S512x128 .f32)

theorem out7_eq : out7 x0 x1 x2 x3 x4 x5 = k0_pay47 (v54 (zOf x0 x1 x2 x3) (coOf x4) (siOf x5)) (v90 (zOf x0 x1 x2 x3) (coOf x4) (siOf x5)) (v145 (zOf x0 x1 x2 x3) (coOf x4) (siOf x5)) (v200 (zOf x0 x1 x2 x3) (coOf x4) (siOf x5)) := by
  unfold out7
  rw [View.canon_cons_unit_lit _ _ _ (by decide)]

theorem out8_eq : out8 x0 x1 x2 x3 x4 x5 = k0_pay4 (v398 (zOf x0 x1 x2 x3) (coOf x4) (siOf x5)) (v420 (zOf x0 x1 x2 x3) (coOf x4) (siOf x5)) (v421 (zOf x0 x1 x2 x3) (coOf x4) (siOf x5)) (v422 (zOf x0 x1 x2 x3) (coOf x4) (siOf x5)) := by
  unfold out8
  rw [View.canon_cons_unit_lit _ _ _ (by decide)]

theorem out9_eq : out9 x0 x1 x2 x3 x4 x5 = k0_pay49 (v20 (zOf x0 x1 x2 x3) (coOf x4) (siOf x5)) (v166 (zOf x0 x1 x2 x3) (coOf x4) (siOf x5)) (v201 (zOf x0 x1 x2 x3) (coOf x4) (siOf x5)) := by
  unfold out9
  rw [View.canon_cons_unit_lit _ _ _ (by decide)]

theorem out10_eq : out10 x0 x1 x2 x3 x4 x5 = k0_pay6 (v419 (zOf x0 x1 x2 x3) (coOf x4) (siOf x5)) := by
  unfold out10
  rw [View.canon_cons_unit_lit _ _ _ (by decide)]

/-- Head `h` of the queries' block. -/
def turned (h : Fin 8) : Vec Ideal S1x128x512 .bf16 :=
  shapeCast S1x128x512 (transpose S128x512 [1, 0] (truncf .bf16 (rope (head (zOf x0 x1 x2 x3) h) (coOf x4) (siOf x5)) bitsLt_bf16_f32 : FVec Ideal S512x128 .bf16) transposes_S512x128_p1_0_S128x512)
    shapeCasts_S128x512_S1x128x512

theorem out6_eq : out6 x0 x1 x2 x3 x4 x5 = View.canon [⟨rq7, turned x0 x1 x2 x3 x4 x5 7⟩, ⟨rq6, turned x0 x1 x2 x3 x4 x5 6⟩, ⟨rq5, turned x0 x1 x2 x3 x4 x5 5⟩, ⟨rq4, turned x0 x1 x2 x3 x4 x5 4⟩, ⟨rq3, turned x0 x1 x2 x3 x4 x5 3⟩, ⟨rq2, turned x0 x1 x2 x3 x4 x5 2⟩, ⟨rq1, turned x0 x1 x2 x3 x4 x5 1⟩, ⟨rq0, turned x0 x1 x2 x3 x4 x5 0⟩] := rfl

theorem slab_at (q : Fin 8 → Vec Ideal S1x128x512 .bf16) (h : Fin 8) (d : Fin 128) (r : Fin 512) :
    View.canon (Val := Elt Ideal) (s := S8x128x512) (e := .bf16) [⟨rq7, q 7⟩, ⟨rq6, q 6⟩, ⟨rq5, q 5⟩, ⟨rq4, q 4⟩, ⟨rq3, q 3⟩, ⟨rq2, q 2⟩, ⟨rq1, q 1⟩, ⟨rq0, q 0⟩] (ix3 h d r) = q h (ix3 (0 : Fin 1) d r) := by
  have g : ∀ k : Fin 8, View.TileAt (Val := Elt Ideal) (S := S8x128x512) (e := .bf16) (ix3 h d r) ![k.val, 0, 0] S1x128x512.size (q k) (q h (ix3 (0 : Fin 1) d r)) := by
    intro k x hx
    have e0 := hx 0; have e1 := hx 1; have e2 := hx 2
    change h.val = k.val + (x 0).val at e0
    change d.val = 0 + (x 1).val at e1
    change r.val = 0 + (x 2).val at e2
    have b0 : (x 0).val < 1 := (x 0).isLt
    have hk : k = h := Fin.ext (by omega)
    subst hk
    refine congrArg (q k) (funext fun a => Fin.ext ?_)
    match a with
    | ⟨0, _⟩ => show (x 0).val = 0; omega
    | ⟨1, _⟩ => show (x 1).val = d.val; omega
    | ⟨2, _⟩ => show (x 2).val = r.val; omega
  refine View.canon_eq_of_allAt _ _ _ (cover6 (F := Ideal) (q 0) (q 1) (q 2) (q 3) (q 4) (q 5) (q 6) (q 7) _) ?_
  refine View.allAt_cons_unit _ _ _ _ _ (g 7) ?_
  refine View.allAt_cons_unit _ _ _ _ _ (g 6) ?_
  refine View.allAt_cons_unit _ _ _ _ _ (g 5) ?_
  refine View.allAt_cons_unit _ _ _ _ _ (g 4) ?_
  refine View.allAt_cons_unit _ _ _ _ _ (g 3) ?_
  refine View.allAt_cons_unit _ _ _ _ _ (g 2) ?_
  refine View.allAt_cons_unit _ _ _ _ _ (g 1) ?_
  refine View.allAt_cons_unit _ _ _ _ _ (g 0) ?_
  exact View.allAt_nil _ _

theorem query_at (h : Fin 8) (d : Fin 128) (r : Fin 512) : out6 x0 x1 x2 x3 x4 x5 (ix3 h d r) =
    row (rope (head (zOf x0 x1 x2 x3) h) (coOf x4) (siOf x5)) r d := by
  rw [out6_eq]
  refine (slab_at (turned x0 x1 x2 x3 x4 x5) h d r).trans ?_
  exact turn_at _ r d

end

end Cert.QkvIdeal.Value

end
-- ==== Proof.QkvKernel.lean ====
/- The projection run by blocks: what each grid point stores, as a function of the arguments. -/
module

public import proofs.«01_k».proof.Proof.QkvBlock
public import Idealize.ShloMosaic.Lib.Pipeline.ValueKit
public import Idealize.ShloMosaic.Lib.Pipeline.Covers
public import Idealize.ShloMosaic.Lib.Claim

@[expose] public section

set_option maxRecDepth 16384

noncomputable section

namespace Cert.QkvIdeal.Value

open Cert.QkvIdeal Cert.QkvIdeal.Gen Cert.QkvIdeal.Run Cert.Quant Cert.Proj
open Idealize.ShloMosaic Idealize.ShloMosaic.TcCoe Idealize.SL.Sem
open Idealize.ShloMosaic.Pipeline (Dat)
open Facts

/-! ## The angles -/

/-- The angle of each row and pair: the row's position times a power of the base. -/
def ang (sp : Vec Ideal S2 .i32) : FVec Ideal S4096x64 .f32 :=
  mulf (broadcastInDim S4096x64 ![0, 1] bcast_S4096x1_S4096x64_0_1 (shapeCast S4096x1
      (sitofp .f32 (addi (broadcastInDim S2x2048 ![0, 1] bcast_S2x1_S2x2048_0_1 (broadcastInDim S2x1 ![0] bcast_S2_S2x1_0 sp))
        (broadcastInDim S2x2048 ![0, 1] bcast_S1x2048_S2x2048_0_1 (broadcastInDim S1x2048 ![1] bcast_S2048_S1x2048_1 (iotaInDim S2048 32 0)))) : FVec Ideal S2x2048 .f32)
      shapeCasts_S2x2048_S4096x1))
    (broadcastInDim S4096x64 ![0, 1] bcast_S1x64_S4096x64_0_1 (broadcastInDim S1x64 ![1] bcast_S64_S1x64_1
      (Host.powf (broadcastInDim S64 ![] bcast_S_S64 (constant S_ .f32 0x48F42400#32))
        (Host.negf (Host.divf (mulf (sitofp .f32 (iotaInDim S64 32 0)) (broadcastInDim S64 ![] bcast_S_S64 (constant S_ .f32 0x40000000#32)))
          (broadcastInDim S64 ![] bcast_S_S64 (constant S_ .f32 0x43000000#32)))) : FVec Ideal S64 .f32)))

theorem pair_lo (a b : FVec Ideal S4096x64 .f32) (i : Fin 4096) (d : Fin 64) :
    (concatenate S4096x128 1 [⟨S4096x64, a⟩, ⟨S4096x64, b⟩] concatenates_S4096x64_S4096x64_S4096x128_d1 : FVec Ideal S4096x128 .f32) (ix2 i (lo d)) = a (ix2 i d) :=
  (concatenate_pair_apply _ _ _ _ _).trans ((dif_pos (show (lo d).val < 64 from d.isLt)).trans (congrArg a (funext fun x => Fin.ext (match x with
    | ⟨0, _⟩ => rfl
    | ⟨1, _⟩ => rfl))))

theorem pair_hi (a b : FVec Ideal S4096x64 .f32) (i : Fin 4096) (d : Fin 64) :
    (concatenate S4096x128 1 [⟨S4096x64, a⟩, ⟨S4096x64, b⟩] concatenates_S4096x64_S4096x64_S4096x128_d1 : FVec Ideal S4096x128 .f32) (ix2 i (hi d)) = b (ix2 i d) :=
  (concatenate_pair_apply _ _ _ _ _).trans ((dif_neg (show ¬ (hi d).val < 64 by show ¬ d.val + 64 < 64; omega)).trans (congrArg b (funext fun x => Fin.ext (match x with
    | ⟨0, _⟩ => rfl
    | ⟨1, _⟩ => (by show d.val + 64 - 64 = d.val; omega)))))

theorem neg_of (v : FVec Ideal S4096x64 .f32) (i : S4096x64.Idx) : (Host.negf v : FVec Ideal S4096x64 .f32) i = (- v i : EReal) := rfl

section
variable (m : (ℓ : Loc nD τ sig) → Buf (Elt Ideal) ℓ) (c : Dev nD)

/-! ## The arguments -/

/-- The codes of the rows. -/
def argX : Fin 4096 → Fin 4096 → EReal := fun i k => m ((c : Thread nD τ).loc main_arg0) (ix2 i k)
/-- The scales of the rows. -/
def argS : Fin 4096 → EReal := fun i => m ((c : Thread nD τ).loc main_arg1) (ix2 i (0 : Fin 1))
/-- The weight codes. -/
def argW : Fin 4096 → Fin 9216 → EReal := fun k n => m ((c : Thread nD τ).loc main_arg2) (ix2 k n)
/-- The scales of the weight's columns. -/
def argC : Fin 9216 → EReal := fun n => m ((c : Thread nD τ).loc main_arg3) (ix1 n)
/-- The cosines and sines of the angles. -/
def co : Fin 4096 → Fin 64 → EReal := fun i d => (Host.cos (ang (m ((c : Thread nD τ).loc main_arg4))) : FVec Ideal S4096x64 .f32) (ix2 i d)
def si : Fin 4096 → Fin 64 → EReal := fun i d => (Host.sin (ang (m ((c : Thread nD τ).loc main_arg4))) : FVec Ideal S4096x64 .f32) (ix2 i d)

/-- The product. -/
def P : Fin 4096 → Fin 9216 → EReal := prodE (argX m c) (argS m c) (argW m c) (argC m c)

theorem cos_table : (V m c main_v22 : Vec Ideal S4096x128 .f32) = concatenate S4096x128 1
    [⟨S4096x64, (Host.cos (ang (m ((c : Thread nD τ).loc main_arg4))) : FVec Ideal S4096x64 .f32)⟩, ⟨S4096x64, (Host.cos (ang (m ((c : Thread nD τ).loc main_arg4))) : FVec Ideal S4096x64 .f32)⟩]
    concatenates_S4096x64_S4096x64_S4096x128_d1 := by
  entry_read
  rfl

theorem sin_table : (V m c main_v24 : Vec Ideal S4096x128 .f32) = concatenate S4096x128 1
    [⟨S4096x64, (Host.negf (Host.sin (ang (m ((c : Thread nD τ).loc main_arg4)))) : FVec Ideal S4096x64 .f32)⟩, ⟨S4096x64, (Host.sin (ang (m ((c : Thread nD τ).loc main_arg4))) : FVec Ideal S4096x64 .f32)⟩]
    concatenates_S4096x64_S4096x64_S4096x128_d1 := by
  entry_read
  rfl

theorem scales_shaped (n : Fin 9216) : V m c main_v25 (ix2 (0 : Fin 1) n) = argC m c n := by
  have e : (V m c main_v25 : Vec Ideal S1x9216 .f32) = shapeCast S1x9216 (m ((c : Thread nD τ).loc main_arg3) : Vec Ideal S9216 .f32) shapeCasts_S9216_S1x9216 := by
    entry_read
    rfl
  have g : ∀ v : Vec Ideal S9216 .f32, (shapeCast S1x9216 v shapeCasts_S9216_S1x9216 : Vec Ideal S1x9216 .f32) (ix2 (0 : Fin 1) n) = v (ix1 n) := fun v => by
    pointwise []
  exact (congrFun e _).trans (g _)

/-! ## The blocks -/

theorem tr0 : ∀ t : Fin grid0.N, cc0_transform_0 (grid0.coords t) 0 = t.val % 8 ∧ cc0_transform_0 (grid0.coords t) 1 = 0 := by decide +kernel
theorem tr1 : ∀ t : Fin grid0.N, cc0_transform_1 (grid0.coords t) 0 = t.val % 8 ∧ cc0_transform_1 (grid0.coords t) 1 = 0 := by decide +kernel
theorem tr2 : ∀ t : Fin grid0.N, cc0_transform_2 (grid0.coords t) 0 = 0 ∧ cc0_transform_2 (grid0.coords t) 1 = if t.val < 8 then 8 else t.val / 8 - 1 := by decide +kernel
theorem tr3 : ∀ t : Fin grid0.N, cc0_transform_3 (grid0.coords t) 0 = 0 ∧ cc0_transform_3 (grid0.coords t) 1 = if t.val < 8 then 8 else t.val / 8 - 1 := by decide +kernel
theorem tr4 : ∀ t : Fin grid0.N, cc0_transform_4 (grid0.coords t) 0 = t.val % 8 ∧ cc0_transform_4 (grid0.coords t) 1 = 0 := by decide +kernel
theorem tr5 : ∀ t : Fin grid0.N, cc0_transform_5 (grid0.coords t) 0 = t.val % 8 ∧ cc0_transform_5 (grid0.coords t) 1 = 0 := by decide +kernel

variable (t : Fin cfg0.N)

theorem t_lt : t.val < 72 := t.isLt

/-- The row and the column of the product that row `r` and column `n` of the block of point `t` are. -/
def rowOf (r : Fin 512) : Fin 4096 := ⟨512 * (t.val % 8) + r.val, by omega⟩
def colOf (n : Fin 1024) : Fin 9216 := ⟨1024 * (if t.val < 8 then 8 else t.val / 8 - 1) + n.val, by have := t_lt t; split <;> omega⟩

theorem blk0 (r : Fin 512) (k : Fin 4096) : (iblk m c 0 t : Vec Ideal S512x4096 .fp8e4m3) (ix2 r k) = argX m c (rowOf t r) k := by
  unfold iblk
  refine (congrFun (V_main_arg0 m c) _).trans (congrArg (m ((c : Thread nD τ).loc main_arg0)) (funext fun a => Fin.ext ?_))
  have e := tr0 t
  match a with
  | ⟨0, _⟩ => change cc0_transform_0 (grid0.coords t) 0 * 512 + 1 * r.val = 512 * (t.val % 8) + r.val; omega
  | ⟨1, _⟩ => change cc0_transform_0 (grid0.coords t) 1 * 4096 + 1 * k.val = k.val; omega

theorem blk1 (r : Fin 512) : (iblk m c 1 t : Vec Ideal S512x1 .f32) (ix2 r (0 : Fin 1)) = argS m c (rowOf t r) := by
  unfold iblk
  refine (congrFun (V_main_arg1 m c) _).trans (congrArg (m ((c : Thread nD τ).loc main_arg1)) (funext fun a => Fin.ext ?_))
  have e := tr1 t
  match a with
  | ⟨0, _⟩ => change cc0_transform_1 (grid0.coords t) 0 * 512 + 1 * r.val = 512 * (t.val % 8) + r.val; omega
  | ⟨1, _⟩ => change cc0_transform_1 (grid0.coords t) 1 * 1 + 1 * 0 = 0; omega

theorem blk2 (k : Fin 4096) (n : Fin 1024) : (iblk m c 2 t : Vec Ideal S4096x1024 .fp8e4m3) (ix2 k n) = argW m c k (colOf t n) := by
  unfold iblk
  refine (congrFun (V_main_arg2 m c) _).trans (congrArg (m ((c : Thread nD τ).loc main_arg2)) (funext fun a => Fin.ext ?_))
  have e := tr2 t
  match a with
  | ⟨0, _⟩ => change cc0_transform_2 (grid0.coords t) 0 * 4096 + 1 * k.val = k.val; omega
  | ⟨1, _⟩ => change cc0_transform_2 (grid0.coords t) 1 * 1024 + 1 * n.val = 1024 * (if t.val < 8 then 8 else t.val / 8 - 1) + n.val; rw [e.2]; omega

theorem blk3 (n : Fin 1024) : (iblk m c 3 t : Vec Ideal S1x1024 .f32) (ix2 (0 : Fin 1) n) = argC m c (colOf t n) := by
  refine Eq.trans ?_ (scales_shaped m c (colOf t n))
  unfold iblk
  refine congrArg (V m c main_v25) (funext fun a => Fin.ext ?_)
  have e := tr3 t
  match a with
  | ⟨0, _⟩ => change cc0_transform_3 (grid0.coords t) 0 * 1 + 1 * 0 = 0; omega
  | ⟨1, _⟩ => change cc0_transform_3 (grid0.coords t) 1 * 1024 + 1 * n.val = 1024 * (if t.val < 8 then 8 else t.val / 8 - 1) + n.val; rw [e.2]; omega

theorem blk4 (r : Fin 512) (d : Fin 128) : (iblk m c 4 t : Vec Ideal S512x128 .f32) (ix2 r d) = V m c main_v22 (ix2 (rowOf t r) d) := by
  unfold iblk
  refine congrArg (V m c main_v22) (funext fun a => Fin.ext ?_)
  have e := tr4 t
  match a with
  | ⟨0, _⟩ => change cc0_transform_4 (grid0.coords t) 0 * 512 + 1 * r.val = 512 * (t.val % 8) + r.val; omega
  | ⟨1, _⟩ => change cc0_transform_4 (grid0.coords t) 1 * 128 + 1 * d.val = d.val; omega

theorem blk5 (r : Fin 512) (d : Fin 128) : (iblk m c 5 t : Vec Ideal S512x128 .f32) (ix2 r d) = V m c main_v24 (ix2 (rowOf t r) d) := by
  unfold iblk
  refine congrArg (V m c main_v24) (funext fun a => Fin.ext ?_)
  have e := tr5 t
  match a with
  | ⟨0, _⟩ => change cc0_transform_5 (grid0.coords t) 0 * 512 + 1 * r.val = 512 * (t.val % 8) + r.val; omega
  | ⟨1, _⟩ => change cc0_transform_5 (grid0.coords t) 1 * 128 + 1 * d.val = d.val; omega

/-- The block of the product at a point. -/
def zt : FVec Ideal S512x1024 .f32 := zOf (iblk m c 0 t) (iblk m c 1 t) (iblk m c 2 t) (iblk m c 3 t)
def cot : FVec Ideal S512x128 .f32 := coOf (iblk m c 4 t)
def sit : FVec Ideal S512x128 .f32 := siOf (iblk m c 5 t)

theorem zt_at (r : Fin 512) (n : Fin 1024) : zt m c t (ix2 r n) = P m c (rowOf t r) (colOf t n) := by
  unfold zt P prodE
  rw [zOf_eq, z_at, blk1, blk3]
  refine congrArg (fun z : EReal => z * argS m c (rowOf t r) * argC m c (colOf t n)) (Finset.sum_congr rfl fun k _ => ?_)
  rw [blk0, blk2]

theorem head_row (r : Fin 512) (h : Fin 8) : row (head (zt m c t) h) r = fun d => P m c (rowOf t r) (colOf t (colB h d)) :=
  (head_at (zt m c t) r h).trans (funext fun d => zt_at m c t r _)

theorem rope_row (r : Fin 512) (h : Fin 8) : row (rope (head (zt m c t) h) (cot m c t) (sit m c t)) r =
    rotE (fun d => P m c (rowOf t r) (colOf t (colB h d))) (co m c (rowOf t r)) (si m c (rowOf t r)) := by
  refine (rope_at (head (zt m c t) h) (cot m c t) (sit m c t) r (co m c (rowOf t r)) (si m c (rowOf t r)) (fun d => ?_) (fun d => ?_) (fun d => ?_) (fun d => ?_)).trans ?_
  · exact (coOf_at _ r _).trans ((blk4 m c t r _).trans ((congrFun (cos_table m c) _).trans (pair_lo _ _ _ _)))
  · exact (coOf_at _ r _).trans ((blk4 m c t r _).trans ((congrFun (cos_table m c) _).trans (pair_hi _ _ _ _)))
  · exact (siOf_at _ r _).trans ((blk5 m c t r _).trans ((congrFun (sin_table m c) _).trans ((pair_lo _ _ _ _).trans (neg_of _ _))))
  · exact (siOf_at _ r _).trans ((blk5 m c t r _).trans ((congrFun (sin_table m c) _).trans (pair_hi _ _ _ _)))
  · rw [head_row]

/-! ## What each point writes -/

/-- The head of the queries that head `h` of the block of point `t` is. -/
def headOf (h : Fin 8) (ht : 8 ≤ t.val) : Fin 64 := ⟨8 * (t.val / 8 - 1) + h.val, by have := t_lt t; omega⟩

theorem colQ_of (ht : 8 ≤ t.val) (h : Fin 8) (d : Fin 128) : colOf t (colB h d) = colQ (headOf t h ht) d := Fin.ext (by
  show 1024 * (if t.val < 8 then 8 else t.val / 8 - 1) + (128 * h.val + d.val) = 128 * (8 * (t.val / 8 - 1) + h.val) + d.val
  rw [if_neg (by omega)]; omega)

theorem colK_of (ht : t.val < 8) (h : Fin 4) (d : Fin 128) : colOf t (colB ⟨h.val, by omega⟩ d) = colK h d := Fin.ext (by
  show 1024 * (if t.val < 8 then 8 else t.val / 8 - 1) + (128 * h.val + d.val) = 8192 + (128 * h.val + d.val)
  rw [if_pos ht])

theorem colV_of (ht : t.val < 8) (h : Fin 4) (d : Fin 128) : colOf t (colB ⟨4 + h.val, by omega⟩ d) = colV h d := Fin.ext (by
  show 1024 * (if t.val < 8 then 8 else t.val / 8 - 1) + (128 * (4 + h.val) + d.val) = 8704 + (128 * h.val + d.val)
  rw [if_pos ht]; omega)

/-- Row `i` of a query head, of a key head and of a value head. -/
def qE (i : Fin 4096) (h : Fin 64) : Fin 128 → EReal := rotE (fun d => P m c i (colQ h d)) (co m c i) (si m c i)
def kE (i : Fin 4096) (h : Fin 4) : Fin 128 → EReal := rotE (fun d => P m c i (colK h d)) (co m c i) (si m c i)
def vE (i : Fin 4096) (h : Fin 4) : Fin 128 → EReal := fun d => P m c i (colV h d)

theorem q_row (ht : 8 ≤ t.val) (r : Fin 512) (h : Fin 8) :
    row (rope (head (zt m c t) h) (cot m c t) (sit m c t)) r = qE m c (rowOf t r) (headOf t h ht) := by
  rw [rope_row]
  unfold qE
  rw [funext fun d => congrArg (P m c (rowOf t r)) (colQ_of t ht h d)]

theorem k_row (ht : t.val < 8) (r : Fin 512) (h : Fin 4) :
    row (rope (head (zt m c t) ⟨h.val, by omega⟩) (cot m c t) (sit m c t)) r = kE m c (rowOf t r) h := by
  rw [rope_row]
  unfold kE
  rw [funext fun d => congrArg (P m c (rowOf t r)) (colK_of t ht h d)]

theorem v_row (ht : t.val < 8) (r : Fin 512) (h : Fin 4) :
    row (head (zt m c t) ⟨4 + h.val, by omega⟩) r = vE m c (rowOf t r) h := by
  rw [head_row]
  exact funext fun d => congrArg (P m c (rowOf t r)) (colV_of t ht h d)

theorem point6 (ht : 8 ≤ t.val) (h : Fin 8) (d : Fin 128) (r : Fin 512) :
    out6 (iblk m c 0 t) (iblk m c 1 t) (iblk m c 2 t) (iblk m c 3 t) (iblk m c 4 t) (iblk m c 5 t) (ix3 h d r) = qE m c (rowOf t r) (headOf t h ht) d :=
  (query_at _ _ _ _ _ _ h d r).trans (congrFun (q_row m c t ht r h) d)

theorem point7 (ht : t.val < 8) (r : Fin 512) (h : Fin 4) (d : Fin 128) :
    out7 (iblk m c 0 t) (iblk m c 1 t) (iblk m c 2 t) (iblk m c 3 t) (iblk m c 4 t) (iblk m c 5 t) (ix3 r h d) = code (kE m c (rowOf t r) h d) (amax (kE m c (rowOf t r) h)) := by
  rw [out7_eq]
  refine (key_at (zt m c t) (cot m c t) (sit m c t) r h d).trans ?_
  rw [codes_at, k_row m c t ht]

theorem point8 (ht : t.val < 8) (r : Fin 512) (h : Fin 4) (d : Fin 128) :
    out8 (iblk m c 0 t) (iblk m c 1 t) (iblk m c 2 t) (iblk m c 3 t) (iblk m c 4 t) (iblk m c 5 t) (ix3 r h d) = code (vE m c (rowOf t r) h d) (amax (vE m c (rowOf t r) h)) := by
  rw [out8_eq]
  refine (value_at (zt m c t) (cot m c t) (sit m c t) r h d).trans ?_
  rw [codes_at, v_row m c t ht]

theorem point9 (ht : t.val < 8) (h : Fin 4) (r : Fin 512) :
    out9 (iblk m c 0 t) (iblk m c 1 t) (iblk m c 2 t) (iblk m c 3 t) (iblk m c 4 t) (iblk m c 5 t) (ix3 (0 : Fin 1) h r) = scale (amax (kE m c (rowOf t r) h)) := by
  rw [out9_eq]
  refine (keyScale_at (zt m c t) (cot m c t) (sit m c t) r h).trans ?_
  rw [k_row m c t ht]

theorem point10 (ht : t.val < 8) (h : Fin 4) (r : Fin 512) :
    out10 (iblk m c 0 t) (iblk m c 1 t) (iblk m c 2 t) (iblk m c 3 t) (iblk m c 4 t) (iblk m c 5 t) (ix3 (0 : Fin 1) h r) = scale (amax (vE m c (rowOf t r) h)) := by
  rw [out10_eq]
  refine (valueScale_at (zt m c t) (cot m c t) (sit m c t) r h).trans ?_
  rw [v_row m c t ht]

end

end Cert.QkvIdeal.Value

end
-- ==== Proof.QkvFinal.lean ====
/- The five result arrays of the projection after its run. -/
module

public import proofs.«01_k».proof.Proof.QkvKernel
public import Idealize.ShloMosaic.Lib.Pipeline.ValueKit
public import Idealize.ShloMosaic.Lib.Pipeline.Covers
public import Idealize.ShloMosaic.Lib.Claim

@[expose] public section

set_option maxRecDepth 16384

noncomputable section

namespace Cert.QkvIdeal.Value

open Cert.QkvIdeal Cert.QkvIdeal.Gen Cert.QkvIdeal.Run Cert.Quant Cert.Proj
open Idealize.ShloMosaic Idealize.ShloMosaic.TcCoe Idealize.SL.Sem
open Idealize.ShloMosaic.Pipeline (Dat)
open Facts

/-! ## The index maps of the results -/

theorem tr6 : ∀ t : Fin grid0.N, 8 ≤ t.val → cc0_transform_6 (grid0.coords t) 0 = t.val / 8 - 1 ∧ cc0_transform_6 (grid0.coords t) 1 = 0 ∧ cc0_transform_6 (grid0.coords t) 2 = t.val % 8 := by decide +kernel
theorem tr7 : ∀ t : Fin grid0.N, cc0_transform_7 (grid0.coords t) 0 = (if t.val < 8 then t.val else 7) ∧ cc0_transform_7 (grid0.coords t) 1 = 0 ∧ cc0_transform_7 (grid0.coords t) 2 = 0 := by decide +kernel
theorem tr8 : ∀ t : Fin grid0.N, cc0_transform_8 (grid0.coords t) 0 = (if t.val < 8 then t.val else 7) ∧ cc0_transform_8 (grid0.coords t) 1 = 0 ∧ cc0_transform_8 (grid0.coords t) 2 = 0 := by decide +kernel
theorem tr9 : ∀ t : Fin grid0.N, cc0_transform_9 (grid0.coords t) 0 = (if t.val < 8 then t.val else 7) / 4 ∧ cc0_transform_9 (grid0.coords t) 1 = 0 ∧ cc0_transform_9 (grid0.coords t) 2 = (if t.val < 8 then t.val else 7) % 4 := by decide +kernel
theorem tr10 : ∀ t : Fin grid0.N, cc0_transform_10 (grid0.coords t) 0 = (if t.val < 8 then t.val else 7) / 4 ∧ cc0_transform_10 (grid0.coords t) 1 = 0 ∧ cc0_transform_10 (grid0.coords t) 2 = (if t.val < 8 then t.val else 7) % 4 := by decide +kernel

theorem kPt_lt (t : Fin cfg0.N) : (kPt t).val < 8 := by
  unfold kPt; split
  · assumption
  · exact (by decide : 7 < 8)

theorem kPt_val (t : Fin cfg0.N) : (kPt t).val = if t.val < 8 then t.val else 7 := by
  unfold kPt; split <;> rfl

/-! ## Every block of each array is written back -/

theorem covers6 : (cfg0.win 6).Covers := by
  refine ⟨fun (a : Fin 3) => match a with | ⟨0, _⟩ => (by decide : 0 < 8) | ⟨1, _⟩ => (by decide : 0 < 128) | ⟨2, _⟩ => (by decide : 0 < 512), fun (β : (a : Fin 3) → Fin ((cfg0.win 6).nblk a)) => ?_⟩
  have h0 : (β 0).val < 8 := (show (β 0).val < (64 + 8 - 1) / 8 from (β 0).isLt)
  have h1 : (β 1).val < 1 := (show (β 1).val < (128 + 128 - 1) / 128 from (β 1).isLt)
  have h2 : (β 2).val < 8 := (show (β 2).val < (4096 + 512 - 1) / 512 from (β 2).isLt)
  have hl : 8 * ((β 0).val + 1) + (β 2).val < 72 := by omega
  have hg : 8 ≤ 8 * ((β 0).val + 1) + (β 2).val := by omega
  refine ⟨(⟨8 * ((β 0).val + 1) + (β 2).val, hl⟩ : Fin 72), (flush6 _).mpr hg, fun a => ⟨?_, .inl rfl⟩⟩
  have e := tr6 (⟨8 * ((β 0).val + 1) + (β 2).val, hl⟩ : Fin 72) hg
  match a with
  | ⟨0, _⟩ => exact e.1.trans (by show (8 * ((β 0).val + 1) + (β 2).val) / 8 - 1 = (β 0).val; omega)
  | ⟨1, _⟩ => exact e.2.1.trans (by show 0 = (β 1).val; omega)
  | ⟨2, _⟩ => exact e.2.2.trans (by show (8 * ((β 0).val + 1) + (β 2).val) % 8 = (β 2).val; omega)

theorem covers7 : (cfg0.win 7).Covers := by
  refine ⟨fun (a : Fin 3) => match a with | ⟨0, _⟩ => (by decide : 0 < 512) | ⟨1, _⟩ => (by decide : 0 < 4) | ⟨2, _⟩ => (by decide : 0 < 128), fun (β : (a : Fin 3) → Fin ((cfg0.win 7).nblk a)) => ?_⟩
  have h0 : (β 0).val < 8 := (show (β 0).val < (4096 + 512 - 1) / 512 from (β 0).isLt)
  have h1 : (β 1).val < 1 := (show (β 1).val < (4 + 4 - 1) / 4 from (β 1).isLt)
  have h2 : (β 2).val < 1 := (show (β 2).val < (128 + 128 - 1) / 128 from (β 2).isLt)
  obtain ⟨n, hn⟩ : ∃ n : Fin 72, (n.val < 7 ∨ n.val = 71) ∧ (if n.val < 8 then n.val else 7) = (β 0).val := by
    by_cases hb : (β 0).val < 7
    · exact ⟨⟨(β 0).val, by omega⟩, .inl hb, if_pos (by show (β 0).val < 8; omega)⟩
    · exact ⟨⟨71, by omega⟩, .inr rfl, by show 7 = (β 0).val; omega⟩
  refine ⟨n, (flush7 n).mpr hn.1, fun a => ⟨?_, .inl rfl⟩⟩
  have e := tr7 n
  match a with
  | ⟨0, _⟩ => exact e.1.trans hn.2
  | ⟨1, _⟩ => exact e.2.1.trans (by show 0 = (β 1).val; omega)
  | ⟨2, _⟩ => exact e.2.2.trans (by show 0 = (β 2).val; omega)

theorem covers8 : (cfg0.win 8).Covers := by
  refine ⟨fun (a : Fin 3) => match a with | ⟨0, _⟩ => (by decide : 0 < 512) | ⟨1, _⟩ => (by decide : 0 < 4) | ⟨2, _⟩ => (by decide : 0 < 128), fun (β : (a : Fin 3) → Fin ((cfg0.win 8).nblk a)) => ?_⟩
  have h0 : (β 0).val < 8 := (show (β 0).val < (4096 + 512 - 1) / 512 from (β 0).isLt)
  have h1 : (β 1).val < 1 := (show (β 1).val < (4 + 4 - 1) / 4 from (β 1).isLt)
  have h2 : (β 2).val < 1 := (show (β 2).val < (128 + 128 - 1) / 128 from (β 2).isLt)
  obtain ⟨n, hn⟩ : ∃ n : Fin 72, (n.val < 7 ∨ n.val = 71) ∧ (if n.val < 8 then n.val else 7) = (β 0).val := by
    by_cases hb : (β 0).val < 7
    · exact ⟨⟨(β 0).val, by omega⟩, .inl hb, if_pos (by show (β 0).val < 8; omega)⟩
    · exact ⟨⟨71, by omega⟩, .inr rfl, by show 7 = (β 0).val; omega⟩
  refine ⟨n, (flush8 n).mpr hn.1, fun a => ⟨?_, .inl rfl⟩⟩
  have e := tr8 n
  match a with
  | ⟨0, _⟩ => exact e.1.trans hn.2
  | ⟨1, _⟩ => exact e.2.1.trans (by show 0 = (β 1).val; omega)
  | ⟨2, _⟩ => exact e.2.2.trans (by show 0 = (β 2).val; omega)

theorem covers9 : (cfg0.win 9).Covers := by
  refine ⟨fun (a : Fin 3) => match a with | ⟨0, _⟩ => (by decide : 0 < 1) | ⟨1, _⟩ => (by decide : 0 < 4) | ⟨2, _⟩ => (by decide : 0 < 512), fun (β : (a : Fin 3) → Fin ((cfg0.win 9).nblk a)) => ?_⟩
  have h0 : (β 0).val < 2 := (show (β 0).val < (2 + 1 - 1) / 1 from (β 0).isLt)
  have h1 : (β 1).val < 1 := (show (β 1).val < (4 + 4 - 1) / 4 from (β 1).isLt)
  have h2 : (β 2).val < 4 := (show (β 2).val < (2048 + 512 - 1) / 512 from (β 2).isLt)
  obtain ⟨n, hn⟩ : ∃ n : Fin 72, (n.val < 7 ∨ n.val = 71) ∧ (if n.val < 8 then n.val else 7) = 4 * (β 0).val + (β 2).val := by
    by_cases hb : 4 * (β 0).val + (β 2).val < 7
    · exact ⟨⟨4 * (β 0).val + (β 2).val, by omega⟩, .inl hb, if_pos (by show 4 * (β 0).val + (β 2).val < 8; omega)⟩
    · exact ⟨⟨71, by omega⟩, .inr rfl, by show 7 = 4 * (β 0).val + (β 2).val; omega⟩
  refine ⟨n, (flush9 n).mpr hn.1, fun a => ⟨?_, .inl rfl⟩⟩
  have e := tr9 n
  match a with
  | ⟨0, _⟩ => exact e.1.trans (by rw [hn.2]; show (4 * (β 0).val + (β 2).val) / 4 = (β 0).val; omega)
  | ⟨1, _⟩ => exact e.2.1.trans (by show 0 = (β 1).val; omega)
  | ⟨2, _⟩ => exact e.2.2.trans (by rw [hn.2]; show (4 * (β 0).val + (β 2).val) % 4 = (β 2).val; omega)

theorem covers10 : (cfg0.win 10).Covers := by
  refine ⟨fun (a : Fin 3) => match a with | ⟨0, _⟩ => (by decide : 0 < 1) | ⟨1, _⟩ => (by decide : 0 < 4) | ⟨2, _⟩ => (by decide : 0 < 512), fun (β : (a : Fin 3) → Fin ((cfg0.win 10).nblk a)) => ?_⟩
  have h0 : (β 0).val < 2 := (show (β 0).val < (2 + 1 - 1) / 1 from (β 0).isLt)
  have h1 : (β 1).val < 1 := (show (β 1).val < (4 + 4 - 1) / 4 from (β 1).isLt)
  have h2 : (β 2).val < 4 := (show (β 2).val < (2048 + 512 - 1) / 512 from (β 2).isLt)
  obtain ⟨n, hn⟩ : ∃ n : Fin 72, (n.val < 7 ∨ n.val = 71) ∧ (if n.val < 8 then n.val else 7) = 4 * (β 0).val + (β 2).val := by
    by_cases hb : 4 * (β 0).val + (β 2).val < 7
    · exact ⟨⟨4 * (β 0).val + (β 2).val, by omega⟩, .inl hb, if_pos (by show 4 * (β 0).val + (β 2).val < 8; omega)⟩
    · exact ⟨⟨71, by omega⟩, .inr rfl, by show 7 = 4 * (β 0).val + (β 2).val; omega⟩
  refine ⟨n, (flush10 n).mpr hn.1, fun a => ⟨?_, .inl rfl⟩⟩
  have e := tr10 n
  match a with
  | ⟨0, _⟩ => exact e.1.trans (by rw [hn.2]; show (4 * (β 0).val + (β 2).val) / 4 = (β 0).val; omega)
  | ⟨1, _⟩ => exact e.2.1.trans (by show 0 = (β 1).val; omega)
  | ⟨2, _⟩ => exact e.2.2.trans (by rw [hn.2]; show (4 * (β 0).val + (β 2).val) % 4 = (β 2).val; omega)

section
variable (m : (ℓ : Loc nD τ sig) → Buf (Elt Ideal) ℓ) (c : Dev nD)

/-! ## The five result arrays -/

def qG : Buf (Elt Ideal) ((c : Thread nD τ).loc main_v26_0) := fun (y : S64x128x4096.Idx) => qE m c (y 2) (y 0) (y 1)
def kcG : Buf (Elt Ideal) ((c : Thread nD τ).loc main_v26_1) := fun (y : S4096x4x128.Idx) => code (kE m c (y 0) (y 1) (y 2)) (amax (kE m c (y 0) (y 1)))
def vcG : Buf (Elt Ideal) ((c : Thread nD τ).loc main_v26_2) := fun (y : S4096x4x128.Idx) => code (vE m c (y 0) (y 1) (y 2)) (amax (vE m c (y 0) (y 1)))
def ksG : Buf (Elt Ideal) ((c : Thread nD τ).loc main_v26_3) := fun (y : S2x4x2048.Idx) =>
  scale (amax (kE m c (posOf (y 0) (y 2)) (y 1)))
def vsG : Buf (Elt Ideal) ((c : Thread nD τ).loc main_v26_4) := fun (y : S2x4x2048.Idx) =>
  scale (amax (vE m c (posOf (y 0) (y 2)) (y 1)))

/-! ## The arrays after the run -/

def emb6 (t : Fin cfg0.N) (y : S8x128x512.Idx) : S64x128x4096.Idx := ((cfg0.win 6).blk t).view.emb y
theorem xinj6 (t : Fin cfg0.N) (y : S8x128x512.Idx) : (cfg0.win 6).xinj (cfg0.grid.coords t) y = y := rfl
def emb7 (t : Fin cfg0.N) (y : S512x4x128.Idx) : S4096x4x128.Idx := ((cfg0.win 7).blk t).view.emb y
theorem xinj7 (t : Fin cfg0.N) (y : S512x4x128.Idx) : (cfg0.win 7).xinj (cfg0.grid.coords t) y = y := rfl
def emb8 (t : Fin cfg0.N) (y : S512x4x128.Idx) : S4096x4x128.Idx := ((cfg0.win 8).blk t).view.emb y
theorem xinj8 (t : Fin cfg0.N) (y : S512x4x128.Idx) : (cfg0.win 8).xinj (cfg0.grid.coords t) y = y := rfl
def emb9 (t : Fin cfg0.N) (y : S1x4x512.Idx) : S2x4x2048.Idx := ((cfg0.win 9).blk t).view.emb y
theorem xinj9 (t : Fin cfg0.N) (y : S1x4x512.Idx) : (cfg0.win 9).xinj (cfg0.grid.coords t) y = y := rfl
def emb10 (t : Fin cfg0.N) (y : S1x4x512.Idx) : S2x4x2048.Idx := ((cfg0.win 10).blk t).view.emb y
theorem xinj10 (t : Fin cfg0.N) (y : S1x4x512.Idx) : (cfg0.win 10).xinj (cfg0.grid.coords t) y = y := rfl

theorem final6 : (dats m 0 c).arrAt 6 cfg0.N = qG m c := by
  refine (dats m 0 c).arrAt_eq_of_covers 6 (qG m c) covers6 fun t hf (y : S8x128x512.Idx) => ?_
  have ht : 8 ≤ t.val := (flush6 t).mp hf
  have e := tr6 t ht
  have hh : (y 0).val < 8 := (y 0).isLt
  have hd : (y 1).val < 128 := (y 1).isLt
  have hr : (y 2).val < 512 := (y 2).isLt
  have a0 : emb6 t y 0 = headOf t ⟨(y 0).val, hh⟩ ht := Fin.ext (by
    show cc0_transform_6 (grid0.coords t) 0 * 8 + 1 * (y 0).val = 8 * (t.val / 8 - 1) + (y 0).val
    rw [e.1]; omega)
  have a1 : emb6 t y 1 = (⟨(y 1).val, hd⟩ : Fin 128) := Fin.ext (by
    show cc0_transform_6 (grid0.coords t) 1 * 128 + 1 * (y 1).val = (y 1).val
    rw [e.2.1]; omega)
  have a2 : emb6 t y 2 = rowOf t ⟨(y 2).val, hr⟩ := Fin.ext (by
    show cc0_transform_6 (grid0.coords t) 2 * 512 + 1 * (y 2).val = 512 * (t.val % 8) + (y 2).val
    rw [e.2.2]; omega)
  have hy : y = ix3 (⟨(y 0).val, hh⟩ : Fin 8) (⟨(y 1).val, hd⟩ : Fin 128) (⟨(y 2).val, hr⟩ : Fin 512) := funext fun a => by
    match a with
    | ⟨0, _⟩ => rfl
    | ⟨1, _⟩ => rfl
    | ⟨2, _⟩ => rfl
  have hval : qG m c (emb6 t y) = qE m c (rowOf t ⟨(y 2).val, hr⟩) (headOf t ⟨(y 0).val, hh⟩ ht) ⟨(y 1).val, hd⟩ := by
    unfold qG
    rw [a0, a1, a2]
  refine Eq.trans ?_ hval.symm
  refine Eq.trans ?_ (point6 m c t ht ⟨(y 0).val, hh⟩ ⟨(y 1).val, hd⟩ ⟨(y 2).val, hr⟩)
  rw [after0_6]
  exact (cast_eq _ _).trans (congrArg (out6 (iblk m c 0 t) (iblk m c 1 t) (iblk m c 2 t) (iblk m c 3 t) (iblk m c 4 t) (iblk m c 5 t)) ((xinj6 t y).trans hy))

theorem final7 : (dats m 0 c).arrAt 7 cfg0.N = kcG m c := by
  refine (dats m 0 c).arrAt_eq_of_covers 7 (kcG m c) covers7 fun t hf (y : S512x4x128.Idx) => ?_
  have e := tr7 t
  have hk := kPt_val t
  have hl := kPt_lt t
  have hr : (y 0).val < 512 := (y 0).isLt
  have hh : (y 1).val < 4 := (y 1).isLt
  have hd : (y 2).val < 128 := (y 2).isLt
  have a0 : emb7 t y 0 = rowOf (kPt t) ⟨(y 0).val, hr⟩ := Fin.ext (by
    show cc0_transform_7 (grid0.coords t) 0 * 512 + 1 * (y 0).val = 512 * ((kPt t).val % 8) + (y 0).val
    rw [e.1, ← hk]; omega)
  have a1 : emb7 t y 1 = (⟨(y 1).val, hh⟩ : Fin 4) := Fin.ext (by
    show cc0_transform_7 (grid0.coords t) 1 * 4 + 1 * (y 1).val = (y 1).val
    rw [e.2.1]; omega)
  have a2 : emb7 t y 2 = (⟨(y 2).val, hd⟩ : Fin 128) := Fin.ext (by
    show cc0_transform_7 (grid0.coords t) 2 * 128 + 1 * (y 2).val = (y 2).val
    rw [e.2.2]; omega)
  have hy : y = ix3 (⟨(y 0).val, hr⟩ : Fin 512) (⟨(y 1).val, hh⟩ : Fin 4) (⟨(y 2).val, hd⟩ : Fin 128) := funext fun a => by
    match a with
    | ⟨0, _⟩ => rfl
    | ⟨1, _⟩ => rfl
    | ⟨2, _⟩ => rfl
  have hval : kcG m c (emb7 t y) = code (kE m c (rowOf (kPt t) ⟨(y 0).val, hr⟩) ⟨(y 1).val, hh⟩ ⟨(y 2).val, hd⟩) (amax (kE m c (rowOf (kPt t) ⟨(y 0).val, hr⟩) ⟨(y 1).val, hh⟩)) := by
    unfold kcG
    rw [a0, a1, a2]
  refine Eq.trans ?_ hval.symm
  refine Eq.trans ?_ (point7 m c (kPt t) hl ⟨(y 0).val, hr⟩ ⟨(y 1).val, hh⟩ ⟨(y 2).val, hd⟩)
  rw [after0_7]
  exact (cast_eq _ _).trans (congrArg (out7 (iblk m c 0 (kPt t)) (iblk m c 1 (kPt t)) (iblk m c 2 (kPt t)) (iblk m c 3 (kPt t)) (iblk m c 4 (kPt t)) (iblk m c 5 (kPt t))) ((xinj7 t y).trans hy))

theorem final8 : (dats m 0 c).arrAt 8 cfg0.N = vcG m c := by
  refine (dats m 0 c).arrAt_eq_of_covers 8 (vcG m c) covers8 fun t hf (y : S512x4x128.Idx) => ?_
  have e := tr8 t
  have hk := kPt_val t
  have hl := kPt_lt t
  have hr : (y 0).val < 512 := (y 0).isLt
  have hh : (y 1).val < 4 := (y 1).isLt
  have hd : (y 2).val < 128 := (y 2).isLt
  have a0 : emb8 t y 0 = rowOf (kPt t) ⟨(y 0).val, hr⟩ := Fin.ext (by
    show cc0_transform_8 (grid0.coords t) 0 * 512 + 1 * (y 0).val = 512 * ((kPt t).val % 8) + (y 0).val
    rw [e.1, ← hk]; omega)
  have a1 : emb8 t y 1 = (⟨(y 1).val, hh⟩ : Fin 4) := Fin.ext (by
    show cc0_transform_8 (grid0.coords t) 1 * 4 + 1 * (y 1).val = (y 1).val
    rw [e.2.1]; omega)
  have a2 : emb8 t y 2 = (⟨(y 2).val, hd⟩ : Fin 128) := Fin.ext (by
    show cc0_transform_8 (grid0.coords t) 2 * 128 + 1 * (y 2).val = (y 2).val
    rw [e.2.2]; omega)
  have hy : y = ix3 (⟨(y 0).val, hr⟩ : Fin 512) (⟨(y 1).val, hh⟩ : Fin 4) (⟨(y 2).val, hd⟩ : Fin 128) := funext fun a => by
    match a with
    | ⟨0, _⟩ => rfl
    | ⟨1, _⟩ => rfl
    | ⟨2, _⟩ => rfl
  have hval : vcG m c (emb8 t y) = code (vE m c (rowOf (kPt t) ⟨(y 0).val, hr⟩) ⟨(y 1).val, hh⟩ ⟨(y 2).val, hd⟩) (amax (vE m c (rowOf (kPt t) ⟨(y 0).val, hr⟩) ⟨(y 1).val, hh⟩)) := by
    unfold vcG
    rw [a0, a1, a2]
  refine Eq.trans ?_ hval.symm
  refine Eq.trans ?_ (point8 m c (kPt t) hl ⟨(y 0).val, hr⟩ ⟨(y 1).val, hh⟩ ⟨(y 2).val, hd⟩)
  rw [after0_8]
  exact (cast_eq _ _).trans (congrArg (out8 (iblk m c 0 (kPt t)) (iblk m c 1 (kPt t)) (iblk m c 2 (kPt t)) (iblk m c 3 (kPt t)) (iblk m c 4 (kPt t)) (iblk m c 5 (kPt t))) ((xinj8 t y).trans hy))

theorem final9 : (dats m 0 c).arrAt 9 cfg0.N = ksG m c := by
  refine (dats m 0 c).arrAt_eq_of_covers 9 (ksG m c) covers9 fun t hf (y : S1x4x512.Idx) => ?_
  have e := tr9 t
  have hk := kPt_val t
  have hl := kPt_lt t
  have h0 : (y 0).val < 1 := (y 0).isLt
  have hh : (y 1).val < 4 := (y 1).isLt
  have hr : (y 2).val < 512 := (y 2).isLt
  have a0 : (emb9 t y 0).val = (kPt t).val / 4 := by
    show cc0_transform_9 (grid0.coords t) 0 * 1 + 1 * (y 0).val = (kPt t).val / 4
    rw [e.1, ← hk]; omega
  have a1 : emb9 t y 1 = (⟨(y 1).val, hh⟩ : Fin 4) := Fin.ext (by
    show cc0_transform_9 (grid0.coords t) 1 * 4 + 1 * (y 1).val = (y 1).val
    rw [e.2.1]; omega)
  have a2 : (emb9 t y 2).val = 512 * ((kPt t).val % 4) + (y 2).val := by
    show cc0_transform_9 (grid0.coords t) 2 * 512 + 1 * (y 2).val = 512 * ((kPt t).val % 4) + (y 2).val
    rw [e.2.2, ← hk]; omega
  have ai : posOf (emb9 t y 0) (emb9 t y 2) = rowOf (kPt t) ⟨(y 2).val, hr⟩ := Fin.ext (by
    show 2048 * (emb9 t y 0).val + (emb9 t y 2).val = 512 * ((kPt t).val % 8) + (y 2).val
    rw [a0, a2]; omega)
  have hy : y = ix3 (0 : Fin 1) (⟨(y 1).val, hh⟩ : Fin 4) (⟨(y 2).val, hr⟩ : Fin 512) := funext fun a => Fin.ext (by
    match a with
    | ⟨0, _⟩ => show (y 0).val = 0; omega
    | ⟨1, _⟩ => rfl
    | ⟨2, _⟩ => rfl)
  have hval : ksG m c (emb9 t y) = scale (amax (kE m c (rowOf (kPt t) ⟨(y 2).val, hr⟩) ⟨(y 1).val, hh⟩)) := by
    unfold ksG
    rw [ai, a1]
  refine Eq.trans ?_ hval.symm
  refine Eq.trans ?_ (point9 m c (kPt t) hl ⟨(y 1).val, hh⟩ ⟨(y 2).val, hr⟩)
  rw [after0_9]
  exact (cast_eq _ _).trans (congrArg (out9 (iblk m c 0 (kPt t)) (iblk m c 1 (kPt t)) (iblk m c 2 (kPt t)) (iblk m c 3 (kPt t)) (iblk m c 4 (kPt t)) (iblk m c 5 (kPt t))) ((xinj9 t y).trans hy))

theorem final10 : (dats m 0 c).arrAt 10 cfg0.N = vsG m c := by
  refine (dats m 0 c).arrAt_eq_of_covers 10 (vsG m c) covers10 fun t hf (y : S1x4x512.Idx) => ?_
  have e := tr10 t
  have hk := kPt_val t
  have hl := kPt_lt t
  have h0 : (y 0).val < 1 := (y 0).isLt
  have hh : (y 1).val < 4 := (y 1).isLt
  have hr : (y 2).val < 512 := (y 2).isLt
  have a0 : (emb10 t y 0).val = (kPt t).val / 4 := by
    show cc0_transform_10 (grid0.coords t) 0 * 1 + 1 * (y 0).val = (kPt t).val / 4
    rw [e.1, ← hk]; omega
  have a1 : emb10 t y 1 = (⟨(y 1).val, hh⟩ : Fin 4) := Fin.ext (by
    show cc0_transform_10 (grid0.coords t) 1 * 4 + 1 * (y 1).val = (y 1).val
    rw [e.2.1]; omega)
  have a2 : (emb10 t y 2).val = 512 * ((kPt t).val % 4) + (y 2).val := by
    show cc0_transform_10 (grid0.coords t) 2 * 512 + 1 * (y 2).val = 512 * ((kPt t).val % 4) + (y 2).val
    rw [e.2.2, ← hk]; omega
  have ai : posOf (emb10 t y 0) (emb10 t y 2) = rowOf (kPt t) ⟨(y 2).val, hr⟩ := Fin.ext (by
    show 2048 * (emb10 t y 0).val + (emb10 t y 2).val = 512 * ((kPt t).val % 8) + (y 2).val
    rw [a0, a2]; omega)
  have hy : y = ix3 (0 : Fin 1) (⟨(y 1).val, hh⟩ : Fin 4) (⟨(y 2).val, hr⟩ : Fin 512) := funext fun a => Fin.ext (by
    match a with
    | ⟨0, _⟩ => show (y 0).val = 0; omega
    | ⟨1, _⟩ => rfl
    | ⟨2, _⟩ => rfl)
  have hval : vsG m c (emb10 t y) = scale (amax (vE m c (rowOf (kPt t) ⟨(y 2).val, hr⟩) ⟨(y 1).val, hh⟩)) := by
    unfold vsG
    rw [ai, a1]
  refine Eq.trans ?_ hval.symm
  refine Eq.trans ?_ (point10 m c (kPt t) hl ⟨(y 1).val, hh⟩ ⟨(y 2).val, hr⟩)
  rw [after0_10]
  exact (cast_eq _ _).trans (congrArg (out10 (iblk m c 0 (kPt t)) (iblk m c 1 (kPt t)) (iblk m c 2 (kPt t)) (iblk m c 3 (kPt t)) (iblk m c 4 (kPt t)) (iblk m c 5 (kPt t))) ((xinj10 t y).trans hy))

end

/-- The run, read: the five result arrays element by element. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v26_0) = qG m c ∧ r.2.mem ((c : Thread nD τ).loc main_v26_1) = kcG m c
        ∧ r.2.mem ((c : Thread nD τ).loc main_v26_2) = vcG m c ∧ r.2.mem ((c : Thread nD τ).loc main_v26_3) = ksG m c
        ∧ r.2.mem ((c : Thread nD τ).loc main_v26_4) = vsG m c :=
  (θ_run defs _ _).mono (fun _ h c => ⟨((h c).1 6).trans (final6 m c), ((h c).1 7).trans (final7 m c), ((h c).1 8).trans (final8 m c),
    ((h c).1 9).trans (final9 m c), ((h c).1 10).trans (final10 m c)⟩) (run_main m ρ)

end Cert.QkvIdeal.Value

end
-- ==== Proof.QkvRefBlock.lean ====
/- The projection run on whole arrays: its body, element by element. -/
module

public import proofs.«01_k».proof.Proof.Proj
public import proofs.«01_k».proof.Proof.Gen.QkvReferenceIdeal.Frame
public import Idealize.ShloMosaic.Lib.Pipeline.ValueKit
public import Idealize.ShloMosaic.Lib.Pipeline.Covers
public import Idealize.ShloMosaic.Lib.Claim

@[expose] public section

set_option maxRecDepth 16384

noncomputable section

namespace Cert.QkvReferenceIdeal.Value

open Cert.QkvReferenceIdeal Cert.QkvReferenceIdeal.Gen Cert.Quant Cert.Proj
open Idealize.ShloMosaic Idealize.ShloMosaic.TcCoe Idealize.SL.Sem
open Idealize.ShloMosaic.Pipeline (Dat)
open Facts

/-! ## Turning the heads -/

theorem catQ_lo (a b : FVec Ideal S4096x64x64 .f32) (i : Fin 4096) (h : Fin 64) (d : Fin 64) :
    (concatenate S4096x64x128 2 [⟨S4096x64x64, a⟩, ⟨S4096x64x64, b⟩] concatenates_S4096x64x64_S4096x64x64_S4096x64x128_d2 : FVec Ideal S4096x64x128 .f32) (ix3 i h (lo d)) = a (ix3 i h d) :=
  (concatenate_pair_apply _ _ _ _ _).trans ((dif_pos (show (lo d).val < 64 from d.isLt)).trans (congrArg a (funext fun x => Fin.ext (match x with
    | ⟨0, _⟩ => rfl
    | ⟨1, _⟩ => rfl
    | ⟨2, _⟩ => rfl))))

theorem catQ_hi (a b : FVec Ideal S4096x64x64 .f32) (i : Fin 4096) (h : Fin 64) (d : Fin 64) :
    (concatenate S4096x64x128 2 [⟨S4096x64x64, a⟩, ⟨S4096x64x64, b⟩] concatenates_S4096x64x64_S4096x64x64_S4096x64x128_d2 : FVec Ideal S4096x64x128 .f32) (ix3 i h (hi d)) = b (ix3 i h d) :=
  (concatenate_pair_apply _ _ _ _ _).trans ((dif_neg (show ¬ (hi d).val < 64 by show ¬ d.val + 64 < 64; omega)).trans (congrArg b (funext fun x => Fin.ext (match x with
    | ⟨0, _⟩ => rfl
    | ⟨1, _⟩ => rfl
    | ⟨2, _⟩ => (by show d.val + 64 - 64 = d.val; omega)))))

theorem halfQ_lo (t : FVec Ideal S4096x64x128 .f32) (i : Fin 4096) (h : Fin 64) (d : Fin 64) :
    (extractStridedSlice S4096x64x64 ![0, 0, 0] t slices_S4096x64x128_o0_0_0_S4096x64x64 : FVec Ideal S4096x64x64 .f32) (ix3 i h d) = t (ix3 i h (lo d)) :=
  congrArg t (funext fun x => Fin.ext (match x with
    | ⟨0, _⟩ => Nat.zero_add _
    | ⟨1, _⟩ => Nat.zero_add _
    | ⟨2, _⟩ => Nat.zero_add _))

theorem halfQ_hi (t : FVec Ideal S4096x64x128 .f32) (i : Fin 4096) (h : Fin 64) (d : Fin 64) :
    (extractStridedSlice S4096x64x64 ![0, 0, 64] t slices_S4096x64x128_o0_0_64_S4096x64x64 : FVec Ideal S4096x64x64 .f32) (ix3 i h d) = t (ix3 i h (hi d)) :=
  congrArg t (funext fun x => Fin.ext (match x with
    | ⟨0, _⟩ => Nat.zero_add _
    | ⟨1, _⟩ => Nat.zero_add _
    | ⟨2, _⟩ => Nat.add_comm _ _))

theorem tableQ (v : Vec Ideal S4096x64 .f32) (i : Fin 4096) (h : Fin 64) (d : Fin 64) :
    (broadcastTo S4096x64x64 (k0_pay7 (F := Ideal) v) broadcasts_S4096x1x64_S4096x64x64 : FVec Ideal S4096x64x64 .f32) (ix3 i h d) = v (ix2 i d) := by
  pointwise [k0_pay7] <;> rfl

theorem minusQ (a b x y : FVec Ideal S4096x64x64 .f32) (j : S4096x64x64.Idx) : (subf (mulf a b) (mulf x y) : FVec Ideal S4096x64x64 .f32) j = (a j * b j - x j * y j : EReal) := rfl
theorem plusQ (a b x y : FVec Ideal S4096x64x64 .f32) (j : S4096x64x64.Idx) : (addf (mulf a b) (mulf x y) : FVec Ideal S4096x64x64 .f32) j = (a j * b j + x j * y j : EReal) := rfl

/-- Each head of `t` turned. -/
def turnQ (t : FVec Ideal S4096x64x128 .f32) (c s : Vec Ideal S4096x64 .f32) : FVec Ideal S4096x64x128 .f32 :=
  concatenate S4096x64x128 2 [
    ⟨S4096x64x64, subf (mulf (extractStridedSlice S4096x64x64 ![0, 0, 0] t slices_S4096x64x128_o0_0_0_S4096x64x64) (broadcastTo S4096x64x64 (k0_pay7 c) broadcasts_S4096x1x64_S4096x64x64))
      (mulf (extractStridedSlice S4096x64x64 ![0, 0, 64] t slices_S4096x64x128_o0_0_64_S4096x64x64) (broadcastTo S4096x64x64 (k0_pay7 s) broadcasts_S4096x1x64_S4096x64x64))⟩,
    ⟨S4096x64x64, addf (mulf (extractStridedSlice S4096x64x64 ![0, 0, 64] t slices_S4096x64x128_o0_0_64_S4096x64x64) (broadcastTo S4096x64x64 (k0_pay7 c) broadcasts_S4096x1x64_S4096x64x64))
      (mulf (extractStridedSlice S4096x64x64 ![0, 0, 0] t slices_S4096x64x128_o0_0_0_S4096x64x64) (broadcastTo S4096x64x64 (k0_pay7 s) broadcasts_S4096x1x64_S4096x64x64))⟩]
    concatenates_S4096x64x64_S4096x64x64_S4096x64x128_d2

theorem turnQ_at (t : FVec Ideal S4096x64x128 .f32) (c s : Vec Ideal S4096x64 .f32) (i : Fin 4096) (h : Fin 64) (d : Fin 128) :
    turnQ t c s (ix3 i h d) = rotE (fun e => t (ix3 i h e)) (fun e => c (ix2 i e)) (fun e => s (ix2 i e)) d := by
  unfold turnQ
  rcases lo_or_hi d with ⟨e, rfl⟩ | ⟨e, rfl⟩
  · rw [catQ_lo, minusQ, halfQ_lo, halfQ_hi, tableQ, tableQ, rotE_lo]
  · rw [catQ_hi, plusQ, halfQ_lo, halfQ_hi, tableQ, tableQ, rotE_hi]

theorem catK_lo (a b : FVec Ideal S4096x4x64 .f32) (i : Fin 4096) (h : Fin 4) (d : Fin 64) :
    (concatenate S4096x4x128 2 [⟨S4096x4x64, a⟩, ⟨S4096x4x64, b⟩] concatenates_S4096x4x64_S4096x4x64_S4096x4x128_d2 : FVec Ideal S4096x4x128 .f32) (ix3 i h (lo d)) = a (ix3 i h d) :=
  (concatenate_pair_apply _ _ _ _ _).trans ((dif_pos (show (lo d).val < 64 from d.isLt)).trans (congrArg a (funext fun x => Fin.ext (match x with
    | ⟨0, _⟩ => rfl
    | ⟨1, _⟩ => rfl
    | ⟨2, _⟩ => rfl))))

theorem catK_hi (a b : FVec Ideal S4096x4x64 .f32) (i : Fin 4096) (h : Fin 4) (d : Fin 64) :
    (concatenate S4096x4x128 2 [⟨S4096x4x64, a⟩, ⟨S4096x4x64, b⟩] concatenates_S4096x4x64_S4096x4x64_S4096x4x128_d2 : FVec Ideal S4096x4x128 .f32) (ix3 i h (hi d)) = b (ix3 i h d) :=
  (concatenate_pair_apply _ _ _ _ _).trans ((dif_neg (show ¬ (hi d).val < 64 by show ¬ d.val + 64 < 64; omega)).trans (congrArg b (funext fun x => Fin.ext (match x with
    | ⟨0, _⟩ => rfl
    | ⟨1, _⟩ => rfl
    | ⟨2, _⟩ => (by show d.val + 64 - 64 = d.val; omega)))))

theorem halfK_lo (t : FVec Ideal S4096x4x128 .f32) (i : Fin 4096) (h : Fin 4) (d : Fin 64) :
    (extractStridedSlice S4096x4x64 ![0, 0, 0] t slices_S4096x4x128_o0_0_0_S4096x4x64 : FVec Ideal S4096x4x64 .f32) (ix3 i h d) = t (ix3 i h (lo d)) :=
  congrArg t (funext fun x => Fin.ext (match x with
    | ⟨0, _⟩ => Nat.zero_add _
    | ⟨1, _⟩ => Nat.zero_add _
    | ⟨2, _⟩ => Nat.zero_add _))

theorem halfK_hi (t : FVec Ideal S4096x4x128 .f32) (i : Fin 4096) (h : Fin 4) (d : Fin 64) :
    (extractStridedSlice S4096x4x64 ![0, 0, 64] t slices_S4096x4x128_o0_0_64_S4096x4x64 : FVec Ideal S4096x4x64 .f32) (ix3 i h d) = t (ix3 i h (hi d)) :=
  congrArg t (funext fun x => Fin.ext (match x with
    | ⟨0, _⟩ => Nat.zero_add _
    | ⟨1, _⟩ => Nat.zero_add _
    | ⟨2, _⟩ => Nat.add_comm _ _))

theorem tableK (v : Vec Ideal S4096x64 .f32) (i : Fin 4096) (h : Fin 4) (d : Fin 64) :
    (broadcastTo S4096x4x64 (k0_pay7 (F := Ideal) v) broadcasts_S4096x1x64_S4096x4x64 : FVec Ideal S4096x4x64 .f32) (ix3 i h d) = v (ix2 i d) := by
  pointwise [k0_pay7] <;> rfl

theorem minusK (a b x y : FVec Ideal S4096x4x64 .f32) (j : S4096x4x64.Idx) : (subf (mulf a b) (mulf x y) : FVec Ideal S4096x4x64 .f32) j = (a j * b j - x j * y j : EReal) := rfl
theorem plusK (a b x y : FVec Ideal S4096x4x64 .f32) (j : S4096x4x64.Idx) : (addf (mulf a b) (mulf x y) : FVec Ideal S4096x4x64 .f32) j = (a j * b j + x j * y j : EReal) := rfl

/-- Each head of `t` turned. -/
def turnK (t : FVec Ideal S4096x4x128 .f32) (c s : Vec Ideal S4096x64 .f32) : FVec Ideal S4096x4x128 .f32 :=
  concatenate S4096x4x128 2 [
    ⟨S4096x4x64, subf (mulf (extractStridedSlice S4096x4x64 ![0, 0, 0] t slices_S4096x4x128_o0_0_0_S4096x4x64) (broadcastTo S4096x4x64 (k0_pay7 c) broadcasts_S4096x1x64_S4096x4x64))
      (mulf (extractStridedSlice S4096x4x64 ![0, 0, 64] t slices_S4096x4x128_o0_0_64_S4096x4x64) (broadcastTo S4096x4x64 (k0_pay7 s) broadcasts_S4096x1x64_S4096x4x64))⟩,
    ⟨S4096x4x64, addf (mulf (extractStridedSlice S4096x4x64 ![0, 0, 64] t slices_S4096x4x128_o0_0_64_S4096x4x64) (broadcastTo S4096x4x64 (k0_pay7 c) broadcasts_S4096x1x64_S4096x4x64))
      (mulf (extractStridedSlice S4096x4x64 ![0, 0, 0] t slices_S4096x4x128_o0_0_0_S4096x4x64) (broadcastTo S4096x4x64 (k0_pay7 s) broadcasts_S4096x1x64_S4096x4x64))⟩]
    concatenates_S4096x4x64_S4096x4x64_S4096x4x128_d2

theorem turnK_at (t : FVec Ideal S4096x4x128 .f32) (c s : Vec Ideal S4096x64 .f32) (i : Fin 4096) (h : Fin 4) (d : Fin 128) :
    turnK t c s (ix3 i h d) = rotE (fun e => t (ix3 i h e)) (fun e => c (ix2 i e)) (fun e => s (ix2 i e)) d := by
  unfold turnK
  rcases lo_or_hi d with ⟨e, rfl⟩ | ⟨e, rfl⟩
  · rw [catK_lo, minusK, halfK_lo, halfK_hi, tableK, tableK, rotE_lo]
  · rw [catK_hi, plusK, halfK_lo, halfK_hi, tableK, tableK, rotE_hi]

/-! ## The product and its columns -/

theorem prod_at (x : Vec Ideal S4096x4096 .fp8e4m3) (w : Vec Ideal S4096x9216 .fp8e4m3) (xs : Vec Ideal S4096x1 .f32) (ws : Vec Ideal S1x9216 .f32)
    (i : Fin 4096) (n : Fin 9216) :
    k0_pay4 (F := Ideal) x w xs ws (ix2 i n) = prodE (fun i k => x (ix2 i k)) (fun i => xs (ix2 i (0 : Fin 1))) (fun k n => w (ix2 k n)) (fun n => ws (ix2 (0 : Fin 1) n)) i n := by
  unfold prodE
  pointwise [k0_pay4] <;> rfl

theorem colsQ (z : FVec Ideal S4096x9216 .f32) (i : Fin 4096) (h : Fin 64) (d : Fin 128) :
    (shapeCast S4096x64x128 (extractStridedSlice S4096x8192 ![0, 0] z slices_S4096x9216_o0_0_S4096x8192) shapeCasts_S4096x8192_S4096x64x128 : FVec Ideal S4096x64x128 .f32) (ix3 i h d) =
      z (ix2 i (colQ h d)) := by
  have g : ∀ v : FVec Ideal S4096x8192 .f32, (shapeCast S4096x64x128 v shapeCasts_S4096x8192_S4096x64x128 : FVec Ideal S4096x64x128 .f32) (ix3 i h d) =
      v (ix2 i (⟨h.val * 128 + d.val, by omega⟩ : Fin 8192)) := fun v => by
    pointwise [] <;> rfl
  exact (g _).trans (congrArg z (funext fun x => Fin.ext (match x with
    | ⟨0, _⟩ => Nat.zero_add _
    | ⟨1, _⟩ => (by show 0 + (h.val * 128 + d.val) = 128 * h.val + d.val; omega))))

theorem colsK (v : FVec Ideal S4096x512 .f32) (i : Fin 4096) (h : Fin 4) (d : Fin 128) :
    (shapeCast S4096x4x128 v shapeCasts_S4096x512_S4096x4x128 : FVec Ideal S4096x4x128 .f32) (ix3 i h d) = v (ix2 i (⟨h.val * 128 + d.val, by omega⟩ : Fin 512)) := by
  pointwise [] <;> rfl

theorem k_at (x : Vec Ideal S4096x4096 .fp8e4m3) (w : Vec Ideal S4096x9216 .fp8e4m3) (xs : Vec Ideal S4096x1 .f32) (ws : Vec Ideal S1x9216 .f32)
    (i : Fin 4096) (h : Fin 4) (d : Fin 128) : k0_pay5 (F := Ideal) x w xs ws (ix3 i h d) = k0_pay4 (F := Ideal) x w xs ws (ix2 i (colK h d)) := by
  unfold k0_pay5
  exact (colsK _ i h d).trans (congrArg (k0_pay4 x w xs ws) (funext fun x => Fin.ext (match x with
    | ⟨0, _⟩ => Nat.zero_add _
    | ⟨1, _⟩ => (by show 8192 + (h.val * 128 + d.val) = 8192 + (128 * h.val + d.val); omega))))

theorem v_at (x : Vec Ideal S4096x4096 .fp8e4m3) (w : Vec Ideal S4096x9216 .fp8e4m3) (xs : Vec Ideal S4096x1 .f32) (ws : Vec Ideal S1x9216 .f32)
    (i : Fin 4096) (h : Fin 4) (d : Fin 128) : k0_pay6 (F := Ideal) x w xs ws (ix3 i h d) = k0_pay4 (F := Ideal) x w xs ws (ix2 i (colV h d)) := by
  unfold k0_pay6
  exact (colsK _ i h d).trans (congrArg (k0_pay4 x w xs ws) (funext fun x => Fin.ext (match x with
    | ⟨0, _⟩ => Nat.zero_add _
    | ⟨1, _⟩ => (by show 8704 + (h.val * 128 + d.val) = 8704 + (128 * h.val + d.val); omega))))

theorem swap_at (t : FVec Ideal S4096x64x128 .f32) (h : Fin 64) (d : Fin 128) (i : Fin 4096) :
    (transpose S64x128x4096 [1, 2, 0] (truncf .bf16 t bitsLt_bf16_f32 : FVec Ideal S4096x64x128 .bf16) transposes_S4096x64x128_p1_2_0_S64x128x4096 : FVec Ideal S64x128x4096 .bf16) (ix3 h d i) =
      t (ix3 i h d) := by
  pointwise [] <;> rfl

theorem q_eq (x : Vec Ideal S4096x4096 .fp8e4m3) (w : Vec Ideal S4096x9216 .fp8e4m3) (xs : Vec Ideal S4096x1 .f32) (ws : Vec Ideal S1x9216 .f32) (c s : Vec Ideal S4096x64 .f32) :
    k0_pay9 (F := Ideal) x w xs ws c s = transpose S64x128x4096 [1, 2, 0] (truncf .bf16 (turnQ (shapeCast S4096x64x128 (extractStridedSlice S4096x8192 ![0, 0] (k0_pay4 x w xs ws)
      slices_S4096x9216_o0_0_S4096x8192) shapeCasts_S4096x8192_S4096x64x128) c s) bitsLt_bf16_f32 : FVec Ideal S4096x64x128 .bf16) transposes_S4096x64x128_p1_2_0_S64x128x4096 := rfl

theorem q_at (x : Vec Ideal S4096x4096 .fp8e4m3) (w : Vec Ideal S4096x9216 .fp8e4m3) (xs : Vec Ideal S4096x1 .f32) (ws : Vec Ideal S1x9216 .f32) (c s : Vec Ideal S4096x64 .f32)
    (h : Fin 64) (d : Fin 128) (i : Fin 4096) : k0_pay9 (F := Ideal) x w xs ws c s (ix3 h d i) =
      rotE (fun e => k0_pay4 (F := Ideal) x w xs ws (ix2 i (colQ h e))) (fun e => c (ix2 i e)) (fun e => s (ix2 i e)) d := by
  rw [q_eq, swap_at, turnQ_at]
  exact congrArg (fun z => rotE z _ _ d) (funext fun e => colsQ _ i h e)

/-! ## The quantised heads -/

/-- The constant the largest magnitudes are multiplied by. -/
def inv448 : Ideal .f32 := Scalar.ofBits .f32 0x3B124925#32

theorem red_at (t : FVec Ideal S4096x4x128 .f32) (i : Fin 4096) (h : Fin 4) : k0_pay18 (F := Ideal) t (ix2 i h) = amax (fun d => t (ix3 i h d)) := by
  pointwise [k0_pay18] <;> rfl

theorem expo_gen (a : FVec Ideal S4096x4 .f32) (i : Fin 4096) (h : Fin 4) : k0_pay1 (F := Ideal) a inv448 (ix2 i h) = expoZ (a (ix2 i h)) := by
  pointwise [k0_pay1, inv448] <;> rfl

theorem code_gen (t : FVec Ideal S4096x4x128 .f32) (e : FVec Ideal S4096x4 .f32) (i : Fin 4096) (h : Fin 4) (d : Fin 128) :
    (truncf .fp8e4m3 (minimumf (broadcast S4096x4x128 (Scalar.ofBits .f32 0x43E00000#32)) (maximumf (broadcast S4096x4x128 (Scalar.ofBits .f32 0xC3E00000#32))
      (mulf t (broadcastTo S4096x4x128 (shapeCast S4096x4x1 (exp2 (subf (broadcast S4096x4 (Scalar.ofBits .f32 0x00000000#32)) e)) shapeCasts_S4096x4_S4096x4x1)
        broadcasts_S4096x4x1_S4096x4x128)))) bitsLt_fp8e4m3_f32 : FVec Ideal S4096x4x128 .fp8e4m3) (ix3 i h d) =
    min (Ideal.ofBits .f32 0x43E00000#32) (max (Ideal.ofBits .f32 0xC3E00000#32) (t (ix3 i h d) * Ideal.exp2 (0 - e (ix2 i h)))) := by
  pointwise [] <;> rfl

theorem code_at (t : FVec Ideal S4096x4x128 .f32) (i : Fin 4096) (h : Fin 4) (d : Fin 128) :
    k0_pay2 (F := Ideal) t (k0_pay18 t) inv448 (ix3 i h d) = code (t (ix3 i h d)) (amax fun d => t (ix3 i h d)) := by
  refine (code_gen t (k0_pay1 (k0_pay18 t) inv448) i h d).trans ?_
  rw [expo_gen, red_at]
  rfl

theorem lines_gen (e : FVec Ideal S4096x4 .f32) (b : Fin 2) (h : Fin 4) (j : Fin 2048) :
    (transpose S2x4x2048 [0, 2, 1] (shapeCast S2x2048x4 (exp2 e) shapeCasts_S4096x4_S2x2048x4 : FVec Ideal S2x2048x4 .f32) transposes_S2x2048x4_p0_2_1_S2x4x2048 : FVec Ideal S2x4x2048 .f32) (ix3 b h j) =
      Ideal.exp2 (e (ix2 (posOf b j) h)) := by
  rw [show posOf b j = ⟨b.val * 2048 + j.val, by have := b.isLt; have := j.isLt; omega⟩ from Fin.ext (by show 2048 * b.val + j.val = b.val * 2048 + j.val; omega)]
  pointwise [] <;> rfl

theorem scale_at (t : FVec Ideal S4096x4x128 .f32) (b : Fin 2) (h : Fin 4) (j : Fin 2048) :
    k0_pay3 (F := Ideal) (k0_pay18 t) inv448 (ix3 b h j) = scale (amax fun d => t (ix3 (posOf b j) h d)) := by
  refine (lines_gen (k0_pay1 (k0_pay18 t) inv448) b h j).trans ?_
  rw [expo_gen, red_at]
  rfl

/-! ## What is stored -/

section
variable (x : Vec Ideal S4096x4096 .fp8e4m3) (xs : Vec Ideal S4096x1 .f32) (w : Vec Ideal S4096x9216 .fp8e4m3) (ws : Vec Ideal S1x9216 .f32) (c s : Vec Ideal S4096x64 .f32)

theorem rk_eq : k0_pay14 (F := Ideal) (k0_pay7 c) (k0_pay8 s) (k0_pay10 x w xs ws) (k0_pay11 x w xs ws) (k0_pay12 x w xs ws c) (k0_pay13 s) = turnK (k0_pay5 x w xs ws) c s := rfl

theorem out6_eq : out0_6 x xs w ws c s = k0_pay9 x w xs ws c s := by
  unfold out0_6
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide), View.ld_unit_lit _ _ (by decide)]

theorem out7_eq : out0_7 x xs w ws c s = k0_pay2 (turnK (k0_pay5 x w xs ws) c s) (k0_pay18 (turnK (k0_pay5 x w xs ws) c s)) inv448 := by
  unfold out0_7 k0_pay25 k0_pay24 k0_pay23 k0_pay22 k0_pay21 k0_pay20
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide), View.ld_unit_lit _ _ (by decide)]
  rw [← rk_eq]
  rfl

theorem out8_eq : out0_8 x xs w ws c s = k0_pay2 (k0_pay6 x w xs ws) (k0_pay18 (k0_pay6 x w xs ws)) inv448 := by
  unfold out0_8 k0_pay26 k0_pay19
  rw [View.canon_cons_unit_lit _ _ _ (by decide), View.ld_unit_lit _ _ (by decide), View.ld_unit_lit _ _ (by decide), View.ld_unit_lit _ _ (by decide),
    View.ld_unit_lit _ _ (by decide)]
  rfl

theorem out9_eq : out0_9 x xs w ws c s = k0_pay3 (k0_pay18 (turnK (k0_pay5 x w xs ws) c s)) inv448 := by
  unfold out0_9 k0_pay25 k0_pay24 k0_pay23 k0_pay22 k0_pay21 k0_pay20
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide), View.ld_unit_lit _ _ (by decide)]
  rw [← rk_eq]
  rfl

theorem out10_eq : out0_10 x xs w ws c s = k0_pay3 (k0_pay18 (k0_pay6 x w xs ws)) inv448 := by
  unfold out0_10 k0_pay26 k0_pay19
  rw [View.canon_cons_unit_lit _ _ _ (by decide), View.ld_unit_lit _ _ (by decide), View.ld_unit_lit _ _ (by decide), View.ld_unit_lit _ _ (by decide),
    View.ld_unit_lit _ _ (by decide)]
  rfl
end

end Cert.QkvReferenceIdeal.Value

end
-- ==== Proof.QkvRef.lean ====
/- The projection run on whole arrays: its results as functions of the arguments. -/
module

public import proofs.«01_k».proof.Proof.QkvRefBlock
public import Idealize.ShloMosaic.Lib.Pipeline.ValueKit
public import Idealize.ShloMosaic.Lib.Pipeline.Covers
public import Idealize.ShloMosaic.Lib.Claim

@[expose] public section

set_option maxRecDepth 16384

noncomputable section

namespace Cert.QkvReferenceIdeal.Value

open Cert.QkvReferenceIdeal Cert.QkvReferenceIdeal.Gen Cert.Quant Cert.Proj
open Idealize.ShloMosaic Idealize.ShloMosaic.TcCoe Idealize.SL.Sem
open Idealize.ShloMosaic.Pipeline (Dat)
open Facts

/-! ## The angles -/

/-- The angle of each row and pair: the row's position times a power of the base. -/
def ang (sp : Vec Ideal S2 .i32) : FVec Ideal S4096x64 .f32 :=
  mulf (broadcastInDim S4096x64 ![0, 1] bcast_S4096x1_S4096x64_0_1 (shapeCast S4096x1
      (sitofp .f32 (addi (broadcastInDim S2x2048 ![0, 1] bcast_S2x1_S2x2048_0_1 (broadcastInDim S2x1 ![0] bcast_S2_S2x1_0 sp))
        (broadcastInDim S2x2048 ![0, 1] bcast_S1x2048_S2x2048_0_1 (broadcastInDim S1x2048 ![1] bcast_S2048_S1x2048_1 (iotaInDim S2048 32 0)))) : FVec Ideal S2x2048 .f32)
      shapeCasts_S2x2048_S4096x1))
    (broadcastInDim S4096x64 ![0, 1] bcast_S1x64_S4096x64_0_1 (broadcastInDim S1x64 ![1] bcast_S64_S1x64_1
      (Host.powf (broadcastInDim S64 ![] bcast_S_S64 (constant S_ .f32 0x48F42400#32))
        (Host.negf (Host.divf (mulf (sitofp .f32 (iotaInDim S64 32 0)) (broadcastInDim S64 ![] bcast_S_S64 (constant S_ .f32 0x40000000#32)))
          (broadcastInDim S64 ![] bcast_S_S64 (constant S_ .f32 0x43000000#32)))) : FVec Ideal S64 .f32)))

theorem rot_congr {t t' : Fin 128 → EReal} {c c' s s' : Fin 64 → EReal} (ht : ∀ e, t e = t' e) (hc : ∀ e, c e = c' e) (hs : ∀ e, s e = s' e) (d : Fin 128) :
    rotE t c s d = rotE t' c' s' d := by
  rw [funext ht, funext hc, funext hs]

section
variable (m : (ℓ : Loc nD τ sig) → Buf (Elt Ideal) ℓ) (c : Dev nD)

/-! ## The arguments -/

/-- The codes of the rows. -/
def argX : Fin 4096 → Fin 4096 → EReal := fun i k => m ((c : Thread nD τ).loc main_arg0) (ix2 i k)
/-- The scales of the rows. -/
def argS : Fin 4096 → EReal := fun i => m ((c : Thread nD τ).loc main_arg1) (ix2 i (0 : Fin 1))
/-- The weight codes. -/
def argW : Fin 4096 → Fin 9216 → EReal := fun k n => m ((c : Thread nD τ).loc main_arg2) (ix2 k n)
/-- The scales of the weight's columns. -/
def argC : Fin 9216 → EReal := fun n => m ((c : Thread nD τ).loc main_arg3) (ix1 n)
/-- The cosines and sines of the angles. -/
def co : Fin 4096 → Fin 64 → EReal := fun i d => (Host.cos (ang (m ((c : Thread nD τ).loc main_arg4))) : FVec Ideal S4096x64 .f32) (ix2 i d)
def si : Fin 4096 → Fin 64 → EReal := fun i d => (Host.sin (ang (m ((c : Thread nD τ).loc main_arg4))) : FVec Ideal S4096x64 .f32) (ix2 i d)

/-- The product. -/
def P : Fin 4096 → Fin 9216 → EReal := prodE (argX m c) (argS m c) (argW m c) (argC m c)

/-- Row `i` of a query head, of a key head and of a value head. -/
def qE (i : Fin 4096) (h : Fin 64) : Fin 128 → EReal := rotE (fun d => P m c i (colQ h d)) (co m c i) (si m c i)
def kE (i : Fin 4096) (h : Fin 4) : Fin 128 → EReal := rotE (fun d => P m c i (colK h d)) (co m c i) (si m c i)
def vE (i : Fin 4096) (h : Fin 4) : Fin 128 → EReal := fun d => P m c i (colV h d)

def qG : Buf (Elt Ideal) ((c : Thread nD τ).loc main_v23_0) := fun (y : S64x128x4096.Idx) => qE m c (y 2) (y 0) (y 1)
def kcG : Buf (Elt Ideal) ((c : Thread nD τ).loc main_v23_1) := fun (y : S4096x4x128.Idx) => code (kE m c (y 0) (y 1) (y 2)) (amax (kE m c (y 0) (y 1)))
def vcG : Buf (Elt Ideal) ((c : Thread nD τ).loc main_v23_2) := fun (y : S4096x4x128.Idx) => code (vE m c (y 0) (y 1) (y 2)) (amax (vE m c (y 0) (y 1)))
def ksG : Buf (Elt Ideal) ((c : Thread nD τ).loc main_v23_3) := fun (y : S2x4x2048.Idx) =>
  scale (amax (kE m c (posOf (y 0) (y 2)) (y 1)))
def vsG : Buf (Elt Ideal) ((c : Thread nD τ).loc main_v23_4) := fun (y : S2x4x2048.Idx) =>
  scale (amax (vE m c (posOf (y 0) (y 2)) (y 1)))

theorem cos_table : (V m c main_v21 : Vec Ideal S4096x64 .f32) = Host.cos (ang (m ((c : Thread nD τ).loc main_arg4))) := by
  entry_read
  rfl

theorem sin_table : (V m c main_v22 : Vec Ideal S4096x64 .f32) = Host.sin (ang (m ((c : Thread nD τ).loc main_arg4))) := by
  entry_read
  rfl

theorem scales_shaped (n : Fin 9216) : V m c main_v20 (ix2 (0 : Fin 1) n) = argC m c n := by
  have e : (V m c main_v20 : Vec Ideal S1x9216 .f32) = shapeCast S1x9216 (m ((c : Thread nD τ).loc main_arg3) : Vec Ideal S9216 .f32) shapeCasts_S9216_S1x9216 := by
    entry_read
    rfl
  have g : ∀ v : Vec Ideal S9216 .f32, (shapeCast S1x9216 v shapeCasts_S9216_S1x9216 : Vec Ideal S1x9216 .f32) (ix2 (0 : Fin 1) n) = v (ix1 n) := fun v => by
    pointwise []
  exact (congrFun e _).trans (g _)

variable (t : Fin cfg0.N)

theorem blk0 (i k : Fin 4096) : (iblk m c 0 t : Vec Ideal S4096x4096 .fp8e4m3) (ix2 i k) = argX m c i k := by
  unfold iblk
  refine (congrFun (V_main_arg0 m c) _).trans (congrArg (m ((c : Thread nD τ).loc main_arg0)) (funext fun a => Fin.ext ?_))
  match a with
  | ⟨0, _⟩ => change 0 * 4096 + 1 * i.val = i.val; omega
  | ⟨1, _⟩ => change 0 * 4096 + 1 * k.val = k.val; omega

theorem blk1 (i : Fin 4096) : (iblk m c 1 t : Vec Ideal S4096x1 .f32) (ix2 i (0 : Fin 1)) = argS m c i := by
  unfold iblk
  refine (congrFun (V_main_arg1 m c) _).trans (congrArg (m ((c : Thread nD τ).loc main_arg1)) (funext fun a => Fin.ext ?_))
  match a with
  | ⟨0, _⟩ => change 0 * 4096 + 1 * i.val = i.val; omega
  | ⟨1, _⟩ => change 0 * 1 + 1 * 0 = 0; omega

theorem blk2 (k : Fin 4096) (n : Fin 9216) : (iblk m c 2 t : Vec Ideal S4096x9216 .fp8e4m3) (ix2 k n) = argW m c k n := by
  unfold iblk
  refine (congrFun (V_main_arg2 m c) _).trans (congrArg (m ((c : Thread nD τ).loc main_arg2)) (funext fun a => Fin.ext ?_))
  match a with
  | ⟨0, _⟩ => change 0 * 4096 + 1 * k.val = k.val; omega
  | ⟨1, _⟩ => change 0 * 9216 + 1 * n.val = n.val; omega

theorem blk3 (n : Fin 9216) : (iblk m c 3 t : Vec Ideal S1x9216 .f32) (ix2 (0 : Fin 1) n) = argC m c n := by
  refine Eq.trans ?_ (scales_shaped m c n)
  unfold iblk
  refine congrArg (V m c main_v20) (funext fun a => Fin.ext ?_)
  match a with
  | ⟨0, _⟩ => change 0 * 1 + 1 * 0 = 0; omega
  | ⟨1, _⟩ => change 0 * 9216 + 1 * n.val = n.val; omega

theorem blk4 (i : Fin 4096) (d : Fin 64) : (iblk m c 4 t : Vec Ideal S4096x64 .f32) (ix2 i d) = co m c i d := by
  refine Eq.trans ?_ (congrFun (cos_table m c) (ix2 i d))
  unfold iblk
  refine congrArg (V m c main_v21) (funext fun a => Fin.ext ?_)
  match a with
  | ⟨0, _⟩ => change 0 * 4096 + 1 * i.val = i.val; omega
  | ⟨1, _⟩ => change 0 * 64 + 1 * d.val = d.val; omega

theorem blk5 (i : Fin 4096) (d : Fin 64) : (iblk m c 5 t : Vec Ideal S4096x64 .f32) (ix2 i d) = si m c i d := by
  refine Eq.trans ?_ (congrFun (sin_table m c) (ix2 i d))
  unfold iblk
  refine congrArg (V m c main_v22) (funext fun a => Fin.ext ?_)
  match a with
  | ⟨0, _⟩ => change 0 * 4096 + 1 * i.val = i.val; omega
  | ⟨1, _⟩ => change 0 * 64 + 1 * d.val = d.val; omega

theorem prod_blk (i : Fin 4096) (n : Fin 9216) : k0_pay4 (F := Ideal) (iblk m c 0 t) (iblk m c 2 t) (iblk m c 1 t) (iblk m c 3 t) (ix2 i n) = P m c i n := by
  rw [prod_at]
  unfold P prodE
  simp only [blk0 m c t, blk1 m c t, blk2 m c t, blk3 m c t]

theorem k_blk (i : Fin 4096) (h : Fin 4) (d : Fin 128) : turnK (k0_pay5 (F := Ideal) (iblk m c 0 t) (iblk m c 2 t) (iblk m c 1 t) (iblk m c 3 t)) (iblk m c 4 t) (iblk m c 5 t) (ix3 i h d) = kE m c i h d := by
  rw [turnK_at]
  unfold kE
  exact rot_congr (fun e => (k_at _ _ _ _ i h e).trans (prod_blk m c t i (colK h e))) (fun e => blk4 m c t i e) (fun e => blk5 m c t i e) d

theorem v_blk (i : Fin 4096) (h : Fin 4) (d : Fin 128) : k0_pay6 (F := Ideal) (iblk m c 0 t) (iblk m c 2 t) (iblk m c 1 t) (iblk m c 3 t) (ix3 i h d) = vE m c i h d := by
  rw [v_at, prod_blk]
  rfl

theorem point6 (h : Fin 64) (d : Fin 128) (i : Fin 4096) : out0_6 (iblk m c 0 t) (iblk m c 1 t) (iblk m c 2 t) (iblk m c 3 t) (iblk m c 4 t) (iblk m c 5 t) (ix3 h d i) = qE m c i h d := by
  rw [out6_eq, q_at]
  unfold qE
  exact rot_congr (fun e => prod_blk m c t i (colQ h e)) (fun e => blk4 m c t i e) (fun e => blk5 m c t i e) d

theorem point7 (i : Fin 4096) (h : Fin 4) (d : Fin 128) : out0_7 (iblk m c 0 t) (iblk m c 1 t) (iblk m c 2 t) (iblk m c 3 t) (iblk m c 4 t) (iblk m c 5 t) (ix3 i h d) = code (kE m c i h d) (amax (kE m c i h)) := by
  rw [out7_eq, code_at, k_blk, funext fun d => k_blk m c t i h d]

theorem point8 (i : Fin 4096) (h : Fin 4) (d : Fin 128) : out0_8 (iblk m c 0 t) (iblk m c 1 t) (iblk m c 2 t) (iblk m c 3 t) (iblk m c 4 t) (iblk m c 5 t) (ix3 i h d) = code (vE m c i h d) (amax (vE m c i h)) := by
  rw [out8_eq, code_at, v_blk, funext fun d => v_blk m c t i h d]

theorem point9 (b : Fin 2) (h : Fin 4) (j : Fin 2048) : out0_9 (iblk m c 0 t) (iblk m c 1 t) (iblk m c 2 t) (iblk m c 3 t) (iblk m c 4 t) (iblk m c 5 t) (ix3 b h j) = scale (amax (kE m c (posOf b j) h)) := by
  rw [out9_eq, scale_at, funext fun d => k_blk m c t (posOf b j) h d]

theorem point10 (b : Fin 2) (h : Fin 4) (j : Fin 2048) : out0_10 (iblk m c 0 t) (iblk m c 1 t) (iblk m c 2 t) (iblk m c 3 t) (iblk m c 4 t) (iblk m c 5 t) (ix3 b h j) = scale (amax (vE m c (posOf b j) h)) := by
  rw [out10_eq, scale_at, funext fun d => v_blk m c t (posOf b j) h d]

/-! ## The arrays after the run -/

/-- The one point of the run. -/
def t0 : Fin cfg0.N := (0 : Fin 1)

theorem t0_only (t : Fin cfg0.N) : t = t0 := Fin.ext (by have h : t.val < 1 := t.isLt; show t.val = 0; omega)

theorem final6 : (dats m 0 c).arrAt 6 cfg0.N = qG m c := by
  refine (dats m 0 c).arrAt_eq_of_after_last 6 t0 ⟨flush0_6 t0, fun t _ => t0_only t, fun a => ⟨rfl, rfl⟩⟩ (qG m c) fun (y : S64x128x4096.Idx) => ?_
  have h0 : (y 0).val < 64 := (y 0).isLt
  have h1 : (y 1).val < 128 := (y 1).isLt
  have h2 : (y 2).val < 4096 := (y 2).isLt
  have hy : y = ix3 (⟨(y 0).val, h0⟩ : Fin 64) (⟨(y 1).val, h1⟩ : Fin 128) (⟨(y 2).val, h2⟩ : Fin 4096) := funext fun a => by
    match a with
    | ⟨0, _⟩ => rfl
    | ⟨1, _⟩ => rfl
    | ⟨2, _⟩ => rfl
  rw [after0_6]
  exact (cast_eq _ _).trans ((congrArg (out0_6 (iblk m c 0 t0) (iblk m c 1 t0) (iblk m c 2 t0) (iblk m c 3 t0) (iblk m c 4 t0) (iblk m c 5 t0)) hy).trans
    (point6 m c t0 ⟨(y 0).val, h0⟩ ⟨(y 1).val, h1⟩ ⟨(y 2).val, h2⟩))

theorem final7 : (dats m 0 c).arrAt 7 cfg0.N = kcG m c := by
  refine (dats m 0 c).arrAt_eq_of_after_last 7 t0 ⟨flush0_7 t0, fun t _ => t0_only t, fun a => ⟨rfl, rfl⟩⟩ (kcG m c) fun (y : S4096x4x128.Idx) => ?_
  have h0 : (y 0).val < 4096 := (y 0).isLt
  have h1 : (y 1).val < 4 := (y 1).isLt
  have h2 : (y 2).val < 128 := (y 2).isLt
  have hy : y = ix3 (⟨(y 0).val, h0⟩ : Fin 4096) (⟨(y 1).val, h1⟩ : Fin 4) (⟨(y 2).val, h2⟩ : Fin 128) := funext fun a => by
    match a with
    | ⟨0, _⟩ => rfl
    | ⟨1, _⟩ => rfl
    | ⟨2, _⟩ => rfl
  rw [after0_7]
  exact (cast_eq _ _).trans ((congrArg (out0_7 (iblk m c 0 t0) (iblk m c 1 t0) (iblk m c 2 t0) (iblk m c 3 t0) (iblk m c 4 t0) (iblk m c 5 t0)) hy).trans
    (point7 m c t0 ⟨(y 0).val, h0⟩ ⟨(y 1).val, h1⟩ ⟨(y 2).val, h2⟩))

theorem final8 : (dats m 0 c).arrAt 8 cfg0.N = vcG m c := by
  refine (dats m 0 c).arrAt_eq_of_after_last 8 t0 ⟨flush0_8 t0, fun t _ => t0_only t, fun a => ⟨rfl, rfl⟩⟩ (vcG m c) fun (y : S4096x4x128.Idx) => ?_
  have h0 : (y 0).val < 4096 := (y 0).isLt
  have h1 : (y 1).val < 4 := (y 1).isLt
  have h2 : (y 2).val < 128 := (y 2).isLt
  have hy : y = ix3 (⟨(y 0).val, h0⟩ : Fin 4096) (⟨(y 1).val, h1⟩ : Fin 4) (⟨(y 2).val, h2⟩ : Fin 128) := funext fun a => by
    match a with
    | ⟨0, _⟩ => rfl
    | ⟨1, _⟩ => rfl
    | ⟨2, _⟩ => rfl
  rw [after0_8]
  exact (cast_eq _ _).trans ((congrArg (out0_8 (iblk m c 0 t0) (iblk m c 1 t0) (iblk m c 2 t0) (iblk m c 3 t0) (iblk m c 4 t0) (iblk m c 5 t0)) hy).trans
    (point8 m c t0 ⟨(y 0).val, h0⟩ ⟨(y 1).val, h1⟩ ⟨(y 2).val, h2⟩))

theorem final9 : (dats m 0 c).arrAt 9 cfg0.N = ksG m c := by
  refine (dats m 0 c).arrAt_eq_of_after_last 9 t0 ⟨flush0_9 t0, fun t _ => t0_only t, fun a => ⟨rfl, rfl⟩⟩ (ksG m c) fun (y : S2x4x2048.Idx) => ?_
  have h0 : (y 0).val < 2 := (y 0).isLt
  have h1 : (y 1).val < 4 := (y 1).isLt
  have h2 : (y 2).val < 2048 := (y 2).isLt
  have hy : y = ix3 (⟨(y 0).val, h0⟩ : Fin 2) (⟨(y 1).val, h1⟩ : Fin 4) (⟨(y 2).val, h2⟩ : Fin 2048) := funext fun a => by
    match a with
    | ⟨0, _⟩ => rfl
    | ⟨1, _⟩ => rfl
    | ⟨2, _⟩ => rfl
  rw [after0_9]
  exact (cast_eq _ _).trans ((congrArg (out0_9 (iblk m c 0 t0) (iblk m c 1 t0) (iblk m c 2 t0) (iblk m c 3 t0) (iblk m c 4 t0) (iblk m c 5 t0)) hy).trans
    (point9 m c t0 ⟨(y 0).val, h0⟩ ⟨(y 1).val, h1⟩ ⟨(y 2).val, h2⟩))

theorem final10 : (dats m 0 c).arrAt 10 cfg0.N = vsG m c := by
  refine (dats m 0 c).arrAt_eq_of_after_last 10 t0 ⟨flush0_10 t0, fun t _ => t0_only t, fun a => ⟨rfl, rfl⟩⟩ (vsG m c) fun (y : S2x4x2048.Idx) => ?_
  have h0 : (y 0).val < 2 := (y 0).isLt
  have h1 : (y 1).val < 4 := (y 1).isLt
  have h2 : (y 2).val < 2048 := (y 2).isLt
  have hy : y = ix3 (⟨(y 0).val, h0⟩ : Fin 2) (⟨(y 1).val, h1⟩ : Fin 4) (⟨(y 2).val, h2⟩ : Fin 2048) := funext fun a => by
    match a with
    | ⟨0, _⟩ => rfl
    | ⟨1, _⟩ => rfl
    | ⟨2, _⟩ => rfl
  rw [after0_10]
  exact (cast_eq _ _).trans ((congrArg (out0_10 (iblk m c 0 t0) (iblk m c 1 t0) (iblk m c 2 t0) (iblk m c 3 t0) (iblk m c 4 t0) (iblk m c 5 t0)) hy).trans
    (point10 m c t0 ⟨(y 0).val, h0⟩ ⟨(y 1).val, h1⟩ ⟨(y 2).val, h2⟩))

end

/-- The run, read: the five result arrays element by element. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v23_0) = qG m c ∧ r.2.mem ((c : Thread nD τ).loc main_v23_1) = kcG m c
        ∧ r.2.mem ((c : Thread nD τ).loc main_v23_2) = vcG m c ∧ r.2.mem ((c : Thread nD τ).loc main_v23_3) = ksG m c
        ∧ r.2.mem ((c : Thread nD τ).loc main_v23_4) = vsG m c :=
  (θ_run defs _ _).mono (fun _ h c => ⟨((h c).1 6).trans (final6 m c), ((h c).1 7).trans (final7 m c), ((h c).1 8).trans (final8 m c),
    ((h c).1 9).trans (final9 m c), ((h c).1 10).trans (final10 m c)⟩) (run_main m ρ)

end Cert.QkvReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_in_range
public import proofs.«01_k».proof.Proof.Gen.Norm.Frame
public import proofs.«01_k».proof.Proof.Gen.Out.Frame
public import proofs.«01_k».proof.Proof.Gen.Qkv.Frame
public import proofs.«01_k».proof.Proof.Gen.Qkv.Skeleton
public import proofs.«01_k».proof.Proof.Gen.QkvIdeal.Skeleton
public import proofs.«01_k».proof.Proof.Gen.QkvIdeal.Frame
public import proofs.«01_k».proof.Proof.Gen.QkvReferenceIdeal.Frame
public import proofs.«01_k».proof.Proof.RangeBits
public import proofs.«01_k».proof.Proof.Final
public import proofs.«01_k».proof.Proof.Ref
public import proofs.«01_k».proof.Proof.NormFinal
public import proofs.«01_k».proof.Proof.NormRef
public import proofs.«01_k».proof.Proof.Gen.NormReferenceIdeal.Run
public import proofs.«01_k».proof.Proof.Gen.NormReferenceIdeal
public import proofs.«01_k».proof.Proof.OutFinal
public import proofs.«01_k».proof.Proof.OutRef
public import proofs.«01_k».proof.Proof.QkvFrame
public import proofs.«01_k».proof.Proof.QkvFinal
public import proofs.«01_k».proof.Proof.QkvRef
public import Idealize.ShloMosaic.Adequacy
public import Idealize.ShloMosaic.Init

@[expose] public section

noncomputable section

namespace Cert.Proof

open Idealize.ShloMosaic Idealize.SL.Sem

theorem frame_reference : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run (F := Ideal) m g)

theorem frame_norm_reference : Cert.quiescent_NormReferenceIdeal := fun m g _ =>
  (θ_run Cert.NormReferenceIdeal.defs _ _).mono
    (fun r h => ⟨fun c => (h c).2.2.2, sem_eq_zero_of_no_sems (by decide) r.2⟩)
    (Cert.NormReferenceIdeal.Value.run (F := Ideal) m g)

theorem algebraic : Cert.algebraic_KernelIdeal_ReferenceIdeal := by
  intro m g m' g' hP he
  refine ⟨fun c => Cert.KernelIdeal.Value.outG m c, fun c => Cert.KernelIdeal.Value.lseG m c, ?_, ?_⟩
  · exact (θ_run Cert.KernelIdeal.defs _ _).mono (fun r h c => ⟨(h.1 c).1, (h.1 c).2, h.2 c⟩)
      (θ_run_and (Cert.KernelIdeal.Value.run m g hP)
        (Cert.KernelIdeal.Gen.unchanged m g (Cert.KernelIdeal.Value.ok m) (Cert.KernelIdeal.Value.hyps m hP)))
  · refine (θ_run Cert.ReferenceIdeal.defs _ _).mono (fun r h c => ?_) (Cert.ReferenceIdeal.Value.run (F := Ideal) m' g')
    obtain ⟨e0, e1, e2, e3⟩ := he c
    exact ⟨(h c).1.trans (Cert.ReferenceIdeal.Value.out_eq m' c m hP c (fun b => congrFun e0 _) e1 e2 e3),
      (h c).2.1.trans (Cert.ReferenceIdeal.Value.lse_eq m' c m hP c (fun b => congrFun e0 _) e1 e2), (h c).2.2⟩

theorem algebraic_norm : Cert.algebraic_NormIdeal_NormReferenceIdeal := by
  intro m g m' g' _ he
  refine ⟨fun c => Cert.NormIdeal.Value.codesG m c, fun c => Cert.NormIdeal.Value.colG m c, fun c => Cert.NormIdeal.Value.linesG m c, ?_, ?_⟩
  · exact (θ_run Cert.NormIdeal.defs _ _).mono (fun r h c => ⟨(h.1 c).1, (h.1 c).2.1, (h.1 c).2.2, h.2 c⟩)
      (θ_run_and (Cert.NormIdeal.Value.run m g) (Cert.NormIdeal.Gen.unchanged m g))
  · refine (θ_run Cert.NormReferenceIdeal.defs _ _).mono (fun r h c => ?_) (Cert.NormReferenceIdeal.Value.run_read m' g')
    obtain ⟨e0, e1⟩ := he c
    have hx : Cert.NormReferenceIdeal.Value.argX m' c = Cert.NormIdeal.Value.argX m c := by
      unfold Cert.NormReferenceIdeal.Value.argX Cert.NormReferenceIdeal.Value.xR Cert.NormIdeal.Value.argX
      rw [e0]
    have hg : Cert.NormReferenceIdeal.Value.argG m' c = Cert.NormIdeal.Value.argG m c := funext fun k => congrFun e1 _
    refine ⟨(h c).1.trans ?_, (h c).2.1.trans ?_, (h c).2.2.1.trans ?_, (h c).2.2.2⟩
    · unfold Cert.NormReferenceIdeal.Value.codesG Cert.NormIdeal.Value.codesG
      rw [hx, hg]
    · unfold Cert.NormReferenceIdeal.Value.colG Cert.NormIdeal.Value.colG
      rw [hx, hg]
    · unfold Cert.NormReferenceIdeal.Value.linesG Cert.NormIdeal.Value.linesG
      rw [hx, hg]

theorem algebraic_out : Cert.algebraic_OutIdeal_OutReferenceIdeal := by
  intro m g m' g' _ he
  refine ⟨fun c => Cert.OutIdeal.Value.outG m c, fun c => Cert.OutIdeal.Value.codesG m c, fun c => Cert.OutIdeal.Value.scalesG m c, ?_, ?_⟩
  · exact (θ_run Cert.OutIdeal.defs _ _).mono (fun r h c => ⟨(h.1 c).1, (h.1 c).2.1, (h.1 c).2.2, h.2 c⟩)
      (θ_run_and (Cert.OutIdeal.Value.run m g) (Cert.OutIdeal.Gen.unchanged m g))
  · refine (θ_run Cert.OutReferenceIdeal.defs _ _).mono (fun r h c => ?_)
      (θ_run_and (Cert.OutReferenceIdeal.Value.run m' g') (Cert.OutReferenceIdeal.Gen.unchanged m' g'))
    obtain ⟨e0, e1, e2, e3⟩ := he c
    have ho : Cert.OutReferenceIdeal.Value.argO m' c = Cert.OutIdeal.Value.argO m c := funext fun i => funext fun k => congrFun e0 _
    have hx : Cert.OutReferenceIdeal.Value.argX m' c = Cert.OutIdeal.Value.argX m c := funext fun i => funext fun k => congrFun e1 _
    have hw : Cert.OutReferenceIdeal.Value.argW m' c = Cert.OutIdeal.Value.argW m c := funext fun i => funext fun k => congrFun e2 _
    have hs : Cert.OutReferenceIdeal.Value.argS m' c = Cert.OutIdeal.Value.argS m c := funext fun k => congrFun e3 _
    refine ⟨(h.1 c).1.trans ?_, (h.1 c).2.1.trans ?_, (h.1 c).2.2.trans ?_, h.2 c⟩
    · unfold Cert.OutReferenceIdeal.Value.outG Cert.OutIdeal.Value.outG
      rw [ho, hx, hw, hs]
    · unfold Cert.OutReferenceIdeal.Value.codesG Cert.OutIdeal.Value.codesG
      rw [ho]
    · unfold Cert.OutReferenceIdeal.Value.scalesG Cert.OutIdeal.Value.scalesG
      rw [ho]

theorem algebraic_qkv : Cert.algebraic_QkvIdeal_QkvReferenceIdeal := by
  intro m g m' g' _ he
  refine ⟨fun c => Cert.QkvIdeal.Value.qG m c, fun c => Cert.QkvIdeal.Value.kcG m c, fun c => Cert.QkvIdeal.Value.vcG m c,
    fun c => Cert.QkvIdeal.Value.ksG m c, fun c => Cert.QkvIdeal.Value.vsG m c, ?_, ?_⟩
  · exact (θ_run Cert.QkvIdeal.defs _ _).mono
      (fun r h c => ⟨(h.1 c).1, (h.1 c).2.1, (h.1 c).2.2.1, (h.1 c).2.2.2.1, (h.1 c).2.2.2.2, h.2 c⟩)
      (θ_run_and (Cert.QkvIdeal.Value.run m g) (Cert.QkvIdeal.Run.unchanged m g))
  · refine (θ_run Cert.QkvReferenceIdeal.defs _ _).mono (fun r h c => ?_)
      (θ_run_and (Cert.QkvReferenceIdeal.Value.run m' g') (Cert.QkvReferenceIdeal.Gen.unchanged m' g'))
    obtain ⟨e0, e1, e2, e3, e4⟩ := he c
    have hx : Cert.QkvReferenceIdeal.Value.argX m' c = Cert.QkvIdeal.Value.argX m c := funext fun i => funext fun k => congrFun e0 _
    have hs : Cert.QkvReferenceIdeal.Value.argS m' c = Cert.QkvIdeal.Value.argS m c := funext fun i => congrFun e1 _
    have hw : Cert.QkvReferenceIdeal.Value.argW m' c = Cert.QkvIdeal.Value.argW m c := funext fun k => funext fun n => congrFun e2 _
    have hc : Cert.QkvReferenceIdeal.Value.argC m' c = Cert.QkvIdeal.Value.argC m c := funext fun n => congrFun e3 _
    have ha : ∀ sp, Cert.QkvReferenceIdeal.Value.ang sp = Cert.QkvIdeal.Value.ang sp := fun sp => rfl
    have hco : Cert.QkvReferenceIdeal.Value.co m' c = Cert.QkvIdeal.Value.co m c := by
      unfold Cert.QkvReferenceIdeal.Value.co Cert.QkvIdeal.Value.co
      rw [e4, ha]
    have hsi : Cert.QkvReferenceIdeal.Value.si m' c = Cert.QkvIdeal.Value.si m c := by
      unfold Cert.QkvReferenceIdeal.Value.si Cert.QkvIdeal.Value.si
      rw [e4, ha]
    have hP : Cert.QkvReferenceIdeal.Value.P m' c = Cert.QkvIdeal.Value.P m c := by
      unfold Cert.QkvReferenceIdeal.Value.P Cert.QkvIdeal.Value.P
      rw [hx, hs, hw, hc]
    have hq : Cert.QkvReferenceIdeal.Value.qE m' c = Cert.QkvIdeal.Value.qE m c := by
      unfold Cert.QkvReferenceIdeal.Value.qE Cert.QkvIdeal.Value.qE
      rw [hP, hco, hsi]
    have hk : Cert.QkvReferenceIdeal.Value.kE m' c = Cert.QkvIdeal.Value.kE m c := by
      unfold Cert.QkvReferenceIdeal.Value.kE Cert.QkvIdeal.Value.kE
      rw [hP, hco, hsi]
    have hv : Cert.QkvReferenceIdeal.Value.vE m' c = Cert.QkvIdeal.Value.vE m c := by
      unfold Cert.QkvReferenceIdeal.Value.vE Cert.QkvIdeal.Value.vE
      rw [hP]
    refine ⟨(h.1 c).1.trans ?_, (h.1 c).2.1.trans ?_, (h.1 c).2.2.1.trans ?_, (h.1 c).2.2.2.1.trans ?_, (h.1 c).2.2.2.2.trans ?_, h.2 c⟩
    · unfold Cert.QkvReferenceIdeal.Value.qG Cert.QkvIdeal.Value.qG
      rw [hq]
    · unfold Cert.QkvReferenceIdeal.Value.kcG Cert.QkvIdeal.Value.kcG
      rw [hk]
    · unfold Cert.QkvReferenceIdeal.Value.vcG Cert.QkvIdeal.Value.vcG
      rw [hv]
    · unfold Cert.QkvReferenceIdeal.Value.ksG Cert.QkvIdeal.Value.ksG
      rw [hk]
    · unfold Cert.QkvReferenceIdeal.Value.vsG Cert.QkvIdeal.Value.vsG
      rw [hv]

theorem claim : Cert.Claim :=
  ⟨Cert.Kernel.Gen.facts, Cert.KernelIdeal.Gen.facts, Cert.ReferenceIdeal.Gen.facts,
    Cert.Norm.Gen.facts, Cert.NormIdeal.Gen.facts, Cert.NormReferenceIdeal.Gen.facts,
    Cert.Out.Gen.facts, Cert.OutIdeal.Gen.facts, Cert.OutReferenceIdeal.Gen.facts,
    Cert.Qkv.Gen.facts, Cert.QkvIdeal.Gen.facts, Cert.QkvReferenceIdeal.Gen.facts, Cert.Pre_in_range.Gen.facts,
    fun m g h => Cert.Kernel.Gen.frame m g (Cert.Kernel.Value.ok m) (Cert.Kernel.Value.hyps m h),
    fun m g h => Cert.KernelIdeal.Gen.frame m g (Cert.KernelIdeal.Value.ok m) (Cert.KernelIdeal.Value.hyps m h),
    frame_reference,
    fun m g _ => Cert.Norm.Gen.frame m g, fun m g _ => Cert.NormIdeal.Gen.frame m g, frame_norm_reference,
    fun m g _ => Cert.Out.Gen.frame m g, fun m g _ => Cert.OutIdeal.Gen.frame m g, fun m g _ => Cert.OutReferenceIdeal.Gen.frame m g,
    fun m g _ => Cert.Qkv.Run.frame m g, fun m g _ => Cert.QkvIdeal.Run.frame m g, fun m g _ => Cert.QkvReferenceIdeal.Gen.frame m g,
    trivial, algebraic, trivial, algebraic_norm, trivial, algebraic_out, trivial, algebraic_qkv⟩

end Cert.Proof

end
